-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v4) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x128x14336 : Shape := ⟨3, ![1, 128, 14336]⟩
abbrev S14336x4096 : Shape := ⟨2, ![14336, 4096]⟩
abbrev S4096 : Shape := ⟨1, ![4096]⟩
abbrev S14336x12 : Shape := ⟨2, ![14336, 12]⟩
abbrev S12 : Shape := ⟨1, ![12]⟩
abbrev S1x128x2 : Shape := ⟨3, ![1, 128, 2]⟩
abbrev S12x14336x64 : Shape := ⟨3, ![12, 14336, 64]⟩
abbrev S12x64x4096 : Shape := ⟨3, ![12, 64, 4096]⟩
abbrev S14336x64 : Shape := ⟨2, ![14336, 64]⟩
abbrev S64x4096 : Shape := ⟨2, ![64, 4096]⟩
abbrev S_ : Shape := ⟨0, ![]⟩

class Facts : Prop where
  bcast_S_S1x128x14336 : S_.BroadcastsInDim S1x128x14336 (![] : Fin 0 → Fin S1x128x14336.rank)
  reducesTo_S1x128x14336_S_d0_1_2 : S1x128x14336.ReducesTo [0, 1, 2] S_
  h_S_ : 0 < S_.numel
  bcast_S_S1x128x2 : S_.BroadcastsInDim S1x128x2 (![] : Fin 0 → Fin S1x128x2.rank)
  reducesTo_S1x128x2_S_d0_1_2 : S1x128x2.ReducesTo [0, 1, 2] S_

variable [Facts]

def fn {F : FTy → Type} [FloatOps F] (main_arg0 : FVec F S1x128x14336 .bf16) (main_arg1 : FVec F S14336x4096 .fp8e4m3) (main_arg2 : FVec F S4096 .f32) (main_arg3 : FVec F S14336x12 .bf16) (main_arg4 : FVec F S12 .f32) (main_arg5 : IVec S1x128x2 32) (main_arg6 : FVec F S12x14336x64 .bf16) (main_arg7 : FVec F S12x64x4096 .bf16) (main_arg8 : FVec F S14336x64 .bf16) (main_arg9 : FVec F S64x4096 .bf16) : IVec S_ 1 :=
  let main_v0 : FVec F S1x128x14336 .bf16 := Host.absf main_arg0
  let main_cst : FVec F S_ .bf16 := constant S_ .bf16 0x7F7F#16
  let main_v1 : FVec F S1x128x14336 .bf16 := broadcastInDim S1x128x14336 ![] bcast_S_S1x128x14336 main_cst
  let main_v2 : IVec S1x128x14336 1 := cmpf .ole main_v0 main_v1
  let main_c : IVec S_ 1 := constantI S_ 1 1#1
  let main_v3 : IVec S_ 1 := (fun x v => Host.reduce IntOp.andi x v reducesTo_S1x128x14336_S_d0_1_2 h_S_) main_v2 main_c
  let main_c_0 : IVec S_ 32 := constantI S_ 32 0#32
  let main_v4 : IVec S1x128x2 32 := broadcastInDim S1x128x2 ![] bcast_S_S1x128x2 main_c_0
  let main_v5 : IVec S1x128x2 1 := cmpi .sge main_arg5 main_v4
  let main_c_1 : IVec S_ 32 := constantI S_ 32 12#32
  let main_v6 : IVec S1x128x2 32 := broadcastInDim S1x128x2 ![] bcast_S_S1x128x2 main_c_1
  let main_v7 : IVec S1x128x2 1 := cmpi .slt main_arg5 main_v6
  let main_v8 : IVec S1x128x2 1 := andi main_v5 main_v7
  let main_c_2 : IVec S_ 1 := constantI S_ 1 1#1
  let main_v9 : IVec S_ 1 := (fun x v => Host.reduce IntOp.andi x v reducesTo_S1x128x2_S_d0_1_2 h_S_) main_v8 main_c_2
  let main_v10 : IVec S_ 1 := andi main_v3 main_v9
  main_v10
-- ==== Kernel.lean ====
abbrev S1x128x14336 : Shape := ⟨3, ![1, 128, 14336]⟩
abbrev S14336x4096 : Shape := ⟨2, ![14336, 4096]⟩
abbrev S4096 : Shape := ⟨1, ![4096]⟩
abbrev S14336x12 : Shape := ⟨2, ![14336, 12]⟩
abbrev S12 : Shape := ⟨1, ![12]⟩
abbrev S1x128x2 : Shape := ⟨3, ![1, 128, 2]⟩
abbrev S12x14336x64 : Shape := ⟨3, ![12, 14336, 64]⟩
abbrev S12x64x4096 : Shape := ⟨3, ![12, 64, 4096]⟩
abbrev S14336x64 : Shape := ⟨2, ![14336, 64]⟩
abbrev S64x4096 : Shape := ⟨2, ![64, 4096]⟩
abbrev S128x14336 : Shape := ⟨2, ![128, 14336]⟩
abbrev S1x4096 : Shape := ⟨2, ![1, 4096]⟩
abbrev S12x14336 : Shape := ⟨2, ![12, 14336]⟩
abbrev S_ : Shape := ⟨0, ![]⟩
abbrev S16x14336 : Shape := ⟨2, ![16, 14336]⟩
abbrev S1x12 : Shape := ⟨2, ![1, 12]⟩
abbrev S128x2 : Shape := ⟨2, ![128, 2]⟩
abbrev S2x128 : Shape := ⟨2, ![2, 128]⟩
abbrev S12x64x14336 : Shape := ⟨3, ![12, 64, 14336]⟩
abbrev S768x14336 : Shape := ⟨2, ![768, 14336]⟩
abbrev S768x4096 : Shape := ⟨2, ![768, 4096]⟩
abbrev S64x14336 : Shape := ⟨2, ![64, 14336]⟩
abbrev S128x4096 : Shape := ⟨2, ![128, 4096]⟩
abbrev S1x128 : Shape := ⟨2, ![1, 128]⟩
abbrev S848x14336 : Shape := ⟨2, ![848, 14336]⟩
abbrev S848x128 : Shape := ⟨2, ![848, 128]⟩
abbrev S128x832 : Shape := ⟨2, ![128, 832]⟩
abbrev S832x4096 : Shape := ⟨2, ![832, 4096]⟩
abbrev S3x14336x512 : Shape := ⟨3, ![3, 14336, 512]⟩
abbrev S128x128 : Shape := ⟨2, ![128, 128]⟩
abbrev S7 : Shape := ⟨1, ![7]⟩
abbrev S3 : Shape := ⟨1, ![3]⟩
abbrev S1 : Shape := ⟨1, ![1]⟩
abbrev S128x2048 : Shape := ⟨2, ![128, 2048]⟩
abbrev S16x2048 : Shape := ⟨2, ![16, 2048]⟩
abbrev S64x2048 : Shape := ⟨2, ![64, 2048]⟩
abbrev S768x2048 : Shape := ⟨2, ![768, 2048]⟩
abbrev S1x14336x512 : Shape := ⟨3, ![1, 14336, 512]⟩
abbrev S14336x512 : Shape := ⟨2, ![14336, 512]⟩
abbrev S128 : Shape := ⟨1, ![128]⟩
abbrev S128x1 : Shape := ⟨2, ![128, 1]⟩
abbrev S128x256 : Shape := ⟨2, ![128, 256]⟩
abbrev S848x2048 : Shape := ⟨2, ![848, 2048]⟩
abbrev S12x12 : Shape := ⟨2, ![12, 12]⟩
abbrev S12x1 : Shape := ⟨2, ![12, 1]⟩
abbrev S12x128 : Shape := ⟨2, ![12, 128]⟩
abbrev S64x128 : Shape := ⟨2, ![64, 128]⟩
abbrev S832x128 : Shape := ⟨2, ![832, 128]⟩
abbrev S128x512 : Shape := ⟨2, ![128, 512]⟩
abbrev S832x512 : Shape := ⟨2, ![832, 512]⟩
abbrev S1x512 : Shape := ⟨2, ![1, 512]⟩
abbrev S1x128x4096 : Shape := ⟨3, ![1, 128, 4096]⟩

abbrev nBuf : Space → Nat
  | .hbm => 31
  | .vmem => 15
  | .smem => 0
  | _ => 0

abbrev bufTy : (tb : Table) → Fin (tcTables nBuf tb) → BufTy
  | .hbm, ⟨0, _⟩ => ⟨S1x128x14336, .bf16⟩
  | .hbm, ⟨1, _⟩ => ⟨S14336x4096, .fp8e4m3⟩
  | .hbm, ⟨2, _⟩ => ⟨S4096, .f32⟩
  | .hbm, ⟨3, _⟩ => ⟨S14336x12, .bf16⟩
  | .hbm, ⟨4, _⟩ => ⟨S12, .f32⟩
  | .hbm, ⟨5, _⟩ => ⟨S1x128x2, .i32⟩
  | .hbm, ⟨6, _⟩ => ⟨S12x14336x64, .bf16⟩
  | .hbm, ⟨7, _⟩ => ⟨S12x64x4096, .bf16⟩
  | .hbm, ⟨8, _⟩ => ⟨S14336x64, .bf16⟩
  | .hbm, ⟨9, _⟩ => ⟨S64x4096, .bf16⟩
  | .hbm, ⟨10, _⟩ => ⟨S128x14336, .bf16⟩
  | .hbm, ⟨11, _⟩ => ⟨S1x4096, .f32⟩
  | .hbm, ⟨12, _⟩ => ⟨S12x14336, .bf16⟩
  | .hbm, ⟨13, _⟩ => ⟨S_, .i32⟩
  | .hbm, ⟨14, _⟩ => ⟨S_, .bf16⟩
  | .hbm, ⟨15, _⟩ => ⟨S16x14336, .bf16⟩
  | .hbm, ⟨16, _⟩ => ⟨S1x12, .f32⟩
  | .hbm, ⟨17, _⟩ => ⟨S128x2, .i32⟩
  | .hbm, ⟨18, _⟩ => ⟨S2x128, .i32⟩
  | .hbm, ⟨19, _⟩ => ⟨S12x64x14336, .bf16⟩
  | .hbm, ⟨20, _⟩ => ⟨S768x14336, .bf16⟩
  | .hbm, ⟨21, _⟩ => ⟨S768x4096, .bf16⟩
  | .hbm, ⟨22, _⟩ => ⟨S64x14336, .bf16⟩
  | .hbm, ⟨23, _⟩ => ⟨S128x4096, .bf16⟩
  | .hbm, ⟨24, _⟩ => ⟨S2x128, .f32⟩
  | .hbm, ⟨25, _⟩ => ⟨S128x14336, .fp8e4m3⟩
  | .hbm, ⟨26, _⟩ => ⟨S1x128, .f32⟩
  | .hbm, ⟨27, _⟩ => ⟨S1x128x4096, .bf16⟩
  | .hbm, ⟨28, _⟩ => ⟨S128x2, .f32⟩
  | .hbm, ⟨29, _⟩ => ⟨S1x128x2, .f32⟩
  | .hbm, ⟨30, _⟩ => ⟨S1x128x14336, .fp8e4m3⟩
  | .local _ .vmem, ⟨0, _⟩ => ⟨S128x14336, .bf16⟩
  | .local _ .vmem, ⟨1, _⟩ => ⟨S128x14336, .fp8e4m3⟩
  | .local _ .vmem, ⟨2, _⟩ => ⟨S848x14336, .bf16⟩
  | .local _ .vmem, ⟨3, _⟩ => ⟨S848x128, .f32⟩
  | .local _ .vmem, ⟨4, _⟩ => ⟨S128x832, .bf16⟩
  | .local _ .vmem, ⟨5, _⟩ => ⟨S832x4096, .bf16⟩
  | .local _ .vmem, ⟨6, _⟩ => ⟨S3x14336x512, .fp8e4m3⟩
  | .local _ .vmem, ⟨7, _⟩ => ⟨S128x4096, .bf16⟩
  | .local _ .vmem, ⟨8, _⟩ => ⟨S128x128, .f32⟩
  | .local _ .vmem, ⟨9, _⟩ => ⟨S128x128, .f32⟩
  | .local _ .vmem, ⟨10, _⟩ => ⟨S1x4096, .f32⟩
  | .local _ .vmem, ⟨11, _⟩ => ⟨S1x12, .f32⟩
  | .local _ .vmem, ⟨12, _⟩ => ⟨S2x128, .i32⟩
  | .local _ .vmem, ⟨13, _⟩ => ⟨S2x128, .f32⟩
  | .local _ .vmem, ⟨14, _⟩ => ⟨S1x128, .f32⟩
  | _, _ => ⟨S1x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩

abbrev nD : Nat := 1
abbrev τ : Topo := Topo.v7x

variable {F : FTy → Type} [FloatOps F]

abbrev grid0 : Pipeline.Grid := .none

@[reducible] def k0_t1_loop : Scf.Loop 32 :=
  let c0_i32_148 : BitVec 32 := 0#32
  let c7_i32 : BitVec 32 := 7#32
  let v136 : BitVec 32 := Scalar.addi c0_i32_148 c7_i32
  let c1_i32_149 : BitVec 32 := 1#32
  ⟨c0_i32_148, v136, c1_i32_149⟩
def k0_off1 (k0_t1 : Fin k0_t1_loop.trips) : Fin 1 → Nat :=
  let c0_i32_148 : BitVec 32 := 0#32
  let c1_i32_149 : BitVec 32 := 1#32
  let arg36 : BitVec 32 := Scf.iv c0_i32_148 c1_i32_149 k0_t1
  ![arg36.toNat]
def k0_off2 (k0_t1 : Fin k0_t1_loop.trips) : Fin 2 → Nat :=
  let c0_i32_267 : BitVec 32 := 0#32
  let c0_i32_148 : BitVec 32 := 0#32
  let c1_i32_149 : BitVec 32 := 1#32
  let arg36 : BitVec 32 := Scf.iv c0_i32_148 c1_i32_149 k0_t1
  let c2048_i32_266 : BitVec 32 := 2048#32
  let v355 : BitVec 32 := Scalar.muli arg36 c2048_i32_266
  ![0, v355.toNat]
def k0_off3 (k0_t1 : Fin k0_t1_loop.trips) : Fin 2 → Nat :=
  let c0_270 : Index := 0#32
  let c0_i32_148 : BitVec 32 := 0#32
  let c1_i32_149 : BitVec 32 := 1#32
  let arg36 : BitVec 32 := Scf.iv c0_i32_148 c1_i32_149 k0_t1
  let c2048_i32_269 : BitVec 32 := 2048#32
  let v360 : BitVec 32 := Scalar.muli arg36 c2048_i32_269
  let v361 : Index := Scalar.indexCast v360
  ![0, v361.toNat]
@[reducible] def k0_t2_loop : Scf.Loop 32 :=
  let c0_i32_169 : BitVec 32 := 0#32
  let c7_i32_170 : BitVec 32 := 7#32
  let v195 : BitVec 32 := Scalar.addi c0_i32_169 c7_i32_170
  let c1_i32_171 : BitVec 32 := 1#32
  ⟨c0_i32_169, v195, c1_i32_171⟩
def k0_off4 (k0_t2 : Fin k0_t2_loop.trips) (c0_i32_271 : BitVec 32) : Fin 2 → Nat :=
  let c0_272 : Index := 0#32
  let c0_i32_267 : BitVec 32 := 0#32
  let c0_i32_169 : BitVec 32 := 0#32
  let c1_i32_171 : BitVec 32 := 1#32
  let arg36 : BitVec 32 := Scf.iv c0_i32_169 c1_i32_171 k0_t2
  let c1_i32_266 : BitVec 32 := 1#32
  let v355 : BitVec 32 := Scalar.muli arg36 c1_i32_266
  let v356 : BitVec 32 := Scalar.addi c0_i32_267 v355
  let c2048_i32_270 : BitVec 32 := 2048#32
  let v358 : BitVec 32 := Scalar.muli v356 c2048_i32_270
  let v359 : BitVec 32 := Scalar.addi v358 c0_i32_271
  let v360 : Index := Scalar.indexCast v359
  ![0, v360.toNat]
@[reducible] def k0_t3_loop : Scf.Loop 32 :=
  let c0_i32_176 : BitVec 32 := 0#32
  let c7_i32_177 : BitVec 32 := 7#32
  let v200 : BitVec 32 := Scalar.addi c0_i32_176 c7_i32_177
  let c1_i32_178 : BitVec 32 := 1#32
  ⟨c0_i32_176, v200, c1_i32_178⟩
def k0_off5 (k0_t3 : Fin k0_t3_loop.trips) : Fin 1 → Nat :=
  let c0_i32_267 : BitVec 32 := 0#32
  let c0_i32_176 : BitVec 32 := 0#32
  let c1_i32_178 : BitVec 32 := 1#32
  let arg36 : BitVec 32 := Scf.iv c0_i32_176 c1_i32_178 k0_t3
  let c1_i32_266 : BitVec 32 := 1#32
  let v355 : BitVec 32 := Scalar.muli arg36 c1_i32_266
  let v356 : BitVec 32 := Scalar.addi c0_i32_267 v355
  ![v356.toNat]
def k0_off6 (k0_t3 : Fin k0_t3_loop.trips) : Fin 2 → Nat :=
  let c832_i32_269 : BitVec 32 := 832#32
  let c0_i32_267 : BitVec 32 := 0#32
  let c0_i32_176 : BitVec 32 := 0#32
  let c1_i32_178 : BitVec 32 := 1#32
  let arg36 : BitVec 32 := Scf.iv c0_i32_176 c1_i32_178 k0_t3
  let c1_i32_266 : BitVec 32 := 1#32
  let v355 : BitVec 32 := Scalar.muli arg36 c1_i32_266
  let v356 : BitVec 32 := Scalar.addi c0_i32_267 v355
  let c2048_i32_268 : BitVec 32 := 2048#32
  let v357 : BitVec 32 := Scalar.muli v356 c2048_i32_268
  ![832, v357.toNat]
def k0_off7 (k0_t3 : Fin k0_t3_loop.trips) : Fin 2 → Nat :=
  let c0_i32_270 : BitVec 32 := 0#32
  let c0_i32_267 : BitVec 32 := 0#32
  let c0_i32_176 : BitVec 32 := 0#32
  let c1_i32_178 : BitVec 32 := 1#32
  let arg36 : BitVec 32 := Scf.iv c0_i32_176 c1_i32_178 k0_t3
  let c1_i32_266 : BitVec 32 := 1#32
  let v355 : BitVec 32 := Scalar.muli arg36 c1_i32_266
  let v356 : BitVec 32 := Scalar.addi c0_i32_267 v355
  let c2048_i32_268 : BitVec 32 := 2048#32
  let v357 : BitVec 32 := Scalar.muli v356 c2048_i32_268
  ![0, v357.toNat]
def k0_off8 (k0_t3 : Fin k0_t3_loop.trips) : Fin 2 → Nat :=
  let c768_i32_271 : BitVec 32 := 768#32
  let c0_i32_267 : BitVec 32 := 0#32
  let c0_i32_176 : BitVec 32 := 0#32
  let c1_i32_178 : BitVec 32 := 1#32
  let arg36 : BitVec 32 := Scf.iv c0_i32_176 c1_i32_178 k0_t3
  let c1_i32_266 : BitVec 32 := 1#32
  let v355 : BitVec 32 := Scalar.muli arg36 c1_i32_266
  let v356 : BitVec 32 := Scalar.addi c0_i32_267 v355
  let c2048_i32_268 : BitVec 32 := 2048#32
  let v357 : BitVec 32 := Scalar.muli v356 c2048_i32_268
  ![768, v357.toNat]
def k0_off9 (k0_t3 : Fin k0_t3_loop.trips) : Fin 2 → Nat :=
  let c0_i32_272 : BitVec 32 := 0#32
  let c0_i32_267 : BitVec 32 := 0#32
  let c0_i32_176 : BitVec 32 := 0#32
  let c1_i32_178 : BitVec 32 := 1#32
  let arg36 : BitVec 32 := Scf.iv c0_i32_176 c1_i32_178 k0_t3
  let c1_i32_266 : BitVec 32 := 1#32
  let v355 : BitVec 32 := Scalar.muli arg36 c1_i32_266
  let v356 : BitVec 32 := Scalar.addi c0_i32_267 v355
  let c2048_i32_268 : BitVec 32 := 2048#32
  let v357 : BitVec 32 := Scalar.muli v356 c2048_i32_268
  ![0, v357.toNat]
def k0_off10 (k0_t3 : Fin k0_t3_loop.trips) : Fin 2 → Nat :=
  let c0_i32_273 : BitVec 32 := 0#32
  let c0_i32_267 : BitVec 32 := 0#32
  let c0_i32_176 : BitVec 32 := 0#32
  let c1_i32_178 : BitVec 32 := 1#32
  let arg36 : BitVec 32 := Scf.iv c0_i32_176 c1_i32_178 k0_t3
  let c1_i32_266 : BitVec 32 := 1#32
  let v355 : BitVec 32 := Scalar.muli arg36 c1_i32_266
  let v356 : BitVec 32 := Scalar.addi c0_i32_267 v355
  let c2048_i32_268 : BitVec 32 := 2048#32
  let v357 : BitVec 32 := Scalar.muli v356 c2048_i32_268
  ![0, v357.toNat]
def k0_off11 (k0_t3 : Fin k0_t3_loop.trips) : Fin 2 → Nat :=
  let c0_i32_274 : BitVec 32 := 0#32
  let c0_i32_267 : BitVec 32 := 0#32
  let c0_i32_176 : BitVec 32 := 0#32
  let c1_i32_178 : BitVec 32 := 1#32
  let arg36 : BitVec 32 := Scf.iv c0_i32_176 c1_i32_178 k0_t3
  let c1_i32_266 : BitVec 32 := 1#32
  let v355 : BitVec 32 := Scalar.muli arg36 c1_i32_266
  let v356 : BitVec 32 := Scalar.addi c0_i32_267 v355
  let c2048_i32_268 : BitVec 32 := 2048#32
  let v357 : BitVec 32 := Scalar.muli v356 c2048_i32_268
  ![0, v357.toNat]
def k0_off12 (k0_t3 : Fin k0_t3_loop.trips) : Fin 2 → Nat :=
  let c0_278 : Index := 0#32
  let c0_i32_267 : BitVec 32 := 0#32
  let c0_i32_176 : BitVec 32 := 0#32
  let c1_i32_178 : BitVec 32 := 1#32
  let arg36 : BitVec 32 := Scf.iv c0_i32_176 c1_i32_178 k0_t3
  let c1_i32_266 : BitVec 32 := 1#32
  let v355 : BitVec 32 := Scalar.muli arg36 c1_i32_266
  let v356 : BitVec 32 := Scalar.addi c0_i32_267 v355
  let c2048_i32_275 : BitVec 32 := 2048#32
  let v370 : BitVec 32 := Scalar.muli v356 c2048_i32_275
  let v372 : Index := Scalar.indexCast v370
  ![0, v372.toNat]
def k0_off13 (k0_t3 : Fin k0_t3_loop.trips) : Fin 2 → Nat :=
  let c0_279 : Index := 0#32
  let c0_i32_267 : BitVec 32 := 0#32
  let c0_i32_176 : BitVec 32 := 0#32
  let c1_i32_178 : BitVec 32 := 1#32
  let arg36 : BitVec 32 := Scf.iv c0_i32_176 c1_i32_178 k0_t3
  let c1_i32_266 : BitVec 32 := 1#32
  let v355 : BitVec 32 := Scalar.muli arg36 c1_i32_266
  let v356 : BitVec 32 := Scalar.addi c0_i32_267 v355
  let c2048_i32_275 : BitVec 32 := 2048#32
  let v370 : BitVec 32 := Scalar.muli v356 c2048_i32_275
  let v374 : Index := Scalar.indexCast v370
  ![0, v374.toNat]
@[reducible] def k0_t4_loop : Scf.Loop 32 :=
  let c0_i32_228 : BitVec 32 := 0#32
  let c8_i32 : BitVec 32 := 8#32
  let v330 : BitVec 32 := Scalar.addi c0_i32_228 c8_i32
  let c1_i32_229 : BitVec 32 := 1#32
  ⟨c0_i32_228, v330, c1_i32_229⟩
def k0_off14 (k0_t4 : Fin k0_t4_loop.trips) : Fin 1 → Nat :=
  let c0_i32_267 : BitVec 32 := 0#32
  let c0_i32_228 : BitVec 32 := 0#32
  let c1_i32_229 : BitVec 32 := 1#32
  let arg36 : BitVec 32 := Scf.iv c0_i32_228 c1_i32_229 k0_t4
  let c1_i32_266 : BitVec 32 := 1#32
  let v355 : BitVec 32 := Scalar.muli arg36 c1_i32_266
  let v356 : BitVec 32 := Scalar.addi c0_i32_267 v355
  let c3_i32_282 : BitVec 32 := 3#32
  let c0_i32_283 : BitVec 32 := 0#32
  let v379 : BitVec 1 := Scalar.cmpi .eq c3_i32_282 c0_i32_283
  let c1_i32_284 : BitVec 32 := 1#32
  let v380 : BitVec 32 := Scalar.select v379 c1_i32_284 c3_i32_282
  let v381 : BitVec 32 := Scalar.remsi v356 v380
  let c0_i32_286 : BitVec 32 := 0#32
  let v383 : BitVec 1 := Scalar.cmpi .slt v381 c0_i32_286
  let c0_i32_287 : BitVec 32 := 0#32
  let v384 : BitVec 1 := Scalar.cmpi .slt v380 c0_i32_287
  let v385 : BitVec 1 := Scalar.xori v383 v384
  let c0_i32_285 : BitVec 32 := 0#32
  let v382 : BitVec 1 := Scalar.cmpi .ne v381 c0_i32_285
  let v386 : BitVec 1 := Scalar.andi v385 v382
  let v387 : BitVec 32 := Scalar.addi v381 v380
  let v388 : BitVec 32 := Scalar.select v386 v387 v381
  ![v388.toNat]
def k0_off15 (k0_t4 : Fin k0_t4_loop.trips) : Fin 3 → Nat :=
  let c0_i32_267 : BitVec 32 := 0#32
  let c0_i32_228 : BitVec 32 := 0#32
  let c1_i32_229 : BitVec 32 := 1#32
  let arg36 : BitVec 32 := Scf.iv c0_i32_228 c1_i32_229 k0_t4
  let c1_i32_266 : BitVec 32 := 1#32
  let v355 : BitVec 32 := Scalar.muli arg36 c1_i32_266
  let v356 : BitVec 32 := Scalar.addi c0_i32_267 v355
  let c3_i32_276 : BitVec 32 := 3#32
  let c0_i32_277 : BitVec 32 := 0#32
  let v369 : BitVec 1 := Scalar.cmpi .eq c3_i32_276 c0_i32_277
  let c1_i32_278 : BitVec 32 := 1#32
  let v370 : BitVec 32 := Scalar.select v369 c1_i32_278 c3_i32_276
  let v371 : BitVec 32 := Scalar.remsi v356 v370
  let c0_i32_280 : BitVec 32 := 0#32
  let v373 : BitVec 1 := Scalar.cmpi .slt v371 c0_i32_280
  let c0_i32_281 : BitVec 32 := 0#32
  let v374 : BitVec 1 := Scalar.cmpi .slt v370 c0_i32_281
  let v375 : BitVec 1 := Scalar.xori v373 v374
  let c0_i32_279 : BitVec 32 := 0#32
  let v372 : BitVec 1 := Scalar.cmpi .ne v371 c0_i32_279
  let v376 : BitVec 1 := Scalar.andi v375 v372
  let v377 : BitVec 32 := Scalar.addi v371 v370
  let v378 : BitVec 32 := Scalar.select v376 v377 v371
  let c0_i32_288 : BitVec 32 := 0#32
  let c0_i32_289 : BitVec 32 := 0#32
  ![v378.toNat, 0, 0]
def k0_off16 (k0_t4 : Fin k0_t4_loop.trips) : Fin 2 → Nat :=
  let c0_i32_290 : BitVec 32 := 0#32
  let c0_i32_267 : BitVec 32 := 0#32
  let c0_i32_228 : BitVec 32 := 0#32
  let c1_i32_229 : BitVec 32 := 1#32
  let arg36 : BitVec 32 := Scf.iv c0_i32_228 c1_i32_229 k0_t4
  let c1_i32_266 : BitVec 32 := 1#32
  let v355 : BitVec 32 := Scalar.muli arg36 c1_i32_266
  let v356 : BitVec 32 := Scalar.addi c0_i32_267 v355
  let c512_i32_275 : BitVec 32 := 512#32
  let v368 : BitVec 32 := Scalar.muli v356 c512_i32_275
  ![0, v368.toNat]
def k0_off17 (k0_t4 : Fin k0_t4_loop.trips) : Fin 3 → Nat :=
  let c0_i32_267 : BitVec 32 := 0#32
  let c0_i32_228 : BitVec 32 := 0#32
  let c1_i32_229 : BitVec 32 := 1#32
  let arg36 : BitVec 32 := Scf.iv c0_i32_228 c1_i32_229 k0_t4
  let c1_i32_266 : BitVec 32 := 1#32
  let v355 : BitVec 32 := Scalar.muli arg36 c1_i32_266
  let v356 : BitVec 32 := Scalar.addi c0_i32_267 v355
  let c3_i32_268 : BitVec 32 := 3#32
  let c0_i32_269 : BitVec 32 := 0#32
  let v357 : BitVec 1 := Scalar.cmpi .eq c3_i32_268 c0_i32_269
  let c1_i32_270 : BitVec 32 := 1#32
  let v358 : BitVec 32 := Scalar.select v357 c1_i32_270 c3_i32_268
  let v359 : BitVec 32 := Scalar.remsi v356 v358
  let c0_i32_272 : BitVec 32 := 0#32
  let v361 : BitVec 1 := Scalar.cmpi .slt v359 c0_i32_272
  let c0_i32_273 : BitVec 32 := 0#32
  let v362 : BitVec 1 := Scalar.cmpi .slt v358 c0_i32_273
  let v363 : BitVec 1 := Scalar.xori v361 v362
  let c0_i32_271 : BitVec 32 := 0#32
  let v360 : BitVec 1 := Scalar.cmpi .ne v359 c0_i32_271
  let v364 : BitVec 1 := Scalar.andi v363 v360
  let v365 : BitVec 32 := Scalar.addi v359 v358
  let v366 : BitVec 32 := Scalar.select v364 v365 v359
  let v395 : Index := Scalar.indexCast v366
  let c0_293 : Index := 0#32
  let c0_294 : Index := 0#32
  ![v395.toNat, 0, 0]
def k0_off18 (k0_t4 : Fin k0_t4_loop.trips) : Fin 2 → Nat :=
  let c0_298 : Index := 0#32
  let c0_i32_267 : BitVec 32 := 0#32
  let c0_i32_228 : BitVec 32 := 0#32
  let c1_i32_229 : BitVec 32 := 1#32
  let arg36 : BitVec 32 := Scf.iv c0_i32_228 c1_i32_229 k0_t4
  let c1_i32_266 : BitVec 32 := 1#32
  let v355 : BitVec 32 := Scalar.muli arg36 c1_i32_266
  let v356 : BitVec 32 := Scalar.addi c0_i32_267 v355
  let c512_i32_274 : BitVec 32 := 512#32
  let v367 : BitVec 32 := Scalar.muli v356 c512_i32_274
  let v400 : Index := Scalar.indexCast v367
  ![0, v400.toNat]
def k0_off19 (k0_t4 : Fin k0_t4_loop.trips) : Fin 2 → Nat :=
  let c0_302 : Index := 0#32
  let c0_i32_267 : BitVec 32 := 0#32
  let c0_i32_228 : BitVec 32 := 0#32
  let c1_i32_229 : BitVec 32 := 1#32
  let arg36 : BitVec 32 := Scf.iv c0_i32_228 c1_i32_229 k0_t4
  let c1_i32_266 : BitVec 32 := 1#32
  let v355 : BitVec 32 := Scalar.muli arg36 c1_i32_266
  let v356 : BitVec 32 := Scalar.addi c0_i32_267 v355
  let c512_i32_274 : BitVec 32 := 512#32
  let v367 : BitVec 32 := Scalar.muli v356 c512_i32_274
  let v406 : Index := Scalar.indexCast v367
  ![0, v406.toNat]
def k0_off20 (k0_t4 : Fin k0_t4_loop.trips) : Fin 2 → Nat :=
  let c0_303 : Index := 0#32
  let c0_i32_267 : BitVec 32 := 0#32
  let c0_i32_228 : BitVec 32 := 0#32
  let c1_i32_229 : BitVec 32 := 1#32
  let arg36 : BitVec 32 := Scf.iv c0_i32_228 c1_i32_229 k0_t4
  let c1_i32_266 : BitVec 32 := 1#32
  let v355 : BitVec 32 := Scalar.muli arg36 c1_i32_266
  let v356 : BitVec 32 := Scalar.addi c0_i32_267 v355
  let c512_i32_274 : BitVec 32 := 512#32
  let v367 : BitVec 32 := Scalar.muli v356 c512_i32_274
  let v412 : Index := Scalar.indexCast v367
  ![0, v412.toNat]
def k0_cond1 (k0_t4 : Fin k0_t4_loop.trips) : BitVec 1 :=
  let c0_i32_267 : BitVec 32 := 0#32
  let c0_i32_228 : BitVec 32 := 0#32
  let c1_i32_229 : BitVec 32 := 1#32
  let arg36 : BitVec 32 := Scf.iv c0_i32_228 c1_i32_229 k0_t4
  let c1_i32_266 : BitVec 32 := 1#32
  let v355 : BitVec 32 := Scalar.muli arg36 c1_i32_266
  let v356 : BitVec 32 := Scalar.addi c0_i32_267 v355
  let c3_i32_304 : BitVec 32 := 3#32
  let v416 : BitVec 32 := Scalar.addi v356 c3_i32_304
  let c8_i32_305 : BitVec 32 := 8#32
  let v417 : BitVec 1 := Scalar.cmpi .slt v416 c8_i32_305
  let v418 : BitVec 32 := Scalar.extui v417
  let c0_i32_306 : BitVec 32 := 0#32
  let v419 : BitVec 1 := Scalar.cmpi .ne v418 c0_i32_306
  v419

def k0_off21 (k0_t4 : Fin k0_t4_loop.trips) : Fin 1 → Nat :=
  let c0_i32_267 : BitVec 32 := 0#32
  let c0_i32_228 : BitVec 32 := 0#32
  let c1_i32_229 : BitVec 32 := 1#32
  let arg36 : BitVec 32 := Scf.iv c0_i32_228 c1_i32_229 k0_t4
  let c1_i32_266 : BitVec 32 := 1#32
  let v355 : BitVec 32 := Scalar.muli arg36 c1_i32_266
  let v356 : BitVec 32 := Scalar.addi c0_i32_267 v355
  let c3_i32_309 : BitVec 32 := 3#32
  let v423 : BitVec 32 := Scalar.addi v356 c3_i32_309
  let c3_i32_317 : BitVec 32 := 3#32
  let c0_i32_318 : BitVec 32 := 0#32
  let v435 : BitVec 1 := Scalar.cmpi .eq c3_i32_317 c0_i32_318
  let c1_i32_319 : BitVec 32 := 1#32
  let v436 : BitVec 32 := Scalar.select v435 c1_i32_319 c3_i32_317
  let v437 : BitVec 32 := Scalar.remsi v423 v436
  let c0_i32_321 : BitVec 32 := 0#32
  let v439 : BitVec 1 := Scalar.cmpi .slt v437 c0_i32_321
  let c0_i32_322 : BitVec 32 := 0#32
  let v440 : BitVec 1 := Scalar.cmpi .slt v436 c0_i32_322
  let v441 : BitVec 1 := Scalar.xori v439 v440
  let c0_i32_320 : BitVec 32 := 0#32
  let v438 : BitVec 1 := Scalar.cmpi .ne v437 c0_i32_320
  let v442 : BitVec 1 := Scalar.andi v441 v438
  let v443 : BitVec 32 := Scalar.addi v437 v436
  let v444 : BitVec 32 := Scalar.select v442 v443 v437
  ![v444.toNat]
def k0_off22 (k0_t4 : Fin k0_t4_loop.trips) : Fin 3 → Nat :=
  let c0_i32_267 : BitVec 32 := 0#32
  let c0_i32_228 : BitVec 32 := 0#32
  let c1_i32_229 : BitVec 32 := 1#32
  let arg36 : BitVec 32 := Scf.iv c0_i32_228 c1_i32_229 k0_t4
  let c1_i32_266 : BitVec 32 := 1#32
  let v355 : BitVec 32 := Scalar.muli arg36 c1_i32_266
  let v356 : BitVec 32 := Scalar.addi c0_i32_267 v355
  let c3_i32_309 : BitVec 32 := 3#32
  let v423 : BitVec 32 := Scalar.addi v356 c3_i32_309
  let c3_i32_311 : BitVec 32 := 3#32
  let c0_i32_312 : BitVec 32 := 0#32
  let v425 : BitVec 1 := Scalar.cmpi .eq c3_i32_311 c0_i32_312
  let c1_i32_313 : BitVec 32 := 1#32
  let v426 : BitVec 32 := Scalar.select v425 c1_i32_313 c3_i32_311
  let v427 : BitVec 32 := Scalar.remsi v423 v426
  let c0_i32_315 : BitVec 32 := 0#32
  let v429 : BitVec 1 := Scalar.cmpi .slt v427 c0_i32_315
  let c0_i32_316 : BitVec 32 := 0#32
  let v430 : BitVec 1 := Scalar.cmpi .slt v426 c0_i32_316
  let v431 : BitVec 1 := Scalar.xori v429 v430
  let c0_i32_314 : BitVec 32 := 0#32
  let v428 : BitVec 1 := Scalar.cmpi .ne v427 c0_i32_314
  let v432 : BitVec 1 := Scalar.andi v431 v428
  let v433 : BitVec 32 := Scalar.addi v427 v426
  let v434 : BitVec 32 := Scalar.select v432 v433 v427
  let c0_i32_323 : BitVec 32 := 0#32
  let c0_i32_324 : BitVec 32 := 0#32
  ![v434.toNat, 0, 0]
def k0_off23 (k0_t4 : Fin k0_t4_loop.trips) : Fin 2 → Nat :=
  let c0_i32_325 : BitVec 32 := 0#32
  let c0_i32_267 : BitVec 32 := 0#32
  let c0_i32_228 : BitVec 32 := 0#32
  let c1_i32_229 : BitVec 32 := 1#32
  let arg36 : BitVec 32 := Scf.iv c0_i32_228 c1_i32_229 k0_t4
  let c1_i32_266 : BitVec 32 := 1#32
  let v355 : BitVec 32 := Scalar.muli arg36 c1_i32_266
  let v356 : BitVec 32 := Scalar.addi c0_i32_267 v355
  let c3_i32_309 : BitVec 32 := 3#32
  let v423 : BitVec 32 := Scalar.addi v356 c3_i32_309
  let c512_i32_310 : BitVec 32 := 512#32
  let v424 : BitVec 32 := Scalar.muli v423 c512_i32_310
  ![0, v424.toNat]
def k0_cond2 (k0_t4 : Fin k0_t4_loop.trips) : BitVec 1 :=
  let c0_i32_267 : BitVec 32 := 0#32
  let c0_i32_228 : BitVec 32 := 0#32
  let c1_i32_229 : BitVec 32 := 1#32
  let arg36 : BitVec 32 := Scf.iv c0_i32_228 c1_i32_229 k0_t4
  let c1_i32_266 : BitVec 32 := 1#32
  let v355 : BitVec 32 := Scalar.muli arg36 c1_i32_266
  let v356 : BitVec 32 := Scalar.addi c0_i32_267 v355
  let c0_i32_307 : BitVec 32 := 0#32
  let v420 : BitVec 1 := Scalar.cmpi .sgt v356 c0_i32_307
  let v421 : BitVec 32 := Scalar.extui v420
  let c0_i32_308 : BitVec 32 := 0#32
  let v422 : BitVec 1 := Scalar.cmpi .ne v421 c0_i32_308
  v422

def k0_off24 (k0_t4 : Fin k0_t4_loop.trips) : Fin 2 → Nat :=
  let c0_i32_311 : BitVec 32 := 0#32
  let c0_i32_267 : BitVec 32 := 0#32
  let c0_i32_228 : BitVec 32 := 0#32
  let c1_i32_229 : BitVec 32 := 1#32
  let arg36 : BitVec 32 := Scf.iv c0_i32_228 c1_i32_229 k0_t4
  let c1_i32_266 : BitVec 32 := 1#32
  let v355 : BitVec 32 := Scalar.muli arg36 c1_i32_266
  let v356 : BitVec 32 := Scalar.addi c0_i32_267 v355
  let c1_i32_309 : BitVec 32 := 1#32
  let v423 : BitVec 32 := Scalar.subi v356 c1_i32_309
  let c512_i32_310 : BitVec 32 := 512#32
  let v424 : BitVec 32 := Scalar.muli v423 c512_i32_310
  ![0, v424.toNat]
-- ==== ReferenceIdeal.lean ====
abbrev S1x128x14336 : Shape := ⟨3, ![1, 128, 14336]⟩
abbrev S14336x4096 : Shape := ⟨2, ![14336, 4096]⟩
abbrev S4096 : Shape := ⟨1, ![4096]⟩
abbrev S14336x12 : Shape := ⟨2, ![14336, 12]⟩
abbrev S12 : Shape := ⟨1, ![12]⟩
abbrev S1x128x2 : Shape := ⟨3, ![1, 128, 2]⟩
abbrev S12x14336x64 : Shape := ⟨3, ![12, 14336, 64]⟩
abbrev S12x64x4096 : Shape := ⟨3, ![12, 64, 4096]⟩
abbrev S14336x64 : Shape := ⟨2, ![14336, 64]⟩
abbrev S64x4096 : Shape := ⟨2, ![64, 4096]⟩
abbrev S128x14336 : Shape := ⟨2, ![128, 14336]⟩
abbrev S128x4096 : Shape := ⟨2, ![128, 4096]⟩
abbrev S128x1 : Shape := ⟨2, ![128, 1]⟩
abbrev S128 : Shape := ⟨1, ![128]⟩
abbrev S128x254 : Shape := ⟨2, ![128, 254]⟩
abbrev S1x128x4096 : Shape := ⟨3, ![1, 128, 4096]⟩
abbrev S1x128 : Shape := ⟨2, ![1, 128]⟩
abbrev S1x128x1 : Shape := ⟨3, ![1, 128, 1]⟩
abbrev S1x1x4096 : Shape := ⟨3, ![1, 1, 4096]⟩
abbrev S1x128x12 : Shape := ⟨3, ![1, 128, 12]⟩
abbrev S1x1x12 : Shape := ⟨3, ![1, 1, 12]⟩
abbrev S_ : Shape := ⟨0, ![]⟩
abbrev S128x2x1 : Shape := ⟨3, ![128, 2, 1]⟩
abbrev S1 : Shape := ⟨1, ![1]⟩
abbrev S1x1x1 : Shape := ⟨3, ![1, 1, 1]⟩
abbrev S128x2 : Shape := ⟨2, ![128, 2]⟩
abbrev S1x128x2x1 : Shape := ⟨4, ![1, 128, 2, 1]⟩
abbrev S1x1x1x12 : Shape := ⟨4, ![1, 1, 1, 12]⟩
abbrev S1x128x2x12 : Shape := ⟨4, ![1, 128, 2, 12]⟩
abbrev S1x128x12x64 : Shape := ⟨4, ![1, 128, 12, 64]⟩
abbrev S1x128x12x1 : Shape := ⟨4, ![1, 128, 12, 1]⟩
abbrev S1x128x64 : Shape := ⟨3, ![1, 128, 64]⟩

abbrev nBuf : Space → Nat
  | .hbm => 98
  | .vmem => 5
  | .smem => 0
  | _ => 0

abbrev bufTy : (tb : Table) → Fin (tcTables nBuf tb) → BufTy
  | .hbm, ⟨0, _⟩ => ⟨S1x128x14336, .bf16⟩
  | .hbm, ⟨1, _⟩ => ⟨S14336x4096, .fp8e4m3⟩
  | .hbm, ⟨2, _⟩ => ⟨S4096, .f32⟩
  | .hbm, ⟨3, _⟩ => ⟨S14336x12, .bf16⟩
  | .hbm, ⟨4, _⟩ => ⟨S12, .f32⟩
  | .hbm, ⟨5, _⟩ => ⟨S1x128x2, .i32⟩
  | .hbm, ⟨6, _⟩ => ⟨S12x14336x64, .bf16⟩
  | .hbm, ⟨7, _⟩ => ⟨S12x64x4096, .bf16⟩
  | .hbm, ⟨8, _⟩ => ⟨S14336x64, .bf16⟩
  | .hbm, ⟨9, _⟩ => ⟨S64x4096, .bf16⟩
  | .hbm, ⟨10, _⟩ => ⟨S128x14336, .bf16⟩
  | .hbm, ⟨11, _⟩ => ⟨S128x4096, .f32⟩
  | .hbm, ⟨12, _⟩ => ⟨S128x14336, .fp8e4m3⟩
  | .hbm, ⟨13, _⟩ => ⟨S128x1, .f32⟩
  | .hbm, ⟨14, _⟩ => ⟨S1x128x4096, .f32⟩
  | .hbm, ⟨15, _⟩ => ⟨S1x128x14336, .fp8e4m3⟩
  | .hbm, ⟨16, _⟩ => ⟨S1x128, .f32⟩
  | .hbm, ⟨17, _⟩ => ⟨S1x128x1, .f32⟩
  | .hbm, ⟨18, _⟩ => ⟨S1x128x4096, .f32⟩
  | .hbm, ⟨19, _⟩ => ⟨S1x128x4096, .f32⟩
  | .hbm, ⟨20, _⟩ => ⟨S1x1x4096, .f32⟩
  | .hbm, ⟨21, _⟩ => ⟨S1x128x4096, .f32⟩
  | .hbm, ⟨22, _⟩ => ⟨S1x128x4096, .f32⟩
  | .hbm, ⟨23, _⟩ => ⟨S1x128x12, .f32⟩
  | .hbm, ⟨24, _⟩ => ⟨S1x1x12, .f32⟩
  | .hbm, ⟨25, _⟩ => ⟨S1x128x12, .f32⟩
  | .hbm, ⟨26, _⟩ => ⟨S1x128x12, .f32⟩
  | .hbm, ⟨27, _⟩ => ⟨S_, .f32⟩
  | .hbm, ⟨28, _⟩ => ⟨S1x128, .f32⟩
  | .hbm, ⟨29, _⟩ => ⟨S_, .f32⟩
  | .hbm, ⟨30, _⟩ => ⟨S1x128, .f32⟩
  | .hbm, ⟨31, _⟩ => ⟨S1x128, .f32⟩
  | .hbm, ⟨32, _⟩ => ⟨S1x128x1, .f32⟩
  | .hbm, ⟨33, _⟩ => ⟨S1x128x12, .f32⟩
  | .hbm, ⟨34, _⟩ => ⟨S1x128x12, .f32⟩
  | .hbm, ⟨35, _⟩ => ⟨S1x128x12, .f32⟩
  | .hbm, ⟨36, _⟩ => ⟨S_, .f32⟩
  | .hbm, ⟨37, _⟩ => ⟨S1x128, .f32⟩
  | .hbm, ⟨38, _⟩ => ⟨S1x128x1, .f32⟩
  | .hbm, ⟨39, _⟩ => ⟨S1x128x12, .f32⟩
  | .hbm, ⟨40, _⟩ => ⟨S1x128x12, .f32⟩
  | .hbm, ⟨41, _⟩ => ⟨S_, .i32⟩
  | .hbm, ⟨42, _⟩ => ⟨S1x128x2, .i32⟩
  | .hbm, ⟨43, _⟩ => ⟨S1x128x2, .i1⟩
  | .hbm, ⟨44, _⟩ => ⟨S_, .i32⟩
  | .hbm, ⟨45, _⟩ => ⟨S1x128x2, .i32⟩
  | .hbm, ⟨46, _⟩ => ⟨S1x128x2, .i32⟩
  | .hbm, ⟨47, _⟩ => ⟨S1x128x2, .i32⟩
  | .hbm, ⟨48, _⟩ => ⟨S128x2x1, .i32⟩
  | .hbm, ⟨49, _⟩ => ⟨S1, .i32⟩
  | .hbm, ⟨50, _⟩ => ⟨S_, .i32⟩
  | .hbm, ⟨51, _⟩ => ⟨S128x2x1, .i32⟩
  | .hbm, ⟨52, _⟩ => ⟨S128x2x1, .i1⟩
  | .hbm, ⟨53, _⟩ => ⟨S1x1x1, .i32⟩
  | .hbm, ⟨54, _⟩ => ⟨S128x2x1, .i32⟩
  | .hbm, ⟨55, _⟩ => ⟨S128x2x1, .i1⟩
  | .hbm, ⟨56, _⟩ => ⟨S128x2x1, .i1⟩
  | .hbm, ⟨57, _⟩ => ⟨S_, .i1⟩
  | .hbm, ⟨58, _⟩ => ⟨S128x2, .i1⟩
  | .hbm, ⟨59, _⟩ => ⟨S1x128x2, .f32⟩
  | .hbm, ⟨60, _⟩ => ⟨S1x128x2, .i1⟩
  | .hbm, ⟨61, _⟩ => ⟨S_, .f32⟩
  | .hbm, ⟨62, _⟩ => ⟨S1x128x2, .f32⟩
  | .hbm, ⟨63, _⟩ => ⟨S1x128x2, .f32⟩
  | .hbm, ⟨64, _⟩ => ⟨S_, .f32⟩
  | .hbm, ⟨65, _⟩ => ⟨S1x128, .f32⟩
  | .hbm, ⟨66, _⟩ => ⟨S1x128x1, .f32⟩
  | .hbm, ⟨67, _⟩ => ⟨S1x128x2, .f32⟩
  | .hbm, ⟨68, _⟩ => ⟨S1x128x2, .f32⟩
  | .hbm, ⟨69, _⟩ => ⟨S1x128x2x1, .i32⟩
  | .hbm, ⟨70, _⟩ => ⟨S1x1x1x12, .i32⟩
  | .hbm, ⟨71, _⟩ => ⟨S1x128x2x12, .i32⟩
  | .hbm, ⟨72, _⟩ => ⟨S1x128x2x12, .i32⟩
  | .hbm, ⟨73, _⟩ => ⟨S1x128x2x12, .i1⟩
  | .hbm, ⟨74, _⟩ => ⟨S1x128x2x12, .f32⟩
  | .hbm, ⟨75, _⟩ => ⟨S1x128x2x1, .f32⟩
  | .hbm, ⟨76, _⟩ => ⟨S1x128x2x12, .f32⟩
  | .hbm, ⟨77, _⟩ => ⟨S1x128x2x12, .f32⟩
  | .hbm, ⟨78, _⟩ => ⟨S_, .f32⟩
  | .hbm, ⟨79, _⟩ => ⟨S1x128x12, .f32⟩
  | .hbm, ⟨80, _⟩ => ⟨S1x128x12x64, .f32⟩
  | .hbm, ⟨81, _⟩ => ⟨S_, .f32⟩
  | .hbm, ⟨82, _⟩ => ⟨S1x128x12, .f32⟩
  | .hbm, ⟨83, _⟩ => ⟨S1x128x12, .f32⟩
  | .hbm, ⟨84, _⟩ => ⟨S1x128x12x1, .f32⟩
  | .hbm, ⟨85, _⟩ => ⟨S1x128x12x64, .f32⟩
  | .hbm, ⟨86, _⟩ => ⟨S1x128x12x64, .f32⟩
  | .hbm, ⟨87, _⟩ => ⟨S1x128x12x64, .bf16⟩
  | .hbm, ⟨88, _⟩ => ⟨S1x128x4096, .f32⟩
  | .hbm, ⟨89, _⟩ => ⟨S1x128x64, .f32⟩
  | .hbm, ⟨90, _⟩ => ⟨S_, .f32⟩
  | .hbm, ⟨91, _⟩ => ⟨S1x128x64, .f32⟩
  | .hbm, ⟨92, _⟩ => ⟨S1x128x64, .f32⟩
  | .hbm, ⟨93, _⟩ => ⟨S1x128x64, .bf16⟩
  | .hbm, ⟨94, _⟩ => ⟨S1x128x4096, .f32⟩
  | .hbm, ⟨95, _⟩ => ⟨S1x128x4096, .f32⟩
  | .hbm, ⟨96, _⟩ => ⟨S1x128x4096, .f32⟩
  | .hbm, ⟨97, _⟩ => ⟨S1x128x4096, .bf16⟩
  | .local _ .vmem, ⟨0, _⟩ => ⟨S128x14336, .bf16⟩
  | .local _ .vmem, ⟨1, _⟩ => ⟨S14336x4096, .fp8e4m3⟩
  | .local _ .vmem, ⟨2, _⟩ => ⟨S128x4096, .f32⟩
  | .local _ .vmem, ⟨3, _⟩ => ⟨S128x14336, .fp8e4m3⟩
  | .local _ .vmem, ⟨4, _⟩ => ⟨S128x1, .f32⟩
  | _, _ => ⟨S1x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_c_1 : Ref sig .tc := ⟨.hbm, 49, rfl⟩
abbrev main_call0_c_2 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_3 : Ref sig .tc := ⟨.hbm, 57, rfl⟩
abbrev main_call0_v12 : Ref sig .tc := ⟨.hbm, 58, rfl⟩
abbrev main_call0_v13 : Ref sig .tc := ⟨.hbm, 59, rfl⟩
abbrev main_call0_v14 : Ref sig .tc := ⟨.hbm, 60, rfl⟩
abbrev main_call0_cst : Ref sig .tc := ⟨.hbm, 61, rfl⟩
abbrev main_call0_v15 : Ref sig .tc := ⟨.hbm, 62, rfl⟩
abbrev main_v26 : Ref sig .tc := ⟨.hbm, 63, rfl⟩
abbrev main_cst_2 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_3 : Ref sig .tc := ⟨.hbm, 78, rfl⟩
abbrev main_v35 : Ref sig .tc := ⟨.hbm, 79, rfl⟩
abbrev main_v36 : Ref sig .tc := ⟨.hbm, 80, rfl⟩
abbrev main_cst_4 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_5 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x14336 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Lib.Steps.lean ====
/- Rules for one statement of a program at a time: start a copy, wait for it, load, store; each in the form the
   kernel's body is written in (`Prog.lift e >>= k`), with the copy's delivery stated as the contents the destination
   is to hold. Nothing here is about one kernel. -/
module

public import Idealize.ShloMosaic.PureOps
public import Idealize.ShloMosaic.Lib.MixedBatch
public import Idealize.ShloMosaic.Lib.Pipeline.FrameSuffixV
public import Idealize.ShloMosaic.Lib.ViewIndex
public import Idealize.ShloMosaic.Lib.Ring
public import Idealize.ShloMosaic.Lib.Pipeline.ValueKit.Geometry
public import Idealize.ShloMosaic.Lib.Tactic
public import Idealize.ShloMosaic.Lib.ValueIdxCore
public import Idealize.ShloMosaic.Lib.ValueLayout

@[expose] public section

noncomputable section

namespace Cert.Steps

open Idealize.ShloMosaic Idealize.ShloMosaic.TcCoe Idealize.ShloMosaic.Transfers
open Idealize.SL Idealize.SL.RA
open Idealize.SL.BI (sProp bigSep Storable bigSep_insert bigSep_empty)
open scoped Idealize.SL.BI
open Idealize.SL.BI.BIBase Idealize.SL.BI.Laws Idealize.SL.ProofMode Idealize.SL.Sem

variable {nD : Nat} {τ : Topo} {sig : RefSig} {Val : EltTy → Type}

/-- Assertions of the proof. -/
abbrev SP (nD : Nat) (τ : Topo) (sig : RefSig) (Val : EltTy → Type) := sProp (MT nD τ sig Unit Val ℕ (Pipeline.UD sig nD τ) ℕ)

/-- The counters of the copies in flight, inside the proof's resource algebra. -/
abbrev EC : UEmb Counters (MT nD τ sig Unit Val ℕ (Pipeline.UD sig nD τ) ℕ) := countersEmb (U := Pipeline.UD sig nD τ)

/-- A memref's elements, wholly owned, at contents `f` of its buffer. -/
abbrev pt (c : Thread nD τ) {sp : Space} {s : Shape} {e : EltTy} (M : Memref sig c.2.kind sp s e) (f : M.view.ty.Contents Val) : SP nD τ sig Val :=
  M.view.loc c ↦[M.view.set]{fullShare} f

/-- The core's record of waits, at some record. -/
abbrev ow (c : Thread nD τ) : SP nD τ sig Val := iprop(∃ W : Waits sig Unit, owes c 0 W)

/-- A copy in flight on a semaphore, of `N` units, delivering `D`. -/
abbrev fl (c : Thread nD τ) (sm : SemLoc sig) (N : ℕ) (D : SP nD τ sig Val) : SP nD τ sig Val := Flight EC c sm () N D

/-- Several copies in flight on one semaphore. -/
abbrev mb (c : Thread nD τ) (sm : SemLoc sig) {n : ℕ} (A : Fin n → ℕ) (D : Fin n → SP nD τ sig Val) (j u : ℕ) : SP nD τ sig Val := MixedBatch EC c sm () A D j u

variable {Λ : Labels} {defs : Defs nD τ sig Val Λ} {𝒱 : Variants} {c : Thread nD τ} {bd : Option 𝒱.V}
variable {α : Type} {Q : α → SP nD τ sig Val} {sp sp' : Space} {s : Shape} {e : EltTy}

/-- Contents that a memref reads alike are the same ownership of its elements. -/
theorem pt_eq {M : Memref sig c.2.kind sp s e} {f g : M.view.ty.Contents Val} (h : M.view.read Val f = M.view.read Val g) :
    (pt c M f : SP nD τ sig Val) = pt c M g := by
  refine pointsTo_congr fun i hi => ?_
  obtain ⟨x, -, rfl⟩ := Finset.mem_map.mp hi
  exact View.eq_of_read_eq (congrFun h x)

/-- Start a copy alone on its semaphore: it delivers the destination at any contents `g` that read as the source does. -/
theorem issue {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig Val Λ c.2) α} (fs : src.view.ty.Contents Val) (fd g : dst.view.ty.Contents Val)
    (hs : 0 < s.numel) (hg : src.view.read Val fs = dst.view.read Val g) :
    iprop(pt c src fs ∗ pt c dst fd ∗ semVal (c, .dma sm) 0)
      ⊢ iprop((fl c (.dma sm) dst.view.dmaCredit iprop(pt c dst g ∗ pt c src fs) -∗ wp frame (wpE defs 𝒱 c bd) Set.univ (k ⟨⟩) Q)
          -∗ wp frame (wpE defs 𝒱 c bd) Set.univ (Prog.lift (.enqueueDma src (.here dst) (.dma sm) hsrc hdst hsem) >>= k) Q) := by
  iintro H Hk
  iapply (wp_dmaLocal EC 𝒱 c bd (src := src) (dst := dst) (sm := .dma sm) (via := .same) (hsrc := hsrc) (hdst := hdst) (hsem := hsem) (k := k) (q := fullShare) (fs := fs) (Sd := dst.view.set) (fd := fd)
    () dst.view.dmaCredit rfl (View.dmaCredit_pos _ hs) subset_rfl) $$ H
  iintro HF
  iapply Hk
  iapply (Flight_mono EC c ?_) $$ HF
  refine sep_mono (Entails.of_eq (pt_eq ?_)) .rfl
  rw [View.read_write_univ, ← hg]

/-- Wait for a copy alone on its semaphore. -/
theorem wait {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} {D : SP nD τ sig Val} {N : ℕ} (hN : dstw.view.dmaCredit = N) :
    iprop(fl c (.dma sem) N D ∗ ow c)
      ⊢ iprop((iprop(D ∗ semVal (c, .dma sem) 0 ∗ ow c) -∗ wp frame (wpE defs 𝒱 c bd) Set.univ (k ⟨⟩) Q)
          -∗ wp frame (wpE defs 𝒱 c bd) Set.univ (Prog.lift (.waitDma2 sem srcw dstw hsrc hdst) >>= k) Q) := by
  iintro ⟨HF, %W, HO⟩ Hk
  iapply (wp_waitLocal EC 𝒱 c bd (srcw := srcw) (dstw := dstw) (hsrc := hsrc) (hdst := hdst) (k := k) () hN (D := D) (W := W)) $$ [HF HO]
  · isplitl [HF]; · iexact HF
    iexact HO
  iintro ⟨HD, Hv, HO⟩
  iapply Hk
  isplitl [HD]; · iexact HD
  isplitl [Hv]; · iexact Hv
  iexists _; iexact HO

/-- Start the next copy of several on one semaphore. -/
theorem issueB {n : ℕ} {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} (A : Fin n → ℕ) (D : Fin n → SP nD τ sig Val)
    (fs : src.view.ty.Contents Val) (fd g : dst.view.ty.Contents Val) {j u : ℕ} (hj : j < n) (hA : dst.view.amount sm = A ⟨j, hj⟩) (hu : u ≤ sumTo A j)
    (hD : iprop(pt c dst g ∗ pt c src fs) ⊢ D ⟨j, hj⟩) (hg : src.view.read Val fs = dst.view.read Val g) :
    iprop(pt c src fs ∗ pt c dst fd ∗ mb c sm A D j u)
      ⊢ iprop((mb c sm A D (j + 1) u -∗ wp frame (wpE defs 𝒱 c bd) Set.univ (k ⟨⟩) Q)
          -∗ wp frame (wpE defs 𝒱 c bd) Set.univ (Prog.lift (.enqueueDma src (.here dst) sm hsrc hdst hsem) >>= k) Q) := by
  refine wp_dmaMixedBatch EC 𝒱 c bd (src := src) (dst := dst) (sm := sm) (via := .same) (hsrc := hsrc) (hdst := hdst) (hsem := hsem) (k := k) (q := fullShare) (fs := fs) (Sd := dst.view.set) (fd := fd)
    () A subset_rfl hj hA hu (Entails.trans (sep_mono (Entails.of_eq (pt_eq ?_)) .rfl) hD)
  rw [View.read_write_univ, ← hg]

/-- A wait short of the units in flight hands nothing back. -/
theorem waitB {n : ℕ} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} {A : Fin n → ℕ} {D : Fin n → SP nD τ sig Val} {j u : ℕ} (J : ℕ) (hJ : dstw.view.dmaCredit = J)
    (hu : u + J ≤ sumTo A j) :
    iprop(mb c (.dma sem) A D j u ∗ ow c)
      ⊢ iprop((iprop(mb c (.dma sem) A D j (u + J) ∗ ow c) -∗ wp frame (wpE defs 𝒱 c bd) Set.univ (k ⟨⟩) Q)
          -∗ wp frame (wpE defs 𝒱 c bd) Set.univ (Prog.lift (.waitDma2 sem srcw dstw hsrc hdst) >>= k) Q) := by
  iintro ⟨HF, %W, HO⟩ Hk
  iapply (wp_waitMixedBatch EC 𝒱 c bd (srcw := srcw) (dstw := dstw) (hsrc := hsrc) (hdst := hdst) (k := k) () hJ hu (D := D) (W := W)) $$ [HF HO]
  · isplitl [HF]; · iexact HF
    iexact HO
  iintro ⟨HD, HO⟩
  iapply Hk
  isplitl [HD]; · iexact HD
  iexists _; iexact HO

/-- The wait that brings the units consumed to all of them hands back every delivery. -/
theorem waitBAll {n : ℕ} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} {A : Fin n → ℕ} {D : Fin n → SP nD τ sig Val} {u : ℕ} (J : ℕ) (hJ : dstw.view.dmaCredit = J)
    (hA0 : ∀ t, 0 < A t) (hu : u + J = sumTo A n) :
    iprop(mb c (.dma sem) A D n u ∗ ow c)
      ⊢ iprop((iprop(bigSep Finset.univ D ∗ semVal (c, .dma sem) 0 ∗ ow c) -∗ wp frame (wpE defs 𝒱 c bd) Set.univ (k ⟨⟩) Q)
          -∗ wp frame (wpE defs 𝒱 c bd) Set.univ (Prog.lift (.waitDma2 sem srcw dstw hsrc hdst) >>= k) Q) := by
  iintro ⟨HF, %W, HO⟩ Hk
  iapply (wp_waitMixedBatchAll EC 𝒱 c bd (srcw := srcw) (dstw := dstw) (hsrc := hsrc) (hdst := hdst) (k := k) () hJ hA0 hu (D := D) (W := W)) $$ [HF HO]
  · isplitl [HF]; · iexact HF
    iexact HO
  iintro ⟨HD, Hv, HO⟩
  iapply Hk
  isplitl [HD]; · iexact HD
  isplitl [Hv]; · iexact Hv
  iexists _; iexact HO

/-- A load inside elements held at `f`. -/
theorem load {cs : CoreSpace} {m : Memref sig c.2.kind cs s e} {r : LoadRect s} {hl : m.view.LoadsAt r} {k : (r.shape.Idx → Val e) → Prog (TpuEff nD τ sig Val Λ c.2) α}
    {S : Finset (Idx (m.view.loc c))} {f : Buf Val (m.view.loc c)} (hS : m.view.setOn r.set ⊆ S) :
    (m.view.loc c ↦[S]{fullShare} f : SP nD τ sig Val)
      ⊢ iprop(((m.view.loc c ↦[S]{fullShare} f) -∗ wp frame (wpE defs 𝒱 c bd) Set.univ (k (m.view.readAt Val r f)) Q)
        -∗ wp frame (wpE defs 𝒱 c bd) Set.univ (Prog.lift (.load m r hl) >>= k) Q) :=
  wp_load (Ix := Unit) (Val := Val) (Name := ℕ) (U := Pipeline.UD sig nD τ) (Lvl := ℕ) 𝒱 c bd Set.univ (hl := hl) (k := k) hS

/-- A store inside elements held. -/
theorem store {cs : CoreSpace} {m : Memref sig c.2.kind cs s e} {r : Rect s} {w : r.shape.Idx → Val e} {Mk : Finset r.shape.Idx} {hx : (m.access r).Stores Mk} {hm : Mk = Finset.univ ∨ ∀ a, r.stride a = 1}
    {k : PUnit → Prog (TpuEff nD τ sig Val Λ c.2) α} {S : Finset (Idx ((m.access r).loc c))} {f : Buf Val ((m.access r).loc c)}
    (hS : (m.access r).setOn Mk ⊆ S) :
    ((m.access r).loc c ↦[S]{fullShare} f : SP nD τ sig Val)
      ⊢ iprop((((m.access r).loc c ↦[S]{fullShare} ((m.access r).write Val f w Mk)) -∗ wp frame (wpE defs 𝒱 c bd) Set.univ (k ⟨⟩) Q)
        -∗ wp frame (wpE defs 𝒱 c bd) Set.univ (Prog.lift (.store m r w Mk hx hm) >>= k) Q) :=
  wp_store (Ix := Unit) (Val := Val) (Name := ℕ) (U := Pipeline.UD sig nD τ) (Lvl := ℕ) 𝒱 c bd Set.univ (hx := hx) (hm := hm) (k := k) hS

/-- A program that is over. -/
theorem done {a : α} : Q a ⊢ wp frame (wpE defs 𝒱 c bd) Set.univ (pure a : Prog (TpuEff nD τ sig Val Λ c.2) α) Q := by
  rw [wp_pure]; iintro H; imodintro; iexact H

/-- A whole buffer held is its blocks along one axis held. -/
theorem split_lead (b : Ref sig .tc) (c : Dev nD) {NB : ℕ} (a₀ : Fin b.ty.shape.rank) (R : ℕ) (off : Fin NB → Fin b.ty.shape.rank → ℕ) (size : Fin b.ty.shape.rank → ℕ)
    (inb : ∀ i a, off i a + size a ≤ b.ty.shape.size a) (hoff₀ : ∀ i, off i a₀ = R * i.val) (hoff : ∀ i a, a ≠ a₀ → off i a = 0)
    (hsz₀ : size a₀ = R) (hsz : ∀ a, a ≠ a₀ → size a = b.ty.shape.size a) (hN : NB * R = b.ty.shape.size a₀) (f : Buf Val ((c.tc : Thread nD τ).loc b)) :
    (((c.tc : Thread nD τ).loc b) ↦{fullShare} f : SP nD τ sig Val)
      = bigSep Finset.univ fun i : Fin NB => (((c.tc : Thread nD τ).loc b) ↦[((View.whole b).slice (Rect.unit (off i) size (inb i))).set]{fullShare} f) := by
  have e : ∀ i : Fin NB, ((View.whole b).slice (Rect.unit (off i) size (inb i))).set = (Rect.unit (off i) size (inb i)).set := fun i => View.set_slice_whole b _
  simp only [e]
  exact Ring.pointsTo_blocks (ℓ := (c.tc : Thread nD τ).loc b) (fun i : Fin NB => (Rect.unit (off i) size (inb i)).set)
    (Ring.lead_disjoint a₀ R off size inb hoff₀ hsz₀) (Ring.lead_cover a₀ R off size inb hoff₀ hoff hsz₀ hsz hN) f

/-- One member of a stack of matrices, seen as a matrix, read at a row and a column. -/
theorem read_sq {sig : RefSig} {κ : Kind} {sp : Space} {Val : EltTy → Type} {n a b : ℕ} {e : EltTy} (M : Memref sig κ sp ⟨3, ![n, a, b]⟩ e) (off : Fin 3 → ℕ)
    (inb : ∀ i : Fin 3, off i + (![1, a, b] : Fin 3 → ℕ) i ≤ (![n, a, b] : Fin 3 → ℕ) i)
    (hq : (⟨3, ![1, a, b]⟩ : Shape).Squeezes ⟨2, ![a, b]⟩) (f : M.view.ty.Contents Val) (x : Fin a) (y : Fin b) :
    ((M.slice (Rect.unit (s := ⟨3, ![n, a, b]⟩) off ![1, a, b] inb) (fun _ => rfl)).squeeze ⟨2, ![a, b]⟩ hq).view.read Val f (ValueIdx.ix2 x y)
      = M.view.read Val f ((Rect.unit (s := ⟨3, ![n, a, b]⟩) off ![1, a, b] inb).emb (ValueIdx.ix3 (⟨0, Nat.one_pos⟩ : Fin 1) x y)) := by
  exact congrArg (fun z => M.view.read Val f ((Rect.unit (s := ⟨3, ![n, a, b]⟩) off ![1, a, b] inb).emb z)) (ValueIdx.reshapeEquiv_ix2_1ab hq.numel_eq x y)

/-- Three members, and two, as families. -/
def tri {α : Type*} (x y z : α) : Fin 3 → α | 0 => x | 1 => y | 2 => z
def duo {α : Type*} (x y : α) : Fin 2 → α | 0 => x | 1 => y
theorem tri_0 {α : Type*} (x y z : α) (h : 0 < 3) : tri x y z ⟨0, h⟩ = x := rfl
theorem tri_1 {α : Type*} (x y z : α) (h : 1 < 3) : tri x y z ⟨1, h⟩ = y := rfl
theorem tri_2 {α : Type*} (x y z : α) (h : 2 < 3) : tri x y z ⟨2, h⟩ = z := rfl
theorem duo_0 {α : Type*} (x y : α) (h : 0 < 2) : duo x y ⟨0, h⟩ = x := rfl
theorem duo_1 {α : Type*} (x y : α) (h : 1 < 2) : duo x y ⟨1, h⟩ = y := rfl
theorem tri_sum (x y z : ℕ) : sumTo (tri x y z) 3 = x + y + z := by
  rw [sumTo_succ _ (by decide : 2 < 3), sumTo_succ _ (by decide : 1 < 3), sumTo_succ _ (by decide : 0 < 3), sumTo_zero, tri_0, tri_1, tri_2, Nat.zero_add]
theorem duo_sum (x y : ℕ) : sumTo (duo x y) 2 = x + y := by
  rw [sumTo_succ _ (by decide : 1 < 2), sumTo_succ _ (by decide : 0 < 2), sumTo_zero, duo_0, duo_1, Nat.zero_add]
theorem tri_pos {x y z : ℕ} (hx : 0 < x) (hy : 0 < y) (hz : 0 < z) : ∀ t, 0 < tri x y z t | 0 => hx | 1 => hy | 2 => hz
theorem duo_pos {x y : ℕ} (hx : 0 < x) (hy : 0 < y) : ∀ t, 0 < duo x y t | 0 => hx | 1 => hy
theorem bigSep_tri (x y z : SP nD τ sig Val) : bigSep Finset.univ (tri x y z) = iprop(x ∗ y ∗ z) :=
  BI.bigSep_univ_eq_bigSepL ([0, 1, 2] : List (Fin 3)) (by decide) (by decide) _
theorem bigSep_duo (x y : SP nD τ sig Val) : bigSep Finset.univ (duo x y) = iprop(x ∗ y) :=
  BI.bigSep_univ_eq_bigSepL ([0, 1] : List (Fin 2)) (by decide) (by decide) _
instance tri_storable (x y z : SP nD τ sig Val) [hx : Storable (upEmb : UEmb _ (MT nD τ sig Unit Val ℕ (Pipeline.UD sig nD τ) ℕ)) x]
    [hy : Storable (upEmb : UEmb _ (MT nD τ sig Unit Val ℕ (Pipeline.UD sig nD τ) ℕ)) y] [hz : Storable (upEmb : UEmb _ (MT nD τ sig Unit Val ℕ (Pipeline.UD sig nD τ) ℕ)) z] :
    ∀ t, Storable (upEmb : UEmb _ (MT nD τ sig Unit Val ℕ (Pipeline.UD sig nD τ) ℕ)) (tri x y z t)
  | 0 => hx | 1 => hy | 2 => hz
instance duo_storable (x y : SP nD τ sig Val) [hx : Storable (upEmb : UEmb _ (MT nD τ sig Unit Val ℕ (Pipeline.UD sig nD τ) ℕ)) x]
    [hy : Storable (upEmb : UEmb _ (MT nD τ sig Unit Val ℕ (Pipeline.UD sig nD τ) ℕ)) y] :
    ∀ t, Storable (upEmb : UEmb _ (MT nD τ sig Unit Val ℕ (Pipeline.UD sig nD τ) ℕ)) (duo x y t)
  | 0 => hx | 1 => hy

section Stage

variable {n : ℕ} (A B : Fin n → SP nD τ sig Val)

/-- A family of resources of which the first `k` have moved on from `A` to `B`. -/
def stage (k : ℕ) : SP nD τ sig Val := bigSep Finset.univ fun i : Fin n => if k ≤ i.val then A i else B i

/-- The family without its member `k`. -/
def stageRest (k : Fin n) : SP nD τ sig Val := bigSep (Finset.univ.erase k) fun i : Fin n => if k.val ≤ i.val then A i else B i

theorem stage_zero : stage A B 0 = bigSep Finset.univ A := by
  unfold stage; congr 1

theorem stage_last {k : ℕ} (h : n ≤ k) : stage A B k = bigSep Finset.univ B := by
  unfold stage; congr 1; funext i; rw [if_neg (by have := i.isLt; omega)]

theorem stage_out (k : Fin n) : stage A B k.val = iprop(A k ∗ stageRest A B k) := by
  have h : (Finset.univ : Finset (Fin n)) = insert k (Finset.univ.erase k) := (Finset.insert_erase (Finset.mem_univ k)).symm
  unfold stage stageRest
  conv_lhs => rw [h]
  rw [bigSep_insert (Finset.notMem_erase k _), if_pos le_rfl]
  rfl

theorem stage_in (k : Fin n) : iprop(B k ∗ stageRest A B k) = stage A B (k.val + 1) := by
  have h : (Finset.univ : Finset (Fin n)) = insert k (Finset.univ.erase k) := (Finset.insert_erase (Finset.mem_univ k)).symm
  unfold stage stageRest
  conv_rhs => rw [h]
  rw [bigSep_insert (Finset.notMem_erase k _), if_neg (by omega)]
  refine congrArg (fun X => iprop(B k ∗ X)) (BI.bigSep_congr fun i hi => ?_)
  have hne : i.val ≠ k.val := fun h => (Finset.ne_of_mem_erase hi) (Fin.ext h)
  by_cases hk : k.val ≤ i.val
  · rw [if_pos hk, if_pos (by omega)]
  · rw [if_neg hk, if_neg (by omega)]

end Stage

end Cert.Steps

end
-- ==== Proof.Kernel.Kit.lean ====
/- The kernel's buffers, the windows of them its copies move, and its semaphores, under short names. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Lib.Steps
public import Idealize.ShloMosaic.Lib.Pipeline.FrameBody
public import Idealize.ShloMosaic.Lib.ValueIdxCore
public import Idealize.ShloMosaic.Lib.ValueLayout

@[expose] public section

noncomputable section

namespace Cert.Kernel.Hand

open Cert.Kernel Cert.Kernel.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Assertions about this kernel. -/
abbrev PP (F : FTy → Type) [FloatOps F] := SP nD τ sig (Elt F)

/-! ## The operands -/

abbrev m0 : Memref sig .tc .hbm S128x14336 .bf16 := Memref.whole main_v0
abbrev m1 : Memref sig .tc .hbm S14336x4096 .fp8e4m3 := Memref.whole main_arg1
abbrev m2 : Memref sig .tc .hbm S1x4096 .f32 := Memref.whole main_v1
abbrev m3 : Memref sig .tc .hbm S16x14336 .bf16 := Memref.whole main_v3
abbrev m4 : Memref sig .tc .hbm S1x12 .f32 := Memref.whole main_v4
abbrev m5 : Memref sig .tc .hbm S2x128 .i32 := Memref.whole main_v6
abbrev m6 : Memref sig .tc .hbm S768x14336 .bf16 := Memref.whole main_v8
abbrev m7 : Memref sig .tc .hbm S768x4096 .bf16 := Memref.whole main_v9
abbrev m8 : Memref sig .tc .hbm S64x14336 .bf16 := Memref.whole main_v10
abbrev m9 : Memref sig .tc .hbm S64x4096 .bf16 := Memref.whole main_arg9
abbrev m10 : Memref sig .tc .hbm S128x4096 .bf16 := Memref.whole main_v11_0
abbrev m11 : Memref sig .tc .hbm S2x128 .f32 := Memref.whole main_v11_1
abbrev m12 : Memref sig .tc .hbm S128x14336 .fp8e4m3 := Memref.whole main_v11_2
abbrev m13 : Memref sig .tc .hbm S1x128 .f32 := Memref.whole main_v11_3
abbrev m14 : Memref sig .tc .vmem S128x14336 .bf16 := Memref.whole cc0_scratch0
abbrev m15 : Memref sig .tc .vmem S128x14336 .fp8e4m3 := Memref.whole cc0_scratch1
abbrev m16 : Memref sig .tc .vmem S848x14336 .bf16 := Memref.whole cc0_scratch2
abbrev m17 : Memref sig .tc .vmem S848x128 .f32 := Memref.whole cc0_scratch3
abbrev m18 : Memref sig .tc .vmem S128x832 .bf16 := Memref.whole cc0_scratch4
abbrev m19 : Memref sig .tc .vmem S832x4096 .bf16 := Memref.whole cc0_scratch5
abbrev m20 : Memref sig .tc .vmem S3x14336x512 .fp8e4m3 := Memref.whole cc0_scratch6
abbrev m21 : Memref sig .tc .vmem S128x4096 .bf16 := Memref.whole cc0_scratch7
abbrev m22 : Memref sig .tc .vmem S128x128 .f32 := Memref.whole cc0_scratch8
abbrev m23 : Memref sig .tc .vmem S128x128 .f32 := Memref.whole cc0_scratch9
abbrev m24 : Memref sig .tc .vmem S1x4096 .f32 := Memref.whole cc0_scratch10
abbrev m25 : Memref sig .tc .vmem S1x12 .f32 := Memref.whole cc0_scratch11
abbrev m26 : Memref sig .tc .vmem S2x128 .i32 := Memref.whole cc0_scratch12
abbrev m27 : Memref sig .tc .vmem S2x128 .f32 := Memref.whole cc0_scratch13
abbrev m28 : Memref sig .tc .vmem S1x128 .f32 := Memref.whole cc0_scratch14

/-- Contents of a buffer of shape `s` and element type `e`. -/
abbrev C (F : FTy → Type) (s : Shape) (e : EltTy) := s.Idx → Elt F e

/-- A buffer, whole. -/
abbrev wh (c : Dev nD) {sp : Space} {s : Shape} {e : EltTy} (M : Memref sig .tc sp s e) (f : Buf (Elt F) (M.view.loc (c.tc : Thread nD τ))) : PP F :=
  M.view.loc (c.tc : Thread nD τ) ↦{fullShare} f

/-- A DMA semaphore at zero. -/
abbrev sv (c : Dev nD) (i : Fin 25) : PP F := semVal ((c.tc : Thread nD τ), SemLoc.dma i) 0

/-- Block `i` of 2048 columns of the activations, in HBM and on chip. -/
abbrev xh (i : Fin k0_t1_loop.trips) : Memref sig .tc .hbm S128x2048 .bf16 := m0.slice (Rect.unit (s := S128x14336) (k0_off2 i) S128x2048.size (k0_off2_inb i)) (fun _ => rfl)
abbrev xv (i : Fin k0_t1_loop.trips) : Memref sig .tc .vmem S128x2048 .bf16 := m14.slice (Rect.unit (s := S128x14336) (k0_off2 i) S128x2048.size (k0_off2_inb i)) (fun _ => rfl)

theorem xh_split (c : Dev nD) (f : C F S128x14336 .bf16) :
    (wh c m0 f : PP F) = bigSep Finset.univ fun i => pt (c.tc : Thread nD τ) (xh i) f :=
  split_lead main_v0 c (1 : Fin 2) 2048 k0_off2 S128x2048.size k0_off2_inb (by decide +kernel) (by decide +kernel) (by decide) (by decide) (by decide) f
theorem xv_split (c : Dev nD) (f : C F S128x14336 .bf16) :
    (wh c m14 f : PP F) = bigSep Finset.univ fun i => pt (c.tc : Thread nD τ) (xv i) f :=
  split_lead cc0_scratch0 c (1 : Fin 2) 2048 k0_off2 S128x2048.size k0_off2_inb (by decide +kernel) (by decide +kernel) (by decide) (by decide) (by decide) f

abbrev t1 (n : Fin 7) : Fin k0_t1_loop.trips := n.cast (by decide)

theorem univ7 : (Finset.univ : Finset (Fin k0_t1_loop.trips)) = [t1 0, t1 1, t1 2, t1 3, t1 4, t1 5, t1 6].toFinset := by decide
theorem bigSep7 (Φ : Fin k0_t1_loop.trips → PP F) : bigSep Finset.univ Φ = iprop(Φ (t1 0) ∗ Φ (t1 1) ∗ Φ (t1 2) ∗ Φ (t1 3) ∗ Φ (t1 4) ∗ Φ (t1 5) ∗ Φ (t1 6)) :=
  bigSep_univ_eq_bigSepL [t1 0, t1 1, t1 2, t1 3, t1 4, t1 5, t1 6] (by decide) (by decide) Φ

/-- Block `i` of 2048 columns of the three matrices stacked into `a_v`: the router's, the shared one, the experts'. -/
abbrev ah3 (i : Fin k0_t3_loop.trips) : Memref sig .tc .hbm S16x2048 .bf16 := m3.slice (Rect.unit (s := S16x14336) (k0_off7 i) S16x2048.size (k0_off7_inb i)) (fun _ => rfl)
abbrev ah8 (i : Fin k0_t3_loop.trips) : Memref sig .tc .hbm S64x2048 .bf16 := m8.slice (Rect.unit (s := S64x14336) (k0_off9 i) S64x2048.size (k0_off9_inb i)) (fun _ => rfl)
abbrev ah6 (i : Fin k0_t3_loop.trips) : Memref sig .tc .hbm S768x2048 .bf16 := m6.slice (Rect.unit (s := S768x14336) (k0_off11 i) S768x2048.size (k0_off11_inb i)) (fun _ => rfl)
abbrev av3 (i : Fin k0_t3_loop.trips) : Memref sig .tc .vmem S16x2048 .bf16 := m16.slice (Rect.unit (s := S848x14336) (k0_off6 i) S16x2048.size (k0_off6_inb i)) (fun _ => rfl)
abbrev av8 (i : Fin k0_t3_loop.trips) : Memref sig .tc .vmem S64x2048 .bf16 := m16.slice (Rect.unit (s := S848x14336) (k0_off8 i) S64x2048.size (k0_off8_inb i)) (fun _ => rfl)
abbrev av6 (i : Fin k0_t3_loop.trips) : Memref sig .tc .vmem S768x2048 .bf16 := m16.slice (Rect.unit (s := S848x14336) (k0_off10 i) S768x2048.size (k0_off10_inb i)) (fun _ => rfl)
/-- Block `i` of 2048 columns of `a_v`, all three matrices together. -/
abbrev avc (i : Fin k0_t3_loop.trips) : Memref sig .tc .vmem S848x2048 .bf16 := m16.slice (Rect.unit (s := S848x14336) (k0_off12 i) S848x2048.size (k0_off12_inb i)) (fun _ => rfl)

abbrev t3 (n : Fin 7) : Fin k0_t3_loop.trips := n.cast (by decide)
abbrev t4 (n : Fin 8) : Fin k0_t4_loop.trips := n.cast (by decide)

theorem ah3_split (c : Dev nD) (f : C F S16x14336 .bf16) : (wh c m3 f : PP F) = bigSep Finset.univ fun i => pt (c.tc : Thread nD τ) (ah3 i) f :=
  split_lead main_v3 c (1 : Fin 2) 2048 k0_off7 S16x2048.size k0_off7_inb (by decide +kernel) (by decide +kernel) (by decide) (by decide) (by decide) f
theorem ah8_split (c : Dev nD) (f : C F S64x14336 .bf16) : (wh c m8 f : PP F) = bigSep Finset.univ fun i => pt (c.tc : Thread nD τ) (ah8 i) f :=
  split_lead main_v10 c (1 : Fin 2) 2048 k0_off9 S64x2048.size k0_off9_inb (by decide +kernel) (by decide +kernel) (by decide) (by decide) (by decide) f
theorem ah6_split (c : Dev nD) (f : C F S768x14336 .bf16) : (wh c m6 f : PP F) = bigSep Finset.univ fun i => pt (c.tc : Thread nD τ) (ah6 i) f :=
  split_lead main_v8 c (1 : Fin 2) 2048 k0_off11 S768x2048.size k0_off11_inb (by decide +kernel) (by decide +kernel) (by decide) (by decide) (by decide) f
theorem avc_split (c : Dev nD) (f : C F S848x14336 .bf16) : (wh c m16 f : PP F) = bigSep Finset.univ fun i => pt (c.tc : Thread nD τ) (avc i) f :=
  split_lead cc0_scratch2 c (1 : Fin 2) 2048 k0_off12 S848x2048.size k0_off12_inb (by decide +kernel) (by decide +kernel) (by decide) (by decide) (by decide) f

theorem off6_val (i : Fin k0_t3_loop.trips) : k0_off6 i 0 = 832 ∧ k0_off6 i 1 = k0_off12 i 1 := by revert i; decide +kernel
theorem off8_val (i : Fin k0_t3_loop.trips) : k0_off8 i 0 = 768 ∧ k0_off8 i 1 = k0_off12 i 1 := by revert i; decide +kernel
theorem off10_val (i : Fin k0_t3_loop.trips) : k0_off10 i 0 = 0 ∧ k0_off10 i 1 = k0_off12 i 1 := by revert i; decide +kernel
theorem off12_val (i : Fin k0_t3_loop.trips) : k0_off12 i 0 = 0 ∧ k0_off12 i 1 = 2048 * i.val := by revert i; decide +kernel
theorem off7_val (i : Fin k0_t3_loop.trips) : k0_off7 i 0 = 0 ∧ k0_off7 i 1 = k0_off12 i 1 := by revert i; decide +kernel
theorem off9_val (i : Fin k0_t3_loop.trips) : k0_off9 i 0 = 0 ∧ k0_off9 i 1 = k0_off12 i 1 := by revert i; decide +kernel
theorem off11_val (i : Fin k0_t3_loop.trips) : k0_off11 i 0 = 0 ∧ k0_off11 i 1 = k0_off12 i 1 := by revert i; decide +kernel

/-- A block of `a_v` is its three parts, top, middle and bottom. -/
theorem avc_parts (c : Dev nD) (f : C F S848x14336 .bf16) (i : Fin k0_t3_loop.trips) :
    (pt (c.tc : Thread nD τ) (avc i) f : PP F) = iprop(pt (c.tc : Thread nD τ) (av6 i) f ∗ pt (c.tc : Thread nD τ) (av8 i) f ∗ pt (c.tc : Thread nD τ) (av3 i) f) := by
  have e12 : (avc i).view.set = (Rect.unit (s := S848x14336) (k0_off12 i) S848x2048.size (k0_off12_inb i)).set := View.set_slice_whole cc0_scratch2 _
  have e10 : (av6 i).view.set = (Rect.unit (s := S848x14336) (k0_off10 i) S768x2048.size (k0_off10_inb i)).set := View.set_slice_whole cc0_scratch2 _
  have e8 : (av8 i).view.set = (Rect.unit (s := S848x14336) (k0_off8 i) S64x2048.size (k0_off8_inb i)).set := View.set_slice_whole cc0_scratch2 _
  have e6 : (av3 i).view.set = (Rect.unit (s := S848x14336) (k0_off6 i) S16x2048.size (k0_off6_inb i)).set := View.set_slice_whole cc0_scratch2 _
  have h12 := off12_val i; have h10 := off10_val i; have h8 := off8_val i; have h6 := off6_val i
  have d1 : Disjoint (av8 i).view.set (av3 i).view.set := by
    rw [e8, e6, Finset.disjoint_left]; intro p hp hq
    have h1 := (Rect.mem_set_unit.mp hp) 0; have h2 := (Rect.mem_set_unit.mp hq) 0
    rw [h8.1] at h1; rw [h6.1] at h2
    have e : S64x2048.size (0 : Fin 2) = 64 := rfl
    omega
  have d2 : Disjoint (av6 i).view.set ((av8 i).view.set ∪ (av3 i).view.set) := by
    rw [e10, e8, e6, Finset.disjoint_left]; intro p hp hq
    have h1 := (Rect.mem_set_unit.mp hp) 0
    have e : S768x2048.size (0 : Fin 2) = 768 := rfl
    rcases Finset.mem_union.mp hq with hq | hq <;> have h2 := (Rect.mem_set_unit.mp hq) 0
    · rw [h10.1] at h1; rw [h8.1] at h2; omega
    · rw [h10.1] at h1; rw [h6.1] at h2; omega
  have u : (avc i).view.set = (av6 i).view.set ∪ ((av8 i).view.set ∪ (av3 i).view.set) := by
    rw [e12, e10, e8, e6]; ext p
    simp only [Finset.mem_union]
    simp only [Rect.mem_set_unit]
    simp only [show ∀ P : Fin S848x14336.rank → Prop, (∀ a, P a) ↔ P 0 ∧ P 1 from fun P => Fin.forall_fin_two, h12.1, h10.1, h10.2, h8.1, h8.2, h6.1, h6.2,
      Matrix.cons_val_zero, Matrix.cons_val_one, Matrix.cons_val_fin_one]
    have q0 : (p 0).val < 848 := (p 0).isLt
    omega
  refine (congrArg (fun S => (m16.view.loc (c.tc : Thread nD τ) ↦[S]{fullShare} f : PP F)) u).trans ?_
  exact Entails.antisymm ((pointsTo_union d2).1.trans (sep_mono .rfl (pointsTo_union d1).1)) ((sep_mono .rfl (pointsTo_union d1).2).trans (pointsTo_union d2).2)

/-- What `a_v` holds once its copies have landed: the experts' rows, the shared ones, the router's. -/
def AV (a : C F S768x14336 .bf16) (sa : C F S64x14336 .bf16) (rw : C F S16x14336 .bf16) : C F S848x14336 .bf16 := fun p =>
  if h : (p 0).val < 768 then a (ValueIdx.ix2 ⟨(p 0).val, h⟩ (p 1)) else
  if h' : (p 0).val < 832 then sa (ValueIdx.ix2 ⟨(p 0).val - 768, by omega⟩ (p 1)) else
  rw (ValueIdx.ix2 ⟨(p 0).val - 832, by have : (p 0).val < 848 := (p 0).isLt; omega⟩ (p 1))

theorem idx2_ext {n0 n1 : ℕ} {i j : (⟨2, ![n0, n1]⟩ : Shape).Idx} (h0 : (i 0).val = (j 0).val) (h1 : (i 1).val = (j 1).val) : i = j := by
  funext a; match a with | ⟨0, _⟩ => exact Fin.ext h0 | ⟨1, _⟩ => exact Fin.ext h1

section AVreads
variable (a : C F S768x14336 .bf16) (sa : C F S64x14336 .bf16) (rw : C F S16x14336 .bf16)

theorem AV_a (p : S848x14336.Idx) (q : S768x14336.Idx) (h0 : (p 0).val = (q 0).val) (h1 : (p 1).val = (q 1).val) : AV a sa rw p = a q := by
  have hq : (q 0).val < 768 := (q 0).isLt
  unfold AV; rw [dif_pos (by omega)]; exact congrArg a (idx2_ext h0 h1)
theorem AV_sa (p : S848x14336.Idx) (q : S64x14336.Idx) (h0 : (p 0).val = 768 + (q 0).val) (h1 : (p 1).val = (q 1).val) : AV a sa rw p = sa q := by
  have hq : (q 0).val < 64 := (q 0).isLt
  unfold AV; rw [dif_neg (by omega), dif_pos (by omega)]; exact congrArg sa (idx2_ext (by show (p 0).val - 768 = _; omega) h1)
theorem AV_rw (p : S848x14336.Idx) (q : S16x14336.Idx) (h0 : (p 0).val = 832 + (q 0).val) (h1 : (p 1).val = (q 1).val) : AV a sa rw p = rw q := by
  unfold AV; rw [dif_neg (by omega), dif_neg (by omega)]; exact congrArg rw (idx2_ext (by show (p 0).val - 832 = _; omega) h1)

/-- Each copy into `a_v` carries its part of what `a_v` is to hold. -/
theorem ah6_read (i : Fin k0_t3_loop.trips) : (ah6 i).view.read (Elt F) a = (av6 i).view.read (Elt F) (AV a sa rw) := by
  funext x
  refine (AV_a a sa rw _ _ ?_ ?_).symm
  · rw [ValueKit.view_emb_slice_whole_unit_val main_v8, ValueKit.view_emb_slice_whole_unit_val cc0_scratch2, (off10_val i).1, (off11_val i).1]
  · rw [ValueKit.view_emb_slice_whole_unit_val main_v8, ValueKit.view_emb_slice_whole_unit_val cc0_scratch2, (off10_val i).2, (off11_val i).2]
theorem ah8_read (i : Fin k0_t3_loop.trips) : (ah8 i).view.read (Elt F) sa = (av8 i).view.read (Elt F) (AV a sa rw) := by
  funext x
  refine (AV_sa a sa rw _ _ ?_ ?_).symm
  · rw [ValueKit.view_emb_slice_whole_unit_val main_v10, ValueKit.view_emb_slice_whole_unit_val cc0_scratch2, (off8_val i).1, (off9_val i).1]; omega
  · rw [ValueKit.view_emb_slice_whole_unit_val main_v10, ValueKit.view_emb_slice_whole_unit_val cc0_scratch2, (off8_val i).2, (off9_val i).2]
theorem ah3_read (i : Fin k0_t3_loop.trips) : (ah3 i).view.read (Elt F) rw = (av3 i).view.read (Elt F) (AV a sa rw) := by
  funext x
  refine (AV_rw a sa rw _ _ ?_ ?_).symm
  · rw [ValueKit.view_emb_slice_whole_unit_val main_v3, ValueKit.view_emb_slice_whole_unit_val cc0_scratch2, (off6_val i).1, (off7_val i).1]; omega
  · rw [ValueKit.view_emb_slice_whole_unit_val main_v3, ValueKit.view_emb_slice_whole_unit_val cc0_scratch2, (off6_val i).2, (off7_val i).2]

end AVreads

/-! ## The weight's ring, the adapters' rows, the result's blocks -/

/-- 512 columns of the weight, in HBM, and a slot of the ring they are copied to. -/
abbrev wHo (off : Fin 2 → ℕ) (inb : ∀ a, off a + S14336x512.size a ≤ S14336x4096.size a) : Memref sig .tc .hbm S14336x512 .fp8e4m3 :=
  m1.slice (Rect.unit (s := S14336x4096) off S14336x512.size inb) (fun _ => rfl)
abbrev wSo (off : Fin 3 → ℕ) (inb : ∀ a, off a + S1x14336x512.size a ≤ S3x14336x512.size a) : Memref sig .tc .vmem S14336x512 .fp8e4m3 :=
  (m20.slice (Rect.unit (s := S3x14336x512) off S1x14336x512.size inb) (fun _ => rfl)).squeeze S14336x512 squeezes_S1x14336x512_S14336x512
theorem wH_inb (b : Fin 8) : ∀ a, (![0, 512 * b.val] : Fin 2 → ℕ) a + S14336x512.size a ≤ S14336x4096.size a := by revert b; decide
theorem wS_inb (s : Fin 3) : ∀ a, (![s.val, 0, 0] : Fin 3 → ℕ) a + S1x14336x512.size a ≤ S3x14336x512.size a := by revert s; decide
abbrev wH (b : Fin 8) := wHo ![0, 512 * b.val] (wH_inb b)
abbrev wS (s : Fin 3) := wSo ![s.val, 0, 0] (wS_inb s)

theorem wH_split (c : Dev nD) (f : C F S14336x4096 .fp8e4m3) : (wh c m1 f : PP F) = bigSep Finset.univ fun i => pt (c.tc : Thread nD τ) (wH i) f :=
  split_lead main_arg1 c (1 : Fin 2) 512 (fun b : Fin 8 => ![0, 512 * b.val]) S14336x512.size wH_inb (by decide +kernel) (by decide +kernel) (by decide) (by decide) (by decide) f
theorem wS_split (c : Dev nD) (f : C F S3x14336x512 .fp8e4m3) : (wh c m20 f : PP F) = bigSep Finset.univ fun i => pt (c.tc : Thread nD τ) (wS i) f := by
  refine (split_lead cc0_scratch6 c (0 : Fin 3) 1 (fun b : Fin 3 => ![b.val, 0, 0]) S1x14336x512.size wS_inb (by decide +kernel) (by decide +kernel) (by decide) (by decide) (by decide) f).trans ?_
  refine congrArg (bigSep Finset.univ) (funext fun i => ?_)
  refine congrArg (fun S => (m20.view.loc (c.tc : Thread nD τ) ↦[S]{fullShare} f : PP F)) ?_
  exact (Memref.set_view_squeeze (m20.slice (Rect.unit (s := S3x14336x512) ![i.val, 0, 0] S1x14336x512.size (wS_inb i)) (fun _ => rfl)) squeezes_S1x14336x512_S14336x512).symm

/-- What any slot holds once block `b` of the weight has landed in it. -/
def Wb (w : C F S14336x4096 .fp8e4m3) (b : Fin 8) : C F S3x14336x512 .fp8e4m3 := fun p =>
  w (ValueIdx.ix2 (p 1) ⟨512 * b.val + (p 2).val, by have h : (p 2).val < 512 := (p 2).isLt; have := b.isLt; show _ < 4096; omega⟩)

theorem wH_read (w : C F S14336x4096 .fp8e4m3) (b : Fin 8) (s : Fin 3) : (wH b).view.read (Elt F) w = (wS s).view.read (Elt F) (Wb w b) := by
  funext x
  obtain ⟨u, v, rfl⟩ : ∃ u v, x = ValueIdx.ix2 u v := ⟨x 0, x 1, ValueIdx.eq_ix2 x⟩
  refine Eq.trans ?_ (read_sq m20 ![s.val, 0, 0] (wS_inb s) squeezes_S1x14336x512_S14336x512 (Wb w b) u v).symm
  show w _ = Wb w b _
  unfold Wb
  refine congrArg w (idx2_ext ?_ ?_)
  · rw [ValueKit.view_emb_slice_whole_unit_val main_arg1]
    exact (ValueKit.rect_emb_unit_val (s := S3x14336x512) ![s.val, 0, 0] S1x14336x512.size (wS_inb s) (ValueIdx.ix3 (⟨0, Nat.one_pos⟩ : Fin 1) u v) 1).symm
  · rw [ValueKit.view_emb_slice_whole_unit_val main_arg1]
    have h := ValueKit.rect_emb_unit_val (s := S3x14336x512) ![s.val, 0, 0] S1x14336x512.size (wS_inb s) (ValueIdx.ix3 (⟨0, Nat.one_pos⟩ : Fin 1) u v) 2
    exact congrArg (512 * b.val + ·) ((Nat.zero_add v.val).symm.trans h.symm)

/-- The rows of `b_v`: the experts' and the shared ones. -/
abbrev bv7 : Memref sig .tc .vmem S768x4096 .bf16 := m19.slice (Rect.unit (s := S832x4096) ![0, 0] S768x4096.size inb_S832x4096_S768x4096_0_0) (fun _ => rfl)
abbrev bv9 : Memref sig .tc .vmem S64x4096 .bf16 := m19.slice (Rect.unit (s := S832x4096) ![768, 0] S64x4096.size inb_S832x4096_S64x4096_768_0) (fun _ => rfl)

/-- What `b_v` holds once its copies have landed. -/
def BV (b : C F S768x4096 .bf16) (sb : C F S64x4096 .bf16) : C F S832x4096 .bf16 := fun p =>
  if h : (p 0).val < 768 then b (ValueIdx.ix2 ⟨(p 0).val, h⟩ (p 1)) else
  sb (ValueIdx.ix2 ⟨(p 0).val - 768, by have : (p 0).val < 832 := (p 0).isLt; omega⟩ (p 1))

theorem b7_read (b : C F S768x4096 .bf16) (sb : C F S64x4096 .bf16) : m7.view.read (Elt F) b = bv7.view.read (Elt F) (BV b sb) := by
  funext x
  have h0 : (bv7.view.emb x 0).val = (x 0).val := (ValueKit.view_emb_slice_whole_unit_val cc0_scratch5 _ _ _ x 0).trans (Nat.zero_add _)
  have h1 : (bv7.view.emb x 1).val = (x 1).val := (ValueKit.view_emb_slice_whole_unit_val cc0_scratch5 _ _ _ x 1).trans (Nat.zero_add _)
  have hx : (x 0).val < 768 := (x 0).isLt
  show b x = BV b sb (bv7.view.emb x)
  unfold BV; rw [dif_pos (by rw [h0]; exact hx)]
  exact congrArg b (idx2_ext h0.symm h1.symm)
theorem b9_read (b : C F S768x4096 .bf16) (sb : C F S64x4096 .bf16) : m9.view.read (Elt F) sb = bv9.view.read (Elt F) (BV b sb) := by
  funext x
  have h0 : (bv9.view.emb x 0).val = 768 + (x 0).val := ValueKit.view_emb_slice_whole_unit_val cc0_scratch5 _ _ _ x 0
  have h1 : (bv9.view.emb x 1).val = (x 1).val := (ValueKit.view_emb_slice_whole_unit_val cc0_scratch5 _ _ _ x 1).trans (Nat.zero_add _)
  show sb x = BV b sb (bv9.view.emb x)
  unfold BV; rw [dif_neg (by rw [h0]; omega)]
  exact congrArg sb (idx2_ext (show (x 0).val = (bv9.view.emb x 0).val - 768 by rw [h0]; omega) h1.symm)

/-- `b_v` is its two parts. -/
theorem b_parts (c : Dev nD) (f : C F S832x4096 .bf16) :
    (wh c m19 f : PP F) = iprop(pt (c.tc : Thread nD τ) bv7 f ∗ pt (c.tc : Thread nD τ) bv9 f) := by
  have e7 : bv7.view.set = (Rect.unit (s := S832x4096) ![0, 0] S768x4096.size inb_S832x4096_S768x4096_0_0).set := View.set_slice_whole cc0_scratch5 _
  have e9 : bv9.view.set = (Rect.unit (s := S832x4096) ![768, 0] S64x4096.size inb_S832x4096_S64x4096_768_0).set := View.set_slice_whole cc0_scratch5 _
  have d : Disjoint bv7.view.set bv9.view.set := by
    rw [e7, e9, Finset.disjoint_left]; intro p hp hq
    have h1 := (Rect.mem_set_unit.mp hp) 0; have h2 := (Rect.mem_set_unit.mp hq) 0
    simp only [Matrix.cons_val_zero] at h1 h2
    have e : S768x4096.size (0 : Fin 2) = 768 := rfl
    omega
  have u : (Finset.univ : Finset S832x4096.Idx) = bv7.view.set ∪ bv9.view.set := by
    rw [e7, e9]; ext p
    simp only [Finset.mem_union, Finset.mem_univ, true_iff]
    simp only [Rect.mem_set_unit]
    simp only [show ∀ P : Fin S832x4096.rank → Prop, (∀ a, P a) ↔ P 0 ∧ P 1 from fun P => Fin.forall_fin_two,
      Matrix.cons_val_zero, Matrix.cons_val_one, Matrix.cons_val_fin_one]
    have q0 : (p 0).val < 832 := (p 0).isLt
    have q1 : (p 1).val < 4096 := (p 1).isLt
    omega
  refine (congrArg (fun S => (m19.view.loc (c.tc : Thread nD τ) ↦[S]{fullShare} f : PP F)) u).trans ?_
  exact Entails.antisymm (pointsTo_union d).1 (pointsTo_union d).2

/-- Block `i` of 512 columns of the result, on chip and in HBM. -/
theorem o_inb (b : Fin 8) : ∀ a, (![0, 512 * b.val] : Fin 2 → ℕ) a + S128x512.size a ≤ S128x4096.size a := by revert b; decide
abbrev oVo (off : Fin 2 → ℕ) (inb : ∀ a, off a + S128x512.size a ≤ S128x4096.size a) : Memref sig .tc .vmem S128x512 .bf16 :=
  m21.slice (Rect.unit (s := S128x4096) off S128x512.size inb) (fun _ => rfl)
abbrev oHo (off : Fin 2 → ℕ) (inb : ∀ a, off a + S128x512.size a ≤ S128x4096.size a) : Memref sig .tc .hbm S128x512 .bf16 :=
  m10.slice (Rect.unit (s := S128x4096) off S128x512.size inb) (fun _ => rfl)
abbrev oV (b : Fin 8) := oVo ![0, 512 * b.val] (o_inb b)
abbrev oH (b : Fin 8) := oHo ![0, 512 * b.val] (o_inb b)
theorem oV_split (c : Dev nD) (f : C F S128x4096 .bf16) : (wh c m21 f : PP F) = bigSep Finset.univ fun i => pt (c.tc : Thread nD τ) (oV i) f :=
  split_lead cc0_scratch7 c (1 : Fin 2) 512 (fun b : Fin 8 => ![0, 512 * b.val]) S128x512.size o_inb (by decide +kernel) (by decide +kernel) (by decide) (by decide) (by decide) f
theorem oH_split (c : Dev nD) (f : C F S128x4096 .bf16) : (wh c m10 f : PP F) = bigSep Finset.univ fun i => pt (c.tc : Thread nD τ) (oH i) f :=
  split_lead main_v11_0 c (1 : Fin 2) 512 (fun b : Fin 8 => ![0, 512 * b.val]) S128x512.size o_inb (by decide +kernel) (by decide +kernel) (by decide) (by decide) (by decide) f

/-! ## The kernel's parts, at its operands -/

abbrev part8 : Prog (TpuEff nD τ sig (Elt F) Λ₀ .tc) PUnit := k0_part8_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21
abbrev part9 : Prog (TpuEff nD τ sig (Elt F) Λ₀ .tc) PUnit := k0_part9_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21
abbrev part10 : Prog (TpuEff nD τ sig (Elt F) Λ₀ .tc) PUnit := k0_part10_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21
abbrev part11 : Prog (TpuEff nD τ sig (Elt F) Λ₀ .tc) PUnit := k0_part11_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21
abbrev part12 : Prog (TpuEff nD τ sig (Elt F) Λ₀ .tc) PUnit := k0_part12_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21
abbrev part13 : Prog (TpuEff nD τ sig (Elt F) Λ₀ .tc) (Σ' (v141 : IVec S128x256 32) (v148 : IVec S128x256 1), IVec S128x256 32) := k0_part13_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21
abbrev part14 (v141 : IVec S128x256 32) (v148 : IVec S128x256 1) (v149 : IVec S128x256 32) : Prog (TpuEff nD τ sig (Elt F) Λ₀ .tc) (FVec F S128 .f32) := k0_part14_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v141 v148 v149
abbrev part15 (v190 : FVec F S128 .f32) : Prog (TpuEff nD τ sig (Elt F) Λ₀ .tc) (FVec F S12 .f32) := k0_part15_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v190

/-- The body run at its operands, up to a post. -/
abbrev wpB (c : Dev nD) {α : Type} (p : Prog (TpuEff nD τ sig (Elt F) Λ₀ .tc) α) (Q : α → PP F) : PP F :=
  wp frame (wpE (defs₀ (F := F)) Variants.none (c.tc : Thread nD τ) none) Set.univ p Q

end Cert.Kernel.Hand

end
-- ==== Proof.Kernel.Issue.lean ====
/- The copies the kernel starts first. -/
module

public import proofs.«01_k».proof.Proof.Kernel.Kit

@[expose] public section

noncomputable section

namespace Cert.Kernel.Hand

open Cert.Kernel Cert.Kernel.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Block `i` of the activations before its copy. -/
abbrev xA (c : Dev nD) (X fx : C F S128x14336 .bf16) (i : Fin k0_t1_loop.trips) (j : Fin 25) : PP F :=
  iprop(pt (c.tc : Thread nD τ) (xh i) X ∗ pt (c.tc : Thread nD τ) (xv i) fx ∗ sv c j)
/-- Block `i` of the activations in flight. -/
abbrev xF (c : Dev nD) (X : C F S128x14336 .bf16) (i : Fin k0_t1_loop.trips) (j : Fin 25) : PP F :=
  fl (c.tc : Thread nD τ) (.dma j) ((xv i).view.dmaCredit) iprop(pt (c.tc : Thread nD τ) (xv i) X ∗ pt (c.tc : Thread nD τ) (xh i) X)

/-- Start the copy of a block of the activations. -/
theorem issX (c : Dev nD) (X fx : C F S128x14336 .bf16) (i : Fin k0_t1_loop.trips) {j : Fin 25} {hsrc : (xh i).view.WordExact} {hdst : (xv i).view.WordExact}
    {hsem : DmaTarget.Typed (nD := nD) .hbm (.dma j) (.here (xv i) : DmaTarget nD τ sig .tc .vmem S128x2048 .bf16)} {α : Type} {k : PUnit → Prog (TpuEff nD τ sig (Elt F) Λ₀ .tc) α} {Q : α → PP F} :
    xA c X fx i j ⊢ iprop((xF c X i j -∗ wpB c (k ⟨⟩) Q) -∗ wpB c (Prog.lift (.enqueueDma (xh i) (.here (xv i)) (.dma j) hsrc hdst hsem) >>= k) Q) :=
  issue (c := (c.tc : Thread nD τ)) (src := xh i) (dst := xv i) X fx X (by decide) rfl

theorem run8 (c : Dev nD) (X fx : C F S128x14336 .bf16) (Q : PUnit → PP F) :
    iprop(xA c X fx (t1 0) 0 ∗ xA c X fx (t1 1) 1 ∗ xA c X fx (t1 2) 2 ∗ xA c X fx (t1 3) 3 ∗ xA c X fx (t1 4) 4 ∗ xA c X fx (t1 5) 5
      ∗ (iprop(xF c X (t1 0) 0 ∗ xF c X (t1 1) 1 ∗ xF c X (t1 2) 2 ∗ xF c X (t1 3) 3 ∗ xF c X (t1 4) 4 ∗ xF c X (t1 5) 5) -∗ Q ⟨⟩))
    ⊢ wpB c part8 Q := by
  iintro ⟨H0, H1, H2, H3, H4, H5, Hk⟩
  unfold part8 k0_part8_skel
  iapply (issX c X fx (t1 0)) $$ H0; iintro H0
  iapply (issX c X fx (t1 1)) $$ H1; iintro H1
  iapply (issX c X fx (t1 2)) $$ H2; iintro H2
  iapply (issX c X fx (t1 3)) $$ H3; iintro H3
  iapply (issX c X fx (t1 4)) $$ H4; iintro H4
  iapply (issX c X fx (t1 5)) $$ H5; iintro H5
  iapply done
  iapply Hk
  isplitl [H0]; · iexact H0
  isplitl [H1]; · iexact H1
  isplitl [H2]; · iexact H2
  isplitl [H3]; · iexact H3
  isplitl [H4]; · iexact H4
  iexact H5

/-! ## `a_v`: three copies on one semaphore -/

section ACopies
variable (c : Dev nD) (a : C F S768x14336 .bf16) (sa : C F S64x14336 .bf16) (rw : C F S16x14336 .bf16) (fa : C F S848x14336 .bf16) (i : Fin k0_t3_loop.trips)

/-- The amounts and the deliveries of the three copies of a block. -/
abbrev aAm : Fin 3 → ℕ := tri (av3 i).view.dmaCredit (av8 i).view.dmaCredit (av6 i).view.dmaCredit
abbrev aDl : Fin 3 → PP F := tri iprop(pt (c.tc : Thread nD τ) (av3 i) (AV a sa rw) ∗ pt (c.tc : Thread nD τ) (ah3 i) rw)
  iprop(pt (c.tc : Thread nD τ) (av8 i) (AV a sa rw) ∗ pt (c.tc : Thread nD τ) (ah8 i) sa)
  iprop(pt (c.tc : Thread nD τ) (av6 i) (AV a sa rw) ∗ pt (c.tc : Thread nD τ) (ah6 i) a)

/-- A block of `a_v` before its copies, after one, after two, and with the three in flight. -/
abbrev aA (j : Fin 25) : PP F := iprop(pt (c.tc : Thread nD τ) (ah3 i) rw ∗ pt (c.tc : Thread nD τ) (ah8 i) sa ∗ pt (c.tc : Thread nD τ) (ah6 i) a ∗ pt (c.tc : Thread nD τ) (avc i) fa ∗ sv c j)
abbrev aB (j : Fin 25) : PP F := iprop(pt (c.tc : Thread nD τ) (ah8 i) sa ∗ pt (c.tc : Thread nD τ) (ah6 i) a ∗ pt (c.tc : Thread nD τ) (av8 i) fa ∗ pt (c.tc : Thread nD τ) (av6 i) fa ∗ mb (c.tc : Thread nD τ) (.dma j) (aAm i) (aDl c a sa rw i) 1 0)
abbrev aC (j : Fin 25) : PP F := iprop(pt (c.tc : Thread nD τ) (ah6 i) a ∗ pt (c.tc : Thread nD τ) (av6 i) fa ∗ mb (c.tc : Thread nD τ) (.dma j) (aAm i) (aDl c a sa rw i) 2 0)
abbrev aF (j : Fin 25) : PP F := mb (c.tc : Thread nD τ) (.dma j) (aAm i) (aDl c a sa rw i) 3 0

theorem issA1 {j : Fin 25} {hsrc : (ah3 i).view.WordExact} {hdst : (av3 i).view.WordExact}
    {hsem : DmaTarget.Typed (nD := nD) .hbm (.dma j) (.here (av3 i) : DmaTarget nD τ sig .tc .vmem S16x2048 .bf16)} {α : Type} {k : PUnit → Prog (TpuEff nD τ sig (Elt F) Λ₀ .tc) α} {Q : α → PP F} :
    aA c a sa rw fa i j ⊢ iprop((aB c a sa rw fa i j -∗ wpB c (k ⟨⟩) Q) -∗ wpB c (Prog.lift (.enqueueDma (ah3 i) (.here (av3 i)) (.dma j) hsrc hdst hsem) >>= k) Q) := by
  iintro ⟨H3, H8, H6, Hv, Hs⟩ Hk
  ihave Hv' := (Entails.of_eq (avc_parts c fa i)) $$ Hv
  icases Hv' with ⟨V6, V8, V3⟩
  imod (mixedBatch_alloc' (Lvl := ℕ) (countersEmb (U := Pipeline.UD sig nD τ)) (c.tc : Thread nD τ) () (aAm i) (aDl c a sa rw i) (sm := SemLoc.dma j) (E := Set.univ)) $$ Hs with HM
  iapply (issueB (c := (c.tc : Thread nD τ)) (src := ah3 i) (dst := av3 i) (sm := SemLoc.dma j) (aAm i) (aDl c a sa rw i) rw fa (AV a sa rw) (j := 0) (u := 0) (by decide) ((View.amount_dma _ _).trans (tri_0 _ _ _ _).symm) (Nat.zero_le _) (Entails.of_eq (tri_0 _ _ _ _).symm) (ah3_read a sa rw i)) $$ [H3 V3 HM]
  · isplitl [H3]; · iexact H3
    isplitl [V3]; · iexact V3
    iexact HM
  iintro HM
  iapply Hk
  isplitl [H8]; · iexact H8
  isplitl [H6]; · iexact H6
  isplitl [V8]; · iexact V8
  isplitl [V6]; · iexact V6
  iexact HM

theorem issA2 {j : Fin 25} {hsrc : (ah8 i).view.WordExact} {hdst : (av8 i).view.WordExact}
    {hsem : DmaTarget.Typed (nD := nD) .hbm (.dma j) (.here (av8 i) : DmaTarget nD τ sig .tc .vmem S64x2048 .bf16)} {α : Type} {k : PUnit → Prog (TpuEff nD τ sig (Elt F) Λ₀ .tc) α} {Q : α → PP F} :
    aB c a sa rw fa i j ⊢ iprop((aC c a sa rw fa i j -∗ wpB c (k ⟨⟩) Q) -∗ wpB c (Prog.lift (.enqueueDma (ah8 i) (.here (av8 i)) (.dma j) hsrc hdst hsem) >>= k) Q) := by
  iintro ⟨H8, H6, V8, V6, HM⟩ Hk
  iapply (issueB (c := (c.tc : Thread nD τ)) (src := ah8 i) (dst := av8 i) (sm := SemLoc.dma j) (aAm i) (aDl c a sa rw i) sa fa (AV a sa rw) (j := 1) (u := 0) (by decide) ((View.amount_dma _ _).trans (tri_1 _ _ _ _).symm) (Nat.zero_le _) (Entails.of_eq (tri_1 _ _ _ _).symm) (ah8_read a sa rw i)) $$ [H8 V8 HM]
  · isplitl [H8]; · iexact H8
    isplitl [V8]; · iexact V8
    iexact HM
  iintro HM
  iapply Hk
  isplitl [H6]; · iexact H6
  isplitl [V6]; · iexact V6
  iexact HM

theorem issA3 {j : Fin 25} {hsrc : (ah6 i).view.WordExact} {hdst : (av6 i).view.WordExact}
    {hsem : DmaTarget.Typed (nD := nD) .hbm (.dma j) (.here (av6 i) : DmaTarget nD τ sig .tc .vmem S768x2048 .bf16)} {α : Type} {k : PUnit → Prog (TpuEff nD τ sig (Elt F) Λ₀ .tc) α} {Q : α → PP F} :
    aC c a sa rw fa i j ⊢ iprop((aF c a sa rw i j -∗ wpB c (k ⟨⟩) Q) -∗ wpB c (Prog.lift (.enqueueDma (ah6 i) (.here (av6 i)) (.dma j) hsrc hdst hsem) >>= k) Q) :=
  issueB (c := (c.tc : Thread nD τ)) (src := ah6 i) (dst := av6 i) (sm := SemLoc.dma j) (aAm i) (aDl c a sa rw i) a fa (AV a sa rw) (j := 2) (u := 0) (by decide) ((View.amount_dma _ _).trans (tri_2 _ _ _ _).symm) (Nat.zero_le _) (Entails.of_eq (tri_2 _ _ _ _).symm) (ah6_read a sa rw i)

end ACopies

/-! ## The adapters' rows: two copies on one semaphore -/

section BCopies
variable (c : Dev nD) (b : C F S768x4096 .bf16) (sb : C F S64x4096 .bf16) (fb : C F S832x4096 .bf16)

abbrev bAm : Fin 2 → ℕ := duo bv7.view.dmaCredit bv9.view.dmaCredit
abbrev bDl : Fin 2 → PP F := duo iprop(pt (c.tc : Thread nD τ) bv7 (BV b sb) ∗ pt (c.tc : Thread nD τ) m7 b) iprop(pt (c.tc : Thread nD τ) bv9 (BV b sb) ∗ pt (c.tc : Thread nD τ) m9 sb)

/-- The adapters' rows before their copies, after one, and with both in flight. -/
abbrev bA : PP F := iprop(pt (c.tc : Thread nD τ) m7 b ∗ pt (c.tc : Thread nD τ) m9 sb ∗ wh c m19 fb ∗ sv c 14)
abbrev bB : PP F := iprop(pt (c.tc : Thread nD τ) m9 sb ∗ pt (c.tc : Thread nD τ) bv9 fb ∗ mb (c.tc : Thread nD τ) (.dma 14) bAm (bDl c b sb) 1 0)
abbrev bF : PP F := mb (c.tc : Thread nD τ) (.dma 14) bAm (bDl c b sb) 2 0

theorem issB1 {hsrc : m7.view.WordExact} {hdst : bv7.view.WordExact}
    {hsem : DmaTarget.Typed (nD := nD) .hbm (.dma 14) (.here bv7 : DmaTarget nD τ sig .tc .vmem S768x4096 .bf16)} {α : Type} {k : PUnit → Prog (TpuEff nD τ sig (Elt F) Λ₀ .tc) α} {Q : α → PP F} :
    bA c b sb fb ⊢ iprop((bB c b sb fb -∗ wpB c (k ⟨⟩) Q) -∗ wpB c (Prog.lift (.enqueueDma m7 (.here bv7) (.dma 14) hsrc hdst hsem) >>= k) Q) := by
  iintro ⟨H7, H9, Hv, Hs⟩ Hk
  ihave Hv' := (Entails.of_eq (b_parts c fb)) $$ Hv
  icases Hv' with ⟨V7, V9⟩
  imod (mixedBatch_alloc' (Lvl := ℕ) (countersEmb (U := Pipeline.UD sig nD τ)) (c.tc : Thread nD τ) () bAm (bDl c b sb) (sm := SemLoc.dma 14) (E := Set.univ)) $$ Hs with HM
  iapply (issueB (c := (c.tc : Thread nD τ)) (src := m7) (dst := bv7) (sm := SemLoc.dma 14) bAm (bDl c b sb) b fb (BV b sb) (j := 0) (u := 0) (by decide) ((View.amount_dma _ _).trans (duo_0 _ _ _).symm) (Nat.zero_le _) (Entails.of_eq (duo_0 _ _ _).symm) (b7_read b sb)) $$ [H7 V7 HM]
  · isplitl [H7]; · iexact H7
    isplitl [V7]; · iexact V7
    iexact HM
  iintro HM
  iapply Hk
  isplitl [H9]; · iexact H9
  isplitl [V9]; · iexact V9
  iexact HM

theorem issB2 {hsrc : m9.view.WordExact} {hdst : bv9.view.WordExact}
    {hsem : DmaTarget.Typed (nD := nD) .hbm (.dma 14) (.here bv9 : DmaTarget nD τ sig .tc .vmem S64x4096 .bf16)} {α : Type} {k : PUnit → Prog (TpuEff nD τ sig (Elt F) Λ₀ .tc) α} {Q : α → PP F} :
    bB c b sb fb ⊢ iprop((bF c b sb -∗ wpB c (k ⟨⟩) Q) -∗ wpB c (Prog.lift (.enqueueDma m9 (.here bv9) (.dma 14) hsrc hdst hsem) >>= k) Q) :=
  issueB (c := (c.tc : Thread nD τ)) (src := m9) (dst := bv9) (sm := SemLoc.dma 14) bAm (bDl c b sb) sb fb (BV b sb) (j := 1) (u := 0) (by decide) ((View.amount_dma _ _).trans (duo_1 _ _ _).symm) (Nat.zero_le _) (Entails.of_eq (duo_1 _ _ _).symm) (b9_read b sb)

end BCopies

/-! ## The weight's ring, and the small operands -/

section WCopies
variable (c : Dev nD) (w : C F S14336x4096 .fp8e4m3) (b : Fin 8) (s : Fin 3)

/-- Block `b` of the weight in flight to slot `s`. -/
abbrev wF (j : Fin 25) : PP F := fl (c.tc : Thread nD τ) (.dma j) ((wS s).view.dmaCredit) iprop(pt (c.tc : Thread nD τ) (wS s) (Wb w b) ∗ pt (c.tc : Thread nD τ) (wH b) w)

theorem issW (fw : C F S3x14336x512 .fp8e4m3) {j : Fin 25} {off1 : Fin 2 → ℕ} {inb1 : ∀ a, off1 a + S14336x512.size a ≤ S14336x4096.size a} {off2 : Fin 3 → ℕ} {inb2 : ∀ a, off2 a + S1x14336x512.size a ≤ S3x14336x512.size a}
    (h1 : off1 = ![0, 512 * b.val]) (h2 : off2 = ![s.val, 0, 0]) {hsrc : (wHo off1 inb1).view.WordExact} {hdst : (wSo off2 inb2).view.WordExact}
    {hsem : DmaTarget.Typed (nD := nD) .hbm (.dma j) (.here (wSo off2 inb2) : DmaTarget nD τ sig .tc .vmem S14336x512 .fp8e4m3)} {α : Type} {k : PUnit → Prog (TpuEff nD τ sig (Elt F) Λ₀ .tc) α} {Q : α → PP F} :
    iprop(pt (c.tc : Thread nD τ) (wH b) w ∗ pt (c.tc : Thread nD τ) (wS s) fw ∗ sv c j) ⊢ iprop((wF c w b s j -∗ wpB c (k ⟨⟩) Q) -∗ wpB c (Prog.lift (.enqueueDma (wHo off1 inb1) (.here (wSo off2 inb2)) (.dma j) hsrc hdst hsem) >>= k) Q) := by
  subst h1; subst h2
  exact issue (c := (c.tc : Thread nD τ)) (src := wH b) (dst := wS s) w fw (Wb w b) (by decide) (wH_read w b s)

end WCopies

/-- A whole buffer in flight to another. -/
abbrev uF (c : Dev nD) {sp sp' : Space} {s : Shape} {e : EltTy} (src : Memref sig .tc sp s e) (dst : Memref sig .tc sp' s e) (f : Buf (Elt F) (src.view.loc (c.tc : Thread nD τ))) (g : Buf (Elt F) (dst.view.loc (c.tc : Thread nD τ))) (j : Fin 25) : PP F :=
  fl (c.tc : Thread nD τ) (.dma j) dst.view.dmaCredit iprop(pt (c.tc : Thread nD τ) dst g ∗ pt (c.tc : Thread nD τ) src f)

theorem run9 (c : Dev nD) (X fx : C F S128x14336 .bf16) (ws f24 : C F S1x4096 .f32) (rb f25 : C F S1x12 .f32) (ix f26 : C F S2x128 .i32)
    (a : C F S768x14336 .bf16) (sa : C F S64x14336 .bf16) (rw : C F S16x14336 .bf16) (fa : C F S848x14336 .bf16) (Q : PUnit → PP F) :
    iprop(xA c X fx (t1 6) 6 ∗ (pt (c.tc : Thread nD τ) m2 ws ∗ pt (c.tc : Thread nD τ) m24 f24 ∗ sv c 19) ∗ (pt (c.tc : Thread nD τ) m4 rb ∗ pt (c.tc : Thread nD τ) m25 f25 ∗ sv c 20)
      ∗ (pt (c.tc : Thread nD τ) m5 ix ∗ pt (c.tc : Thread nD τ) m26 f26 ∗ sv c 21) ∗ aA c a sa rw fa (t3 0) 7
      ∗ (iprop(xF c X (t1 6) 6 ∗ uF c m2 m24 ws ws 19 ∗ uF c m4 m25 rb rb 20 ∗ uF c m5 m26 ix ix 21 ∗ aF c a sa rw (t3 0) 7) -∗ Q ⟨⟩))
    ⊢ wpB c part9 Q := by
  iintro ⟨H0, H1, H2, H3, H4, Hk⟩
  unfold part9 k0_part9_skel
  iapply (issX c X fx (t1 6)) $$ H0; iintro H0
  iapply (issue (c := (c.tc : Thread nD τ)) (src := m2) (dst := m24) ws f24 ws (by decide) rfl) $$ H1; iintro H1
  iapply (issue (c := (c.tc : Thread nD τ)) (src := m4) (dst := m25) rb f25 rb (by decide) rfl) $$ H2; iintro H2
  iapply (issue (c := (c.tc : Thread nD τ)) (src := m5) (dst := m26) ix f26 ix (by decide) rfl) $$ H3; iintro H3
  iapply (issA1 c a sa rw fa (t3 0)) $$ H4; iintro H4
  iapply (issA2 c a sa rw fa (t3 0)) $$ H4; iintro H4
  iapply (issA3 c a sa rw fa (t3 0)) $$ H4; iintro H4
  iapply done
  iapply Hk
  isplitl [H0]; · iexact H0
  isplitl [H1]; · iexact H1
  isplitl [H2]; · iexact H2
  isplitl [H3]; · iexact H3
  iexact H4

theorem run10 (c : Dev nD) (a : C F S768x14336 .bf16) (sa : C F S64x14336 .bf16) (rw : C F S16x14336 .bf16) (fa : C F S848x14336 .bf16) (Q : PUnit → PP F) :
    iprop(aA c a sa rw fa (t3 1) 8 ∗ aA c a sa rw fa (t3 2) 9 ∗ (iprop(aF c a sa rw (t3 1) 8 ∗ aF c a sa rw (t3 2) 9) -∗ Q ⟨⟩))
    ⊢ wpB c part10 Q := by
  iintro ⟨H0, H1, Hk⟩
  unfold part10 k0_part10_skel
  iapply (issA1 c a sa rw fa (t3 1)) $$ H0; iintro H0
  iapply (issA2 c a sa rw fa (t3 1)) $$ H0; iintro H0
  iapply (issA3 c a sa rw fa (t3 1)) $$ H0; iintro H0
  iapply (issA1 c a sa rw fa (t3 2)) $$ H1; iintro H1
  iapply (issA2 c a sa rw fa (t3 2)) $$ H1; iintro H1
  iapply (issA3 c a sa rw fa (t3 2)) $$ H1; iintro H1
  iapply done
  iapply Hk
  isplitl [H0]; · iexact H0
  iexact H1

theorem run11 (c : Dev nD) (a : C F S768x14336 .bf16) (sa : C F S64x14336 .bf16) (rw : C F S16x14336 .bf16) (fa : C F S848x14336 .bf16) (Q : PUnit → PP F) :
    iprop(aA c a sa rw fa (t3 3) 10 ∗ aA c a sa rw fa (t3 4) 11 ∗ (iprop(aF c a sa rw (t3 3) 10 ∗ aF c a sa rw (t3 4) 11) -∗ Q ⟨⟩))
    ⊢ wpB c part11 Q := by
  iintro ⟨H0, H1, Hk⟩
  unfold part11 k0_part11_skel
  iapply (issA1 c a sa rw fa (t3 3)) $$ H0; iintro H0
  iapply (issA2 c a sa rw fa (t3 3)) $$ H0; iintro H0
  iapply (issA3 c a sa rw fa (t3 3)) $$ H0; iintro H0
  iapply (issA1 c a sa rw fa (t3 4)) $$ H1; iintro H1
  iapply (issA2 c a sa rw fa (t3 4)) $$ H1; iintro H1
  iapply (issA3 c a sa rw fa (t3 4)) $$ H1; iintro H1
  iapply done
  iapply Hk
  isplitl [H0]; · iexact H0
  iexact H1

theorem run12 (c : Dev nD) (a : C F S768x14336 .bf16) (sa : C F S64x14336 .bf16) (rw : C F S16x14336 .bf16) (fa : C F S848x14336 .bf16)
    (b : C F S768x4096 .bf16) (sb : C F S64x4096 .bf16) (fb : C F S832x4096 .bf16) (Q : PUnit → PP F) :
    iprop(aA c a sa rw fa (t3 5) 12 ∗ aA c a sa rw fa (t3 6) 13 ∗ bA c b sb fb ∗ (iprop(aF c a sa rw (t3 5) 12 ∗ aF c a sa rw (t3 6) 13 ∗ bF c b sb) -∗ Q ⟨⟩))
    ⊢ wpB c part12 Q := by
  iintro ⟨H0, H1, H2, Hk⟩
  unfold part12 k0_part12_skel
  iapply (issA1 c a sa rw fa (t3 5)) $$ H0; iintro H0
  iapply (issA2 c a sa rw fa (t3 5)) $$ H0; iintro H0
  iapply (issA3 c a sa rw fa (t3 5)) $$ H0; iintro H0
  iapply (issA1 c a sa rw fa (t3 6)) $$ H1; iintro H1
  iapply (issA2 c a sa rw fa (t3 6)) $$ H1; iintro H1
  iapply (issA3 c a sa rw fa (t3 6)) $$ H1; iintro H1
  iapply (issB1 c b sb fb) $$ H2; iintro H2
  iapply (issB2 c b sb fb) $$ H2; iintro H2
  iapply done
  iapply Hk
  isplitl [H0]; · iexact H0
  isplitl [H1]; · iexact H1
  iexact H2

end Cert.Kernel.Hand

end
-- ==== Proof.Kernel.Access.lean ====
/- Loads and stores of buffers held whole or by a block; and what the kernel computes before its weight ring: the row maxima, the scale, the codes, the products of the router and the adapters. -/
module

public import proofs.«01_k».proof.Proof.Kernel.Issue

@[expose] public section

noncomputable section

namespace Cert.Kernel.Hand

open Cert.Kernel Cert.Kernel.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

theorem off0 : (![0, 0] : Fin 2 → ℕ) = fun _ => 0 := by funext a; fin_cases a <;> rfl

section Rect2
variable {n0 n1 a b : ℕ} (off : Fin 2 → ℕ) (inb : ∀ i : Fin 2, off i + (![a, b] : Fin 2 → ℕ) i ≤ (![n0, n1] : Fin 2 → ℕ) i) (j : (⟨2, ![a, b]⟩ : Shape).Idx)

/-- An element of a rectangle of a matrix, by its row and its column. -/
theorem emb2_0 : (((Rect.unit (s := ⟨2, ![n0, n1]⟩) off ![a, b] inb).emb j) 0).val = off 0 + (j 0).val := ValueKit.rect_emb_unit_val _ _ _ _ _
theorem emb2_1 : (((Rect.unit (s := ⟨2, ![n0, n1]⟩) off ![a, b] inb).emb j) 1).val = off 1 + (j 1).val := ValueKit.rect_emb_unit_val _ _ _ _ _
theorem emb2_ext (p : (⟨2, ![n0, n1]⟩ : Shape).Idx) (h0 : off 0 + (j 0).val = (p 0).val) (h1 : off 1 + (j 1).val = (p 1).val) :
    (Rect.unit (s := ⟨2, ![n0, n1]⟩) off ![a, b] inb).emb j = p :=
  idx2_ext ((emb2_0 off inb j).trans h0) ((emb2_1 off inb j).trans h1)
end Rect2

/-- What a load of a rectangle of a whole buffer reads. -/
theorem readAt_rect {Val : EltTy → Type} {sg : RefSig} {κ : Kind} {sp : Space} {s : Shape} {e : EltTy} (M : Memref sg κ sp s e) (off size : Fin s.rank → ℕ) (inb : ∀ a, off a + size a ≤ s.size a) (f : M.view.ty.Contents Val) (j : (Rect.unit off size inb).toLoadRect.shape.Idx) :
    M.view.readAt Val (Rect.unit off size inb).toLoadRect f j = M.view.read Val f ((Rect.unit off size inb).emb j) := rfl

/-- One part of the body after another. -/
theorem seq (c : Dev nD) {α β : Type} {p : Prog (TpuEff nD τ sig (Elt F) Λ₀ .tc) α} {k : α → Prog (TpuEff nD τ sig (Elt F) Λ₀ .tc) β} {Q : β → PP F} :
    wpB c p (fun a => wpB c (k a) Q) ⊢ wpB c (p >>= k) Q :=
  Entails.of_eq (wp_bind ..).symm

/-- Load from a buffer held whole. -/
theorem ldW (c : Dev nD) {cs : CoreSpace} {s : Shape} {e : EltTy} {m : Memref sig .tc cs s e} {r : LoadRect s} {hl : m.view.LoadsAt r} {α : Type} {k : (r.shape.Idx → Elt F e) → Prog (TpuEff nD τ sig (Elt F) Λ₀ .tc) α} {Q : α → PP F}
    (f : Buf (Elt F) (m.view.loc (c.tc : Thread nD τ))) (v : r.shape.Idx → Elt F e) (h : m.view.readAt (Elt F) r f = v) :
    wh c m f ⊢ iprop((wh c m f -∗ wpB c (k v) Q) -∗ wpB c (Prog.lift (.load m r hl) >>= k) Q) := by
  subst h
  exact load (c := (c.tc : Thread nD τ)) (Finset.subset_univ _)

/-- Store into a buffer held whole. -/
theorem stW0 (c : Dev nD) {cs : CoreSpace} {s : Shape} {e : EltTy} {m : Memref sig .tc cs s e} {r : Rect s} {w : r.shape.Idx → Elt F e} {Mk : Finset r.shape.Idx} {hx : (m.access r).Stores Mk} {hm : Mk = Finset.univ ∨ ∀ a, r.stride a = 1} {α : Type}
    {k : PUnit → Prog (TpuEff nD τ sig (Elt F) Λ₀ .tc) α} {Q : α → PP F} (f g : Buf (Elt F) ((m.access r).loc (c.tc : Thread nD τ))) (h : (m.access r).write (Elt F) f w Mk = g) :
    ((m.access r).loc (c.tc : Thread nD τ) ↦{fullShare} f : PP F) ⊢ iprop((((m.access r).loc (c.tc : Thread nD τ) ↦{fullShare} g) -∗ wpB c (k ⟨⟩) Q) -∗ wpB c (Prog.lift (.store m r w Mk hx hm) >>= k) Q) := by
  subst h
  exact store (c := (c.tc : Thread nD τ)) (Finset.subset_univ _)

theorem stW (c : Dev nD) {cs : CoreSpace} {s : Shape} {e : EltTy} {m : Memref sig .tc cs s e} {r : Rect s} {w : r.shape.Idx → Elt F e} {Mk : Finset r.shape.Idx} {hx : (m.access r).Stores Mk} {hm : Mk = Finset.univ ∨ ∀ a, r.stride a = 1} {α : Type}
    {k : PUnit → Prog (TpuEff nD τ sig (Elt F) Λ₀ .tc) α} {Q : α → PP F} (f g : Buf (Elt F) (m.view.loc (c.tc : Thread nD τ))) (h : (m.access r).write (Elt F) f w Mk = g) :
    wh c m f ⊢ iprop((wh c m g -∗ wpB c (k ⟨⟩) Q) -∗ wpB c (Prog.lift (.store m r w Mk hx hm) >>= k) Q) :=
  stW0 c (m := m) (r := r) (w := w) (Mk := Mk) f g h

/-- Load from inside a block that is held. -/
theorem ldS (c : Dev nD) {cs : CoreSpace} {s : Shape} {e : EltTy} {m : Memref sig .tc cs s e} {off off' size : Fin s.rank → ℕ} {inb : ∀ a, off a + size a ≤ s.size a} {inb' : ∀ a, off' a + size a ≤ s.size a}
    {hu : ∀ a, (Rect.unit off' size inb').stride a = 1} {hl : m.view.LoadsAt (Rect.unit off size inb).toLoadRect} {α : Type} {k : ((Rect.unit off size inb).toLoadRect.shape.Idx → Elt F e) → Prog (TpuEff nD τ sig (Elt F) Λ₀ .tc) α} {Q : α → PP F}
    (ho : off = off') (f : Buf (Elt F) (m.view.loc (c.tc : Thread nD τ))) :
    pt (c.tc : Thread nD τ) (m.slice (Rect.unit off' size inb') hu) f
      ⊢ iprop((pt (c.tc : Thread nD τ) (m.slice (Rect.unit off' size inb') hu) f -∗ wpB c (k (m.view.readAt (Elt F) (Rect.unit off size inb).toLoadRect f)) Q) -∗ wpB c (Prog.lift (.load m (Rect.unit off size inb).toLoadRect hl) >>= k) Q) := by
  subst ho
  exact load (c := (c.tc : Thread nD τ)) (S := (m.view.slice (Rect.unit off size inb)).set) (by rw [View.set_slice]; exact Finset.Subset.refl _)

/-! ## Row maxima -/

/-- The largest magnitudes of the lanes of the first `k` blocks. -/
def AM (X : C F S128x14336 .bf16) : ℕ → FVec F S128x128 .bf16
  | 0 => k0_pay21
  | k + 1 => if h : k < k0_t1_loop.trips then k0_pay22 (AM X k) (m14.view.readAt (Elt F) (Rect.unit (s := S128x14336) (k0_off3 ⟨k, h⟩) S128x2048.size (k0_off3_inb ⟨k, h⟩)).toLoadRect X) else AM X k

theorem AM_succ (X : C F S128x14336 .bf16) (k : Fin k0_t1_loop.trips) :
    AM X (k.val + 1) = k0_pay22 (AM X k.val) (m14.view.readAt (Elt F) (Rect.unit (s := S128x14336) (k0_off3 k) S128x2048.size (k0_off3_inb k)).toLoadRect X) := by
  rw [AM, dif_pos k.isLt]

abbrev xs (i : Fin k0_t1_loop.trips) : Fin 25 := i.castLE (by decide)

theorem t1_sem (k : Fin k0_t1_loop.trips) : ((cc0_scratch15.slice (Rect.unit (s := S7) (k0_off1 k) S1.size (k0_off1_inb k))).squeeze S_ squeezes_S1_S_).sem = xs k := by
  revert k; decide +kernel

theorem off3_off2 (k : Fin k0_t1_loop.trips) : k0_off3 k = k0_off2 k := rfl

/-- Wait for a block of the activations. -/
theorem waitX (c : Dev nD) (X : C F S128x14336 .bf16) (i : Fin k0_t1_loop.trips) {j : Fin 25} {sm : DmaSem sig} (h : sm = j) {hsrc : (xh i).view.WordExact} {hdst : (xv i).view.WordExact} {α : Type} {k : PUnit → Prog (TpuEff nD τ sig (Elt F) Λ₀ .tc) α} {Q : α → PP F} :
    iprop(xF c X i j ∗ ow (c.tc : Thread nD τ))
      ⊢ iprop((iprop((pt (c.tc : Thread nD τ) (xv i) X ∗ pt (c.tc : Thread nD τ) (xh i) X) ∗ sv c j ∗ ow (c.tc : Thread nD τ)) -∗ wpB c (k ⟨⟩) Q)
        -∗ wpB c (Prog.lift (.waitDma2 sm (xh i) (xv i) hsrc hdst) >>= k) Q) := by
  subst h
  exact wait (c := (c.tc : Thread nD τ)) rfl

/-- Blocks of the activations arrived. -/
abbrev xD (c : Dev nD) (X : C F S128x14336 .bf16) (i : Fin k0_t1_loop.trips) : PP F := iprop((pt (c.tc : Thread nD τ) (xv i) X ∗ pt (c.tc : Thread nD τ) (xh i) X) ∗ sv c (xs i))

abbrev inv1 (c : Dev nD) (X : C F S128x14336 .bf16) (k : ℕ) (acc : FVec F S128x128 .bf16) : PP F :=
  iprop(⌜acc = AM X k⌝ ∗ stage (fun i => xF c X i (xs i)) (xD c X) k ∗ ow (c.tc : Thread nD τ))

theorem trip1 (c : Dev nD) (X : C F S128x14336 .bf16) (k : Fin k0_t1_loop.trips) (acc : FVec F S128x128 .bf16) :
    inv1 c X k.val acc ⊢ wpB c (k0_t1_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 k acc) (inv1 c X (k.val + 1)) := by
  unfold inv1
  iintro ⟨%ha, HS, HO⟩
  ihave HS := (Entails.of_eq (stage_out (fun i => xF c X i (xs i)) (xD c X) k)) $$ HS
  icases HS with ⟨HF, HR⟩
  unfold k0_t1_body
  iapply (waitX c X k (t1_sem k)) $$ [HF HO]
  · isplitl [HF]; · iexact HF
    iexact HO
  iintro ⟨⟨HV, HH⟩, Hs, HO⟩
  iapply (ldS c (off3_off2 k) X) $$ HV; iintro HV
  iapply done
  isplitr
  · ipureintro; rw [AM_succ, ha]
  isplitr [HO]
  · iapply (Entails.of_eq (stage_in (fun i => xF c X i (xs i)) (xD c X) k))
    isplitr [HR]
    · isplitr [Hs]
      · isplitl [HV]; · iexact HV
        iexact HH
      iexact Hs
    iexact HR
  iexact HO

theorem trips1 : k0_t1_loop.trips = 7 := by decide

/-- Everything the row maxima are read from, arrived. -/
theorem xD_all (c : Dev nD) (X : C F S128x14336 .bf16) :
    stage (fun i => xF c X i (xs i)) (xD c X) k0_t1_loop.trips ⊢ iprop(wh c m14 X ∗ wh c m0 X ∗ (sv c 0 ∗ sv c 1 ∗ sv c 2 ∗ sv c 3 ∗ sv c 4 ∗ sv c 5 ∗ sv c 6)) := by
  rw [stage_last _ _ le_rfl, xv_split, xh_split, bigSep7, bigSep7, bigSep7]
  iintro ⟨⟨⟨V0, H0⟩, s0⟩, ⟨⟨V1, H1⟩, s1⟩, ⟨⟨V2, H2⟩, s2⟩, ⟨⟨V3, H3⟩, s3⟩, ⟨⟨V4, H4⟩, s4⟩, ⟨⟨V5, H5⟩, s5⟩, ⟨⟨V6, H6⟩, s6⟩⟩
  isplitl [V0 V1 V2 V3 V4 V5 V6]
  · isplitl [V0]; · iexact V0
    isplitl [V1]; · iexact V1
    isplitl [V2]; · iexact V2
    isplitl [V3]; · iexact V3
    isplitl [V4]; · iexact V4
    isplitl [V5]; · iexact V5
    iexact V6
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [s0]; · iexact s0
  isplitl [s1]; · iexact s1
  isplitl [s2]; · iexact s2
  isplitl [s3]; · iexact s3
  isplitl [s4]; · iexact s4
  isplitl [s5]; · iexact s5
  iexact s6

/-- A slot of the ring, a block of the weight, and their semaphore, before the copy. -/
abbrev wA (c : Dev nD) (w : C F S14336x4096 .fp8e4m3) (fw : C F S3x14336x512 .fp8e4m3) (b : Fin 8) (s : Fin 3) (j : Fin 25) : PP F := iprop(pt (c.tc : Thread nD τ) (wH b) w ∗ pt (c.tc : Thread nD τ) (wS s) fw ∗ sv c j)

theorem run13 (c : Dev nD) (X : C F S128x14336 .bf16) (w : C F S14336x4096 .fp8e4m3) (fw : C F S3x14336x512 .fp8e4m3) (Q : (Σ' (v141 : IVec S128x256 32) (v148 : IVec S128x256 1), IVec S128x256 32) → PP F) :
    iprop(wA c w fw 0 0 15 ∗ wA c w fw 1 1 16 ∗ wA c w fw 2 2 17
      ∗ (xF c X (t1 0) 0 ∗ xF c X (t1 1) 1 ∗ xF c X (t1 2) 2 ∗ xF c X (t1 3) 3 ∗ xF c X (t1 4) 4 ∗ xF c X (t1 5) 5 ∗ xF c X (t1 6) 6) ∗ ow (c.tc : Thread nD τ)
      ∗ (iprop(wF c w 0 0 15 ∗ wF c w 1 1 16 ∗ wF c w 2 2 17 ∗ (wh c m14 X ∗ wh c m0 X ∗ (sv c 0 ∗ sv c 1 ∗ sv c 2 ∗ sv c 3 ∗ sv c 4 ∗ sv c 5 ∗ sv c 6)) ∗ ow (c.tc : Thread nD τ))
          -∗ Q ⟨iota .tc S128x256 32 [1] iota_S128x256_d1_w32, k0_pay23 (AM X 7), k0_pay24⟩))
    ⊢ wpB c part13 Q := by
  iintro ⟨H0, H1, H2, HX, HO, Hk⟩
  unfold part13 k0_part13_skel
  iapply (issW c w 0 0 fw rfl rfl) $$ H0; iintro H0
  iapply (issW c w 1 1 fw rfl rfl) $$ H1; iintro H1
  iapply (issW c w 2 2 fw rfl rfl) $$ H2; iintro H2
  iapply (Scf.wp_for_bind _ _ _ _ _ _ _ _ _ (inv1 c X) (trip1 c X)) $$ [HX HO]
  · unfold inv1
    isplitr
    · ipureintro; rfl
    isplitl [HX]
    · rw [stage_zero, bigSep7]; iexact HX
    iexact HO
  iintro %acc ⟨%ha, HS, HO⟩
  ihave HS := (xD_all c X) $$ HS
  have ha7 : acc = AM X 7 := ha.trans (congrArg (AM X) trips1)
  subst ha7
  iapply done
  iapply Hk
  isplitl [H0]; · iexact H0
  isplitl [H1]; · iexact H1
  isplitl [H2]; · iexact H2
  isplitl [HS]; · iexact HS
  iexact HO

/-! ## The scale -/

/-- The scale and its reciprocal along the lanes, and the scale as a row. -/
def XSV (X : C F S128x14336 .bf16) : C F S128x128 .f32 := k0_pay26 (F := F) (iota .tc S128x256 32 [1] iota_S128x256_d1_w32) (k0_pay23 (AM X 7)) k0_pay24
def INV (X : C F S128x14336 .bf16) : C F S128x128 .f32 := k0_pay27 (F := F) (iota .tc S128x256 32 [1] iota_S128x256_d1_w32) (k0_pay23 (AM X 7)) k0_pay24
def XSR (X : C F S128x14336 .bf16) : C F S1x128 .f32 := k0_pay29 (k0_pay28 (XSV X))

theorem run14 (c : Dev nD) (X : C F S128x14336 .bf16) (f22 f23 : C F S128x128 .f32) (Q : FVec F S128 .f32 → PP F) :
    iprop(wh c m22 f22 ∗ wh c m23 f23 ∗ (iprop(wh c m22 (XSV X) ∗ wh c m23 (INV X)) -∗ Q (k0_pay28 (XSV X))))
    ⊢ wpB c (part14 (iota .tc S128x256 32 [1] iota_S128x256_d1_w32) (k0_pay23 (AM X 7)) k0_pay24) Q := by
  iintro ⟨H0, H1, Hk⟩
  unfold part14 k0_part14_skel
  iapply (ldW c (m := m22) f22 f22 (Memref.readAt_unit_zero (Elt F) cc0_scratch8 off0 _ f22)) $$ H0; iintro H0
  iapply (stW c (m := m22) f22 (XSV X) (Memref.write_access_unit_zero_univ (Elt F) cc0_scratch8 off0 _ f22 _)) $$ H0; iintro H0
  iapply (ldW c (m := m23) f23 f23 (Memref.readAt_unit_zero (Elt F) cc0_scratch9 off0 _ f23)) $$ H1; iintro H1
  iapply (stW c (m := m23) f23 (INV X) (Memref.write_access_unit_zero_univ (Elt F) cc0_scratch9 off0 _ f23 _)) $$ H1; iintro H1
  iapply (ldW c (m := m22) (XSV X) (XSV X) (Memref.readAt_unit_zero (Elt F) cc0_scratch8 off0 _ (XSV X))) $$ H0; iintro H0
  iapply done
  iapply Hk
  isplitl [H0]; · iexact H0
  iexact H1

end Cert.Kernel.Hand

end
-- ==== Proof.Kernel.Quant.lean ====
/- The quantisation loop: seven trips of sixteen slices of 128 columns. -/
module

public import proofs.«01_k».proof.Proof.Kernel.Access

@[expose] public section

noncomputable section

namespace Cert.Kernel.Hand

open Cert.Kernel Cert.Kernel.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The codes: each block of 128 columns scaled, clipped and rounded. -/
def QF (X : C F S128x14336 .bf16) : C F S128x14336 .fp8e4m3 := fun p =>
  k0_pay1 (INV X) (fun j : S128x128.Idx => X (ValueIdx.ix2 (n0 := 128) (n1 := 14336) (j 0) ⟨128 * ((p 1).val / 128) + (j 1).val, by have := ValueIdx.idx2_lt1 p; have := ValueIdx.idx2_lt1 j; omega⟩))
    (ValueIdx.ix2 (n0 := 128) (n1 := 128) (p 0) ⟨(p 1).val % 128, Nat.mod_lt _ (by decide)⟩)

/-- `xq_v` holding the codes in its first `n` columns. -/
def qA (c : Dev nD) (X : C F S128x14336 .bf16) (n : ℕ) : PP F :=
  iprop(∃ f : C F S128x14336 .fp8e4m3, ⌜∀ p : S128x14336.Idx, (p 1).val < n → f p = QF X p⌝ ∗ wh c m15 f)

theorem ldQ (c : Dev nD) (X : C F S128x14336 .bf16) (n : ℕ) {r : LoadRect S128x14336} {hl : m15.view.LoadsAt r} {α : Type} {k : Prog (TpuEff nD τ sig (Elt F) Λ₀ .tc) α} {Q : α → PP F} :
    qA c X n ⊢ iprop((qA c X n -∗ wpB c k Q) -∗ wpB c (Prog.lift (.load m15 r hl) >>= fun _ => k) Q) := by
  unfold qA
  iintro ⟨%f, %hf, H⟩ Hk
  iapply (ldW c (m := m15) f _ rfl) $$ H; iintro H
  iapply Hk
  iexists f
  isplitr
  · ipureintro; exact hf
  iexact H

theorem QF_at (X : C F S128x14336 .bf16) (n : ℕ) (off : Fin 2 → ℕ) (ho : off = ![0, 128 * n]) (inb : ∀ a, off a + S128x128.size a ≤ S128x14336.size a) (j : S128x128.Idx) :
    QF X ((Rect.unit (s := S128x14336) off S128x128.size inb).emb j)
      = k0_pay1 (INV X) (m14.view.readAt (Elt F) (Rect.unit (s := S128x14336) off S128x128.size inb).toLoadRect X) j := by
  have h0 : off 0 = 0 := by rw [ho]; rfl
  have h1 : off 1 = 128 * n := by rw [ho]; rfl
  have l1 := ValueIdx.idx2_lt1 j
  have e0 := emb2_0 (n0 := 128) (n1 := 14336) (a := 128) (b := 128) off inb j
  have e1 := emb2_1 (n0 := 128) (n1 := 14336) (a := 128) (b := 128) off inb j
  generalize hp : (Rect.unit (s := S128x14336) off S128x128.size inb).emb j = p
  have p0 : (p 0).val = off 0 + (j 0).val := by rw [← hp]; exact e0
  have p1 : (p 1).val = off 1 + (j 1).val := by rw [← hp]; exact e1
  have d : (p 1).val / 128 = n := by omega
  have m : (p 1).val % 128 = (j 1).val := by omega
  unfold QF
  refine congr (congrArg (k0_pay1 (INV X)) (funext fun i => ?_)) ?_
  · refine congrArg X (Eq.symm ?_)
    refine emb2_ext (n0 := 128) (n1 := 14336) (a := 128) (b := 128) off inb i _ ?_ ?_
    · show off 0 + (i 0).val = (i 0).val
      omega
    · show off 1 + (i 1).val = 128 * ((p 1).val / 128) + (i 1).val
      rw [d, h1]
  · refine idx2_ext ?_ ?_
    · show (p 0).val = (j 0).val
      omega
    · exact m

theorem stQ (c : Dev nD) (X : C F S128x14336 .bf16) (n : ℕ) {off : Fin 2 → ℕ} (ho : off = ![0, 128 * n]) {inb : ∀ a, off a + S128x128.size a ≤ S128x14336.size a} {w : S128x128.Idx → Elt F .fp8e4m3}
    (hw : w = k0_pay1 (INV X) (m14.view.readAt (Elt F) (Rect.unit (s := S128x14336) off S128x128.size inb).toLoadRect X))
    {hx : (m15.access (Rect.unit (s := S128x14336) off S128x128.size inb)).Stores Finset.univ} {hm : (Finset.univ : Finset S128x128.Idx) = Finset.univ ∨ ∀ a, (Rect.unit (s := S128x14336) off S128x128.size inb).stride a = 1} {α : Type} {k : PUnit → Prog (TpuEff nD τ sig (Elt F) Λ₀ .tc) α} {Q : α → PP F} :
    qA c X (128 * n) ⊢ iprop((qA c X (128 * (n + 1)) -∗ wpB c (k ⟨⟩) Q) -∗ wpB c (Prog.lift (.store m15 (Rect.unit (s := S128x14336) off S128x128.size inb) w Finset.univ hx hm) >>= k) Q) := by
  unfold qA
  iintro ⟨%f, %hf, H⟩ Hk
  iapply (stW c (m := m15) f ((m15.access (Rect.unit (s := S128x14336) off S128x128.size inb)).write (Elt F) f w Finset.univ) rfl) $$ H; iintro H
  iapply Hk
  iexists ((m15.access (Rect.unit (s := S128x14336) off S128x128.size inb)).write (Elt F) f w Finset.univ)
  isplitr
  · ipureintro
    intro p hp
    have h1 : off 1 = 128 * n := by rw [ho]; rfl
    have h0 : off 0 = 0 := by rw [ho]; rfl
    by_cases h : (p 1).val < 128 * n
    · refine Eq.trans (View.write_of_not_mem (v := m15.access (Rect.unit (s := S128x14336) off S128x128.size inb)) f w Finset.univ ?_) (hf p h)
      intro hmem
      obtain ⟨y, -, hy⟩ := Finset.mem_map.mp hmem
      have e1 := emb2_1 (n0 := 128) (n1 := 14336) (a := 128) (b := 128) off inb y
      have e2 : ((((Rect.unit (s := S128x14336) off S128x128.size inb).emb y) 1).val : ℕ) = (p 1).val := congrArg (fun q : S128x14336.Idx => (q 1).val) hy
      have e3 : (p 1).val = off 1 + (y 1).val := e2.symm.trans e1
      omega
    · have hj : (Rect.unit (s := S128x14336) off S128x128.size inb).emb (ValueIdx.ix2 (n0 := 128) (n1 := 128) (p 0) ⟨(p 1).val - 128 * n, by omega⟩) = p := by
        refine emb2_ext (n0 := 128) (n1 := 14336) (a := 128) (b := 128) off inb _ p ?_ ?_
        · show off 0 + (p 0).val = (p 0).val
          omega
        · show off 1 + ((p 1).val - 128 * n) = (p 1).val
          omega
      rw [← hj, QF_at X n off ho inb, ← hw]
      exact View.write_emb_of_mem _ _ (Finset.mem_univ _)
  iexact H

theorem off4_val (k : Fin k0_t2_loop.trips) (r : Fin 16) : k0_off4 k (BitVec.ofNat 32 (128 * r.val)) = ![0, 128 * (16 * k.val + r.val)] := by
  have h : ∀ (k : Fin k0_t2_loop.trips) (r : Fin 16) (a : Fin 2), k0_off4 k (BitVec.ofNat 32 (128 * r.val)) a = (![0, 128 * (16 * k.val + r.val)] : Fin 2 → ℕ) a := by decide +kernel
  exact funext fun a => h k r a

theorem run_p1 (c : Dev nD) (X : C F S128x14336 .bf16) (k : Fin k0_t2_loop.trips)  (Q : (Σ' (v356 : BitVec 32) (v357 : Vec F S128x128 .f32) (v389 : BitVec 32), FVec F S128x128 .f32) → PP F) :
    iprop(wh c m14 X ∗ wh c m23 (INV X) ∗ qA c X (128 * (16 * k.val + 0)) ∗ (iprop(wh c m14 X ∗ wh c m23 (INV X) ∗ qA c X (128 * (16 * k.val + 2))) -∗ (∀ b1 b2, Q ⟨b1, INV X, b2, k0_pay3 (m14.view.readAt (Elt F) (Rect.unit (s := S128x14336) (k0_off4 k 256#32) S128x128.size (k0_off4_inb k 2)).toLoadRect X)⟩)))
    ⊢ wpB c (k0_part1_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 0#32 1#32 k) Q := by
  iintro ⟨HX, HI, HQ, Hk⟩
  unfold k0_part1_skel
  iapply (ldW c (m := m23) (INV X) (INV X) (Memref.readAt_unit_zero (Elt F) cc0_scratch9 off0 _ (INV X))) $$ HI; iintro HI
  iapply (ldW c (m := m14) X _ rfl) $$ HX; iintro HX
  iapply (ldQ c X (128 * (16 * k.val + 0))) $$ HQ; iintro HQ
  iapply (stQ c X (16 * k.val + 0) (off4_val k 0) rfl) $$ HQ; iintro HQ
  iapply (ldW c (m := m14) X _ rfl) $$ HX; iintro HX
  iapply (ldQ c X (128 * (16 * k.val + 1))) $$ HQ; iintro HQ
  iapply (stQ c X (16 * k.val + 1) (off4_val k 1) rfl) $$ HQ; iintro HQ
  iapply (ldW c (m := m14) X _ rfl) $$ HX; iintro HX
  iapply done
  ispecialize Hk $$ [HX HI HQ]
  · isplitl [HX]; · iexact HX
    isplitl [HI]; · iexact HI
    iexact HQ
  iapply Hk

theorem run_p2 (c : Dev nD) (X : C F S128x14336 .bf16) (k : Fin k0_t2_loop.trips) (b1 b2 : BitVec 32) (Q : BitVec 32 → PP F) :
    iprop(wh c m14 X ∗ qA c X (128 * (16 * k.val + 2)) ∗ (iprop(wh c m14 X ∗ qA c X (128 * (16 * k.val + 5))) -∗ (∀ b, Q b)))
    ⊢ wpB c (k0_part2_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 k b1 (INV X) b2 (k0_pay3 (m14.view.readAt (Elt F) (Rect.unit (s := S128x14336) (k0_off4 k 256#32) S128x128.size (k0_off4_inb k 2)).toLoadRect X))) Q := by
  iintro ⟨HX, HQ, Hk⟩
  unfold k0_part2_skel
  iapply (ldQ c X (128 * (16 * k.val + 2))) $$ HQ; iintro HQ
  iapply (stQ c X (16 * k.val + 2) (off4_val k 2) rfl) $$ HQ; iintro HQ
  iapply (ldW c (m := m14) X _ rfl) $$ HX; iintro HX
  iapply (ldQ c X (128 * (16 * k.val + 3))) $$ HQ; iintro HQ
  iapply (stQ c X (16 * k.val + 3) (off4_val k 3) rfl) $$ HQ; iintro HQ
  iapply (ldW c (m := m14) X _ rfl) $$ HX; iintro HX
  iapply (ldQ c X (128 * (16 * k.val + 4))) $$ HQ; iintro HQ
  iapply (stQ c X (16 * k.val + 4) (off4_val k 4) rfl) $$ HQ; iintro HQ
  iapply done
  ispecialize Hk $$ [HX HQ]
  · isplitl [HX]; · iexact HX
    iexact HQ
  iapply Hk

theorem run_p3 (c : Dev nD) (X : C F S128x14336 .bf16) (k : Fin k0_t2_loop.trips) (b1 b2 : BitVec 32) (Q : (FVec F S128x128 .fp8e4m3) → PP F) :
    iprop(wh c m14 X ∗ qA c X (128 * (16 * k.val + 5)) ∗ (iprop(wh c m14 X ∗ qA c X (128 * (16 * k.val + 7))) -∗ Q (k0_pay9 (INV X) (m14.view.readAt (Elt F) (Rect.unit (s := S128x14336) (k0_off4 k 896#32) S128x128.size (k0_off4_inb k 7)).toLoadRect X))))
    ⊢ wpB c (k0_part3_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 k b1 (INV X) b2) Q := by
  iintro ⟨HX, HQ, Hk⟩
  unfold k0_part3_skel
  iapply (ldW c (m := m14) X _ rfl) $$ HX; iintro HX
  iapply (ldQ c X (128 * (16 * k.val + 5))) $$ HQ; iintro HQ
  iapply (stQ c X (16 * k.val + 5) (off4_val k 5) rfl) $$ HQ; iintro HQ
  iapply (ldW c (m := m14) X _ rfl) $$ HX; iintro HX
  iapply (ldQ c X (128 * (16 * k.val + 6))) $$ HQ; iintro HQ
  iapply (stQ c X (16 * k.val + 6) (off4_val k 6) rfl) $$ HQ; iintro HQ
  iapply (ldW c (m := m14) X _ rfl) $$ HX; iintro HX
  iapply done
  ispecialize Hk $$ [HX HQ]
  · isplitl [HX]; · iexact HX
    iexact HQ
  iapply Hk

theorem run_p4 (c : Dev nD) (X : C F S128x14336 .bf16) (k : Fin k0_t2_loop.trips) (b1 : BitVec 32) (Q : (Σ' (v509 : BitVec 32) (v513 : FVec F S128x128 .f32) (cst_327 : F .f32), FVec F S128x128 .f32) → PP F) :
    iprop(wh c m14 X ∗ qA c X (128 * (16 * k.val + 7)) ∗ (iprop(wh c m14 X ∗ qA c X (128 * (16 * k.val + 10))) -∗ (∀ b, Q ⟨b, k0_pay13 (INV X) (m14.view.readAt (Elt F) (Rect.unit (s := S128x14336) (k0_off4 k 1280#32) S128x128.size (k0_off4_inb k 10)).toLoadRect X), Scalar.ofBits .f32 0x43E00000#32, k0_pay14⟩)))
    ⊢ wpB c (k0_part4_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 k b1 (INV X) (k0_pay9 (INV X) (m14.view.readAt (Elt F) (Rect.unit (s := S128x14336) (k0_off4 k 896#32) S128x128.size (k0_off4_inb k 7)).toLoadRect X))) Q := by
  iintro ⟨HX, HQ, Hk⟩
  unfold k0_part4_skel
  iapply (ldQ c X (128 * (16 * k.val + 7))) $$ HQ; iintro HQ
  iapply (stQ c X (16 * k.val + 7) (off4_val k 7) rfl) $$ HQ; iintro HQ
  iapply (ldW c (m := m14) X _ rfl) $$ HX; iintro HX
  iapply (ldQ c X (128 * (16 * k.val + 8))) $$ HQ; iintro HQ
  iapply (stQ c X (16 * k.val + 8) (off4_val k 8) rfl) $$ HQ; iintro HQ
  iapply (ldW c (m := m14) X _ rfl) $$ HX; iintro HX
  iapply (ldQ c X (128 * (16 * k.val + 9))) $$ HQ; iintro HQ
  iapply (stQ c X (16 * k.val + 9) (off4_val k 9) rfl) $$ HQ; iintro HQ
  iapply (ldW c (m := m14) X _ rfl) $$ HX; iintro HX
  iapply done
  ispecialize Hk $$ [HX HQ]
  · isplitl [HX]; · iexact HX
    iexact HQ
  iapply Hk

theorem run_p5 (c : Dev nD) (X : C F S128x14336 .bf16) (k : Fin k0_t2_loop.trips) (b1 b2 : BitVec 32) (Q : BitVec 32 → PP F) :
    iprop(wh c m14 X ∗ qA c X (128 * (16 * k.val + 10)) ∗ (iprop(wh c m14 X ∗ qA c X (128 * (16 * k.val + 13))) -∗ (∀ b, Q b)))
    ⊢ wpB c (k0_part5_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 k b1 (INV X) b2 (k0_pay13 (INV X) (m14.view.readAt (Elt F) (Rect.unit (s := S128x14336) (k0_off4 k 1280#32) S128x128.size (k0_off4_inb k 10)).toLoadRect X)) (Scalar.ofBits .f32 0x43E00000#32) k0_pay14) Q := by
  iintro ⟨HX, HQ, Hk⟩
  unfold k0_part5_skel
  iapply (ldQ c X (128 * (16 * k.val + 10))) $$ HQ; iintro HQ
  iapply (stQ c X (16 * k.val + 10) (off4_val k 10) rfl) $$ HQ; iintro HQ
  iapply (ldW c (m := m14) X _ rfl) $$ HX; iintro HX
  iapply (ldQ c X (128 * (16 * k.val + 11))) $$ HQ; iintro HQ
  iapply (stQ c X (16 * k.val + 11) (off4_val k 11) rfl) $$ HQ; iintro HQ
  iapply (ldW c (m := m14) X _ rfl) $$ HX; iintro HX
  iapply (ldQ c X (128 * (16 * k.val + 12))) $$ HQ; iintro HQ
  iapply (stQ c X (16 * k.val + 12) (off4_val k 12) rfl) $$ HQ; iintro HQ
  iapply done
  ispecialize Hk $$ [HX HQ]
  · isplitl [HX]; · iexact HX
    iexact HQ
  iapply Hk

theorem run_p6 (c : Dev nD) (X : C F S128x14336 .bf16) (k : Fin k0_t2_loop.trips) (b1 b2 : BitVec 32) (Q : PUnit → PP F) :
    iprop(wh c m14 X ∗ qA c X (128 * (16 * k.val + 13)) ∗ (iprop(wh c m14 X ∗ qA c X (128 * (16 * k.val + 16))) -∗ Q ⟨⟩))
    ⊢ wpB c (k0_part6_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 k b1 (INV X) b2) Q := by
  iintro ⟨HX, HQ, Hk⟩
  unfold k0_part6_skel
  iapply (ldW c (m := m14) X _ rfl) $$ HX; iintro HX
  iapply (ldQ c X (128 * (16 * k.val + 13))) $$ HQ; iintro HQ
  iapply (stQ c X (16 * k.val + 13) (off4_val k 13) rfl) $$ HQ; iintro HQ
  iapply (ldW c (m := m14) X _ rfl) $$ HX; iintro HX
  iapply (ldQ c X (128 * (16 * k.val + 14))) $$ HQ; iintro HQ
  iapply (stQ c X (16 * k.val + 14) (off4_val k 14) rfl) $$ HQ; iintro HQ
  iapply (ldW c (m := m14) X _ rfl) $$ HX; iintro HX
  iapply (ldQ c X (128 * (16 * k.val + 15))) $$ HQ; iintro HQ
  iapply (stQ c X (16 * k.val + 15) (off4_val k 15) rfl) $$ HQ; iintro HQ
  iapply done
  ispecialize Hk $$ [HX HQ]
  · isplitl [HX]; · iexact HX
    iexact HQ
  iapply Hk

abbrev inv2 (c : Dev nD) (X : C F S128x14336 .bf16) (k : ℕ) (_ : Unit) : PP F := iprop(wh c m14 X ∗ wh c m23 (INV X) ∗ qA c X (128 * (16 * k)))

theorem trip2 (c : Dev nD) (X : C F S128x14336 .bf16) (v190 : FVec F S128 .f32) (k : Fin k0_t2_loop.trips) (u : Unit) :
    inv2 c X k.val u ⊢ wpB c (k0_t2_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v190 k u) (inv2 c X (k.val + 1)) := by
  unfold inv2
  iintro ⟨HX, HI, HQ⟩
  unfold k0_t2_body
  rw [k0_part1_eq_skeleton, k0_part2_eq_skeleton, k0_part3_eq_skeleton, k0_part4_eq_skeleton, k0_part5_eq_skeleton, k0_part6_eq_skeleton]
  iapply (seq c)
  iapply (run_p1 c X k)
  isplitl [HX]; · iexact HX
  isplitl [HI]; · iexact HI
  isplitl [HQ]; · iexact HQ
  iintro ⟨HX, HI, HQ⟩ %b1 %b2
  iapply (seq c)
  iapply (run_p2 c X k b1 b2)
  isplitl [HX]; · iexact HX
  isplitl [HQ]; · iexact HQ
  iintro ⟨HX, HQ⟩ %b3
  iapply (seq c)
  iapply (run_p3 c X k b1 b3)
  isplitl [HX]; · iexact HX
  isplitl [HQ]; · iexact HQ
  iintro ⟨HX, HQ⟩
  iapply (seq c)
  iapply (run_p4 c X k b1)
  isplitl [HX]; · iexact HX
  isplitl [HQ]; · iexact HQ
  iintro ⟨HX, HQ⟩ %b4
  iapply (seq c)
  iapply (run_p5 c X k b1 b4)
  isplitl [HX]; · iexact HX
  isplitl [HQ]; · iexact HQ
  iintro ⟨HX, HQ⟩ %b5
  iapply (seq c)
  iapply (run_p6 c X k b1 b5)
  isplitl [HX]; · iexact HX
  isplitl [HQ]; · iexact HQ
  iintro ⟨HX, HQ⟩
  iapply done
  isplitl [HX]; · iexact HX
  isplitl [HI]; · iexact HI
  rw [show 128 * (16 * k.val + 16) = 128 * (16 * (k.val + 1)) by omega]
  iexact HQ

theorem trips2 : k0_t2_loop.trips = 7 := by decide

/-- No column agreed with is any contents; all agreed with is the codes. -/
theorem qA_zero (c : Dev nD) (X : C F S128x14336 .bf16) (f : C F S128x14336 .fp8e4m3) : wh c m15 f ⊢ qA c X (128 * (16 * 0)) := by
  unfold qA
  iintro H
  iexists f
  isplitr
  · ipureintro; intro p hp; omega
  iexact H

theorem qA_all (c : Dev nD) (X : C F S128x14336 .bf16) : qA c X (128 * (16 * k0_t2_loop.trips)) ⊢ wh c m15 (QF X) := by
  unfold qA
  rw [trips2]
  iintro ⟨%f, %hf, H⟩
  have e : f = QF X := funext fun p => hf p (by have := ValueIdx.idx2_lt1 p; omega)
  subst e
  iexact H

end Cert.Kernel.Hand

end
-- ==== Proof.Kernel.Adapt.lean ====
/- The loop over blocks of columns that accumulates the products of the router and of the adapters' first matrices. -/
module

public import proofs.«01_k».proof.Proof.Kernel.Quant

@[expose] public section

noncomputable section

namespace Cert.Kernel.Hand

open Cert.Kernel Cert.Kernel.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Whole buffers as memrefs; and reading a buffer while it is copied from -/

theorem wh_pt (c : Dev nD) (b : Ref sig .tc) (f : Buf (Elt F) ((c.tc : Thread nD τ).loc b)) :
    (wh c (Memref.whole b) f : PP F) = pt (c.tc : Thread nD τ) (Memref.whole b) f := by
  show (_ ↦[Finset.univ]{fullShare} f : PP F) = (_ ↦[(View.whole b).set]{fullShare} f)
  rw [View.set_whole]

/-- Half of a buffer's elements' shares, one half or the other. -/
abbrev whL (c : Dev nD) {sp : Space} {s : Shape} {e : EltTy} (M : Memref sig .tc sp s e) (f : Buf (Elt F) (M.view.loc (c.tc : Thread nD τ))) : PP F :=
  M.view.loc (c.tc : Thread nD τ) ↦{fullShare.left} f
abbrev ptR (c : Dev nD) {sp : Space} {s : Shape} {e : EltTy} (M : Memref sig .tc sp s e) (f : Buf (Elt F) (M.view.loc (c.tc : Thread nD τ))) : PP F :=
  M.view.loc (c.tc : Thread nD τ) ↦[M.view.set]{fullShare.right} f

theorem wh_halves (c : Dev nD) (b : Ref sig .tc) (f : Buf (Elt F) ((c.tc : Thread nD τ).loc b)) :
    (wh c (Memref.whole b) f : PP F) = iprop(whL c (Memref.whole b) f ∗ ptR c (Memref.whole b) f) := by
  have h : (ptR c (Memref.whole b) f : PP F) = ((Memref.whole b).view.loc (c.tc : Thread nD τ) ↦{fullShare.right} f) := by
    show (_ ↦[(View.whole b).set]{fullShare.right} f : PP F) = (_ ↦[Finset.univ]{fullShare.right} f)
    rw [View.set_whole]
  rw [h]
  exact Entails.antisymm (pointsTo_share (PosShare.mem_left_op_right fullShare)).1 (pointsTo_share (PosShare.mem_left_op_right fullShare)).2

theorem ldL (c : Dev nD) {cs : CoreSpace} {s : Shape} {e : EltTy} {m : Memref sig .tc cs s e} {r : LoadRect s} {hl : m.view.LoadsAt r} {α : Type} {k : (r.shape.Idx → Elt F e) → Prog (TpuEff nD τ sig (Elt F) Λ₀ .tc) α} {Q : α → PP F}
    (f : Buf (Elt F) (m.view.loc (c.tc : Thread nD τ))) (v : r.shape.Idx → Elt F e) (h : m.view.readAt (Elt F) r f = v) :
    whL c m f ⊢ iprop((whL c m f -∗ wpB c (k v) Q) -∗ wpB c (Prog.lift (.load m r hl) >>= k) Q) := by
  subst h
  exact wp_load (Ix := Unit) (Val := Elt F) (Name := ℕ) (U := Pipeline.UD sig nD τ) (Lvl := ℕ) Variants.none (c.tc : Thread nD τ) none Set.univ (hl := hl) (k := k) (Finset.subset_univ _)

/-- The codes in flight to the result, from a half of their buffer's shares. -/
abbrev qF (c : Dev nD) (f : C F S128x14336 .fp8e4m3) : PP F :=
  fl (c.tc : Thread nD τ) (.dma 22) m12.view.dmaCredit iprop(pt (c.tc : Thread nD τ) m12 f ∗ ptR c m15 f)

theorem issQ (c : Dev nD) (f g : C F S128x14336 .fp8e4m3) {hsrc : m15.view.WordExact} {hdst : m12.view.WordExact}
    {hsem : DmaTarget.Typed (nD := nD) .vmem (.dma 22) (.here m12 : DmaTarget nD τ sig .tc .hbm S128x14336 .fp8e4m3)} {α : Type} {k : PUnit → Prog (TpuEff nD τ sig (Elt F) Λ₀ .tc) α} {Q : α → PP F} :
    iprop(ptR c m15 f ∗ pt (c.tc : Thread nD τ) m12 g ∗ sv c 22)
      ⊢ iprop((qF c f -∗ wpB c (k ⟨⟩) Q) -∗ wpB c (Prog.lift (.enqueueDma m15 (.here m12) (.dma 22) hsrc hdst hsem) >>= k) Q) := by
  iintro H Hk
  iapply (wp_dmaLocal EC Variants.none (c.tc : Thread nD τ) none (src := m15) (dst := m12) (sm := .dma 22) (via := .same) (hsrc := hsrc) (hdst := hdst) (hsem := hsem) (k := k) (q := fullShare.right) (fs := f) (Sd := m12.view.set) (fd := g)
    () m12.view.dmaCredit rfl (View.dmaCredit_pos _ (by decide)) subset_rfl) $$ H
  iintro HF
  iapply Hk
  iapply (Flight_mono EC (c.tc : Thread nD τ) ?_) $$ HF
  refine sep_mono (Entails.of_eq (pt_eq ?_)) .rfl
  rw [View.read_write_univ]
  rfl

/-! ## The router's and the adapters' products -/

theorem tri_le1 (x y z : ℕ) : 0 + x ≤ sumTo (tri x y z) 3 := by rw [tri_sum]; omega
theorem tri_le2 (x y z : ℕ) : 0 + x + y ≤ sumTo (tri x y z) 3 := by rw [tri_sum]; omega
theorem tri_all (x y z : ℕ) : 0 + x + y + z = sumTo (tri x y z) 3 := by rw [tri_sum]; omega
theorem duo_le1 (x y : ℕ) : 0 + x ≤ sumTo (duo x y) 2 := by rw [duo_sum]; omega
theorem duo_all (x y : ℕ) : 0 + x + y = sumTo (duo x y) 2 := by rw [duo_sum]; omega

section AWaits
variable (c : Dev nD) (a : C F S768x14336 .bf16) (sa : C F S64x14336 .bf16) (rw : C F S16x14336 .bf16) (i : Fin k0_t3_loop.trips)

/-- A block in flight, of which units have been waited for. -/
abbrev aW (j : Fin 25) (u : ℕ) : PP F := mb (c.tc : Thread nD τ) (.dma j) (aAm i) (aDl c a sa rw i) 3 u

/-- A block arrived. -/
abbrev aG (j : Fin 25) : PP F := iprop(pt (c.tc : Thread nD τ) (avc i) (AV a sa rw) ∗ (pt (c.tc : Thread nD τ) (ah3 i) rw ∗ pt (c.tc : Thread nD τ) (ah8 i) sa ∗ pt (c.tc : Thread nD τ) (ah6 i) a) ∗ sv c j)

theorem waitA1 {j : Fin 25} {sm : DmaSem sig} (h : sm = j) {hsrc : (ah3 i).view.WordExact} {hdst : (av3 i).view.WordExact} {α : Type} {k : PUnit → Prog (TpuEff nD τ sig (Elt F) Λ₀ .tc) α} {Q : α → PP F} :
    iprop(aF c a sa rw i j ∗ ow (c.tc : Thread nD τ))
      ⊢ iprop((iprop(aW c a sa rw i j (0 + (av3 i).view.dmaCredit) ∗ ow (c.tc : Thread nD τ)) -∗ wpB c (k ⟨⟩) Q)
        -∗ wpB c (Prog.lift (.waitDma2 sm (ah3 i) (av3 i) hsrc hdst) >>= k) Q) := by
  subst h
  exact waitB (c := (c.tc : Thread nD τ)) (A := aAm i) (D := aDl c a sa rw i) (av3 i).view.dmaCredit rfl (tri_le1 _ _ _)

theorem waitA2 {j : Fin 25} {sm : DmaSem sig} (h : sm = j) {hsrc : (ah8 i).view.WordExact} {hdst : (av8 i).view.WordExact} {α : Type} {k : PUnit → Prog (TpuEff nD τ sig (Elt F) Λ₀ .tc) α} {Q : α → PP F} :
    iprop(aW c a sa rw i j (0 + (av3 i).view.dmaCredit) ∗ ow (c.tc : Thread nD τ))
      ⊢ iprop((iprop(aW c a sa rw i j (0 + (av3 i).view.dmaCredit + (av8 i).view.dmaCredit) ∗ ow (c.tc : Thread nD τ)) -∗ wpB c (k ⟨⟩) Q)
        -∗ wpB c (Prog.lift (.waitDma2 sm (ah8 i) (av8 i) hsrc hdst) >>= k) Q) := by
  subst h
  exact waitB (c := (c.tc : Thread nD τ)) (A := aAm i) (D := aDl c a sa rw i) (av8 i).view.dmaCredit rfl (tri_le2 _ _ _)

theorem waitA3 {j : Fin 25} {sm : DmaSem sig} (h : sm = j) {hsrc : (ah6 i).view.WordExact} {hdst : (av6 i).view.WordExact} {α : Type} {k : PUnit → Prog (TpuEff nD τ sig (Elt F) Λ₀ .tc) α} {Q : α → PP F} :
    iprop(aW c a sa rw i j (0 + (av3 i).view.dmaCredit + (av8 i).view.dmaCredit) ∗ ow (c.tc : Thread nD τ))
      ⊢ iprop((iprop(aG c a sa rw i j ∗ ow (c.tc : Thread nD τ)) -∗ wpB c (k ⟨⟩) Q)
        -∗ wpB c (Prog.lift (.waitDma2 sm (ah6 i) (av6 i) hsrc hdst) >>= k) Q) := by
  subst h
  iintro H Hk
  iapply (waitBAll (c := (c.tc : Thread nD τ)) (A := aAm i) (D := aDl c a sa rw i) (av6 i).view.dmaCredit rfl (tri_pos (View.dmaCredit_pos _ (by decide)) (View.dmaCredit_pos _ (by decide)) (View.dmaCredit_pos _ (by decide))) (tri_all _ _ _)) $$ H
  iintro ⟨HD, Hs, HO⟩
  ihave HD := (Entails.of_eq (bigSep_tri _ _ _)) $$ HD
  icases HD with ⟨⟨V3, H3⟩, ⟨V8, H8⟩, ⟨V6, H6⟩⟩
  iapply Hk
  isplitr [HO]
  · isplitl [V3 V8 V6]
    · iapply (Entails.of_eq (avc_parts c (AV a sa rw) i).symm)
      isplitl [V6]; · iexact V6
      isplitl [V8]; · iexact V8
      iexact V3
    isplitr [Hs]
    · isplitl [H3]; · iexact H3
      isplitl [H8]; · iexact H8
      iexact H6
    iexact Hs
  iexact HO

end AWaits

abbrev js (i : Fin k0_t3_loop.trips) : Fin 25 := ⟨7 + i.val, by have h : i.val < 7 := i.isLt.trans_eq (by decide); omega⟩

theorem t3_sem (k : Fin k0_t3_loop.trips) : ((cc0_scratch16.slice (Rect.unit (s := S7) (k0_off5 k) S1.size (k0_off5_inb k))).squeeze S_ squeezes_S1_S_).sem = js k := by
  revert k; decide +kernel

/-- The products accumulated over the first `k` blocks of columns. -/
def HV (X : C F S128x14336 .bf16) (A : C F S848x14336 .bf16) : ℕ → C F S848x128 .f32
  | 0 => k0_pay30
  | k + 1 => if h : k < k0_t3_loop.trips then k0_pay31 (HV X A k) (m16.view.readAt (Elt F) (Rect.unit (s := S848x14336) (k0_off12 ⟨k, h⟩) S848x2048.size (k0_off12_inb ⟨k, h⟩)).toLoadRect A)
      (m14.view.readAt (Elt F) (Rect.unit (s := S128x14336) (k0_off13 ⟨k, h⟩) S128x2048.size (k0_off13_inb ⟨k, h⟩)).toLoadRect X) else HV X A k

theorem HV_succ (X : C F S128x14336 .bf16) (A : C F S848x14336 .bf16) (k : Fin k0_t3_loop.trips) :
    HV X A (k.val + 1) = k0_pay31 (HV X A k.val) (m16.view.readAt (Elt F) (Rect.unit (s := S848x14336) (k0_off12 k) S848x2048.size (k0_off12_inb k)).toLoadRect A)
      (m14.view.readAt (Elt F) (Rect.unit (s := S128x14336) (k0_off13 k) S128x2048.size (k0_off13_inb k)).toLoadRect X) := by
  rw [HV, dif_pos k.isLt]

section T3
variable (c : Dev nD) (X : C F S128x14336 .bf16) (a : C F S768x14336 .bf16) (sa : C F S64x14336 .bf16) (rw : C F S16x14336 .bf16)

abbrev aS (k : ℕ) : PP F := stage (fun i => aF c a sa rw i (js i)) (fun i => aG c a sa rw i (js i)) k
abbrev inv3 (k : ℕ) (_ : Unit) : PP F := iprop(wh c m14 X ∗ wh c m17 (HV X (AV a sa rw) k) ∗ aS c a sa rw k ∗ ow (c.tc : Thread nD τ))

theorem trip3 (v190 : FVec F S128 .f32) (k : Fin k0_t3_loop.trips) (u : Unit) :
    inv3 c X a sa rw k.val u ⊢ wpB c (k0_t3_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v190 k u) (inv3 c X a sa rw (k.val + 1)) := by
  unfold inv3 aS
  iintro ⟨HX, HH, HS, HO⟩
  ihave HS := (Entails.of_eq (stage_out (fun i => aF c a sa rw i (js i)) (fun i => aG c a sa rw i (js i)) k)) $$ HS
  icases HS with ⟨HF, HR⟩
  unfold k0_t3_body
  iapply (waitA1 c a sa rw k (t3_sem k)) $$ [HF HO]
  · isplitl [HF]; · iexact HF
    iexact HO
  iintro HF
  iapply (waitA2 c a sa rw k (t3_sem k)) $$ HF
  iintro HF
  iapply (waitA3 c a sa rw k (t3_sem k)) $$ HF
  iintro ⟨⟨HV', HG⟩, HO⟩
  iapply (ldW c (m := m17) (HV X (AV a sa rw) k.val) (HV X (AV a sa rw) k.val) (Memref.readAt_unit_zero (Elt F) cc0_scratch3 off0 _ _)) $$ HH; iintro HH
  iapply (ldS c (m := m16) rfl (AV a sa rw)) $$ HV'; iintro HV'
  iapply (ldW c (m := m14) X _ rfl) $$ HX; iintro HX
  iapply (ldW c (m := m17) (HV X (AV a sa rw) k.val) (HV X (AV a sa rw) k.val) (Memref.readAt_unit_zero (Elt F) cc0_scratch3 off0 _ _)) $$ HH; iintro HH
  iapply (stW c (m := m17) (HV X (AV a sa rw) k.val) (HV X (AV a sa rw) (k.val + 1)) ((Memref.write_access_unit_zero_univ (Elt F) cc0_scratch3 off0 _ _ _).trans (HV_succ X (AV a sa rw) k).symm)) $$ HH; iintro HH
  iapply done
  isplitl [HX]; · iexact HX
  isplitl [HH]; · iexact HH
  isplitr [HO]
  · iapply (Entails.of_eq (stage_in (fun i => aF c a sa rw i (js i)) (fun i => aG c a sa rw i (js i)) k))
    isplitr [HR]
    · isplitl [HV']; · iexact HV'
      iexact HG
    iexact HR
  iexact HO

theorem univ7' : (Finset.univ : Finset (Fin k0_t3_loop.trips)) = [t3 0, t3 1, t3 2, t3 3, t3 4, t3 5, t3 6].toFinset := by decide
theorem bigSep7' (Φ : Fin k0_t3_loop.trips → PP F) : bigSep Finset.univ Φ = iprop(Φ (t3 0) ∗ Φ (t3 1) ∗ Φ (t3 2) ∗ Φ (t3 3) ∗ Φ (t3 4) ∗ Φ (t3 5) ∗ Φ (t3 6)) :=
  BI.bigSep_univ_eq_bigSepL [t3 0, t3 1, t3 2, t3 3, t3 4, t3 5, t3 6] (by decide) (by decide) Φ

theorem aS_zero : aS c a sa rw 0 = iprop(aF c a sa rw (t3 0) 7 ∗ aF c a sa rw (t3 1) 8 ∗ aF c a sa rw (t3 2) 9 ∗ aF c a sa rw (t3 3) 10 ∗ aF c a sa rw (t3 4) 11 ∗ aF c a sa rw (t3 5) 12 ∗ aF c a sa rw (t3 6) 13) := by
  unfold aS
  rw [stage_zero, bigSep7']
  rfl

/-- The semaphores of the blocks. -/
abbrev sv7 : PP F := iprop(sv c 7 ∗ sv c 8 ∗ sv c 9 ∗ sv c 10 ∗ sv c 11 ∗ sv c 12 ∗ sv c 13)

theorem aS_all : aS c a sa rw k0_t3_loop.trips ⊢ iprop(wh c m16 (AV a sa rw) ∗ (wh c m3 rw ∗ wh c m8 sa ∗ wh c m6 a) ∗ sv7 c) := by
  unfold aS
  rw [stage_last _ _ le_rfl, avc_split, ah3_split, ah8_split, ah6_split, bigSep7', bigSep7', bigSep7', bigSep7', bigSep7']
  iintro ⟨⟨V0, ⟨R0, S0, A0⟩, s0⟩, ⟨V1, ⟨R1, S1, A1⟩, s1⟩, ⟨V2, ⟨R2, S2, A2⟩, s2⟩, ⟨V3, ⟨R3, S3, A3⟩, s3⟩, ⟨V4, ⟨R4, S4, A4⟩, s4⟩, ⟨V5, ⟨R5, S5, A5⟩, s5⟩, ⟨V6, ⟨R6, S6, A6⟩, s6⟩⟩
  isplitl [V0 V1 V2 V3 V4 V5 V6]
  · isplitl [V0]; · iexact V0
    isplitl [V1]; · iexact V1
    isplitl [V2]; · iexact V2
    isplitl [V3]; · iexact V3
    isplitl [V4]; · iexact V4
    isplitl [V5]; · iexact V5
    iexact V6
  isplitr [s0 s1 s2 s3 s4 s5 s6]
  · isplitl [R0 R1 R2 R3 R4 R5 R6]
    · isplitl [R0]; · iexact R0
      isplitl [R1]; · iexact R1
      isplitl [R2]; · iexact R2
      isplitl [R3]; · iexact R3
      isplitl [R4]; · iexact R4
      isplitl [R5]; · iexact R5
      iexact R6
    isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    isplitl [A0]; · iexact A0
    isplitl [A1]; · iexact A1
    isplitl [A2]; · iexact A2
    isplitl [A3]; · iexact A3
    isplitl [A4]; · iexact A4
    isplitl [A5]; · iexact A5
    iexact A6
  isplitl [s0]; · iexact s0
  isplitl [s1]; · iexact s1
  isplitl [s2]; · iexact s2
  isplitl [s3]; · iexact s3
  isplitl [s4]; · iexact s4
  isplitl [s5]; · iexact s5
  iexact s6

theorem trips3 : k0_t3_loop.trips = 7 := by decide

end T3

end Cert.Kernel.Hand

end
-- ==== Proof.Kernel.Mid.lean ====
/- The quantisation and the adapters' products, run. -/
module

public import proofs.«01_k».proof.Proof.Kernel.Adapt

@[expose] public section

noncomputable section

namespace Cert.Kernel.Hand

open Cert.Kernel Cert.Kernel.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

theorem waitU (c : Dev nD) {sp sp' sp1 : Space} {s s' : Shape} {e e' : EltTy} {src : Memref sig .tc sp s e} {dst : Memref sig .tc sp' s e} (f : Buf (Elt F) (src.view.loc (c.tc : Thread nD τ))) (g : Buf (Elt F) (dst.view.loc (c.tc : Thread nD τ)))
    {j : Fin 25} {sm : DmaSem sig} (h : sm = j) {srcw : Memref sig .tc sp1 s' e'} {hsrc : srcw.view.WordExact} {hdst : dst.view.WordExact} {α : Type} {k : PUnit → Prog (TpuEff nD τ sig (Elt F) Λ₀ .tc) α} {Q : α → PP F} :
    iprop(uF c src dst f g j ∗ ow (c.tc : Thread nD τ))
      ⊢ iprop((iprop((pt (c.tc : Thread nD τ) dst g ∗ pt (c.tc : Thread nD τ) src f) ∗ sv c j ∗ ow (c.tc : Thread nD τ)) -∗ wpB c (k ⟨⟩) Q)
        -∗ wpB c (Prog.lift (.waitDma2 sm srcw dst hsrc hdst) >>= k) Q) := by
  subst h
  exact wait (c := (c.tc : Thread nD τ)) rfl

/-- The products accumulated over every block of columns. -/
abbrev HF (X : C F S128x14336 .bf16) (a : C F S768x14336 .bf16) (sa : C F S64x14336 .bf16) (rw : C F S16x14336 .bf16) : C F S848x128 .f32 := HV X (AV a sa rw) k0_t3_loop.trips

theorem sem_s0 : ((cc0_scratch20.slice (Rect.unit (s := S3) ![0] S1.size inb_S3_S1_0)).squeeze S_ squeezes_S1_S_).sem = (19 : Fin 25) := by decide +kernel
theorem sem_s1 : ((cc0_scratch20.slice (Rect.unit (s := S3) ![1] S1.size inb_S3_S1_1)).squeeze S_ squeezes_S1_S_).sem = (20 : Fin 25) := by decide +kernel
theorem sem_s2 : ((cc0_scratch20.slice (Rect.unit (s := S3) ![2] S1.size inb_S3_S1_2)).squeeze S_ squeezes_S1_S_).sem = (21 : Fin 25) := by decide +kernel

section Run15
variable (c : Dev nD) (X : C F S128x14336 .bf16) (a : C F S768x14336 .bf16) (sa : C F S64x14336 .bf16) (rw : C F S16x14336 .bf16) (ws : C F S1x4096 .f32) (rb : C F S1x12 .f32) (ix : C F S2x128 .i32)
  (f28 f13 : C F S1x128 .f32) (f15 f12 : C F S128x14336 .fp8e4m3) (f17 : C F S848x128 .f32)

theorem run15 (Q : FVec F S12 .f32 → PP F) :
    iprop((wh c m28 f28 ∗ wh c m14 X ∗ wh c m23 (INV X) ∗ wh c m15 f15 ∗ wh c m17 f17 ∗ aS c a sa rw 0 ∗ ow (c.tc : Thread nD τ)
      ∗ pt (c.tc : Thread nD τ) m12 f12 ∗ sv c 22 ∗ pt (c.tc : Thread nD τ) m13 f13 ∗ sv c 23 ∗ uF c m2 m24 ws ws 19 ∗ uF c m4 m25 rb rb 20 ∗ uF c m5 m26 ix ix 21)
      ∗ (iprop(wh c m14 X ∗ wh c m23 (INV X) ∗ wh c m17 (HF X a sa rw) ∗ whL c m15 (QF X) ∗ qF c (QF X) ∗ uF c m28 m13 (XSR X) (XSR X) 23
          ∗ (wh c m16 (AV a sa rw) ∗ (wh c m3 rw ∗ wh c m8 sa ∗ wh c m6 a) ∗ sv7 c) ∗ ow (c.tc : Thread nD τ)
          ∗ (wh c m24 ws ∗ wh c m2 ws ∗ sv c 19) ∗ (wh c m25 rb ∗ wh c m4 rb ∗ sv c 20) ∗ (wh c m26 ix ∗ wh c m5 ix ∗ sv c 21)) -∗ Q (k0_pay32 rb)))
    ⊢ wpB c (part15 (k0_pay28 (XSV X))) Q := by
  iintro ⟨⟨H28, HX, HI, HQ, HH, HA, HO, P12, V22, P13, V23, U19, U20, U21⟩, Hk⟩
  unfold part15 k0_part15_skel
  iapply (ldW c (m := m28) f28 f28 (Memref.readAt_unit_zero (Elt F) cc0_scratch14 off0 _ f28)) $$ H28; iintro H28
  iapply (stW c (m := m28) f28 (XSR X) (Memref.write_access_unit_zero_univ (Elt F) cc0_scratch14 off0 _ f28 _)) $$ H28; iintro H28
  ihave HQ := (qA_zero c X f15) $$ HQ
  iapply (Scf.wp_for_bind _ _ _ _ _ _ _ _ _ (inv2 c X) (trip2 c X (k0_pay28 (XSV X)))) $$ [HX HI HQ]
  · isplitl [HX]; · iexact HX
    isplitl [HI]; · iexact HI
    iexact HQ
  iintro %acc ⟨HX, HI, HQ⟩
  ihave HQ := (qA_all c X) $$ HQ
  iapply (ldW c (m := m17) f17 f17 (Memref.readAt_unit_zero (Elt F) cc0_scratch3 off0 _ f17)) $$ HH; iintro HH
  iapply (stW c (m := m17) f17 (HV X (AV a sa rw) 0) (Memref.write_access_unit_zero_univ (Elt F) cc0_scratch3 off0 _ f17 _)) $$ HH; iintro HH
  iapply (Scf.wp_for_bind _ _ _ _ _ _ _ _ _ (inv3 c X a sa rw) (trip3 c X a sa rw (k0_pay28 (XSV X)))) $$ [HX HH HA HO]
  · isplitl [HX]; · iexact HX
    isplitl [HH]; · iexact HH
    isplitl [HA]; · iexact HA
    iexact HO
  iintro %acc' ⟨HX, HH, HA, HO⟩
  ihave HQ := (Entails.of_eq (wh_halves c cc0_scratch1 (QF X))) $$ HQ
  icases HQ with ⟨HL, HR⟩
  iapply (issQ c (QF X) f12) $$ [HR P12 V22]
  · isplitl [HR]; · iexact HR
    isplitl [P12]; · iexact P12
    iexact V22
  iintro HQ
  ihave P28 := (Entails.of_eq (wh_pt c cc0_scratch14 (XSR X))) $$ H28
  iapply (issue (c := (c.tc : Thread nD τ)) (src := m28) (dst := m13) (sm := 23) (XSR X) f13 (XSR X) (by decide) rfl) $$ [P28 P13 V23]
  · isplitl [P28]; · iexact P28
    isplitl [P13]; · iexact P13
    iexact V23
  iintro U23
  iapply (waitU c (src := m2) (dst := m24) ws ws sem_s0) $$ [U19 HO]
  · isplitl [U19]; · iexact U19
    iexact HO
  iintro ⟨⟨P24, P2⟩, V19, HO⟩
  iapply (waitU c (src := m4) (dst := m25) rb rb sem_s1) $$ [U20 HO]
  · isplitl [U20]; · iexact U20
    iexact HO
  iintro ⟨⟨P25, P4⟩, V20, HO⟩
  iapply (waitU c (src := m5) (dst := m26) ix ix sem_s2) $$ [U21 HO]
  · isplitl [U21]; · iexact U21
    iexact HO
  iintro ⟨⟨P26, P5⟩, V21, HO⟩
  ihave P24 := (Entails.of_eq (wh_pt c cc0_scratch10 ws).symm) $$ P24
  ihave P25 := (Entails.of_eq (wh_pt c cc0_scratch11 rb).symm) $$ P25
  ihave P26 := (Entails.of_eq (wh_pt c cc0_scratch12 ix).symm) $$ P26
  ihave P2 := (Entails.of_eq (wh_pt c main_v1 ws).symm) $$ P2
  ihave P4 := (Entails.of_eq (wh_pt c main_v4 rb).symm) $$ P4
  ihave P5 := (Entails.of_eq (wh_pt c main_v6 ix).symm) $$ P5
  iapply (ldW c (m := m25) rb rb (Memref.readAt_unit_zero (Elt F) cc0_scratch11 off0 _ rb)) $$ P25; iintro P25
  iapply done
  iapply Hk
  ihave HA := (aS_all c a sa rw) $$ HA
  icases HA with ⟨H16, ⟨H3, H8, H6⟩, S7⟩
  isplitl [HX]; · iexact HX
  isplitl [HI]; · iexact HI
  isplitl [HH]; · iexact HH
  isplitl [HL]; · iexact HL
  isplitl [HQ]; · iexact HQ
  isplitl [U23]; · iexact U23
  isplitl [H16 H3 H8 H6 S7]
  · isplitl [H16]; · iexact H16
    isplitl [H3 H8 H6]
    · isplitl [H3]; · iexact H3
      isplitl [H8]; · iexact H8
      iexact H6
    iexact S7
  isplitl [HO]; · iexact HO
  isplitl [P24 P2 V19]
  · isplitl [P24]; · iexact P24
    isplitl [P2]; · iexact P2
    iexact V19
  isplitl [P25 P4 V20]
  · isplitl [P25]; · iexact P25
    isplitl [P4]; · iexact P4
    iexact V20
  isplitl [P26]; · iexact P26
  isplitl [P5]; · iexact P5
  iexact V21

end Run15

end Cert.Kernel.Hand

end
-- ==== Proof.Kernel.Out.lean ====
/- The loop over the result's blocks of 512 columns. -/
module

public import proofs.«01_k».proof.Proof.Kernel.Mid

@[expose] public section

noncomputable section

namespace Cert.Kernel.Hand

open Cert.Kernel Cert.Kernel.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Small facts about the third loop's counters -/

theorem trips4 : k0_t4_loop.trips = 8 := by decide
/-- The block of columns of trip `k`, its slot in the weight's ring and that slot's semaphore. -/
abbrev kb (k : Fin k0_t4_loop.trips) : Fin 8 := ⟨k.val, k.isLt.trans_eq trips4⟩
abbrev s3 (n : ℕ) : Fin 3 := ⟨n % 3, Nat.mod_lt _ (by decide)⟩
abbrev j3 (n : ℕ) : Fin 25 := ⟨15 + n % 3, by have := Nat.mod_lt n (show 3 > 0 by decide); omega⟩

theorem s3_inb (m : Fin 3) : ∀ a, (![m.val] : Fin 1 → ℕ) a + S1.size a ≤ S3.size a := by revert m; decide
theorem sem3' (m : Fin 3) : ((cc0_scratch18.slice (Rect.unit (s := S3) ![m.val] S1.size (s3_inb m))).squeeze S_ squeezes_S1_S_).sem = (⟨15 + m.val, by omega⟩ : Fin 25) := by revert m; decide +kernel
theorem sem3 (n : ℕ) {off : Fin 1 → ℕ} {inb : ∀ a, off a + S1.size a ≤ S3.size a} (h : off = ![n % 3]) :
    ((cc0_scratch18.slice (Rect.unit (s := S3) off S1.size inb)).squeeze S_ squeezes_S1_S_).sem = j3 n := by
  subst h
  exact sem3' ⟨n % 3, Nat.mod_lt _ (by decide)⟩

theorem off14_eq (k : Fin k0_t4_loop.trips) : k0_off14 k = ![k.val % 3] := funext (by revert k; decide +kernel)
theorem off15_eq (k : Fin k0_t4_loop.trips) : k0_off15 k = ![(s3 k.val).val, 0, 0] := funext (by revert k; decide +kernel)
theorem off17_eq (k : Fin k0_t4_loop.trips) : k0_off17 k = ![(s3 k.val).val, 0, 0] := funext (by revert k; decide +kernel)
theorem off18_eq (k : Fin k0_t4_loop.trips) : k0_off18 k = ![0, 512 * (kb k).val] := funext (by revert k; decide +kernel)
theorem off19_eq (k : Fin k0_t4_loop.trips) : k0_off19 k = ![0, 512 * (kb k).val] := funext (by revert k; decide +kernel)
theorem off20_eq (k : Fin k0_t4_loop.trips) : k0_off20 k = ![0, 512 * (kb k).val] := funext (by revert k; decide +kernel)
theorem cond1_lt (k : Fin k0_t4_loop.trips) (h : k0_cond1 k = 1#1) : k.val + 3 < 8 := by revert k; decide +kernel
theorem cond1_ge (k : Fin k0_t4_loop.trips) (h : ¬ k0_cond1 k = 1#1) : 8 ≤ k.val + 3 := by revert k; decide +kernel
theorem cond2_pos (k : Fin k0_t4_loop.trips) (h : k0_cond2 k = 1#1) : 0 < k.val := by revert k; decide +kernel
theorem cond2_zero (k : Fin k0_t4_loop.trips) (h : ¬ k0_cond2 k = 1#1) : k.val = 0 := by revert k; decide +kernel
theorem off21_eq (k : Fin k0_t4_loop.trips) : k0_off21 k = ![(k.val + 3) % 3] := funext (by revert k; decide +kernel)
theorem off22_eq (k : Fin k0_t4_loop.trips) : k0_off22 k = ![(s3 (k.val + 3)).val, 0, 0] := funext (by revert k; decide +kernel)
theorem off23_eq (k : Fin k0_t4_loop.trips) (h : k.val + 3 < 8) : k0_off23 k = ![0, 512 * (⟨k.val + 3, h⟩ : Fin 8).val] := by
  have h' : ∀ k : Fin k0_t4_loop.trips, k.val + 3 < 8 → ∀ a : Fin 2, k0_off23 k a = (![0, 512 * (k.val + 3)] : Fin 2 → ℕ) a := by decide +kernel
  exact funext (h' k h)
theorem off24_eq (k : Fin k0_t4_loop.trips) (h : 0 < k.val) : k0_off24 k = ![0, 512 * (k.val - 1)] := by
  have h' : ∀ k : Fin k0_t4_loop.trips, 0 < k.val → ∀ a : Fin 2, k0_off24 k a = (![0, 512 * (k.val - 1)] : Fin 2 → ℕ) a := by decide +kernel
  exact funext (h' k h)

/-- A conditional step before the rest of the program. -/
theorem dite_run (c : Dev nD) {α : Type} {P : Prop} [Decidable P] {t : P → Prog (TpuEff nD τ sig (Elt F) Λ₀ .tc) α} {jp : Prog (TpuEff nD τ sig (Elt F) Λ₀ .tc) α} {Q : α → PP F} (R R' : PP F)
    (hp : ∀ h : P, R ⊢ iprop((R' -∗ wpB c jp Q) -∗ wpB c (t h) Q)) (hn : ¬ P → R ⊢ R') :
    R ⊢ iprop((R' -∗ wpB c jp Q) -∗ wpB c (dite P t (fun _ => jp)) Q) := by
  by_cases h : P
  · rw [dif_pos h]; exact hp h
  · rw [dif_neg h]
    iintro H Hk
    iapply Hk
    iapply (hn h) $$ H

section Out
variable (c : Dev nD) (X : C F S128x14336 .bf16) (w : C F S14336x4096 .fp8e4m3) (hb : C F S128x832 .bf16) (bv : C F S832x4096 .bf16) (ws : C F S1x4096 .f32)

/-- The columns of block `b`, of the weight, of the adapters' second matrices and of the weight's scales. -/
def wr (b : Fin 8) : C F S1x14336x512 .fp8e4m3 := fun j => w (ValueIdx.ix2 (n0 := 14336) (n1 := 4096) (j 1) ⟨512 * b.val + (j 2).val, by have h : (j 2).val < 512 := (j 2).isLt; have := b.isLt; show _ < 4096; omega⟩)
def br (b : Fin 8) : C F S832x512 .bf16 := fun j => bv (ValueIdx.ix2 (n0 := 832) (n1 := 4096) (j 0) ⟨512 * b.val + (j 1).val, by have h : (j 1).val < 512 := (j 1).isLt; have := b.isLt; show _ < 4096; omega⟩)
def wsr (b : Fin 8) : C F S1x512 .f32 := fun j => ws (ValueIdx.ix2 (n0 := 1) (n1 := 4096) (j 0) ⟨512 * b.val + (j 1).val, by have h : (j 1).val < 512 := (j 1).isLt; have := b.isLt; show _ < 4096; omega⟩)

/-- Block `b` of the result, and the result. -/
def OB (b : Fin 8) : C F S128x512 .bf16 := k0_pay54 (QF X) (wr w b) hb (br bv b) (XSV X) (wsr ws b)
def OF : C F S128x4096 .bf16 := fun p => OB X w hb bv ws ⟨(p 1).val / 512, by have := ValueIdx.idx2_lt1 p; omega⟩ (ValueIdx.ix2 (n0 := 128) (n1 := 512) (p 0) ⟨(p 1).val % 512, Nat.mod_lt _ (by decide)⟩)

theorem wr_read (b : Fin 8) (s : Fin 3) (off : Fin 3 → ℕ) (ho : off = ![s.val, 0, 0]) (inb : ∀ a, off a + S1x14336x512.size a ≤ S3x14336x512.size a) :
    m20.view.readAt (Elt F) (Rect.unit (s := S3x14336x512) off S1x14336x512.size inb).toLoadRect (Wb w b) = wr w b := by
  subst ho
  funext j
  show Wb w b _ = _
  unfold Wb wr
  refine congrArg w (idx2_ext ?_ ?_)
  · exact (ValueKit.rect_emb_unit_val (s := S3x14336x512) ![s.val, 0, 0] S1x14336x512.size inb j 1).trans (Nat.zero_add _)
  · exact congrArg (512 * b.val + ·) ((ValueKit.rect_emb_unit_val (s := S3x14336x512) ![s.val, 0, 0] S1x14336x512.size inb j 2).trans (Nat.zero_add _))

theorem br_read (b : Fin 8) (off : Fin 2 → ℕ) (ho : off = ![0, 512 * b.val]) (inb : ∀ a, off a + S832x512.size a ≤ S832x4096.size a) :
    m19.view.readAt (Elt F) (Rect.unit (s := S832x4096) off S832x512.size inb).toLoadRect bv = br bv b := by
  subst ho
  funext j
  show bv _ = _
  unfold br
  refine congrArg bv ?_
  refine emb2_ext (n0 := 832) (n1 := 4096) (a := 832) (b := 512) _ inb j _ ?_ ?_
  · exact Nat.zero_add _
  · rfl

theorem wsr_read (b : Fin 8) (off : Fin 2 → ℕ) (ho : off = ![0, 512 * b.val]) (inb : ∀ a, off a + S1x512.size a ≤ S1x4096.size a) :
    m24.view.readAt (Elt F) (Rect.unit (s := S1x4096) off S1x512.size inb).toLoadRect ws = wsr ws b := by
  subst ho
  funext j
  show ws _ = _
  unfold wsr
  refine congrArg ws ?_
  refine emb2_ext (n0 := 1) (n1 := 4096) (a := 1) (b := 512) _ inb j _ ?_ ?_
  · exact Nat.zero_add _
  · rfl

theorem OF_read (b : Fin 8) : (oV b).view.read (Elt F) (OF X w hb bv ws) = OB X w hb bv ws b := by
  funext j
  have l1 := ValueIdx.idx2_lt1 j
  have e0 := emb2_0 (n0 := 128) (n1 := 4096) (a := 128) (b := 512) ![0, 512 * b.val] (o_inb b) j
  have e1 := emb2_1 (n0 := 128) (n1 := 4096) (a := 128) (b := 512) ![0, 512 * b.val] (o_inb b) j
  show OF X w hb bv ws ((Rect.unit (s := S128x4096) ![0, 512 * b.val] S128x512.size (o_inb b)).emb j) = _
  generalize hp : (Rect.unit (s := S128x4096) ![0, 512 * b.val] S128x512.size (o_inb b)).emb j = p
  have p0 : (p 0).val = 0 + (j 0).val := by rw [← hp]; exact e0
  have p1 : (p 1).val = 512 * b.val + (j 1).val := by rw [← hp]; exact e1
  unfold OF
  refine congr (congrArg (OB X w hb bv ws) (Fin.ext ?_)) (idx2_ext ?_ ?_)
  · show (p 1).val / 512 = b.val; omega
  · show (p 0).val = (j 0).val; omega
  · show (p 1).val % 512 = (j 1).val; omega

/-! ## The weight's ring -/

theorem waitW (b : Fin 8) (s : Fin 3) {j : Fin 25} {sm : DmaSem sig} (h : sm = j) {off : Fin 3 → ℕ} (ho : off = ![s.val, 0, 0]) {inb : ∀ a, off a + S1x14336x512.size a ≤ S3x14336x512.size a} {sp1 : Space} {s' : Shape} {e' : EltTy}
    {srcw : Memref sig .tc sp1 s' e'} {hsrc : srcw.view.WordExact} {hdst : (wSo off inb).view.WordExact} {α : Type} {k : PUnit → Prog (TpuEff nD τ sig (Elt F) Λ₀ .tc) α} {Q : α → PP F} :
    iprop(wF c w b s j ∗ ow (c.tc : Thread nD τ))
      ⊢ iprop((iprop((pt (c.tc : Thread nD τ) (wS s) (Wb w b) ∗ pt (c.tc : Thread nD τ) (wH b) w) ∗ sv c j ∗ ow (c.tc : Thread nD τ)) -∗ wpB c (k ⟨⟩) Q)
        -∗ wpB c (Prog.lift (.waitDma2 sm srcw (wSo off inb) hsrc hdst) >>= k) Q) := by
  subst h; subst ho
  exact wait (c := (c.tc : Thread nD τ)) rfl

theorem ldR (b : Fin 8) (s : Fin 3) {off : Fin 3 → ℕ} (ho : off = ![s.val, 0, 0]) {inb : ∀ a, off a + S1x14336x512.size a ≤ S3x14336x512.size a} {hl : m20.view.LoadsAt (Rect.unit (s := S3x14336x512) off S1x14336x512.size inb).toLoadRect} {α : Type} {k : C F S1x14336x512 .fp8e4m3 → Prog (TpuEff nD τ sig (Elt F) Λ₀ .tc) α} {Q : α → PP F} :
    pt (c.tc : Thread nD τ) (wS s) (Wb w b)
      ⊢ iprop((pt (c.tc : Thread nD τ) (wS s) (Wb w b) -∗ wpB c (k (wr w b)) Q) -∗ wpB c (Prog.lift (.load m20 (Rect.unit (s := S3x14336x512) off S1x14336x512.size inb).toLoadRect hl) >>= k) Q) := by
  rw [← wr_read w b s off ho inb]
  subst ho
  refine load (c := (c.tc : Thread nD τ)) (m := m20) (S := (wS s).view.set) ?_
  refine Finset.Subset.trans ?_ (Finset.subset_of_eq (Memref.set_view_squeeze (m20.slice (Rect.unit (s := S3x14336x512) ![s.val, 0, 0] S1x14336x512.size inb) (fun _ => rfl)) squeezes_S1x14336x512_S14336x512).symm)
  refine Finset.Subset.trans ?_ (Finset.subset_of_eq (View.set_slice m20.view (Rect.unit (s := S3x14336x512) ![s.val, 0, 0] S1x14336x512.size inb)).symm)
  exact Finset.Subset.refl _

/-- The copies of the weight ahead of trip `n`: in flight, or past the last block and its slot free. -/
def RR (n : ℕ) : PP F := if h : n < 8 then wF c w ⟨n, h⟩ (s3 n) (j3 n) else iprop((∃ f : C F S3x14336x512 .fp8e4m3, pt (c.tc : Thread nD τ) (wS (s3 n)) f) ∗ sv c (j3 n))
/-- The blocks of the weight not yet sent for, and those come back. -/
abbrev SWt (n : ℕ) : PP F := stage (fun b => pt (c.tc : Thread nD τ) (wH b) w) (fun _ => (BI.emp : PP F)) n
abbrev SRt (n : ℕ) : PP F := stage (fun _ => (BI.emp : PP F)) (fun b => pt (c.tc : Thread nD τ) (wH b) w) n

/-- Where the ring's conditional copy starts from, and what it leaves. -/
abbrev cA1 (k : Fin k0_t4_loop.trips) : PP F := iprop((pt (c.tc : Thread nD τ) (wS (s3 k.val)) (Wb w (kb k)) ∗ sv c (j3 k.val)) ∗ SWt c w (k.val + 3))
abbrev cB1 (k : Fin k0_t4_loop.trips) : PP F := iprop(RR c w (k.val + 3) ∗ SWt c w (k.val + 4))

theorem if1_neg (k : Fin k0_t4_loop.trips) (h : ¬ k0_cond1 k = 1#1) : cA1 c w k ⊢ cB1 c w k := by
  have h8 := cond1_ge k h
  have es : s3 (k.val + 3) = s3 k.val := Fin.ext (Nat.add_mod_right _ _)
  have ej : j3 (k.val + 3) = j3 k.val := Fin.ext (congrArg (15 + ·) (Nat.add_mod_right _ _))
  unfold cA1 cB1 RR SWt
  rw [dif_neg (by omega), es, ej, stage_last _ _ h8, stage_last _ _ (show 8 ≤ k.val + 4 by omega)]
  iintro ⟨⟨H, Hs⟩, HW⟩
  isplitr [HW]
  · isplitl [H]
    · iexists (Wb w (kb k)); iexact H
    iexact Hs
  iexact HW

theorem if1_pos (k : Fin k0_t4_loop.trips) (h : k0_cond1 k = 1#1) {off0 : Fin 1 → ℕ} (h0 : off0 = ![(k.val + 3) % 3]) {inb0 : ∀ a, off0 a + S1.size a ≤ S3.size a} {off1 : Fin 2 → ℕ} (h1 : ∀ h : k.val + 3 < 8, off1 = ![0, 512 * (⟨k.val + 3, h⟩ : Fin 8).val]) {inb1 : ∀ a, off1 a + S14336x512.size a ≤ S14336x4096.size a} {off2 : Fin 3 → ℕ} (h2 : off2 = ![(s3 (k.val + 3)).val, 0, 0]) {inb2 : ∀ a, off2 a + S1x14336x512.size a ≤ S3x14336x512.size a}
    {hsrc : (wHo off1 inb1).view.WordExact} {hdst : (wSo off2 inb2).view.WordExact}
    {hsem : DmaTarget.Typed (nD := nD) .hbm (.dma ((cc0_scratch18.slice (Rect.unit (s := S3) off0 S1.size inb0)).squeeze S_ squeezes_S1_S_).sem) (.here (wSo off2 inb2) : DmaTarget nD τ sig .tc .vmem S14336x512 .fp8e4m3)}
    {α : Type} {jp : Prog (TpuEff nD τ sig (Elt F) Λ₀ .tc) α} {Q : α → PP F} :
    cA1 c w k ⊢ iprop((cB1 c w k -∗ wpB c jp Q) -∗ wpB c (Prog.lift (.enqueueDma (wHo off1 inb1) (.here (wSo off2 inb2)) (.dma ((cc0_scratch18.slice (Rect.unit (s := S3) off0 S1.size inb0)).squeeze S_ squeezes_S1_S_).sem) hsrc hdst hsem) >>= fun _ => jp) Q) := by
  have h8 := cond1_lt k h
  have es : s3 (k.val + 3) = s3 k.val := Fin.ext (Nat.add_mod_right _ _)
  have ej : j3 (k.val + 3) = j3 k.val := Fin.ext (congrArg (15 + ·) (Nat.add_mod_right _ _))
  have hs := sem3 (k.val + 3) (inb := inb0) h0
  revert hsem
  generalize ((cc0_scratch18.slice (Rect.unit (s := S3) off0 S1.size inb0)).squeeze S_ squeezes_S1_S_).sem = sm at hs ⊢
  subst hs
  intro hsem
  unfold cA1 cB1 RR SWt
  rw [dif_pos h8, ← es, ← ej]
  iintro ⟨⟨H, Hs⟩, HW⟩ Hk
  ihave HW := (Entails.of_eq (stage_out (fun b : Fin 8 => pt (c.tc : Thread nD τ) (wH b) w) (fun _ => (BI.emp : PP F)) ⟨k.val + 3, h8⟩)) $$ HW
  icases HW with ⟨HH, HR⟩
  iapply (issW c w ⟨k.val + 3, h8⟩ (s3 (k.val + 3)) (Wb w (kb k)) (h1 h8) h2) $$ [HH H Hs]
  · isplitl [HH]; · iexact HH
    isplitl [H]; · iexact H
    iexact Hs
  iintro HF
  iapply Hk
  isplitl [HF]; · iexact HF
  iapply (Entails.of_eq (stage_in (fun b : Fin 8 => pt (c.tc : Thread nD τ) (wH b) w) (fun _ => (BI.emp : PP F)) ⟨k.val + 3, h8⟩))
  isplitr
  · iempintro
  iexact HR

/-! ## The result's blocks -/

/-- The amounts and the deliveries of the result's copies. -/
abbrev oA : Fin 8 → ℕ := fun b => (oH b).view.dmaCredit
abbrev oD (O : C F S128x4096 .bf16) : Fin 8 → PP F := fun b => iprop(pt (c.tc : Thread nD τ) (oH b) O ∗ pt (c.tc : Thread nD τ) (oV b) O)
abbrev oM (O : C F S128x4096 .bf16) (j u : ℕ) : PP F := mb (c.tc : Thread nD τ) (.dma 18) oA (oD c O) j u
abbrev oSH (g : C F S128x4096 .bf16) (n : ℕ) : PP F := stage (fun b => pt (c.tc : Thread nD τ) (oH b) g) (fun _ => (BI.emp : PP F)) n
abbrev oSV (f : C F S128x4096 .bf16) (n : ℕ) : PP F := stage (fun b => pt (c.tc : Thread nD τ) (oV b) f) (fun _ => (BI.emp : PP F)) n
/-- The block written in the trip before, whose copy has not started. -/
def oL (O : C F S128x4096 .bf16) (n : ℕ) : PP F := if h : 0 < n ∧ n ≤ 8 then pt (c.tc : Thread nD τ) (oV ⟨n - 1, by omega⟩) O else BI.emp

theorem oL_succ (O : C F S128x4096 .bf16) (k : Fin k0_t4_loop.trips) : oL c O (k.val + 1) = pt (c.tc : Thread nD τ) (oV (kb k)) O := by
  have h8 : k.val < 8 := k.isLt.trans_eq trips4
  unfold oL
  rw [dif_pos (show 0 < k.val + 1 ∧ k.val + 1 ≤ 8 from ⟨Nat.succ_pos _, h8⟩)]
  rfl

theorem issO (O g : C F S128x4096 .bf16) (b : Fin 8) {off : Fin 2 → ℕ} (ho : off = ![0, 512 * b.val]) {inb inb' : ∀ a, off a + S128x512.size a ≤ S128x4096.size a}
    {hsrc : (oVo off inb).view.WordExact} {hdst : (oHo off inb').view.WordExact} {hsem : DmaTarget.Typed (nD := nD) .vmem (.dma 18) (.here (oHo off inb') : DmaTarget nD τ sig .tc .hbm S128x512 .bf16)}
    {α : Type} {k : PUnit → Prog (TpuEff nD τ sig (Elt F) Λ₀ .tc) α} {Q : α → PP F} :
    iprop(pt (c.tc : Thread nD τ) (oV b) O ∗ pt (c.tc : Thread nD τ) (oH b) g ∗ oM c O b.val 0)
      ⊢ iprop((oM c O (b.val + 1) 0 -∗ wpB c (k ⟨⟩) Q) -∗ wpB c (Prog.lift (.enqueueDma (oVo off inb) (.here (oHo off inb')) (.dma 18) hsrc hdst hsem) >>= k) Q) := by
  subst ho
  exact issueB (c := (c.tc : Thread nD τ)) (src := oV b) (dst := oH b) (sm := SemLoc.dma 18) oA (oD c O) O g O (j := b.val) (u := 0) b.isLt (View.amount_dma _ _) (Nat.zero_le _) .rfl rfl

abbrev cA2 (O g : C F S128x4096 .bf16) (k : Fin k0_t4_loop.trips) : PP F := iprop(oL c O k.val ∗ oM c O (k.val - 1) 0 ∗ oSH c g (k.val - 1))
abbrev cB2 (O g : C F S128x4096 .bf16) (k : Fin k0_t4_loop.trips) : PP F := iprop(oM c O k.val 0 ∗ oSH c g k.val)

theorem if2_neg (O g : C F S128x4096 .bf16) (k : Fin k0_t4_loop.trips) (h : ¬ k0_cond2 k = 1#1) : cA2 c O g k ⊢ cB2 c O g k := by
  have h0 := cond2_zero k h
  unfold cA2 cB2
  rw [h0]
  iintro ⟨-, HM, HS⟩
  isplitl [HM]; · iexact HM
  iexact HS

theorem if2_pos (O g : C F S128x4096 .bf16) (k : Fin k0_t4_loop.trips) (h : k0_cond2 k = 1#1) {off : Fin 2 → ℕ} (ho : 0 < k.val → off = ![0, 512 * (k.val - 1)]) {inb inb' : ∀ a, off a + S128x512.size a ≤ S128x4096.size a}
    {hsrc : (oVo off inb).view.WordExact} {hdst : (oHo off inb').view.WordExact} {hsem : DmaTarget.Typed (nD := nD) .vmem (.dma 18) (.here (oHo off inb') : DmaTarget nD τ sig .tc .hbm S128x512 .bf16)}
    {α : Type} {jp : Prog (TpuEff nD τ sig (Elt F) Λ₀ .tc) α} {Q : α → PP F} :
    cA2 c O g k ⊢ iprop((cB2 c O g k -∗ wpB c jp Q) -∗ wpB c (Prog.lift (.enqueueDma (oVo off inb) (.here (oHo off inb')) (.dma 18) hsrc hdst hsem) >>= fun _ => jp) Q) := by
  have h0 := cond2_pos k h
  have h8 : k.val < 8 := k.isLt.trans_eq trips4
  have hb : k.val - 1 < 8 := by omega
  have e : (⟨k.val - 1, hb⟩ : Fin 8).val + 1 = k.val := by show k.val - 1 + 1 = k.val; omega
  unfold cA2 cB2 oL
  rw [dif_pos ⟨h0, by omega⟩]
  iintro ⟨HV, HM, HS⟩ Hk
  ihave HS := (Entails.of_eq (stage_out (fun b : Fin 8 => pt (c.tc : Thread nD τ) (oH b) g) (fun _ => (BI.emp : PP F)) ⟨k.val - 1, hb⟩)) $$ HS
  icases HS with ⟨HH, HR⟩
  iapply (issO c O g ⟨k.val - 1, hb⟩ (ho h0)) $$ [HV HH HM]
  · isplitl [HV]; · iexact HV
    isplitl [HH]; · iexact HH
    iexact HM
  iintro HM
  iapply Hk
  isplitl [HM]
  · iapply (Entails.of_eq (congrArg (fun n => oM c O n 0) e)) $$ HM
  ihave HR := (Entails.of_eq (stage_in (fun b : Fin 8 => pt (c.tc : Thread nD τ) (oH b) g) (fun _ => (BI.emp : PP F)) ⟨k.val - 1, hb⟩)) $$ [HR]
  · isplitr
    · iempintro
    iexact HR
  iapply (Entails.of_eq (congrArg (fun n => oSH c g n) e)) $$ HR

theorem stO (O f : C F S128x4096 .bf16) (b : Fin 8) {off : Fin 2 → ℕ} (ho : off = ![0, 512 * b.val]) {inb : ∀ a, off a + S128x512.size a ≤ S128x4096.size a} {v : C F S128x512 .bf16} (hv : (oV b).view.read (Elt F) O = v)
    {hx : (m21.access (Rect.unit (s := S128x4096) off S128x512.size inb)).Stores Finset.univ} {hm : (Finset.univ : Finset S128x512.Idx) = Finset.univ ∨ ∀ a, (Rect.unit (s := S128x4096) off S128x512.size inb).stride a = 1}
    {α : Type} {k : PUnit → Prog (TpuEff nD τ sig (Elt F) Λ₀ .tc) α} {Q : α → PP F} :
    pt (c.tc : Thread nD τ) (oV b) f ⊢ iprop((pt (c.tc : Thread nD τ) (oV b) O -∗ wpB c (k ⟨⟩) Q) -∗ wpB c (Prog.lift (.store m21 (Rect.unit (s := S128x4096) off S128x512.size inb) v Finset.univ hx hm) >>= k) Q) := by
  subst ho
  iintro H Hk
  iapply (store (c := (c.tc : Thread nD τ)) (m := m21) (r := Rect.unit (s := S128x4096) ![0, 512 * b.val] S128x512.size inb) (S := (oV b).view.set) (f := f) (Finset.Subset.refl _)) $$ H
  iintro H
  iapply Hk
  iapply (Entails.of_eq (pt_eq (c := (c.tc : Thread nD τ)) (M := oV b) (f := (oV b).view.write (Elt F) f v Finset.univ) (g := O) ?_)) $$ H
  rw [hv]
  exact View.read_write_univ (v := (oV b).view) f v

/-! ## A trip -/

theorem run7 (k : Fin k0_t4_loop.trips) (Q : (Σ' (v356 : BitVec 32) (v366 : BitVec 32), BitVec 32) → PP F) :
    (∀ p, Q p) ⊢ wpB c (k0_part7 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 0#32 1#32 k) Q := by
  rw [k0_part7_eq_skeleton]
  unfold k0_part7_skel
  iintro H
  iapply done
  iapply H

abbrev inv4 (f21 g10 : C F S128x4096 .bf16) (k : ℕ) (_ : Unit) : PP F :=
  iprop(whL c m15 (QF X) ∗ wh c m18 hb ∗ wh c m19 bv ∗ wh c m22 (XSV X) ∗ wh c m24 ws ∗ ow (c.tc : Thread nD τ)
    ∗ (RR c w k ∗ RR c w (k + 1) ∗ RR c w (k + 2)) ∗ SRt c w k ∗ SWt c w (k + 3)
    ∗ oSV c f21 k ∗ oL c (OF X w hb bv ws) k ∗ oM c (OF X w hb bv ws) (k - 1) 0 ∗ oSH c g10 (k - 1))

theorem trip4 (f21 g10 : C F S128x4096 .bf16) (v268 : FVec F S12x128 .f32) (v272 v276 v280 v284 v288 v292 v296 v300 : FVec F S64x128 .f32) (k : Fin k0_t4_loop.trips) (u : Unit) :
    inv4 c X w hb bv ws f21 g10 k.val u ⊢ wpB c (k0_t4_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v268 v272 v276 v280 v284 v288 v292 v296 v300 k u) (inv4 c X w hb bv ws f21 g10 (k.val + 1)) := by
  have h8 : k.val < 8 := k.isLt.trans_eq trips4
  unfold inv4
  iintro ⟨HL, H18, H19, H22, H24, HO, ⟨R0, R1, R2⟩, SR, SW, SV, LT, MB, SH⟩
  unfold k0_t4_body
  iapply (seq c)
  iapply (run7 c k)
  iintro %p
  ihave R0 := (Entails.of_eq (show RR c w k.val = wF c w (kb k) (s3 k.val) (j3 k.val) from dif_pos h8)) $$ R0
  iapply (waitW c w (kb k) (s3 k.val) (sem3 k.val (off14_eq k)) (off15_eq k)) $$ [R0 HO]
  · isplitl [R0]; · iexact R0
    iexact HO
  iintro ⟨⟨HS, HH⟩, Hs, HO⟩
  iapply (ldL c (m := m15) (QF X) (QF X) (Memref.readAt_unit_zero (Elt F) cc0_scratch1 off0 _ (QF X))) $$ HL; iintro HL
  iapply (ldR c w (kb k) (s3 k.val) (off17_eq k)) $$ HS; iintro HS
  iapply (ldW c (m := m18) hb hb (Memref.readAt_unit_zero (Elt F) cc0_scratch4 off0 _ hb)) $$ H18; iintro H18
  iapply (ldW c (m := m19) bv (br bv (kb k)) (br_read bv (kb k) _ (off18_eq k) _)) $$ H19; iintro H19
  iapply (ldW c (m := m22) (XSV X) (XSV X) (Memref.readAt_unit_zero (Elt F) cc0_scratch8 off0 _ (XSV X))) $$ H22; iintro H22
  iapply (ldW c (m := m24) ws (wsr ws (kb k)) (wsr_read ws (kb k) _ (off19_eq k) _)) $$ H24; iintro H24
  ihave SV := (Entails.of_eq (stage_out (fun b : Fin 8 => pt (c.tc : Thread nD τ) (oV b) f21) (fun _ => (BI.emp : PP F)) (kb k))) $$ SV
  icases SV with ⟨HV, SV⟩
  iapply (ldS c (m := m21) (hu := fun _ => rfl) (off20_eq k) f21) $$ HV; iintro HV
  iapply (stO c (OF X w hb bv ws) f21 (kb k) (off20_eq k) (OF_read X w hb bv ws (kb k))) $$ HV; iintro HV
  iapply (dite_run c (cA1 c w k) (cB1 c w k) (fun h => if1_pos c w k h (off21_eq k) (off23_eq k) (off22_eq k)) (if1_neg c w k)) $$ [HS Hs SW]
  · isplitr [SW]
    · isplitl [HS]; · iexact HS
      iexact Hs
    iexact SW
  iintro ⟨R3, SW⟩
  iapply (dite_run c (cA2 c (OF X w hb bv ws) g10 k) (cB2 c (OF X w hb bv ws) g10 k) (fun h => if2_pos c (OF X w hb bv ws) g10 k h (off24_eq k)) (if2_neg c (OF X w hb bv ws) g10 k)) $$ [LT MB SH]
  · isplitl [LT]; · iexact LT
    isplitl [MB]; · iexact MB
    iexact SH
  iintro ⟨MB, SH⟩
  iapply done
  ihave SV := (Entails.of_eq (stage_in (fun b : Fin 8 => pt (c.tc : Thread nD τ) (oV b) f21) (fun _ => (BI.emp : PP F)) (kb k))) $$ [SV]
  · isplitr
    · iempintro
    iexact SV
  ihave SR := (Entails.of_eq (stage_out (fun _ => (BI.emp : PP F)) (fun b : Fin 8 => pt (c.tc : Thread nD τ) (wH b) w) (kb k))) $$ SR
  icases SR with ⟨-, SR⟩
  ihave SR := (Entails.of_eq (stage_in (fun _ => (BI.emp : PP F)) (fun b : Fin 8 => pt (c.tc : Thread nD τ) (wH b) w) (kb k))) $$ [HH SR]
  · isplitl [HH]; · iexact HH
    iexact SR
  ihave HV := (Entails.of_eq (oL_succ c (OF X w hb bv ws) k).symm) $$ HV
  isplitl [HL]; · iexact HL
  isplitl [H18]; · iexact H18
  isplitl [H19]; · iexact H19
  isplitl [H22]; · iexact H22
  isplitl [H24]; · iexact H24
  isplitl [HO]; · iexact HO
  isplitl [R1 R2 R3]
  · isplitl [R1]; · iexact R1
    isplitl [R2]; · iexact R2
    iexact R3
  isplitl [SR]; · iexact SR
  isplitl [SW]; · iexact SW
  isplitl [SV]; · iexact SV
  isplitl [HV]; · iexact HV
  isplitl [MB]; · iexact MB
  iexact SH

end Out

end Cert.Kernel.Hand

end
-- ==== Proof.Kernel.Gate.lean ====
/- The gates and the gated products. -/
module

public import proofs.«01_k».proof.Proof.Kernel.Mid

@[expose] public section

noncomputable section

namespace Cert.Kernel.Hand

open Cert.Kernel Cert.Kernel.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The loads between the second and the third loop -/

abbrev part16 (v219 : FVec F S12 .f32) : Prog (TpuEff nD τ sig (Elt F) Λ₀ .tc) (Σ' (v236 : IVec S12x128 1) (v239 : IVec S12x128 1) (v251 : FVec F S1x128 .f32) (v259 : FVec F S12x128 .f32), FVec F S12x128 .f32) := k0_part16_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v219
abbrev part17 (v236 v239 : IVec S12x128 1) (v251 : FVec F S1x128 .f32) (v259 v260 : FVec F S12x128 .f32) : Prog (TpuEff nD τ sig (Elt F) Λ₀ .tc) (Σ' (v268 : FVec F S12x128 .f32) (v272 : FVec F S64x128 .f32) (v276 : FVec F S64x128 .f32) (v280 : FVec F S64x128 .f32) (v284 : FVec F S64x128 .f32) (v288 : FVec F S64x128 .f32) (v292 : FVec F S64x128 .f32) (v296 : FVec F S64x128 .f32), FVec F S64x128 .f32) := k0_part17_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v236 v239 v251 v259 v260
abbrev part18 (v268 : FVec F S12x128 .f32) (v272 v276 v280 v284 v288 v292 v296 v300 : FVec F S64x128 .f32) : Prog (TpuEff nD τ sig (Elt F) Λ₀ .tc) PUnit := k0_part18_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v268 v272 v276 v280 v284 v288 v292 v296 v300
abbrev part19 : Prog (TpuEff nD τ sig (Elt F) Λ₀ .tc) PUnit := k0_part19_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21

/-- The router's rows of the products, and the rows of each adapter. -/
abbrev hR (H : C F S848x128 .f32) : C F S12x128 .f32 := m17.view.readAt (Elt F) (Rect.unit (s := S848x128) ![832, 0] S12x128.size inb_S848x128_S12x128_832_0).toLoadRect H
abbrev h0 (H : C F S848x128 .f32) : C F S64x128 .f32 := m17.view.readAt (Elt F) (Rect.unit (s := S848x128) ![0, 0] S64x128.size inb_S848x128_S64x128_0_0).toLoadRect H
abbrev h1 (H : C F S848x128 .f32) : C F S64x128 .f32 := m17.view.readAt (Elt F) (Rect.unit (s := S848x128) ![64, 0] S64x128.size inb_S848x128_S64x128_64_0).toLoadRect H
abbrev h2 (H : C F S848x128 .f32) : C F S64x128 .f32 := m17.view.readAt (Elt F) (Rect.unit (s := S848x128) ![128, 0] S64x128.size inb_S848x128_S64x128_128_0).toLoadRect H
abbrev h3 (H : C F S848x128 .f32) : C F S64x128 .f32 := m17.view.readAt (Elt F) (Rect.unit (s := S848x128) ![192, 0] S64x128.size inb_S848x128_S64x128_192_0).toLoadRect H
abbrev h4 (H : C F S848x128 .f32) : C F S64x128 .f32 := m17.view.readAt (Elt F) (Rect.unit (s := S848x128) ![256, 0] S64x128.size inb_S848x128_S64x128_256_0).toLoadRect H
abbrev h5 (H : C F S848x128 .f32) : C F S64x128 .f32 := m17.view.readAt (Elt F) (Rect.unit (s := S848x128) ![320, 0] S64x128.size inb_S848x128_S64x128_320_0).toLoadRect H
abbrev h6 (H : C F S848x128 .f32) : C F S64x128 .f32 := m17.view.readAt (Elt F) (Rect.unit (s := S848x128) ![384, 0] S64x128.size inb_S848x128_S64x128_384_0).toLoadRect H
abbrev h7 (H : C F S848x128 .f32) : C F S64x128 .f32 := m17.view.readAt (Elt F) (Rect.unit (s := S848x128) ![448, 0] S64x128.size inb_S848x128_S64x128_448_0).toLoadRect H
abbrev h8 (H : C F S848x128 .f32) : C F S64x128 .f32 := m17.view.readAt (Elt F) (Rect.unit (s := S848x128) ![512, 0] S64x128.size inb_S848x128_S64x128_512_0).toLoadRect H
abbrev h9 (H : C F S848x128 .f32) : C F S64x128 .f32 := m17.view.readAt (Elt F) (Rect.unit (s := S848x128) ![576, 0] S64x128.size inb_S848x128_S64x128_576_0).toLoadRect H
abbrev h10 (H : C F S848x128 .f32) : C F S64x128 .f32 := m17.view.readAt (Elt F) (Rect.unit (s := S848x128) ![640, 0] S64x128.size inb_S848x128_S64x128_640_0).toLoadRect H
abbrev h11 (H : C F S848x128 .f32) : C F S64x128 .f32 := m17.view.readAt (Elt F) (Rect.unit (s := S848x128) ![704, 0] S64x128.size inb_S848x128_S64x128_704_0).toLoadRect H
abbrev h12 (H : C F S848x128 .f32) : C F S64x128 .f32 := m17.view.readAt (Elt F) (Rect.unit (s := S848x128) ![768, 0] S64x128.size inb_S848x128_S64x128_768_0).toLoadRect H
/-- The two rows of chosen experts. -/
abbrev i0 (ix : C F S2x128 .i32) : C F S1x128 .i32 := m26.view.readAt (Elt F) (Rect.unit (s := S2x128) ![0, 0] S1x128.size inb_S2x128_S1x128_0_0).toLoadRect ix
abbrev i1 (ix : C F S2x128 .i32) : C F S1x128 .i32 := m26.view.readAt (Elt F) (Rect.unit (s := S2x128) ![1, 0] S1x128.size inb_S2x128_S1x128_1_0).toLoadRect ix

section
variable (rb : C F S1x12 .f32) (ix : C F S2x128 .i32) (H : C F S848x128 .f32)

/-- The gates. -/
def GT : C F S2x128 .f32 := fun p => if (p 0).val = 0 then k0_pay40 (k0_pay32 rb) (hR H) (i0 ix) (i1 ix) (ValueIdx.ix2 (n0 := 1) (n1 := 128) ⟨0, Nat.one_pos⟩ (p 1))
  else k0_pay41 (k0_pay32 rb) (hR H) (i0 ix) (i1 ix) (ValueIdx.ix2 (n0 := 1) (n1 := 128) ⟨0, Nat.one_pos⟩ (p 1))

abbrev g1 : FVec F S1x128 .f32 := k0_pay39 (k0_pay32 rb) (hR H) (i0 ix) (i1 ix)
abbrev g2 : FVec F S12x128 .f32 := k0_pay42 (k0_pay32 rb) (hR H) (i0 ix) (i1 ix)

/-- The gated products, rounded: what is multiplied by the adapters' second matrices. -/
def HB : C F S128x832 .bf16 := k0_pay53 (k0_pay44 (k0_pay34 (i0 ix)) (k0_pay35 (i1 ix)) (g1 rb ix H) (g2 rb ix H) k0_pay43) (k0_pay45 (k0_pay34 (i0 ix)) (k0_pay35 (i1 ix)) (g1 rb ix H) (g2 rb ix H) k0_pay43 (h0 H)) (k0_pay46 (k0_pay34 (i0 ix)) (k0_pay35 (i1 ix)) (g1 rb ix H) (g2 rb ix H) k0_pay43 (h1 H)) (k0_pay47 (k0_pay34 (i0 ix)) (k0_pay35 (i1 ix)) (g1 rb ix H) (g2 rb ix H) k0_pay43 (h2 H)) (k0_pay48 (k0_pay34 (i0 ix)) (k0_pay35 (i1 ix)) (g1 rb ix H) (g2 rb ix H) k0_pay43 (h3 H)) (k0_pay49 (k0_pay34 (i0 ix)) (k0_pay35 (i1 ix)) (g1 rb ix H) (g2 rb ix H) k0_pay43 (h4 H)) (k0_pay50 (k0_pay34 (i0 ix)) (k0_pay35 (i1 ix)) (g1 rb ix H) (g2 rb ix H) k0_pay43 (h5 H)) (k0_pay51 (k0_pay34 (i0 ix)) (k0_pay35 (i1 ix)) (g1 rb ix H) (g2 rb ix H) k0_pay43 (h6 H)) (k0_pay52 (k0_pay34 (i0 ix)) (k0_pay35 (i1 ix)) (g1 rb ix H) (g2 rb ix H) k0_pay43 (h7 H)) (h8 H) (h9 H) (h10 H) (h11 H) (h12 H)

theorem GT_write (f : C F S2x128 .f32) (u v : C F S1x128 .f32) (hu : u = k0_pay40 (k0_pay32 rb) (hR H) (i0 ix) (i1 ix)) (hv : v = k0_pay41 (k0_pay32 rb) (hR H) (i0 ix) (i1 ix)) :
    (m27.access (Rect.unit (s := S2x128) ![1, 0] S1x128.size inb_S2x128_S1x128_1_0)).write (Elt F) ((m27.access (Rect.unit (s := S2x128) ![0, 0] S1x128.size inb_S2x128_S1x128_0_0)).write (Elt F) f u Finset.univ) v Finset.univ = GT rb ix H := by
  funext p
  have p0 : (p 0).val < 2 := (p 0).isLt
  unfold GT
  by_cases h : (p 0).val = 0
  · rw [if_pos h, ← hu]
    refine (View.write_of_not_mem (v := m27.access (Rect.unit (s := S2x128) ![1, 0] S1x128.size inb_S2x128_S1x128_1_0)) _ v Finset.univ ?_).trans ?_
    · intro hmem
      obtain ⟨y, -, hy⟩ := Finset.mem_map.mp hmem
      have e1 := emb2_0 (n0 := 2) (n1 := 128) (a := 1) (b := 128) ![1, 0] inb_S2x128_S1x128_1_0 y
      have e2 : (((Rect.unit (s := S2x128) ![1, 0] S1x128.size inb_S2x128_S1x128_1_0).emb y) 0).val = (p 0).val := congrArg (fun q : S2x128.Idx => (q 0).val) hy
      have e3 : (p 0).val = 1 + (y 0).val := e2.symm.trans e1
      omega
    · have hj : (Rect.unit (s := S2x128) ![0, 0] S1x128.size inb_S2x128_S1x128_0_0).emb (ValueIdx.ix2 (n0 := 1) (n1 := 128) ⟨0, Nat.one_pos⟩ (p 1)) = p :=
        emb2_ext (n0 := 2) (n1 := 128) (a := 1) (b := 128) ![0, 0] inb_S2x128_S1x128_0_0 _ p (by show 0 + 0 = (p 0).val; omega) (by show 0 + (p 1).val = (p 1).val; omega)
      refine (congrArg ((m27.access (Rect.unit (s := S2x128) ![0, 0] S1x128.size inb_S2x128_S1x128_0_0)).write (Elt F) f u Finset.univ) hj.symm).trans ?_
      exact View.write_emb_of_mem (v := m27.access (Rect.unit (s := S2x128) ![0, 0] S1x128.size inb_S2x128_S1x128_0_0)) _ _ (Finset.mem_univ _)
  · rw [if_neg h, ← hv]
    have hj : (Rect.unit (s := S2x128) ![1, 0] S1x128.size inb_S2x128_S1x128_1_0).emb (ValueIdx.ix2 (n0 := 1) (n1 := 128) ⟨0, Nat.one_pos⟩ (p 1)) = p :=
      emb2_ext (n0 := 2) (n1 := 128) (a := 1) (b := 128) ![1, 0] inb_S2x128_S1x128_1_0 _ p (by show 1 + 0 = (p 0).val; omega) (by show 0 + (p 1).val = (p 1).val; omega)
    refine (congrArg ((m27.access (Rect.unit (s := S2x128) ![1, 0] S1x128.size inb_S2x128_S1x128_1_0)).write (Elt F) _ v Finset.univ) hj.symm).trans ?_
    exact View.write_emb_of_mem (v := m27.access (Rect.unit (s := S2x128) ![1, 0] S1x128.size inb_S2x128_S1x128_1_0)) _ _ (Finset.mem_univ _)

theorem run16 (c : Dev nD) (f27 : C F S2x128 .f32) (Q : (Σ' (v236 : IVec S12x128 1) (v239 : IVec S12x128 1) (v251 : FVec F S1x128 .f32) (v259 : FVec F S12x128 .f32), FVec F S12x128 .f32) → PP F) :
    iprop(wh c m17 H ∗ wh c m26 ix ∗ wh c m27 f27 ∗ (iprop(wh c m17 H ∗ wh c m26 ix ∗ wh c m27 (GT rb ix H)) -∗ Q ⟨k0_pay34 (i0 ix), k0_pay35 (i1 ix), g1 rb ix H, g2 rb ix H, k0_pay43⟩))
    ⊢ wpB c (part16 (k0_pay32 rb)) Q := by
  iintro ⟨HH, HI, HG, Hk⟩
  unfold part16 k0_part16_skel
  iapply (ldW c (m := m17) H (hR H) rfl) $$ HH; iintro HH
  iapply (ldW c (m := m26) ix (i0 ix) rfl) $$ HI; iintro HI
  iapply (ldW c (m := m26) ix (i1 ix) rfl) $$ HI; iintro HI
  iapply (ldW c (m := m27) f27 _ rfl) $$ HG; iintro HG
  iapply (stW c (m := m27) f27 ((m27.access (Rect.unit (s := S2x128) ![0, 0] S1x128.size inb_S2x128_S1x128_0_0)).write (Elt F) f27 (k0_pay40 (k0_pay32 rb) (hR H) (i0 ix) (i1 ix)) Finset.univ) rfl) $$ HG; iintro HG
  iapply (ldW c (m := m27) ((m27.access (Rect.unit (s := S2x128) ![0, 0] S1x128.size inb_S2x128_S1x128_0_0)).write (Elt F) f27 (k0_pay40 (k0_pay32 rb) (hR H) (i0 ix) (i1 ix)) Finset.univ) _ rfl) $$ HG; iintro HG
  iapply (stW c (m := m27) ((m27.access (Rect.unit (s := S2x128) ![0, 0] S1x128.size inb_S2x128_S1x128_0_0)).write (Elt F) f27 (k0_pay40 (k0_pay32 rb) (hR H) (i0 ix) (i1 ix)) Finset.univ) (GT rb ix H) (GT_write rb ix H f27 _ _ rfl rfl)) $$ HG; iintro HG
  iapply done
  iapply Hk
  isplitl [HH]; · iexact HH
  isplitl [HI]; · iexact HI
  iexact HG

theorem run17 (c : Dev nD) (v236 v239 : IVec S12x128 1) (v251 : FVec F S1x128 .f32) (v259 v260 : FVec F S12x128 .f32) (Q : (Σ' (v268 : FVec F S12x128 .f32) (v272 : FVec F S64x128 .f32) (v276 : FVec F S64x128 .f32) (v280 : FVec F S64x128 .f32) (v284 : FVec F S64x128 .f32) (v288 : FVec F S64x128 .f32) (v292 : FVec F S64x128 .f32) (v296 : FVec F S64x128 .f32), FVec F S64x128 .f32) → PP F) :
    iprop(wh c m17 H ∗ (wh c m17 H -∗ Q ⟨k0_pay44 v236 v239 v251 v259 v260, k0_pay45 v236 v239 v251 v259 v260 (h0 H), k0_pay46 v236 v239 v251 v259 v260 (h1 H), k0_pay47 v236 v239 v251 v259 v260 (h2 H), k0_pay48 v236 v239 v251 v259 v260 (h3 H), k0_pay49 v236 v239 v251 v259 v260 (h4 H), k0_pay50 v236 v239 v251 v259 v260 (h5 H), k0_pay51 v236 v239 v251 v259 v260 (h6 H), k0_pay52 v236 v239 v251 v259 v260 (h7 H)⟩))
    ⊢ wpB c (part17 v236 v239 v251 v259 v260) Q := by
  iintro ⟨HH, Hk⟩
  unfold part17 k0_part17_skel
  iapply (ldW c (m := m17) H (h0 H) rfl) $$ HH; iintro HH
  iapply (ldW c (m := m17) H (h1 H) rfl) $$ HH; iintro HH
  iapply (ldW c (m := m17) H (h2 H) rfl) $$ HH; iintro HH
  iapply (ldW c (m := m17) H (h3 H) rfl) $$ HH; iintro HH
  iapply (ldW c (m := m17) H (h4 H) rfl) $$ HH; iintro HH
  iapply (ldW c (m := m17) H (h5 H) rfl) $$ HH; iintro HH
  iapply (ldW c (m := m17) H (h6 H) rfl) $$ HH; iintro HH
  iapply (ldW c (m := m17) H (h7 H) rfl) $$ HH; iintro HH
  iapply done
  iapply Hk
  iexact HH
end

/-! ## The copies of the adapters' second matrices -/

theorem waitB1 (c : Dev nD) (b : C F S768x4096 .bf16) (sb : C F S64x4096 .bf16) {hsrc : m7.view.WordExact} {hdst : bv7.view.WordExact} {α : Type} {k : PUnit → Prog (TpuEff nD τ sig (Elt F) Λ₀ .tc) α} {Q : α → PP F} :
    iprop(bF c b sb ∗ ow (c.tc : Thread nD τ))
      ⊢ iprop((iprop(mb (c.tc : Thread nD τ) (.dma 14) bAm (bDl c b sb) 2 (0 + bv7.view.dmaCredit) ∗ ow (c.tc : Thread nD τ)) -∗ wpB c (k ⟨⟩) Q)
        -∗ wpB c (Prog.lift (.waitDma2 14 m7 bv7 hsrc hdst) >>= k) Q) :=
  waitB (c := (c.tc : Thread nD τ)) (A := bAm) (D := bDl c b sb) bv7.view.dmaCredit rfl (duo_le1 _ _)

theorem waitB2 (c : Dev nD) (b : C F S768x4096 .bf16) (sb : C F S64x4096 .bf16) {hsrc : m9.view.WordExact} {hdst : bv9.view.WordExact} {α : Type} {k : PUnit → Prog (TpuEff nD τ sig (Elt F) Λ₀ .tc) α} {Q : α → PP F} :
    iprop(mb (c.tc : Thread nD τ) (.dma 14) bAm (bDl c b sb) 2 (0 + bv7.view.dmaCredit) ∗ ow (c.tc : Thread nD τ))
      ⊢ iprop((iprop((wh c m19 (BV b sb) ∗ wh c m7 b ∗ wh c m9 sb ∗ sv c 14) ∗ ow (c.tc : Thread nD τ)) -∗ wpB c (k ⟨⟩) Q)
        -∗ wpB c (Prog.lift (.waitDma2 14 m9 bv9 hsrc hdst) >>= k) Q) := by
  iintro H Hk
  iapply (waitBAll (c := (c.tc : Thread nD τ)) (A := bAm) (D := bDl c b sb) bv9.view.dmaCredit rfl (duo_pos (View.dmaCredit_pos _ (by decide)) (View.dmaCredit_pos _ (by decide))) (duo_all _ _)) $$ H
  iintro ⟨HD, Hs, HO⟩
  ihave HD := (Entails.of_eq (bigSep_duo _ _)) $$ HD
  icases HD with ⟨⟨V7, H7⟩, ⟨V9, H9⟩⟩
  iapply Hk
  isplitr [HO]
  · isplitl [V7 V9]
    · iapply (Entails.of_eq (b_parts c (BV b sb)).symm)
      isplitl [V7]; · iexact V7
      iexact V9
    isplitl [H7]
    · iapply (Entails.of_eq (wh_pt c main_v9 b).symm) $$ H7
    isplitl [H9]
    · iapply (Entails.of_eq (wh_pt c main_arg9 sb).symm) $$ H9
    iexact Hs
  iexact HO

end Cert.Kernel.Hand

end
-- ==== Proof.Kernel.Tail.lean ====
/- The rest of the body: the result's blocks and the last copies. -/
module

public import proofs.«01_k».proof.Proof.Kernel.Out
public import proofs.«01_k».proof.Proof.Kernel.Gate

@[expose] public section

noncomputable section

namespace Cert.Kernel.Hand

open Cert.Kernel Cert.Kernel.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

section Tail
variable (c : Dev nD) (X : C F S128x14336 .bf16) (w : C F S14336x4096 .fp8e4m3) (b : C F S768x4096 .bf16) (sb : C F S64x4096 .bf16) (ws : C F S1x4096 .f32)
  (rb : C F S1x12 .f32) (ix : C F S2x128 .i32) (H : C F S848x128 .f32)

theorem waitB1' {j : DmaSem sig} (h : j = 14) {hsrc : m7.view.WordExact} {hdst : bv7.view.WordExact} {α : Type} {k : PUnit → Prog (TpuEff nD τ sig (Elt F) Λ₀ .tc) α} {Q : α → PP F} :
    iprop(bF c b sb ∗ ow (c.tc : Thread nD τ))
      ⊢ iprop((iprop(mb (c.tc : Thread nD τ) (.dma 14) bAm (bDl c b sb) 2 (0 + bv7.view.dmaCredit) ∗ ow (c.tc : Thread nD τ)) -∗ wpB c (k ⟨⟩) Q)
        -∗ wpB c (Prog.lift (.waitDma2 j m7 bv7 hsrc hdst) >>= k) Q) := by
  subst h; exact waitB1 c b sb
theorem waitB2' {j : DmaSem sig} (h : j = 14) {hsrc : m9.view.WordExact} {hdst : bv9.view.WordExact} {α : Type} {k : PUnit → Prog (TpuEff nD τ sig (Elt F) Λ₀ .tc) α} {Q : α → PP F} :
    iprop(mb (c.tc : Thread nD τ) (.dma 14) bAm (bDl c b sb) 2 (0 + bv7.view.dmaCredit) ∗ ow (c.tc : Thread nD τ))
      ⊢ iprop((iprop((wh c m19 (BV b sb) ∗ wh c m7 b ∗ wh c m9 sb ∗ sv c 14) ∗ ow (c.tc : Thread nD τ)) -∗ wpB c (k ⟨⟩) Q)
        -∗ wpB c (Prog.lift (.waitDma2 j m9 bv9 hsrc hdst) >>= k) Q) := by
  subst h; exact waitB2 c b sb

theorem sem_b : (cc0_scratch17 : DmaSems sig S_).sem = (14 : Fin 25) := by decide +kernel
theorem sem_o : (cc0_scratch19 : DmaSems sig S_).sem = (18 : Fin 25) := by decide +kernel
theorem sem_r0 : ((cc0_scratch21.slice (Rect.unit (s := S3) ![0] S1.size inb_S3_S1_0)).squeeze S_ squeezes_S1_S_).sem = (22 : Fin 25) := by decide +kernel
theorem sem_r1 : ((cc0_scratch21.slice (Rect.unit (s := S3) ![1] S1.size inb_S3_S1_1)).squeeze S_ squeezes_S1_S_).sem = (23 : Fin 25) := by decide +kernel
theorem sem_r2 : ((cc0_scratch21.slice (Rect.unit (s := S3) ![2] S1.size inb_S3_S1_2)).squeeze S_ squeezes_S1_S_).sem = (24 : Fin 25) := by decide +kernel

theorem oL_zero (O : C F S128x4096 .bf16) : oL c O 0 = (BI.emp : PP F) := by
  unfold oL
  rw [dif_neg (show ¬ (0 < 0 ∧ 0 ≤ 8) by decide)]

/-- The result. -/
abbrev OO : C F S128x4096 .bf16 := OF X w (HB rb ix H) (BV b sb) ws
abbrev I4 (f21 g10 : C F S128x4096 .bf16) (k : ℕ) : PP F := inv4 c X w (HB rb ix H) (BV b sb) ws f21 g10 k ()

theorem run18 (f18 : C F S128x832 .bf16) (f11 : C F S2x128 .f32) (f21 g10 : C F S128x4096 .bf16) (Q : PUnit → PP F) :
    iprop((wh c m17 H ∗ wh c m18 f18 ∗ (wh c m27 (GT rb ix H) ∗ pt (c.tc : Thread nD τ) m11 f11 ∗ sv c 24) ∗ bF c b sb
        ∗ whL c m15 (QF X) ∗ wh c m22 (XSV X) ∗ wh c m24 ws ∗ ow (c.tc : Thread nD τ)
        ∗ (RR c w 0 ∗ RR c w 1 ∗ RR c w 2) ∗ SRt c w 0 ∗ SWt c w 3
        ∗ oSV c f21 0 ∗ oM c (OO X w b sb ws rb ix H) 0 0 ∗ oSH c g10 0)
      ∗ (iprop(wh c m17 H ∗ uF c m27 m11 (GT rb ix H) (GT rb ix H) 24 ∗ (wh c m7 b ∗ wh c m9 sb ∗ sv c 14) ∗ I4 c X w b sb ws rb ix H f21 g10 k0_t4_loop.trips) -∗ Q ⟨⟩))
    ⊢ wpB c (part18 (k0_pay44 (k0_pay34 (i0 ix)) (k0_pay35 (i1 ix)) (g1 rb ix H) (g2 rb ix H) k0_pay43) (k0_pay45 (k0_pay34 (i0 ix)) (k0_pay35 (i1 ix)) (g1 rb ix H) (g2 rb ix H) k0_pay43 (h0 H)) (k0_pay46 (k0_pay34 (i0 ix)) (k0_pay35 (i1 ix)) (g1 rb ix H) (g2 rb ix H) k0_pay43 (h1 H)) (k0_pay47 (k0_pay34 (i0 ix)) (k0_pay35 (i1 ix)) (g1 rb ix H) (g2 rb ix H) k0_pay43 (h2 H)) (k0_pay48 (k0_pay34 (i0 ix)) (k0_pay35 (i1 ix)) (g1 rb ix H) (g2 rb ix H) k0_pay43 (h3 H)) (k0_pay49 (k0_pay34 (i0 ix)) (k0_pay35 (i1 ix)) (g1 rb ix H) (g2 rb ix H) k0_pay43 (h4 H)) (k0_pay50 (k0_pay34 (i0 ix)) (k0_pay35 (i1 ix)) (g1 rb ix H) (g2 rb ix H) k0_pay43 (h5 H)) (k0_pay51 (k0_pay34 (i0 ix)) (k0_pay35 (i1 ix)) (g1 rb ix H) (g2 rb ix H) k0_pay43 (h6 H)) (k0_pay52 (k0_pay34 (i0 ix)) (k0_pay35 (i1 ix)) (g1 rb ix H) (g2 rb ix H) k0_pay43 (h7 H))) Q := by
  iintro ⟨⟨HH, H18, ⟨HG, P11, V24⟩, HB, HL, H22, H24, HO, HR, SR, SW, SV, MB, SH⟩, Hk⟩
  unfold part18 k0_part18_skel
  iapply (ldW c (m := m17) H (h8 H) rfl) $$ HH; iintro HH
  iapply (ldW c (m := m17) H (h9 H) rfl) $$ HH; iintro HH
  iapply (ldW c (m := m17) H (h10 H) rfl) $$ HH; iintro HH
  iapply (ldW c (m := m17) H (h11 H) rfl) $$ HH; iintro HH
  iapply (ldW c (m := m17) H (h12 H) rfl) $$ HH; iintro HH
  iapply (ldW c (m := m18) f18 f18 (Memref.readAt_unit_zero (Elt F) cc0_scratch4 off0 _ f18)) $$ H18; iintro H18
  iapply (stW c (m := m18) f18 (HB rb ix H) (Memref.write_access_unit_zero_univ (Elt F) cc0_scratch4 off0 _ f18 _)) $$ H18; iintro H18
  ihave P27 := (Entails.of_eq (wh_pt c cc0_scratch13 (GT rb ix H))) $$ HG
  iapply (issue (c := (c.tc : Thread nD τ)) (src := m27) (dst := m11) (sm := 24) (GT rb ix H) f11 (GT rb ix H) (by decide) rfl) $$ [P27 P11 V24]
  · isplitl [P27]; · iexact P27
    isplitl [P11]; · iexact P11
    iexact V24
  iintro U24
  iapply (waitB1' c b sb sem_b) $$ [HB HO]
  · isplitl [HB]; · iexact HB
    iexact HO
  iintro HB
  iapply (waitB2' c b sb sem_b) $$ HB
  iintro ⟨⟨H19, H7, H9, V14⟩, HO⟩
  iapply (Scf.wp_for_bind _ _ _ _ _ _ _ _ _ (inv4 c X w (HB rb ix H) (BV b sb) ws f21 g10) (trip4 c X w (HB rb ix H) (BV b sb) ws f21 g10 (k0_pay44 (k0_pay34 (i0 ix)) (k0_pay35 (i1 ix)) (g1 rb ix H) (g2 rb ix H) k0_pay43) (k0_pay45 (k0_pay34 (i0 ix)) (k0_pay35 (i1 ix)) (g1 rb ix H) (g2 rb ix H) k0_pay43 (h0 H)) (k0_pay46 (k0_pay34 (i0 ix)) (k0_pay35 (i1 ix)) (g1 rb ix H) (g2 rb ix H) k0_pay43 (h1 H)) (k0_pay47 (k0_pay34 (i0 ix)) (k0_pay35 (i1 ix)) (g1 rb ix H) (g2 rb ix H) k0_pay43 (h2 H)) (k0_pay48 (k0_pay34 (i0 ix)) (k0_pay35 (i1 ix)) (g1 rb ix H) (g2 rb ix H) k0_pay43 (h3 H)) (k0_pay49 (k0_pay34 (i0 ix)) (k0_pay35 (i1 ix)) (g1 rb ix H) (g2 rb ix H) k0_pay43 (h4 H)) (k0_pay50 (k0_pay34 (i0 ix)) (k0_pay35 (i1 ix)) (g1 rb ix H) (g2 rb ix H) k0_pay43 (h5 H)) (k0_pay51 (k0_pay34 (i0 ix)) (k0_pay35 (i1 ix)) (g1 rb ix H) (g2 rb ix H) k0_pay43 (h6 H)) (k0_pay52 (k0_pay34 (i0 ix)) (k0_pay35 (i1 ix)) (g1 rb ix H) (g2 rb ix H) k0_pay43 (h7 H)))) $$ [HL H18 H19 H22 H24 HO HR SR SW SV MB SH]
  · isplitl [HL]; · iexact HL
    isplitl [H18]; · iexact H18
    isplitl [H19]; · iexact H19
    isplitl [H22]; · iexact H22
    isplitl [H24]; · iexact H24
    isplitl [HO]; · iexact HO
    isplitl [HR]; · iexact HR
    isplitl [SR]; · iexact SR
    isplitl [SW]; · iexact SW
    isplitl [SV]; · iexact SV
    isplitr
    · iapply (Entails.of_eq (oL_zero c (OF X w (HB rb ix H) (BV b sb) ws)).symm)
      iempintro
    isplitl [MB]; · iexact MB
    iexact SH
  iintro %acc HI
  iapply done
  iapply Hk
  isplitl [HH]; · iexact HH
  isplitl [U24]; · iexact U24
  isplitl [H7 H9 V14]
  · isplitl [H7]; · iexact H7
    isplitl [H9]; · iexact H9
    iexact V14
  iexact HI

theorem sumTo_mono {n : ℕ} (A : Fin n → ℕ) {i j : ℕ} (h : i ≤ j) (hj : j ≤ n) : sumTo A i ≤ sumTo A j := by
  induction j with
  | zero => rw [Nat.le_zero.mp h]
  | succ j ih =>
    rcases Nat.lt_or_ge i (j + 1) with h' | h'
    · rw [sumTo_succ A (Nat.lt_of_succ_le hj)]
      exact (ih (Nat.le_of_lt_succ h') (Nat.le_of_succ_le hj)).trans (Nat.le_add_right _ _)
    · rw [Nat.le_antisymm h h']

theorem waitO (O : C F S128x4096 .bf16) (i : Fin 8) (n n' : ℕ) (hn : i.val = n) (hn' : i.val + 1 = n') {j : DmaSem sig} (hs : j = 18) {off : Fin 2 → ℕ} (ho : off = ![0, 512 * i.val]) {inb inb' : ∀ a, off a + S128x512.size a ≤ S128x4096.size a}
    {hsrc : (oVo off inb).view.WordExact} {hdst : (oHo off inb').view.WordExact} {α : Type} {k : PUnit → Prog (TpuEff nD τ sig (Elt F) Λ₀ .tc) α} {Q : α → PP F} :
    iprop(oM c O 8 (sumTo oA n) ∗ ow (c.tc : Thread nD τ))
      ⊢ iprop((iprop(oM c O 8 (sumTo oA n') ∗ ow (c.tc : Thread nD τ)) -∗ wpB c (k ⟨⟩) Q)
        -∗ wpB c (Prog.lift (.waitDma2 j (oVo off inb) (oHo off inb') hsrc hdst) >>= k) Q) := by
  subst hs; subst ho; subst hn; subst hn'
  have e := sumTo_succ oA i.isLt
  rw [e]
  exact waitB (c := (c.tc : Thread nD τ)) (A := oA) (D := oD c O) (oA i) rfl (by
    rw [show sumTo oA i.val + oA i = sumTo oA (i.val + 1) from e.symm]; exact sumTo_mono oA (by omega) le_rfl)

theorem oD_sep (O : C F S128x4096 .bf16) : bigSep Finset.univ (oD c O) ⊢ iprop(bigSep Finset.univ (fun b : Fin 8 => pt (c.tc : Thread nD τ) (oH b) O) ∗ bigSep Finset.univ (fun b : Fin 8 => pt (c.tc : Thread nD τ) (oV b) O)) :=
  Entails.of_eq (BI.bigSep_sep _ _ _)

theorem waitO7 (O : C F S128x4096 .bf16) {j : DmaSem sig} (hs : j = 18) {off : Fin 2 → ℕ} (ho : off = ![0, 512 * (7 : Fin 8).val]) {inb inb' : ∀ a, off a + S128x512.size a ≤ S128x4096.size a}
    {hsrc : (oVo off inb).view.WordExact} {hdst : (oHo off inb').view.WordExact} {α : Type} {k : PUnit → Prog (TpuEff nD τ sig (Elt F) Λ₀ .tc) α} {Q : α → PP F} :
    iprop(oM c O 8 (sumTo oA 7) ∗ ow (c.tc : Thread nD τ))
      ⊢ iprop((iprop((wh c m10 O ∗ wh c m21 O ∗ sv c 18) ∗ ow (c.tc : Thread nD τ)) -∗ wpB c (k ⟨⟩) Q)
        -∗ wpB c (Prog.lift (.waitDma2 j (oVo off inb) (oHo off inb') hsrc hdst) >>= k) Q) := by
  subst hs; subst ho
  iintro H Hk
  iapply (waitBAll (c := (c.tc : Thread nD τ)) (A := oA) (D := oD c O) (oA 7) rfl (fun t => View.dmaCredit_pos _ (by decide)) (sumTo_succ oA (show 7 < 8 by decide)).symm) $$ H
  iintro ⟨HD, Hs, HO⟩
  ihave HD := (oD_sep c O) $$ HD
  icases HD with ⟨HH, HV⟩
  iapply Hk
  isplitr [HO]
  · isplitl [HH]
    · iapply (Entails.of_eq (oH_split c O).symm) $$ HH
    isplitl [HV]
    · iapply (Entails.of_eq (oV_split c O).symm) $$ HV
    iexact Hs
  iexact HO

theorem issO' (O g : C F S128x4096 .bf16) (b : Fin 8) {j : DmaSem sig} (hs : j = 18) {off : Fin 2 → ℕ} (ho : off = ![0, 512 * b.val]) {inb inb' : ∀ a, off a + S128x512.size a ≤ S128x4096.size a}
    {hsrc : (oVo off inb).view.WordExact} {hdst : (oHo off inb').view.WordExact} {hsem : DmaTarget.Typed (nD := nD) .vmem (.dma j) (.here (oHo off inb') : DmaTarget nD τ sig .tc .hbm S128x512 .bf16)}
    {α : Type} {k : PUnit → Prog (TpuEff nD τ sig (Elt F) Λ₀ .tc) α} {Q : α → PP F} :
    iprop(pt (c.tc : Thread nD τ) (oV b) O ∗ pt (c.tc : Thread nD τ) (oH b) g ∗ oM c O b.val 0)
      ⊢ iprop((oM c O (b.val + 1) 0 -∗ wpB c (k ⟨⟩) Q) -∗ wpB c (Prog.lift (.enqueueDma (oVo off inb) (.here (oHo off inb')) (.dma j) hsrc hdst hsem) >>= k) Q) := by
  subst hs; exact issO c O g b ho

theorem run19 (O g : C F S128x4096 .bf16) (Q : PUnit → PP F) :
    iprop((oL c O 8 ∗ oM c O 7 0 ∗ oSH c g 7 ∗ ow (c.tc : Thread nD τ)) ∗ (iprop((wh c m10 O ∗ wh c m21 O ∗ sv c 18) ∗ ow (c.tc : Thread nD τ)) -∗ Q ⟨⟩))
    ⊢ wpB c part19 Q := by
  iintro ⟨⟨HV, MB, SH, HO⟩, Hk⟩
  ihave HV := (Entails.of_eq (oL_succ c O ⟨7, by rw [trips4]; decide⟩)) $$ HV
  ihave SH := (Entails.of_eq (show oSH c g 7 = iprop(pt (c.tc : Thread nD τ) (oH 7) g ∗ stageRest (fun b : Fin 8 => pt (c.tc : Thread nD τ) (oH b) g) (fun _ => (BI.emp : PP F)) 7) from stage_out _ _ (7 : Fin 8))) $$ SH
  icases SH with ⟨HH, -⟩
  unfold part19 k0_part19_skel
  iapply (issO' c O g 7 sem_o rfl) $$ [HV HH MB]
  · isplitl [HV]; · iexact HV
    isplitl [HH]; · iexact HH
    iexact MB
  iintro MB
  ihave MB := (Entails.of_eq (show oM c O ((7 : Fin 8).val + 1) 0 = oM c O 8 (sumTo oA 0) from congrArg (oM c O 8) (sumTo_zero oA).symm)) $$ MB
  iapply (waitO c O 0 0 1 rfl rfl sem_o rfl) $$ [MB HO]
  · isplitl [MB]; · iexact MB
    iexact HO
  iintro H
  iapply (waitO c O 1 1 2 rfl rfl sem_o rfl) $$ H
  iintro H
  iapply (waitO c O 2 2 3 rfl rfl sem_o rfl) $$ H
  iintro H
  iapply (waitO c O 3 3 4 rfl rfl sem_o rfl) $$ H
  iintro H
  iapply (waitO c O 4 4 5 rfl rfl sem_o rfl) $$ H
  iintro H
  iapply (waitO c O 5 5 6 rfl rfl sem_o rfl) $$ H
  iintro H
  iapply (waitO c O 6 6 7 rfl rfl sem_o rfl) $$ H
  iintro H
  iapply (waitO7 c O sem_o rfl) $$ H
  iintro H
  iapply done
  iapply Hk
  iexact H
end Tail

end Cert.Kernel.Hand

end
-- ==== Proof.Kernel.Body.lean ====
/- The whole body. -/
module

public import proofs.«01_k».proof.Proof.Kernel.Tail

@[expose] public section

noncomputable section

namespace Cert.Kernel.Hand

open Cert.Kernel Cert.Kernel.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

section Open
variable (c : Dev nD) (w : C F S14336x4096 .fp8e4m3)

/-- The weight, less the three blocks sent for first. -/
theorem w_open : wh c m1 w ⊢ iprop(pt (c.tc : Thread nD τ) (wH 0) w ∗ pt (c.tc : Thread nD τ) (wH 1) w ∗ pt (c.tc : Thread nD τ) (wH 2) w ∗ SWt c w 3) := by
  iintro H
  ihave H := (Entails.of_eq ((wH_split c w).trans (stage_zero (fun b : Fin 8 => pt (c.tc : Thread nD τ) (wH b) w) (fun _ => (BI.emp : PP F))).symm)) $$ H
  ihave H := (Entails.of_eq (show stage (fun b : Fin 8 => pt (c.tc : Thread nD τ) (wH b) w) (fun _ => (BI.emp : PP F)) 0 = iprop(pt (c.tc : Thread nD τ) (wH 0) w ∗ stageRest (fun b : Fin 8 => pt (c.tc : Thread nD τ) (wH b) w) (fun _ => (BI.emp : PP F)) 0) from stage_out (fun b : Fin 8 => pt (c.tc : Thread nD τ) (wH b) w) (fun _ => (BI.emp : PP F)) (0 : Fin 8))) $$ H
  icases H with ⟨H0, H⟩
  ihave H := (Entails.of_eq (show iprop((BI.emp : PP F) ∗ stageRest (fun b : Fin 8 => pt (c.tc : Thread nD τ) (wH b) w) (fun _ => (BI.emp : PP F)) 0) = SWt c w 1 from stage_in (fun b : Fin 8 => pt (c.tc : Thread nD τ) (wH b) w) (fun _ => (BI.emp : PP F)) (0 : Fin 8))) $$ [H]
  · isplitr
    · iempintro
    iexact H
  ihave H := (Entails.of_eq (show SWt c w 1 = iprop(pt (c.tc : Thread nD τ) (wH 1) w ∗ stageRest (fun b : Fin 8 => pt (c.tc : Thread nD τ) (wH b) w) (fun _ => (BI.emp : PP F)) 1) from stage_out (fun b : Fin 8 => pt (c.tc : Thread nD τ) (wH b) w) (fun _ => (BI.emp : PP F)) (1 : Fin 8))) $$ H
  icases H with ⟨H1, H⟩
  ihave H := (Entails.of_eq (show iprop((BI.emp : PP F) ∗ stageRest (fun b : Fin 8 => pt (c.tc : Thread nD τ) (wH b) w) (fun _ => (BI.emp : PP F)) 1) = SWt c w 2 from stage_in (fun b : Fin 8 => pt (c.tc : Thread nD τ) (wH b) w) (fun _ => (BI.emp : PP F)) (1 : Fin 8))) $$ [H]
  · isplitr
    · iempintro
    iexact H
  ihave H := (Entails.of_eq (show SWt c w 2 = iprop(pt (c.tc : Thread nD τ) (wH 2) w ∗ stageRest (fun b : Fin 8 => pt (c.tc : Thread nD τ) (wH b) w) (fun _ => (BI.emp : PP F)) 2) from stage_out (fun b : Fin 8 => pt (c.tc : Thread nD τ) (wH b) w) (fun _ => (BI.emp : PP F)) (2 : Fin 8))) $$ H
  icases H with ⟨H2, H⟩
  ihave H := (Entails.of_eq (show iprop((BI.emp : PP F) ∗ stageRest (fun b : Fin 8 => pt (c.tc : Thread nD τ) (wH b) w) (fun _ => (BI.emp : PP F)) 2) = SWt c w 3 from stage_in (fun b : Fin 8 => pt (c.tc : Thread nD τ) (wH b) w) (fun _ => (BI.emp : PP F)) (2 : Fin 8))) $$ [H]
  · isplitr
    · iempintro
    iexact H
  isplitl [H0]; · iexact H0
  isplitl [H1]; · iexact H1
  isplitl [H2]; · iexact H2
  iexact H

theorem bigSep3 (Φ : Fin 3 → PP F) : bigSep Finset.univ Φ = iprop(Φ 0 ∗ Φ 1 ∗ Φ 2) :=
  BI.bigSep_univ_eq_bigSepL [0, 1, 2] (by decide) (by decide) Φ

theorem wS_open (f : C F S3x14336x512 .fp8e4m3) : wh c m20 f ⊢ iprop(pt (c.tc : Thread nD τ) (wS 0) f ∗ pt (c.tc : Thread nD τ) (wS 1) f ∗ pt (c.tc : Thread nD τ) (wS 2) f) :=
  Entails.of_eq ((wS_split c f).trans (bigSep3 _))

/-- Three contents of the ring's buffer that agree with one on their own slots are that one. -/
theorem slot_congr (s : Fin 3) (f g : C F S3x14336x512 .fp8e4m3) (h : ∀ p : S3x14336x512.Idx, (p 0).val = s.val → f p = g p) :
    (pt (c.tc : Thread nD τ) (wS s) f : PP F) = pt (c.tc : Thread nD τ) (wS s) g := by
  refine pt_eq ?_
  funext x
  obtain ⟨u, v, rfl⟩ : ∃ u v, x = ValueIdx.ix2 u v := ⟨x 0, x 1, ValueIdx.eq_ix2 x⟩
  refine (read_sq m20 ![s.val, 0, 0] (wS_inb s) squeezes_S1x14336x512_S14336x512 f u v).trans (Eq.trans ?_ (read_sq m20 ![s.val, 0, 0] (wS_inb s) squeezes_S1x14336x512_S14336x512 g u v).symm)
  refine h _ ?_
  exact ValueKit.rect_emb_unit_val (s := S3x14336x512) ![s.val, 0, 0] S1x14336x512.size (wS_inb s) (ValueIdx.ix3 (⟨0, Nat.one_pos⟩ : Fin 1) u v) 0

theorem RR_lt (n : ℕ) (h : n < 8) : RR c w n = wF c w ⟨n, h⟩ (s3 n) (j3 n) := by
  unfold RR; rw [dif_pos h]
theorem RR_ge (n : ℕ) (h : ¬ n < 8) (s : Fin 3) (j : Fin 25) (hs : s3 n = s) (hj : j3 n = j) : RR c w n = iprop((∃ f : C F S3x14336x512 .fp8e4m3, pt (c.tc : Thread nD τ) (wS s) f) ∗ sv c j) := by
  subst hs hj; unfold RR; rw [dif_neg h]

/-- Three contents in one, told apart by the slot. -/
def slots (f0 f1 f2 : C F S3x14336x512 .fp8e4m3) : C F S3x14336x512 .fp8e4m3 :=
  fun p : S3x14336x512.Idx => if (p 0).val = 0 then f0 p else if (p 0).val = 1 then f1 p else f2 p

theorem ring_end : iprop(RR c w k0_t4_loop.trips ∗ RR c w (k0_t4_loop.trips + 1) ∗ RR c w (k0_t4_loop.trips + 2))
    ⊢ iprop((∃ f : C F S3x14336x512 .fp8e4m3, wh c m20 f) ∗ sv c 15 ∗ sv c 16 ∗ sv c 17) := by
  rw [trips4, RR_ge c w 8 (by decide) 2 17 rfl rfl, RR_ge c w (8 + 1) (by decide) 0 15 rfl rfl, RR_ge c w (8 + 2) (by decide) 1 16 rfl rfl]
  iintro ⟨⟨⟨%f2, H2⟩, V2⟩, ⟨⟨%f0, H0⟩, V0⟩, ⟨⟨%f1, H1⟩, V1⟩⟩
  isplitl [H0 H1 H2]
  · iexists (slots f0 f1 f2)
    iapply (Entails.of_eq ((wS_split c (slots f0 f1 f2)).trans (bigSep3 _)).symm)
    isplitl [H0]
    · iapply (Entails.of_eq (slot_congr c 0 f0 (slots f0 f1 f2) (fun p h => (if_pos h).symm))) $$ H0
    isplitl [H1]
    · iapply (Entails.of_eq (slot_congr c 1 f1 (slots f0 f1 f2) (fun p h => by
        have h1 : (p 0).val = 1 := h
        unfold slots
        rw [if_neg (by omega), if_pos h1]))) $$ H1
    iapply (Entails.of_eq (slot_congr c 2 f2 (slots f0 f1 f2) (fun p h => by
      have h1 : (p 0).val = 2 := h
      unfold slots
      rw [if_neg (by omega), if_neg (by omega)]))) $$ H2
  isplitl [V0]; · iexact V0
  isplitl [V1]; · iexact V1
  iexact V2

theorem SRt_zero : (BI.emp : PP F) ⊢ SRt c w 0 := by
  unfold SRt; rw [stage_zero, BI.bigSep_emp_const]
theorem SRt_end : SRt c w k0_t4_loop.trips = wh c m1 w := by
  unfold SRt; rw [stage_last _ _ (show 8 ≤ k0_t4_loop.trips from le_of_eq trips4.symm)]; exact (wH_split c w).symm

theorem o_alloc (O : C F S128x4096 .bf16) : sv c 18 ⊢ iprop(|={Set.univ}=> oM c O 0 0) :=
  mixedBatch_alloc' (Lvl := ℕ) (countersEmb (U := Pipeline.UD sig nD τ)) (c.tc : Thread nD τ) () oA (oD c O) (sm := SemLoc.dma 18) (E := Set.univ)

theorem waitQ (f : C F S128x14336 .fp8e4m3) {sm : DmaSem sig} (h : sm = 22) {hsrc : m15.view.WordExact} {hdst : m12.view.WordExact} {α : Type} {k : PUnit → Prog (TpuEff nD τ sig (Elt F) Λ₀ .tc) α} {Q : α → PP F} :
    iprop(qF c f ∗ ow (c.tc : Thread nD τ))
      ⊢ iprop((iprop((pt (c.tc : Thread nD τ) m12 f ∗ ptR c m15 f) ∗ sv c 22 ∗ ow (c.tc : Thread nD τ)) -∗ wpB c (k ⟨⟩) Q)
        -∗ wpB c (Prog.lift (.waitDma2 sm m15 m12 hsrc hdst) >>= k) Q) := by
  subst h
  exact wait (c := (c.tc : Thread nD τ)) rfl
end Open

section Body
variable (c : Dev nD) (X : C F S128x14336 .bf16) (w : C F S14336x4096 .fp8e4m3) (ws : C F S1x4096 .f32) (rw : C F S16x14336 .bf16) (rb : C F S1x12 .f32) (ix : C F S2x128 .i32)
  (a : C F S768x14336 .bf16) (b : C F S768x4096 .bf16) (sa : C F S64x14336 .bf16) (sb : C F S64x4096 .bf16)

/-- The chip's buffers at some contents. -/
abbrev Scr : PP F := iprop((∃ f : C F S128x14336 .bf16, wh c m14 f) ∗ (∃ f : C F S128x14336 .fp8e4m3, wh c m15 f) ∗ (∃ f : C F S848x14336 .bf16, wh c m16 f) ∗ (∃ f : C F S848x128 .f32, wh c m17 f) ∗ (∃ f : C F S128x832 .bf16, wh c m18 f) ∗ (∃ f : C F S832x4096 .bf16, wh c m19 f) ∗ (∃ f : C F S3x14336x512 .fp8e4m3, wh c m20 f) ∗ (∃ f : C F S128x4096 .bf16, wh c m21 f) ∗ (∃ f : C F S128x128 .f32, wh c m22 f) ∗ (∃ f : C F S128x128 .f32, wh c m23 f) ∗ (∃ f : C F S1x4096 .f32, wh c m24 f) ∗ (∃ f : C F S1x12 .f32, wh c m25 f) ∗ (∃ f : C F S2x128 .i32, wh c m26 f) ∗ (∃ f : C F S2x128 .f32, wh c m27 f) ∗ (∃ f : C F S1x128 .f32, wh c m28 f))
/-- The semaphores at zero. -/
abbrev Sems : PP F := iprop(sv c 0 ∗ sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20 ∗ sv c 21 ∗ sv c 22 ∗ sv c 23 ∗ sv c 24)
/-- The operands. -/
abbrev Ins : PP F := iprop(wh c m0 X ∗ wh c m1 w ∗ wh c m2 ws ∗ wh c m3 rw ∗ wh c m4 rb ∗ wh c m5 ix ∗ wh c m6 a ∗ wh c m7 b ∗ wh c m8 sa ∗ wh c m9 sb)
/-- The result of the kernel's first output from all of its operands. -/
abbrev RES : C F S128x4096 .bf16 := OO X w b sb ws rb ix (HF X a sa rw)

theorem run_body (g10 : C F S128x4096 .bf16) (g11 : C F S2x128 .f32) (g12 : C F S128x14336 .fp8e4m3) (g13 : C F S1x128 .f32) (Q : PUnit → PP F) :
    iprop((Scr c ∗ Sems c ∗ Ins c X w ws rw rb ix a b sa sb ∗ (wh c m10 g10 ∗ wh c m11 g11 ∗ wh c m12 g12 ∗ wh c m13 g13) ∗ ow (c.tc : Thread nD τ))
      ∗ (iprop(Scr c ∗ Sems c ∗ Ins c X w ws rw rb ix a b sa sb
          ∗ (wh c m10 (RES X w ws rw rb ix a b sa sb) ∗ wh c m11 (GT rb ix (HF X a sa rw)) ∗ wh c m12 (QF X) ∗ wh c m13 (XSR X)) ∗ ow (c.tc : Thread nD τ)) -∗ Q ⟨⟩))
    ⊢ wpB c (cc0_mixlora (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21) Q := by
  rw [cc0_mixlora_eq_skeleton]
  unfold cc0_mixlora_skel
  rw [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  iintro ⟨⟨⟨⟨%f14, S14⟩, ⟨%f15, S15⟩, ⟨%f16, S16⟩, ⟨%f17, S17⟩, ⟨%f18, S18⟩, ⟨%f19, S19⟩, ⟨%f20, S20⟩, ⟨%f21, S21⟩, ⟨%f22, S22⟩, ⟨%f23, S23⟩, ⟨%f24, S24⟩, ⟨%f25, S25⟩, ⟨%f26, S26⟩, ⟨%f27, S27⟩, ⟨%f28, S28⟩⟩, ⟨V0, V1, V2, V3, V4, V5, V6, V7, V8, V9, V10, V11, V12, V13, V14, V15, V16, V17, V18, V19, V20, V21, V22, V23, V24⟩, ⟨I0, I1, I2, I3, I4, I5, I6, I7, I8, I9⟩, ⟨G10, G11, G12, G13⟩, O⟩, Hk⟩
  ihave I0 := (Entails.of_eq ((xh_split c X).trans (bigSep7 _))) $$ I0
  icases I0 with ⟨xh0, xh1, xh2, xh3, xh4, xh5, xh6⟩
  ihave S14 := (Entails.of_eq ((xv_split c f14).trans (bigSep7 _))) $$ S14
  icases S14 with ⟨xv0, xv1, xv2, xv3, xv4, xv5, xv6⟩
  iapply (seq c)
  iapply (run8 c X f14)
  isplitl [xh0 xv0 V0]
  · isplitl [xh0]; · iexact xh0
    isplitl [xv0]; · iexact xv0
    iexact V0
  isplitl [xh1 xv1 V1]
  · isplitl [xh1]; · iexact xh1
    isplitl [xv1]; · iexact xv1
    iexact V1
  isplitl [xh2 xv2 V2]
  · isplitl [xh2]; · iexact xh2
    isplitl [xv2]; · iexact xv2
    iexact V2
  isplitl [xh3 xv3 V3]
  · isplitl [xh3]; · iexact xh3
    isplitl [xv3]; · iexact xv3
    iexact V3
  isplitl [xh4 xv4 V4]
  · isplitl [xh4]; · iexact xh4
    isplitl [xv4]; · iexact xv4
    iexact V4
  isplitl [xh5 xv5 V5]
  · isplitl [xh5]; · iexact xh5
    isplitl [xv5]; · iexact xv5
    iexact V5
  iintro ⟨xF0, xF1, xF2, xF3, xF4, xF5⟩
  ihave I3 := (Entails.of_eq ((ah3_split c rw).trans (bigSep7' _))) $$ I3
  icases I3 with ⟨r0, r1, r2, r3, r4, r5, r6⟩
  ihave I8 := (Entails.of_eq ((ah8_split c sa).trans (bigSep7' _))) $$ I8
  icases I8 with ⟨s0, s1, s2, s3, s4, s5, s6⟩
  ihave I6 := (Entails.of_eq ((ah6_split c a).trans (bigSep7' _))) $$ I6
  icases I6 with ⟨a0, a1, a2, a3, a4, a5, a6⟩
  ihave S16 := (Entails.of_eq ((avc_split c f16).trans (bigSep7' _))) $$ S16
  icases S16 with ⟨v0, v1, v2, v3, v4, v5, v6⟩
  ihave I2 := (Entails.of_eq (wh_pt c main_v1 _)) $$ I2
  ihave I4 := (Entails.of_eq (wh_pt c main_v4 _)) $$ I4
  ihave I5 := (Entails.of_eq (wh_pt c main_v6 _)) $$ I5
  ihave S24 := (Entails.of_eq (wh_pt c cc0_scratch10 _)) $$ S24
  ihave S25 := (Entails.of_eq (wh_pt c cc0_scratch11 _)) $$ S25
  ihave S26 := (Entails.of_eq (wh_pt c cc0_scratch12 _)) $$ S26
  ihave I7 := (Entails.of_eq (wh_pt c main_v9 _)) $$ I7
  ihave I9 := (Entails.of_eq (wh_pt c main_arg9 _)) $$ I9
  ihave G11 := (Entails.of_eq (wh_pt c main_v11_1 _)) $$ G11
  ihave G12 := (Entails.of_eq (wh_pt c main_v11_2 _)) $$ G12
  ihave G13 := (Entails.of_eq (wh_pt c main_v11_3 _)) $$ G13
  iapply (seq c)
  iapply (run9 c X f14 ws f24 rb f25 ix f26 a sa rw f16)
  isplitl [xh6 xv6 V6]
  · isplitl [xh6]; · iexact xh6
    isplitl [xv6]; · iexact xv6
    iexact V6
  isplitl [I2 S24 V19]
  · isplitl [I2]; · iexact I2
    isplitl [S24]; · iexact S24
    iexact V19
  isplitl [I4 S25 V20]
  · isplitl [I4]; · iexact I4
    isplitl [S25]; · iexact S25
    iexact V20
  isplitl [I5 S26 V21]
  · isplitl [I5]; · iexact I5
    isplitl [S26]; · iexact S26
    iexact V21
  isplitl [r0 s0 a0 v0 V7]
  · isplitl [r0]; · iexact r0
    isplitl [s0]; · iexact s0
    isplitl [a0]; · iexact a0
    isplitl [v0]; · iexact v0
    iexact V7
  iintro ⟨xF6, U19, U20, U21, aF0⟩
  iapply (seq c)
  iapply (run10 c a sa rw f16)
  isplitl [r1 s1 a1 v1 V8]
  · isplitl [r1]; · iexact r1
    isplitl [s1]; · iexact s1
    isplitl [a1]; · iexact a1
    isplitl [v1]; · iexact v1
    iexact V8
  isplitl [r2 s2 a2 v2 V9]
  · isplitl [r2]; · iexact r2
    isplitl [s2]; · iexact s2
    isplitl [a2]; · iexact a2
    isplitl [v2]; · iexact v2
    iexact V9
  iintro ⟨aF1, aF2⟩
  iapply (seq c)
  iapply (run11 c a sa rw f16)
  isplitl [r3 s3 a3 v3 V10]
  · isplitl [r3]; · iexact r3
    isplitl [s3]; · iexact s3
    isplitl [a3]; · iexact a3
    isplitl [v3]; · iexact v3
    iexact V10
  isplitl [r4 s4 a4 v4 V11]
  · isplitl [r4]; · iexact r4
    isplitl [s4]; · iexact s4
    isplitl [a4]; · iexact a4
    isplitl [v4]; · iexact v4
    iexact V11
  iintro ⟨aF3, aF4⟩
  iapply (seq c)
  iapply (run12 c a sa rw f16 b sb f19)
  isplitl [r5 s5 a5 v5 V12]
  · isplitl [r5]; · iexact r5
    isplitl [s5]; · iexact s5
    isplitl [a5]; · iexact a5
    isplitl [v5]; · iexact v5
    iexact V12
  isplitl [r6 s6 a6 v6 V13]
  · isplitl [r6]; · iexact r6
    isplitl [s6]; · iexact s6
    isplitl [a6]; · iexact a6
    isplitl [v6]; · iexact v6
    iexact V13
  isplitl [I7 I9 S19 V14]
  · isplitl [I7]; · iexact I7
    isplitl [I9]; · iexact I9
    isplitl [S19]; · iexact S19
    iexact V14
  iintro ⟨aF5, aF6, bF⟩
  ihave I1 := (w_open c w) $$ I1
  icases I1 with ⟨w0, w1, w2, SW⟩
  ihave S20 := (wS_open c f20) $$ S20
  icases S20 with ⟨sl0, sl1, sl2⟩
  iapply (seq c)
  iapply (run13 c X w f20)
  isplitl [w0 sl0 V15]
  · isplitl [w0]; · iexact w0
    isplitl [sl0]; · iexact sl0
    iexact V15
  isplitl [w1 sl1 V16]
  · isplitl [w1]; · iexact w1
    isplitl [sl1]; · iexact sl1
    iexact V16
  isplitl [w2 sl2 V17]
  · isplitl [w2]; · iexact w2
    isplitl [sl2]; · iexact sl2
    iexact V17
  isplitl [xF0 xF1 xF2 xF3 xF4 xF5 xF6]
  · isplitl [xF0]; · iexact xF0
    isplitl [xF1]; · iexact xF1
    isplitl [xF2]; · iexact xF2
    isplitl [xF3]; · iexact xF3
    isplitl [xF4]; · iexact xF4
    isplitl [xF5]; · iexact xF5
    iexact xF6
  isplitl [O]; · iexact O
  iintro ⟨R0, R1, R2, ⟨S14, I0, ⟨V0, V1, V2, V3, V4, V5, V6⟩⟩, O⟩
  iapply (seq c)
  iapply (run14 c X f22 f23)
  isplitl [S22]; · iexact S22
  isplitl [S23]; · iexact S23
  iintro ⟨S22, S23⟩
  ihave aF := (Entails.of_eq (aS_zero c a sa rw).symm) $$ [aF0 aF1 aF2 aF3 aF4 aF5 aF6]
  · isplitl [aF0]; · iexact aF0
    isplitl [aF1]; · iexact aF1
    isplitl [aF2]; · iexact aF2
    isplitl [aF3]; · iexact aF3
    isplitl [aF4]; · iexact aF4
    isplitl [aF5]; · iexact aF5
    iexact aF6
  iapply (seq c)
  iapply (run15 c X a sa rw ws rb ix f28 g13 f15 g12 f17)
  isplitl [S28 S14 S23 S15 S17 aF O G12 V22 G13 V23 U19 U20 U21]
  · isplitl [S28]; · iexact S28
    isplitl [S14]; · iexact S14
    isplitl [S23]; · iexact S23
    isplitl [S15]; · iexact S15
    isplitl [S17]; · iexact S17
    isplitl [aF]; · iexact aF
    isplitl [O]; · iexact O
    isplitl [G12]; · iexact G12
    isplitl [V22]; · iexact V22
    isplitl [G13]; · iexact G13
    isplitl [V23]; · iexact V23
    isplitl [U19]; · iexact U19
    isplitl [U20]; · iexact U20
    iexact U21
  iintro ⟨S14, S23, S17, HL, HQ, U23, ⟨S16, ⟨I3, I8, I6⟩, ⟨V7, V8, V9, V10, V11, V12, V13⟩⟩, O, ⟨S24, I2, V19⟩, ⟨S25, I4, V20⟩, ⟨S26, I5, V21⟩⟩
  iapply (seq c)
  iapply (run16 rb ix (HF X a sa rw) c f27)
  isplitl [S17]; · iexact S17
  isplitl [S26]; · iexact S26
  isplitl [S27]; · iexact S27
  iintro ⟨S17, S26, S27⟩
  iapply (seq c)
  iapply (run17 (HF X a sa rw) c _ _ _ _ _)
  isplitl [S17]; · iexact S17
  iintro S17
  imod (o_alloc c (OO X w b sb ws rb ix (HF X a sa rw))) $$ V18 with MB
  ihave S21 := (Entails.of_eq ((oV_split c f21).trans (stage_zero _ _).symm)) $$ S21
  ihave G10 := (Entails.of_eq ((oH_split c g10).trans (stage_zero _ _).symm)) $$ G10
  ihave R0 := (Entails.of_eq (show wF c w 0 0 15 = RR c w 0 from (RR_lt c w 0 (by decide)).symm)) $$ R0
  ihave R1 := (Entails.of_eq (show wF c w 1 1 16 = RR c w 1 from (RR_lt c w 1 (by decide)).symm)) $$ R1
  ihave R2 := (Entails.of_eq (show wF c w 2 2 17 = RR c w 2 from (RR_lt c w 2 (by decide)).symm)) $$ R2
  iapply (seq c)
  iapply (run18 c X w b sb ws rb ix (HF X a sa rw) f18 g11 f21 g10)
  isplitl [S17 S18 S27 G11 V24 bF HL S22 S24 O R0 R1 R2 SW S21 MB G10]
  · isplitl [S17]; · iexact S17
    isplitl [S18]; · iexact S18
    isplitl [S27 G11 V24]
    · isplitl [S27]; · iexact S27
      isplitl [G11]; · iexact G11
      iexact V24
    isplitl [bF]; · iexact bF
    isplitl [HL]; · iexact HL
    isplitl [S22]; · iexact S22
    isplitl [S24]; · iexact S24
    isplitl [O]; · iexact O
    isplitl [R0 R1 R2]
    · isplitl [R0]; · iexact R0
      isplitl [R1]; · iexact R1
      iexact R2
    isplitr [SW S21 MB G10]
    · iapply (SRt_zero c w)
      iempintro
    isplitl [SW]; · iexact SW
    isplitl [S21]; · iexact S21
    isplitl [MB]; · iexact MB
    iexact G10
  iintro ⟨S17, U24, ⟨I7, I9, V14⟩, ⟨HL, S18, S19, S22, S24, O, ⟨R0, R1, R2⟩, I1, SW, SV, LT, MB, SH⟩⟩
  ihave RS := (ring_end c w) $$ [R0 R1 R2]
  · isplitl [R0]; · iexact R0
    isplitl [R1]; · iexact R1
    iexact R2
  icases RS with ⟨S20, V15, V16, V17⟩
  ihave I1 := (Entails.of_eq (SRt_end c w)) $$ I1
  iapply (seq c)
  iapply (run19 c (OO X w b sb ws rb ix (HF X a sa rw)) g10)
  isplitl [LT MB SH O]
  · isplitl [LT]; · iexact LT
    isplitl [MB]; · iexact MB
    isplitl [SH]; · iexact SH
    iexact O
  iintro ⟨⟨G10, S21, V18⟩, O⟩
  iapply (waitQ c (QF X) sem_r0) $$ [HQ O]
  · isplitl [HQ]; · iexact HQ
    iexact O
  iintro ⟨⟨G12, HR⟩, V22, O⟩
  iapply (waitU c (src := m28) (dst := m13) (XSR X) (XSR X) sem_r1) $$ [U23 O]
  · isplitl [U23]; · iexact U23
    iexact O
  iintro ⟨⟨G13, S28⟩, V23, O⟩
  iapply (waitU c (src := m27) (dst := m11) (GT rb ix (HF X a sa rw)) (GT rb ix (HF X a sa rw)) sem_r2) $$ [U24 O]
  · isplitl [U24]; · iexact U24
    iexact O
  iintro ⟨⟨G11, S27⟩, V24, O⟩
  ihave S15 := (Entails.of_eq (wh_halves c cc0_scratch1 (QF X)).symm) $$ [HL HR]
  · isplitl [HL]; · iexact HL
    iexact HR
  ihave G11 := (Entails.of_eq (wh_pt c main_v11_1 _).symm) $$ G11
  ihave G12 := (Entails.of_eq (wh_pt c main_v11_2 _).symm) $$ G12
  ihave G13 := (Entails.of_eq (wh_pt c main_v11_3 _).symm) $$ G13
  ihave S27 := (Entails.of_eq (wh_pt c cc0_scratch13 _).symm) $$ S27
  ihave S28 := (Entails.of_eq (wh_pt c cc0_scratch14 _).symm) $$ S28
  iapply done
  iapply Hk
  isplitl [S14 S15 S16 S17 S18 S19 S20 S21 S22 S23 S24 S25 S26 S27 S28]
  · isplitl [S14]; · iexists (X); iexact S14
    isplitl [S15]; · iexists (QF X); iexact S15
    isplitl [S16]; · iexists (AV a sa rw); iexact S16
    isplitl [S17]; · iexists (HF X a sa rw); iexact S17
    isplitl [S18]; · iexists (HB rb ix (HF X a sa rw)); iexact S18
    isplitl [S19]; · iexists (BV b sb); iexact S19
    isplitl [S20]; · iexact S20
    isplitl [S21]; · iexists (OO X w b sb ws rb ix (HF X a sa rw)); iexact S21
    isplitl [S22]; · iexists (XSV X); iexact S22
    isplitl [S23]; · iexists (INV X); iexact S23
    isplitl [S24]; · iexists (ws); iexact S24
    isplitl [S25]; · iexists (rb); iexact S25
    isplitl [S26]; · iexists (ix); iexact S26
    isplitl [S27]; · iexists (GT rb ix (HF X a sa rw)); iexact S27
    iexists (XSR X); iexact S28
  isplitl [V0 V1 V2 V3 V4 V5 V6 V7 V8 V9 V10 V11 V12 V13 V14 V15 V16 V17 V18 V19 V20 V21 V22 V23 V24]
  · isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    isplitl [V23]; · iexact V23
    iexact V24
  isplitl [I0 I1 I2 I3 I4 I5 I6 I7 I8 I9]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    iexact I9
  isplitl [G10 G11 G12 G13]
  · isplitl [G10]; · iexact G10
    isplitl [G11]; · iexact G11
    isplitl [G12]; · iexact G12
    iexact G13
  iexact O

end Body

end Cert.Kernel.Hand

end
-- ==== Proof.Kernel.Run.lean ====
/- The launch: the kernel's body inside the host's lines, and the frame. -/
module

public import proofs.«01_k».proof.Proof.Kernel.Body
public import Idealize.ShloMosaic.Lib.Pipeline.FrameSuffixV

@[expose] public section

noncomputable section

namespace Cert.Kernel.Hand

open Cert.Kernel Cert.Kernel.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

open Pipeline (Dat BodyObligation BodyObligationLoose Cfg WinSpec)

variable (m : (ℓ : Loc nD τ sig) → Buf (Elt F) ℓ) (ρ : Dev nD → PrngReg)

/-! ## The four arrays the kernel leaves -/

def out0 (c : Dev nD) : C F S128x4096 .bf16 := RES (Gen.V m c main_v0) (Gen.V m c main_arg1) (Gen.V m c main_v1) (Gen.V m c main_v3) (Gen.V m c main_v4) (Gen.V m c main_v6) (Gen.V m c main_v8) (Gen.V m c main_v9) (Gen.V m c main_v10) (Gen.V m c main_arg9)
def out1 (c : Dev nD) : C F S2x128 .f32 := GT (Gen.V m c main_v4) (Gen.V m c main_v6) (HF (Gen.V m c main_v0) (Gen.V m c main_v8) (Gen.V m c main_v10) (Gen.V m c main_v3))
def out2 (c : Dev nD) : C F S128x14336 .fp8e4m3 := QF (Gen.V m c main_v0)
def out3 (c : Dev nD) : C F S1x128 .f32 := XSR (Gen.V m c main_v0)

/-- Every buffer after the kernel: its four results at what it computes, the others as it found them. -/
def GG (c : Dev nD) : (b : Ref sig .tc) → Buf (Elt F) ((c.tc : Thread nD τ).loc b) :=
  Function.update (Function.update (Function.update (Function.update (Gen.V m c) main_v11_0 (out0 m c)) main_v11_1 (out1 m c)) main_v11_2 (out2 m c)) main_v11_3 (out3 m c)

theorem GG0 (c : Dev nD) : GG m c main_v11_0 = out0 m c := by
  unfold GG
  rw [Function.update_of_ne (by decide), Function.update_of_ne (by decide), Function.update_of_ne (by decide), Function.update_self]
theorem GG1 (c : Dev nD) : GG m c main_v11_1 = out1 m c := by
  unfold GG
  rw [Function.update_of_ne (by decide), Function.update_of_ne (by decide), Function.update_self]
theorem GG2 (c : Dev nD) : GG m c main_v11_2 = out2 m c := by
  unfold GG
  rw [Function.update_of_ne (by decide), Function.update_self]
theorem GG3 (c : Dev nD) : GG m c main_v11_3 = out3 m c := by
  unfold GG
  rw [Function.update_self]

/-! ## What the launch hands the body -/

/-- The kernel's semaphores. -/
abbrev osem0 : Fin 25 → SemLoc sig := fun j => SemLoc.dma j
theorem ownSemFacts0 : Pipeline.OwnSemFacts cfg0.spec osem0 := by decide +kernel
/-- The arrays the kernel reads. -/
def H0 : Finset (Ref sig .tc) := {main_v0, main_arg1, main_v1, main_v3, main_v4, main_v6, main_v8, main_v9, main_v10, main_arg9}
theorem H0_sub : H0 ⊆ Pipeline.restRefs sig cfg0.spec := by decide +kernel
/-- The arrays the kernel writes. -/
def R0 : Finset (Ref sig .tc) := {main_v11_0, main_v11_1, main_v11_2, main_v11_3}
theorem R0_sub : R0 ⊆ Pipeline.restRefs sig cfg0.spec \ H0 := by decide +kernel

theorem sems_eq (c : Dev nD) :
    (Pipeline.ownSems0 (Ix := Unit) (Name := ℕ) (U := Pipeline.UD sig nD τ) (Lvl := ℕ) (Val := Elt F) (τ := τ) osem0 c : PP F) = Sems c := by
  rw [Pipeline.ownSems0_eq_of_list c osem0 [0, 1, 2, 3, 4, 5, 6, 7, 8, 9, 10, 11, 12, 13, 14, 15, 16, 17, 18, 19, 20, 21, 22, 23, 24] (by decide) (by decide)]; rfl
theorem ins_eq (c : Dev nD) :
    (bigSep H0 (fun b => ((c.tc : Thread nD τ).loc b) ↦{fullShare} Gen.V m c b) : PP F) = Ins c (Gen.V m c main_v0) (Gen.V m c main_arg1) (Gen.V m c main_v1) (Gen.V m c main_v3) (Gen.V m c main_v4) (Gen.V m c main_v6) (Gen.V m c main_v8) (Gen.V m c main_v9) (Gen.V m c main_v10) (Gen.V m c main_arg9) := by
  rw [BI.bigSep_eq_bigSepL_of_eq [main_v0, main_arg1, main_v1, main_v3, main_v4, main_v6, main_v8, main_v9, main_v10, main_arg9] (by decide) (by decide)]; rfl
theorem outs_eq (G : (c : Dev nD) → (b : Ref sig .tc) → Buf (Elt F) ((c.tc : Thread nD τ).loc b)) (c : Dev nD) :
    (bigSep R0 (fun b => ((c.tc : Thread nD τ).loc b) ↦{fullShare} G c b) : PP F)
      = iprop(wh c m10 (G c main_v11_0) ∗ wh c m11 (G c main_v11_1) ∗ wh c m12 (G c main_v11_2) ∗ wh c m13 (G c main_v11_3)) := by
  rw [BI.bigSep_eq_bigSepL_of_eq [main_v11_0, main_v11_1, main_v11_2, main_v11_3] (by decide) (by decide)]; rfl
theorem scr_eq (c : Dev nD) :
    (Pipeline.scopedRest (Ix := Unit) (Name := ℕ) (U := Pipeline.UD sig nD τ) (Lvl := ℕ) (Val := Elt F) (cfg0.spec) c : PP F) = Scr c :=
  scopedRest0_eq c

theorem phi_eq (G : (c : Dev nD) → (b : Ref sig .tc) → Buf (Elt F) ((c.tc : Thread nD τ).loc b)) (c : Dev nD) :
    (Pipeline.ΦDRV osem0 cfg0.spec H0 R0 (Gen.V m) G c : PP F)
      = iprop(Scr c ∗ Sems c ∗ Ins c (Gen.V m c main_v0) (Gen.V m c main_arg1) (Gen.V m c main_v1) (Gen.V m c main_v3) (Gen.V m c main_v4) (Gen.V m c main_v6) (Gen.V m c main_v8) (Gen.V m c main_v9) (Gen.V m c main_v10) (Gen.V m c main_arg9) ∗ (wh c m10 (G c main_v11_0) ∗ wh c m11 (G c main_v11_1) ∗ wh c m12 (G c main_v11_2) ∗ wh c m13 (G c main_v11_3))) := by
  unfold Pipeline.ΦDRV
  rw [scr_eq, sems_eq, ins_eq, outs_eq]

/-! ## The region -/

/-- The region: before its one point the arrays as launched, after it the four results. -/
def dats (_ : Fin 1) (c : Dev nD) : Dat τ (Elt F) Unit ℕ (Pipeline.UD sig nD τ) ℕ cfg0 c where
  A w := Gen.V m c (Pipeline.arrRef cfg0.spec w)
  after w _ := Fin.elim0 w
  Φ (t : Fin (cfg0.N + 1)) := Pipeline.ΦDRV osem0 cfg0.spec H0 R0 (Gen.V m) (if t.val = 0 then Gen.V m else GG m) c
  q _ := fullShare
  owed _ := 0

theorem A_eq (c : Dev nD) (w : Fin cfg0.W) : (dats m 0 c).A w = Gen.V m c (Pipeline.arrRef cfg0.spec w) := by
  dsimp only [dats]

theorem phi_first (c : Dev nD) (t : Fin cfg0.N) : (dats m 0 c).Φ t.castSucc = Pipeline.ΦDRV osem0 cfg0.spec H0 R0 (Gen.V m) (Gen.V m) c := by
  have h : t.castSucc.val = 0 := Nat.lt_one_iff.mp t.isLt
  show Pipeline.ΦDRV osem0 cfg0.spec H0 R0 (Gen.V m) (if t.castSucc.val = 0 then Gen.V m else GG m) c = _
  rw [if_pos h]
theorem phi_last (c : Dev nD) (t : Fin cfg0.N) : (dats m 0 c).Φ t.succ = Pipeline.ΦDRV osem0 cfg0.spec H0 R0 (Gen.V m) (GG m) c := by
  have h : ¬ t.succ.val = 0 := Nat.succ_ne_zero _
  show Pipeline.ΦDRV osem0 cfg0.spec H0 R0 (Gen.V m) (if t.succ.val = 0 then Gen.V m else GG m) c = _
  rw [if_neg h]

def bodyPre (c : Dev nD) (t : Fin cfg0.N) : PP F :=
  iprop((dats m 0 c).Φ t.castSucc ∗ (dats m 0 c).owesAt () t.castSucc ∗ (BI.emp : PP F))
def bodyPost (c : Dev nD) (t : Fin cfg0.N) : PP F :=
  iprop((dats m 0 c).Φ t.succ ∗ (dats m 0 c).owesAt () t.succ ∗ (BI.emp : PP F))

theorem sound_body (c : Dev nD) (t : Fin cfg0.N) :
    bodyPre m c t ⊢ wpB c (bodyAt0 t) (fun _ => bodyPost m c t) := by
  unfold bodyPre bodyPost bodyAt0
  rw [phi_first, phi_last, phi_eq, phi_eq, GG0, GG1, GG2, GG3]
  unfold Dat.owesAt Pipeline.owesWithin
  rw [show (dats m 0 c).owed t.castSucc = 0 from rfl, show (dats m 0 c).owed t.succ = 0 from rfl]
  iintro ⟨⟨HS, HV, HI, G10, G11, G12, G13⟩, ⟨%W, -, HW⟩, -⟩
  iapply (run_body c (Gen.V m c main_v0) (Gen.V m c main_arg1) (Gen.V m c main_v1) (Gen.V m c main_v3) (Gen.V m c main_v4) (Gen.V m c main_v6) (Gen.V m c main_v8) (Gen.V m c main_v9) (Gen.V m c main_v10) (Gen.V m c main_arg9) (Gen.V m c main_v11_0) (Gen.V m c main_v11_1) (Gen.V m c main_v11_2) (Gen.V m c main_v11_3))
  isplitl [HS HV HI G10 G11 G12 G13 HW]
  · isplitl [HS]; · iexact HS
    isplitl [HV]; · iexact HV
    isplitl [HI]; · iexact HI
    isplitl [G10 G11 G12 G13]
    · isplitl [G10]; · iexact G10
      isplitl [G11]; · iexact G11
      isplitl [G12]; · iexact G12
      iexact G13
    iexists W; iexact HW
  iintro ⟨HS, HV, HI, ⟨G10, G11, G12, G13⟩, ⟨%W', HW'⟩⟩
  isplitl [HS HV HI G10 G11 G12 G13]
  · isplitl [HS]; · iexact HS
    isplitl [HV]; · iexact HV
    isplitl [HI]; · iexact HI
    isplitl [G10]; · iexact G10
    isplitl [G11]; · iexact G11
    isplitl [G12]; · iexact G12
    iexact G13
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem bigSep0 (Φ : Fin cfg0.W → PP F) : bigSep Finset.univ Φ = (BI.emp : PP F) :=
  BI.bigSep_univ_eq_bigSepL [] (by decide) (by decide) Φ

theorem body_obligation (c : Dev nD) : BodyObligation (dats (F := F) m 0 c) (defs₀ (F := F)) Variants.none () Set.univ := fun t => by
  rw [bigSep0, bigSep0, defs₀_row]
  exact triple_restated (sound_body m c t) rfl .rfl fun _ => .rfl

/-! ## The run -/

theorem hmainD (𝒱₀ : Variants) : Pipeline.HMainK (Ix := Unit) (Name := ℕ) (U := Pipeline.UD sig nD τ) (Lvl := ℕ) cfgs 0 defs₀ 𝒱₀ m (main (F := F)) (Gen.V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- A buffer at the end: what the host lines after the kernel make of the kernel's results. -/
def fin (c : Dev nD) (b : Ref sig .tc) : Buf (Elt F) ((c.tc : Thread nD τ).loc b) :=
  StableHlo.after ([hostOps1] : List (List (HloOp τ sig (Elt F)))).flatten (Pipeline.withArrays cfg0.spec c (Pipeline.withR (Gen.V0 m c) R0 c (GG m c)) fun w => (dats m 0 c).arrAt w cfg0.N) (Proc.devRef .tc b)

set_option backward.isDefEq.respectTransparency.types false in
/-- The program runs, every buffer outside the chip ends at `fin`, every counter at zero. -/
theorem run_main : θ_run defs (onTc (τ := τ) (main (F := F))) (s₀ m ρ) (fun r => (∀ c : Dev nD, ∀ b ∈ Pipeline.restRefs sig cfg0.spec, r.2.mem ((c.tc : Thread nD τ).loc b) = fin m c b) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := Gen.V0 m) (opss := [hostOps1]) (hsub := sfx_sub) (hfresh := sfx_fresh) (hkeep := sfx_keeps) (G := GG m)
    (hmain := hmainD m Variants.none) (hA := A_eq m) (hin := fun _ => .rfl) (hout := fun _ => .rfl)
    (hQ' := fun _ h => ⟨fun c b hb => (h.1 c).2 b hb, h.2⟩)

/-- A buffer that nothing after the entry of the kernel writes. -/
theorem fin_of_not_mem (c : Dev nD) (b : Ref sig .tc) (h1 : b ≠ main_v12) (h2 : b ≠ main_v13) (h3 : b ≠ main_v14) (h4 : b ≠ main_v15) (hR : b ∉ R0) :
    fin m c b = Gen.V m c b := by
  unfold fin
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne h1, StableHlo.devRef_ne_of_ne h2, StableHlo.devRef_ne_of_ne h3, StableHlo.devRef_ne_of_ne h4⟩)),
    Pipeline.withArrays_of_ne _ c _ _ b (fun w => w.elim0), Pipeline.withR_of_not_mem _ _ _ _ _ hR]

/-- The program runs, its arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1 c main_arg0 (Pipeline.mem_restRefs_of main_arg0 (by decide) (by decide))).trans ((fin_of_not_mem m c main_arg0 (by decide) (by decide) (by decide) (by decide) (by decide)).trans (V_main_arg0 m c)),
      (h.1 c main_arg1 (Pipeline.mem_restRefs_of main_arg1 (by decide) (by decide))).trans ((fin_of_not_mem m c main_arg1 (by decide) (by decide) (by decide) (by decide) (by decide)).trans (V_main_arg1 m c)),
      (h.1 c main_arg2 (Pipeline.mem_restRefs_of main_arg2 (by decide) (by decide))).trans ((fin_of_not_mem m c main_arg2 (by decide) (by decide) (by decide) (by decide) (by decide)).trans (V_main_arg2 m c)),
      (h.1 c main_arg3 (Pipeline.mem_restRefs_of main_arg3 (by decide) (by decide))).trans ((fin_of_not_mem m c main_arg3 (by decide) (by decide) (by decide) (by decide) (by decide)).trans (V_main_arg3 m c)),
      (h.1 c main_arg4 (Pipeline.mem_restRefs_of main_arg4 (by decide) (by decide))).trans ((fin_of_not_mem m c main_arg4 (by decide) (by decide) (by decide) (by decide) (by decide)).trans (V_main_arg4 m c)),
      (h.1 c main_arg5 (Pipeline.mem_restRefs_of main_arg5 (by decide) (by decide))).trans ((fin_of_not_mem m c main_arg5 (by decide) (by decide) (by decide) (by decide) (by decide)).trans (V_main_arg5 m c)),
      (h.1 c main_arg6 (Pipeline.mem_restRefs_of main_arg6 (by decide) (by decide))).trans ((fin_of_not_mem m c main_arg6 (by decide) (by decide) (by decide) (by decide) (by decide)).trans (V_main_arg6 m c)),
      (h.1 c main_arg7 (Pipeline.mem_restRefs_of main_arg7 (by decide) (by decide))).trans ((fin_of_not_mem m c main_arg7 (by decide) (by decide) (by decide) (by decide) (by decide)).trans (V_main_arg7 m c)),
      (h.1 c main_arg8 (Pipeline.mem_restRefs_of main_arg8 (by decide) (by decide))).trans ((fin_of_not_mem m c main_arg8 (by decide) (by decide) (by decide) (by decide) (by decide)).trans (V_main_arg8 m c)),
      (h.1 c main_arg9 (Pipeline.mem_restRefs_of main_arg9 (by decide) (by decide))).trans ((fin_of_not_mem m c main_arg9 (by decide) (by decide) (by decide) (by decide) (by decide)).trans (V_main_arg9 m c))⟩, h.2⟩) (run_main m ρ)

end Cert.Kernel.Hand

end
-- ==== Proof.KernelIdeal.Kit.lean ====
/- The kernel's buffers, the windows of them its copies move, and its semaphores, under short names. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Lib.Steps
public import Idealize.ShloMosaic.Lib.Pipeline.FrameBody
public import Idealize.ShloMosaic.Lib.ValueIdxCore
public import Idealize.ShloMosaic.Lib.ValueLayout

@[expose] public section

noncomputable section

namespace Cert.KernelIdeal.Hand

open Cert.KernelIdeal Cert.KernelIdeal.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Assertions about this kernel. -/
abbrev PP (F : FTy → Type) [FloatOps F] := SP nD τ sig (Elt F)

/-! ## The operands -/

abbrev m0 : Memref sig .tc .hbm S128x14336 .bf16 := Memref.whole main_v0
abbrev m1 : Memref sig .tc .hbm S14336x4096 .fp8e4m3 := Memref.whole main_arg1
abbrev m2 : Memref sig .tc .hbm S1x4096 .f32 := Memref.whole main_v1
abbrev m3 : Memref sig .tc .hbm S16x14336 .bf16 := Memref.whole main_v3
abbrev m4 : Memref sig .tc .hbm S1x12 .f32 := Memref.whole main_v4
abbrev m5 : Memref sig .tc .hbm S2x128 .i32 := Memref.whole main_v6
abbrev m6 : Memref sig .tc .hbm S768x14336 .bf16 := Memref.whole main_v8
abbrev m7 : Memref sig .tc .hbm S768x4096 .bf16 := Memref.whole main_v9
abbrev m8 : Memref sig .tc .hbm S64x14336 .bf16 := Memref.whole main_v10
abbrev m9 : Memref sig .tc .hbm S64x4096 .bf16 := Memref.whole main_arg9
abbrev m10 : Memref sig .tc .hbm S128x4096 .bf16 := Memref.whole main_v11_0
abbrev m11 : Memref sig .tc .hbm S2x128 .f32 := Memref.whole main_v11_1
abbrev m12 : Memref sig .tc .hbm S128x14336 .fp8e4m3 := Memref.whole main_v11_2
abbrev m13 : Memref sig .tc .hbm S1x128 .f32 := Memref.whole main_v11_3
abbrev m14 : Memref sig .tc .vmem S128x14336 .bf16 := Memref.whole cc0_scratch0
abbrev m15 : Memref sig .tc .vmem S128x14336 .fp8e4m3 := Memref.whole cc0_scratch1
abbrev m16 : Memref sig .tc .vmem S848x14336 .bf16 := Memref.whole cc0_scratch2
abbrev m17 : Memref sig .tc .vmem S848x128 .f32 := Memref.whole cc0_scratch3
abbrev m18 : Memref sig .tc .vmem S128x832 .bf16 := Memref.whole cc0_scratch4
abbrev m19 : Memref sig .tc .vmem S832x4096 .bf16 := Memref.whole cc0_scratch5
abbrev m20 : Memref sig .tc .vmem S3x14336x512 .fp8e4m3 := Memref.whole cc0_scratch6
abbrev m21 : Memref sig .tc .vmem S128x4096 .bf16 := Memref.whole cc0_scratch7
abbrev m22 : Memref sig .tc .vmem S128x128 .f32 := Memref.whole cc0_scratch8
abbrev m23 : Memref sig .tc .vmem S128x128 .f32 := Memref.whole cc0_scratch9
abbrev m24 : Memref sig .tc .vmem S1x4096 .f32 := Memref.whole cc0_scratch10
abbrev m25 : Memref sig .tc .vmem S1x12 .f32 := Memref.whole cc0_scratch11
abbrev m26 : Memref sig .tc .vmem S2x128 .i32 := Memref.whole cc0_scratch12
abbrev m27 : Memref sig .tc .vmem S2x128 .f32 := Memref.whole cc0_scratch13
abbrev m28 : Memref sig .tc .vmem S1x128 .f32 := Memref.whole cc0_scratch14

/-- Contents of a buffer of shape `s` and element type `e`. -/
abbrev C (F : FTy → Type) (s : Shape) (e : EltTy) := s.Idx → Elt F e

/-- A buffer, whole. -/
abbrev wh (c : Dev nD) {sp : Space} {s : Shape} {e : EltTy} (M : Memref sig .tc sp s e) (f : Buf (Elt F) (M.view.loc (c.tc : Thread nD τ))) : PP F :=
  M.view.loc (c.tc : Thread nD τ) ↦{fullShare} f

/-- A DMA semaphore at zero. -/
abbrev sv (c : Dev nD) (i : Fin 25) : PP F := semVal ((c.tc : Thread nD τ), SemLoc.dma i) 0

/-- Block `i` of 2048 columns of the activations, in HBM and on chip. -/
abbrev xh (i : Fin k0_t1_loop.trips) : Memref sig .tc .hbm S128x2048 .bf16 := m0.slice (Rect.unit (s := S128x14336) (k0_off2 i) S128x2048.size (k0_off2_inb i)) (fun _ => rfl)
abbrev xv (i : Fin k0_t1_loop.trips) : Memref sig .tc .vmem S128x2048 .bf16 := m14.slice (Rect.unit (s := S128x14336) (k0_off2 i) S128x2048.size (k0_off2_inb i)) (fun _ => rfl)

theorem xh_split (c : Dev nD) (f : C F S128x14336 .bf16) :
    (wh c m0 f : PP F) = bigSep Finset.univ fun i => pt (c.tc : Thread nD τ) (xh i) f :=
  split_lead main_v0 c (1 : Fin 2) 2048 k0_off2 S128x2048.size k0_off2_inb (by decide +kernel) (by decide +kernel) (by decide) (by decide) (by decide) f
theorem xv_split (c : Dev nD) (f : C F S128x14336 .bf16) :
    (wh c m14 f : PP F) = bigSep Finset.univ fun i => pt (c.tc : Thread nD τ) (xv i) f :=
  split_lead cc0_scratch0 c (1 : Fin 2) 2048 k0_off2 S128x2048.size k0_off2_inb (by decide +kernel) (by decide +kernel) (by decide) (by decide) (by decide) f

abbrev t1 (n : Fin 7) : Fin k0_t1_loop.trips := n.cast (by decide)

theorem univ7 : (Finset.univ : Finset (Fin k0_t1_loop.trips)) = [t1 0, t1 1, t1 2, t1 3, t1 4, t1 5, t1 6].toFinset := by decide
theorem bigSep7 (Φ : Fin k0_t1_loop.trips → PP F) : bigSep Finset.univ Φ = iprop(Φ (t1 0) ∗ Φ (t1 1) ∗ Φ (t1 2) ∗ Φ (t1 3) ∗ Φ (t1 4) ∗ Φ (t1 5) ∗ Φ (t1 6)) :=
  bigSep_univ_eq_bigSepL [t1 0, t1 1, t1 2, t1 3, t1 4, t1 5, t1 6] (by decide) (by decide) Φ

/-- Block `i` of 2048 columns of the three matrices stacked into `a_v`: the router's, the shared one, the experts'. -/
abbrev ah3 (i : Fin k0_t3_loop.trips) : Memref sig .tc .hbm S16x2048 .bf16 := m3.slice (Rect.unit (s := S16x14336) (k0_off7 i) S16x2048.size (k0_off7_inb i)) (fun _ => rfl)
abbrev ah8 (i : Fin k0_t3_loop.trips) : Memref sig .tc .hbm S64x2048 .bf16 := m8.slice (Rect.unit (s := S64x14336) (k0_off9 i) S64x2048.size (k0_off9_inb i)) (fun _ => rfl)
abbrev ah6 (i : Fin k0_t3_loop.trips) : Memref sig .tc .hbm S768x2048 .bf16 := m6.slice (Rect.unit (s := S768x14336) (k0_off11 i) S768x2048.size (k0_off11_inb i)) (fun _ => rfl)
abbrev av3 (i : Fin k0_t3_loop.trips) : Memref sig .tc .vmem S16x2048 .bf16 := m16.slice (Rect.unit (s := S848x14336) (k0_off6 i) S16x2048.size (k0_off6_inb i)) (fun _ => rfl)
abbrev av8 (i : Fin k0_t3_loop.trips) : Memref sig .tc .vmem S64x2048 .bf16 := m16.slice (Rect.unit (s := S848x14336) (k0_off8 i) S64x2048.size (k0_off8_inb i)) (fun _ => rfl)
abbrev av6 (i : Fin k0_t3_loop.trips) : Memref sig .tc .vmem S768x2048 .bf16 := m16.slice (Rect.unit (s := S848x14336) (k0_off10 i) S768x2048.size (k0_off10_inb i)) (fun _ => rfl)
/-- Block `i` of 2048 columns of `a_v`, all three matrices together. -/
abbrev avc (i : Fin k0_t3_loop.trips) : Memref sig .tc .vmem S848x2048 .bf16 := m16.slice (Rect.unit (s := S848x14336) (k0_off12 i) S848x2048.size (k0_off12_inb i)) (fun _ => rfl)

abbrev t3 (n : Fin 7) : Fin k0_t3_loop.trips := n.cast (by decide)
abbrev t4 (n : Fin 8) : Fin k0_t4_loop.trips := n.cast (by decide)

theorem ah3_split (c : Dev nD) (f : C F S16x14336 .bf16) : (wh c m3 f : PP F) = bigSep Finset.univ fun i => pt (c.tc : Thread nD τ) (ah3 i) f :=
  split_lead main_v3 c (1 : Fin 2) 2048 k0_off7 S16x2048.size k0_off7_inb (by decide +kernel) (by decide +kernel) (by decide) (by decide) (by decide) f
theorem ah8_split (c : Dev nD) (f : C F S64x14336 .bf16) : (wh c m8 f : PP F) = bigSep Finset.univ fun i => pt (c.tc : Thread nD τ) (ah8 i) f :=
  split_lead main_v10 c (1 : Fin 2) 2048 k0_off9 S64x2048.size k0_off9_inb (by decide +kernel) (by decide +kernel) (by decide) (by decide) (by decide) f
theorem ah6_split (c : Dev nD) (f : C F S768x14336 .bf16) : (wh c m6 f : PP F) = bigSep Finset.univ fun i => pt (c.tc : Thread nD τ) (ah6 i) f :=
  split_lead main_v8 c (1 : Fin 2) 2048 k0_off11 S768x2048.size k0_off11_inb (by decide +kernel) (by decide +kernel) (by decide) (by decide) (by decide) f
theorem avc_split (c : Dev nD) (f : C F S848x14336 .bf16) : (wh c m16 f : PP F) = bigSep Finset.univ fun i => pt (c.tc : Thread nD τ) (avc i) f :=
  split_lead cc0_scratch2 c (1 : Fin 2) 2048 k0_off12 S848x2048.size k0_off12_inb (by decide +kernel) (by decide +kernel) (by decide) (by decide) (by decide) f

theorem off6_val (i : Fin k0_t3_loop.trips) : k0_off6 i 0 = 832 ∧ k0_off6 i 1 = k0_off12 i 1 := by revert i; decide +kernel
theorem off8_val (i : Fin k0_t3_loop.trips) : k0_off8 i 0 = 768 ∧ k0_off8 i 1 = k0_off12 i 1 := by revert i; decide +kernel
theorem off10_val (i : Fin k0_t3_loop.trips) : k0_off10 i 0 = 0 ∧ k0_off10 i 1 = k0_off12 i 1 := by revert i; decide +kernel
theorem off12_val (i : Fin k0_t3_loop.trips) : k0_off12 i 0 = 0 ∧ k0_off12 i 1 = 2048 * i.val := by revert i; decide +kernel
theorem off7_val (i : Fin k0_t3_loop.trips) : k0_off7 i 0 = 0 ∧ k0_off7 i 1 = k0_off12 i 1 := by revert i; decide +kernel
theorem off9_val (i : Fin k0_t3_loop.trips) : k0_off9 i 0 = 0 ∧ k0_off9 i 1 = k0_off12 i 1 := by revert i; decide +kernel
theorem off11_val (i : Fin k0_t3_loop.trips) : k0_off11 i 0 = 0 ∧ k0_off11 i 1 = k0_off12 i 1 := by revert i; decide +kernel

/-- A block of `a_v` is its three parts, top, middle and bottom. -/
theorem avc_parts (c : Dev nD) (f : C F S848x14336 .bf16) (i : Fin k0_t3_loop.trips) :
    (pt (c.tc : Thread nD τ) (avc i) f : PP F) = iprop(pt (c.tc : Thread nD τ) (av6 i) f ∗ pt (c.tc : Thread nD τ) (av8 i) f ∗ pt (c.tc : Thread nD τ) (av3 i) f) := by
  have e12 : (avc i).view.set = (Rect.unit (s := S848x14336) (k0_off12 i) S848x2048.size (k0_off12_inb i)).set := View.set_slice_whole cc0_scratch2 _
  have e10 : (av6 i).view.set = (Rect.unit (s := S848x14336) (k0_off10 i) S768x2048.size (k0_off10_inb i)).set := View.set_slice_whole cc0_scratch2 _
  have e8 : (av8 i).view.set = (Rect.unit (s := S848x14336) (k0_off8 i) S64x2048.size (k0_off8_inb i)).set := View.set_slice_whole cc0_scratch2 _
  have e6 : (av3 i).view.set = (Rect.unit (s := S848x14336) (k0_off6 i) S16x2048.size (k0_off6_inb i)).set := View.set_slice_whole cc0_scratch2 _
  have h12 := off12_val i; have h10 := off10_val i; have h8 := off8_val i; have h6 := off6_val i
  have d1 : Disjoint (av8 i).view.set (av3 i).view.set := by
    rw [e8, e6, Finset.disjoint_left]; intro p hp hq
    have h1 := (Rect.mem_set_unit.mp hp) 0; have h2 := (Rect.mem_set_unit.mp hq) 0
    rw [h8.1] at h1; rw [h6.1] at h2
    have e : S64x2048.size (0 : Fin 2) = 64 := rfl
    omega
  have d2 : Disjoint (av6 i).view.set ((av8 i).view.set ∪ (av3 i).view.set) := by
    rw [e10, e8, e6, Finset.disjoint_left]; intro p hp hq
    have h1 := (Rect.mem_set_unit.mp hp) 0
    have e : S768x2048.size (0 : Fin 2) = 768 := rfl
    rcases Finset.mem_union.mp hq with hq | hq <;> have h2 := (Rect.mem_set_unit.mp hq) 0
    · rw [h10.1] at h1; rw [h8.1] at h2; omega
    · rw [h10.1] at h1; rw [h6.1] at h2; omega
  have u : (avc i).view.set = (av6 i).view.set ∪ ((av8 i).view.set ∪ (av3 i).view.set) := by
    rw [e12, e10, e8, e6]; ext p
    simp only [Finset.mem_union]
    simp only [Rect.mem_set_unit]
    simp only [show ∀ P : Fin S848x14336.rank → Prop, (∀ a, P a) ↔ P 0 ∧ P 1 from fun P => Fin.forall_fin_two, h12.1, h10.1, h10.2, h8.1, h8.2, h6.1, h6.2,
      Matrix.cons_val_zero, Matrix.cons_val_one, Matrix.cons_val_fin_one]
    have q0 : (p 0).val < 848 := (p 0).isLt
    omega
  refine (congrArg (fun S => (m16.view.loc (c.tc : Thread nD τ) ↦[S]{fullShare} f : PP F)) u).trans ?_
  exact Entails.antisymm ((pointsTo_union d2).1.trans (sep_mono .rfl (pointsTo_union d1).1)) ((sep_mono .rfl (pointsTo_union d1).2).trans (pointsTo_union d2).2)

/-- What `a_v` holds once its copies have landed: the experts' rows, the shared ones, the router's. -/
def AV (a : C F S768x14336 .bf16) (sa : C F S64x14336 .bf16) (rw : C F S16x14336 .bf16) : C F S848x14336 .bf16 := fun p =>
  if h : (p 0).val < 768 then a (ValueIdx.ix2 ⟨(p 0).val, h⟩ (p 1)) else
  if h' : (p 0).val < 832 then sa (ValueIdx.ix2 ⟨(p 0).val - 768, by omega⟩ (p 1)) else
  rw (ValueIdx.ix2 ⟨(p 0).val - 832, by have : (p 0).val < 848 := (p 0).isLt; omega⟩ (p 1))

theorem idx2_ext {n0 n1 : ℕ} {i j : (⟨2, ![n0, n1]⟩ : Shape).Idx} (h0 : (i 0).val = (j 0).val) (h1 : (i 1).val = (j 1).val) : i = j := by
  funext a; match a with | ⟨0, _⟩ => exact Fin.ext h0 | ⟨1, _⟩ => exact Fin.ext h1

section AVreads
variable (a : C F S768x14336 .bf16) (sa : C F S64x14336 .bf16) (rw : C F S16x14336 .bf16)

theorem AV_a (p : S848x14336.Idx) (q : S768x14336.Idx) (h0 : (p 0).val = (q 0).val) (h1 : (p 1).val = (q 1).val) : AV a sa rw p = a q := by
  have hq : (q 0).val < 768 := (q 0).isLt
  unfold AV; rw [dif_pos (by omega)]; exact congrArg a (idx2_ext h0 h1)
theorem AV_sa (p : S848x14336.Idx) (q : S64x14336.Idx) (h0 : (p 0).val = 768 + (q 0).val) (h1 : (p 1).val = (q 1).val) : AV a sa rw p = sa q := by
  have hq : (q 0).val < 64 := (q 0).isLt
  unfold AV; rw [dif_neg (by omega), dif_pos (by omega)]; exact congrArg sa (idx2_ext (by show (p 0).val - 768 = _; omega) h1)
theorem AV_rw (p : S848x14336.Idx) (q : S16x14336.Idx) (h0 : (p 0).val = 832 + (q 0).val) (h1 : (p 1).val = (q 1).val) : AV a sa rw p = rw q := by
  unfold AV; rw [dif_neg (by omega), dif_neg (by omega)]; exact congrArg rw (idx2_ext (by show (p 0).val - 832 = _; omega) h1)

/-- Each copy into `a_v` carries its part of what `a_v` is to hold. -/
theorem ah6_read (i : Fin k0_t3_loop.trips) : (ah6 i).view.read (Elt F) a = (av6 i).view.read (Elt F) (AV a sa rw) := by
  funext x
  refine (AV_a a sa rw _ _ ?_ ?_).symm
  · rw [ValueKit.view_emb_slice_whole_unit_val main_v8, ValueKit.view_emb_slice_whole_unit_val cc0_scratch2, (off10_val i).1, (off11_val i).1]
  · rw [ValueKit.view_emb_slice_whole_unit_val main_v8, ValueKit.view_emb_slice_whole_unit_val cc0_scratch2, (off10_val i).2, (off11_val i).2]
theorem ah8_read (i : Fin k0_t3_loop.trips) : (ah8 i).view.read (Elt F) sa = (av8 i).view.read (Elt F) (AV a sa rw) := by
  funext x
  refine (AV_sa a sa rw _ _ ?_ ?_).symm
  · rw [ValueKit.view_emb_slice_whole_unit_val main_v10, ValueKit.view_emb_slice_whole_unit_val cc0_scratch2, (off8_val i).1, (off9_val i).1]; omega
  · rw [ValueKit.view_emb_slice_whole_unit_val main_v10, ValueKit.view_emb_slice_whole_unit_val cc0_scratch2, (off8_val i).2, (off9_val i).2]
theorem ah3_read (i : Fin k0_t3_loop.trips) : (ah3 i).view.read (Elt F) rw = (av3 i).view.read (Elt F) (AV a sa rw) := by
  funext x
  refine (AV_rw a sa rw _ _ ?_ ?_).symm
  · rw [ValueKit.view_emb_slice_whole_unit_val main_v3, ValueKit.view_emb_slice_whole_unit_val cc0_scratch2, (off6_val i).1, (off7_val i).1]; omega
  · rw [ValueKit.view_emb_slice_whole_unit_val main_v3, ValueKit.view_emb_slice_whole_unit_val cc0_scratch2, (off6_val i).2, (off7_val i).2]

end AVreads

/-! ## The weight's ring, the adapters' rows, the result's blocks -/

/-- 512 columns of the weight, in HBM, and a slot of the ring they are copied to. -/
abbrev wHo (off : Fin 2 → ℕ) (inb : ∀ a, off a + S14336x512.size a ≤ S14336x4096.size a) : Memref sig .tc .hbm S14336x512 .fp8e4m3 :=
  m1.slice (Rect.unit (s := S14336x4096) off S14336x512.size inb) (fun _ => rfl)
abbrev wSo (off : Fin 3 → ℕ) (inb : ∀ a, off a + S1x14336x512.size a ≤ S3x14336x512.size a) : Memref sig .tc .vmem S14336x512 .fp8e4m3 :=
  (m20.slice (Rect.unit (s := S3x14336x512) off S1x14336x512.size inb) (fun _ => rfl)).squeeze S14336x512 squeezes_S1x14336x512_S14336x512
theorem wH_inb (b : Fin 8) : ∀ a, (![0, 512 * b.val] : Fin 2 → ℕ) a + S14336x512.size a ≤ S14336x4096.size a := by revert b; decide
theorem wS_inb (s : Fin 3) : ∀ a, (![s.val, 0, 0] : Fin 3 → ℕ) a + S1x14336x512.size a ≤ S3x14336x512.size a := by revert s; decide
abbrev wH (b : Fin 8) := wHo ![0, 512 * b.val] (wH_inb b)
abbrev wS (s : Fin 3) := wSo ![s.val, 0, 0] (wS_inb s)

theorem wH_split (c : Dev nD) (f : C F S14336x4096 .fp8e4m3) : (wh c m1 f : PP F) = bigSep Finset.univ fun i => pt (c.tc : Thread nD τ) (wH i) f :=
  split_lead main_arg1 c (1 : Fin 2) 512 (fun b : Fin 8 => ![0, 512 * b.val]) S14336x512.size wH_inb (by decide +kernel) (by decide +kernel) (by decide) (by decide) (by decide) f
theorem wS_split (c : Dev nD) (f : C F S3x14336x512 .fp8e4m3) : (wh c m20 f : PP F) = bigSep Finset.univ fun i => pt (c.tc : Thread nD τ) (wS i) f := by
  refine (split_lead cc0_scratch6 c (0 : Fin 3) 1 (fun b : Fin 3 => ![b.val, 0, 0]) S1x14336x512.size wS_inb (by decide +kernel) (by decide +kernel) (by decide) (by decide) (by decide) f).trans ?_
  refine congrArg (bigSep Finset.univ) (funext fun i => ?_)
  refine congrArg (fun S => (m20.view.loc (c.tc : Thread nD τ) ↦[S]{fullShare} f : PP F)) ?_
  exact (Memref.set_view_squeeze (m20.slice (Rect.unit (s := S3x14336x512) ![i.val, 0, 0] S1x14336x512.size (wS_inb i)) (fun _ => rfl)) squeezes_S1x14336x512_S14336x512).symm

/-- What any slot holds once block `b` of the weight has landed in it. -/
def Wb (w : C F S14336x4096 .fp8e4m3) (b : Fin 8) : C F S3x14336x512 .fp8e4m3 := fun p =>
  w (ValueIdx.ix2 (p 1) ⟨512 * b.val + (p 2).val, by have h : (p 2).val < 512 := (p 2).isLt; have := b.isLt; show _ < 4096; omega⟩)

theorem wH_read (w : C F S14336x4096 .fp8e4m3) (b : Fin 8) (s : Fin 3) : (wH b).view.read (Elt F) w = (wS s).view.read (Elt F) (Wb w b) := by
  funext x
  obtain ⟨u, v, rfl⟩ : ∃ u v, x = ValueIdx.ix2 u v := ⟨x 0, x 1, ValueIdx.eq_ix2 x⟩
  refine Eq.trans ?_ (read_sq m20 ![s.val, 0, 0] (wS_inb s) squeezes_S1x14336x512_S14336x512 (Wb w b) u v).symm
  show w _ = Wb w b _
  unfold Wb
  refine congrArg w (idx2_ext ?_ ?_)
  · rw [ValueKit.view_emb_slice_whole_unit_val main_arg1]
    exact (ValueKit.rect_emb_unit_val (s := S3x14336x512) ![s.val, 0, 0] S1x14336x512.size (wS_inb s) (ValueIdx.ix3 (⟨0, Nat.one_pos⟩ : Fin 1) u v) 1).symm
  · rw [ValueKit.view_emb_slice_whole_unit_val main_arg1]
    have h := ValueKit.rect_emb_unit_val (s := S3x14336x512) ![s.val, 0, 0] S1x14336x512.size (wS_inb s) (ValueIdx.ix3 (⟨0, Nat.one_pos⟩ : Fin 1) u v) 2
    exact congrArg (512 * b.val + ·) ((Nat.zero_add v.val).symm.trans h.symm)

/-- The rows of `b_v`: the experts' and the shared ones. -/
abbrev bv7 : Memref sig .tc .vmem S768x4096 .bf16 := m19.slice (Rect.unit (s := S832x4096) ![0, 0] S768x4096.size inb_S832x4096_S768x4096_0_0) (fun _ => rfl)
abbrev bv9 : Memref sig .tc .vmem S64x4096 .bf16 := m19.slice (Rect.unit (s := S832x4096) ![768, 0] S64x4096.size inb_S832x4096_S64x4096_768_0) (fun _ => rfl)

/-- What `b_v` holds once its copies have landed. -/
def BV (b : C F S768x4096 .bf16) (sb : C F S64x4096 .bf16) : C F S832x4096 .bf16 := fun p =>
  if h : (p 0).val < 768 then b (ValueIdx.ix2 ⟨(p 0).val, h⟩ (p 1)) else
  sb (ValueIdx.ix2 ⟨(p 0).val - 768, by have : (p 0).val < 832 := (p 0).isLt; omega⟩ (p 1))

theorem b7_read (b : C F S768x4096 .bf16) (sb : C F S64x4096 .bf16) : m7.view.read (Elt F) b = bv7.view.read (Elt F) (BV b sb) := by
  funext x
  have h0 : (bv7.view.emb x 0).val = (x 0).val := (ValueKit.view_emb_slice_whole_unit_val cc0_scratch5 _ _ _ x 0).trans (Nat.zero_add _)
  have h1 : (bv7.view.emb x 1).val = (x 1).val := (ValueKit.view_emb_slice_whole_unit_val cc0_scratch5 _ _ _ x 1).trans (Nat.zero_add _)
  have hx : (x 0).val < 768 := (x 0).isLt
  show b x = BV b sb (bv7.view.emb x)
  unfold BV; rw [dif_pos (by rw [h0]; exact hx)]
  exact congrArg b (idx2_ext h0.symm h1.symm)
theorem b9_read (b : C F S768x4096 .bf16) (sb : C F S64x4096 .bf16) : m9.view.read (Elt F) sb = bv9.view.read (Elt F) (BV b sb) := by
  funext x
  have h0 : (bv9.view.emb x 0).val = 768 + (x 0).val := ValueKit.view_emb_slice_whole_unit_val cc0_scratch5 _ _ _ x 0
  have h1 : (bv9.view.emb x 1).val = (x 1).val := (ValueKit.view_emb_slice_whole_unit_val cc0_scratch5 _ _ _ x 1).trans (Nat.zero_add _)
  show sb x = BV b sb (bv9.view.emb x)
  unfold BV; rw [dif_neg (by rw [h0]; omega)]
  exact congrArg sb (idx2_ext (show (x 0).val = (bv9.view.emb x 0).val - 768 by rw [h0]; omega) h1.symm)

/-- `b_v` is its two parts. -/
theorem b_parts (c : Dev nD) (f : C F S832x4096 .bf16) :
    (wh c m19 f : PP F) = iprop(pt (c.tc : Thread nD τ) bv7 f ∗ pt (c.tc : Thread nD τ) bv9 f) := by
  have e7 : bv7.view.set = (Rect.unit (s := S832x4096) ![0, 0] S768x4096.size inb_S832x4096_S768x4096_0_0).set := View.set_slice_whole cc0_scratch5 _
  have e9 : bv9.view.set = (Rect.unit (s := S832x4096) ![768, 0] S64x4096.size inb_S832x4096_S64x4096_768_0).set := View.set_slice_whole cc0_scratch5 _
  have d : Disjoint bv7.view.set bv9.view.set := by
    rw [e7, e9, Finset.disjoint_left]; intro p hp hq
    have h1 := (Rect.mem_set_unit.mp hp) 0; have h2 := (Rect.mem_set_unit.mp hq) 0
    simp only [Matrix.cons_val_zero] at h1 h2
    have e : S768x4096.size (0 : Fin 2) = 768 := rfl
    omega
  have u : (Finset.univ : Finset S832x4096.Idx) = bv7.view.set ∪ bv9.view.set := by
    rw [e7, e9]; ext p
    simp only [Finset.mem_union, Finset.mem_univ, true_iff]
    simp only [Rect.mem_set_unit]
    simp only [show ∀ P : Fin S832x4096.rank → Prop, (∀ a, P a) ↔ P 0 ∧ P 1 from fun P => Fin.forall_fin_two,
      Matrix.cons_val_zero, Matrix.cons_val_one, Matrix.cons_val_fin_one]
    have q0 : (p 0).val < 832 := (p 0).isLt
    have q1 : (p 1).val < 4096 := (p 1).isLt
    omega
  refine (congrArg (fun S => (m19.view.loc (c.tc : Thread nD τ) ↦[S]{fullShare} f : PP F)) u).trans ?_
  exact Entails.antisymm (pointsTo_union d).1 (pointsTo_union d).2

/-- Block `i` of 512 columns of the result, on chip and in HBM. -/
theorem o_inb (b : Fin 8) : ∀ a, (![0, 512 * b.val] : Fin 2 → ℕ) a + S128x512.size a ≤ S128x4096.size a := by revert b; decide
abbrev oVo (off : Fin 2 → ℕ) (inb : ∀ a, off a + S128x512.size a ≤ S128x4096.size a) : Memref sig .tc .vmem S128x512 .bf16 :=
  m21.slice (Rect.unit (s := S128x4096) off S128x512.size inb) (fun _ => rfl)
abbrev oHo (off : Fin 2 → ℕ) (inb : ∀ a, off a + S128x512.size a ≤ S128x4096.size a) : Memref sig .tc .hbm S128x512 .bf16 :=
  m10.slice (Rect.unit (s := S128x4096) off S128x512.size inb) (fun _ => rfl)
abbrev oV (b : Fin 8) := oVo ![0, 512 * b.val] (o_inb b)
abbrev oH (b : Fin 8) := oHo ![0, 512 * b.val] (o_inb b)
theorem oV_split (c : Dev nD) (f : C F S128x4096 .bf16) : (wh c m21 f : PP F) = bigSep Finset.univ fun i => pt (c.tc : Thread nD τ) (oV i) f :=
  split_lead cc0_scratch7 c (1 : Fin 2) 512 (fun b : Fin 8 => ![0, 512 * b.val]) S128x512.size o_inb (by decide +kernel) (by decide +kernel) (by decide) (by decide) (by decide) f
theorem oH_split (c : Dev nD) (f : C F S128x4096 .bf16) : (wh c m10 f : PP F) = bigSep Finset.univ fun i => pt (c.tc : Thread nD τ) (oH i) f :=
  split_lead main_v11_0 c (1 : Fin 2) 512 (fun b : Fin 8 => ![0, 512 * b.val]) S128x512.size o_inb (by decide +kernel) (by decide +kernel) (by decide) (by decide) (by decide) f

/-! ## The kernel's parts, at its operands -/

abbrev part8 : Prog (TpuEff nD τ sig (Elt F) Λ₀ .tc) PUnit := k0_part8_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21
abbrev part9 : Prog (TpuEff nD τ sig (Elt F) Λ₀ .tc) PUnit := k0_part9_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21
abbrev part10 : Prog (TpuEff nD τ sig (Elt F) Λ₀ .tc) PUnit := k0_part10_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21
abbrev part11 : Prog (TpuEff nD τ sig (Elt F) Λ₀ .tc) PUnit := k0_part11_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21
abbrev part12 : Prog (TpuEff nD τ sig (Elt F) Λ₀ .tc) PUnit := k0_part12_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21
abbrev part13 : Prog (TpuEff nD τ sig (Elt F) Λ₀ .tc) (Σ' (v141 : IVec S128x256 32) (v148 : IVec S128x256 1), IVec S128x256 32) := k0_part13_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21
abbrev part14 (v141 : IVec S128x256 32) (v148 : IVec S128x256 1) (v149 : IVec S128x256 32) : Prog (TpuEff nD τ sig (Elt F) Λ₀ .tc) (FVec F S128 .f32) := k0_part14_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v141 v148 v149
abbrev part15 (v190 : FVec F S128 .f32) : Prog (TpuEff nD τ sig (Elt F) Λ₀ .tc) (FVec F S12 .f32) := k0_part15_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v190

/-- The body run at its operands, up to a post. -/
abbrev wpB (c : Dev nD) {α : Type} (p : Prog (TpuEff nD τ sig (Elt F) Λ₀ .tc) α) (Q : α → PP F) : PP F :=
  wp frame (wpE (defs₀ (F := F)) Variants.none (c.tc : Thread nD τ) none) Set.univ p Q

end Cert.KernelIdeal.Hand

end
-- ==== Proof.KernelIdeal.Issue.lean ====
/- The copies the kernel starts first. -/
module

public import proofs.«01_k».proof.Proof.KernelIdeal.Kit

@[expose] public section

noncomputable section

namespace Cert.KernelIdeal.Hand

open Cert.KernelIdeal Cert.KernelIdeal.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Block `i` of the activations before its copy. -/
abbrev xA (c : Dev nD) (X fx : C F S128x14336 .bf16) (i : Fin k0_t1_loop.trips) (j : Fin 25) : PP F :=
  iprop(pt (c.tc : Thread nD τ) (xh i) X ∗ pt (c.tc : Thread nD τ) (xv i) fx ∗ sv c j)
/-- Block `i` of the activations in flight. -/
abbrev xF (c : Dev nD) (X : C F S128x14336 .bf16) (i : Fin k0_t1_loop.trips) (j : Fin 25) : PP F :=
  fl (c.tc : Thread nD τ) (.dma j) ((xv i).view.dmaCredit) iprop(pt (c.tc : Thread nD τ) (xv i) X ∗ pt (c.tc : Thread nD τ) (xh i) X)

/-- Start the copy of a block of the activations. -/
theorem issX (c : Dev nD) (X fx : C F S128x14336 .bf16) (i : Fin k0_t1_loop.trips) {j : Fin 25} {hsrc : (xh i).view.WordExact} {hdst : (xv i).view.WordExact}
    {hsem : DmaTarget.Typed (nD := nD) .hbm (.dma j) (.here (xv i) : DmaTarget nD τ sig .tc .vmem S128x2048 .bf16)} {α : Type} {k : PUnit → Prog (TpuEff nD τ sig (Elt F) Λ₀ .tc) α} {Q : α → PP F} :
    xA c X fx i j ⊢ iprop((xF c X i j -∗ wpB c (k ⟨⟩) Q) -∗ wpB c (Prog.lift (.enqueueDma (xh i) (.here (xv i)) (.dma j) hsrc hdst hsem) >>= k) Q) :=
  issue (c := (c.tc : Thread nD τ)) (src := xh i) (dst := xv i) X fx X (by decide) rfl

theorem run8 (c : Dev nD) (X fx : C F S128x14336 .bf16) (Q : PUnit → PP F) :
    iprop(xA c X fx (t1 0) 0 ∗ xA c X fx (t1 1) 1 ∗ xA c X fx (t1 2) 2 ∗ xA c X fx (t1 3) 3 ∗ xA c X fx (t1 4) 4 ∗ xA c X fx (t1 5) 5
      ∗ (iprop(xF c X (t1 0) 0 ∗ xF c X (t1 1) 1 ∗ xF c X (t1 2) 2 ∗ xF c X (t1 3) 3 ∗ xF c X (t1 4) 4 ∗ xF c X (t1 5) 5) -∗ Q ⟨⟩))
    ⊢ wpB c part8 Q := by
  iintro ⟨H0, H1, H2, H3, H4, H5, Hk⟩
  unfold part8 k0_part8_skel
  iapply (issX c X fx (t1 0)) $$ H0; iintro H0
  iapply (issX c X fx (t1 1)) $$ H1; iintro H1
  iapply (issX c X fx (t1 2)) $$ H2; iintro H2
  iapply (issX c X fx (t1 3)) $$ H3; iintro H3
  iapply (issX c X fx (t1 4)) $$ H4; iintro H4
  iapply (issX c X fx (t1 5)) $$ H5; iintro H5
  iapply done
  iapply Hk
  isplitl [H0]; · iexact H0
  isplitl [H1]; · iexact H1
  isplitl [H2]; · iexact H2
  isplitl [H3]; · iexact H3
  isplitl [H4]; · iexact H4
  iexact H5

/-! ## `a_v`: three copies on one semaphore -/

section ACopies
variable (c : Dev nD) (a : C F S768x14336 .bf16) (sa : C F S64x14336 .bf16) (rw : C F S16x14336 .bf16) (fa : C F S848x14336 .bf16) (i : Fin k0_t3_loop.trips)

/-- The amounts and the deliveries of the three copies of a block. -/
abbrev aAm : Fin 3 → ℕ := tri (av3 i).view.dmaCredit (av8 i).view.dmaCredit (av6 i).view.dmaCredit
abbrev aDl : Fin 3 → PP F := tri iprop(pt (c.tc : Thread nD τ) (av3 i) (AV a sa rw) ∗ pt (c.tc : Thread nD τ) (ah3 i) rw)
  iprop(pt (c.tc : Thread nD τ) (av8 i) (AV a sa rw) ∗ pt (c.tc : Thread nD τ) (ah8 i) sa)
  iprop(pt (c.tc : Thread nD τ) (av6 i) (AV a sa rw) ∗ pt (c.tc : Thread nD τ) (ah6 i) a)

/-- A block of `a_v` before its copies, after one, after two, and with the three in flight. -/
abbrev aA (j : Fin 25) : PP F := iprop(pt (c.tc : Thread nD τ) (ah3 i) rw ∗ pt (c.tc : Thread nD τ) (ah8 i) sa ∗ pt (c.tc : Thread nD τ) (ah6 i) a ∗ pt (c.tc : Thread nD τ) (avc i) fa ∗ sv c j)
abbrev aB (j : Fin 25) : PP F := iprop(pt (c.tc : Thread nD τ) (ah8 i) sa ∗ pt (c.tc : Thread nD τ) (ah6 i) a ∗ pt (c.tc : Thread nD τ) (av8 i) fa ∗ pt (c.tc : Thread nD τ) (av6 i) fa ∗ mb (c.tc : Thread nD τ) (.dma j) (aAm i) (aDl c a sa rw i) 1 0)
abbrev aC (j : Fin 25) : PP F := iprop(pt (c.tc : Thread nD τ) (ah6 i) a ∗ pt (c.tc : Thread nD τ) (av6 i) fa ∗ mb (c.tc : Thread nD τ) (.dma j) (aAm i) (aDl c a sa rw i) 2 0)
abbrev aF (j : Fin 25) : PP F := mb (c.tc : Thread nD τ) (.dma j) (aAm i) (aDl c a sa rw i) 3 0

theorem issA1 {j : Fin 25} {hsrc : (ah3 i).view.WordExact} {hdst : (av3 i).view.WordExact}
    {hsem : DmaTarget.Typed (nD := nD) .hbm (.dma j) (.here (av3 i) : DmaTarget nD τ sig .tc .vmem S16x2048 .bf16)} {α : Type} {k : PUnit → Prog (TpuEff nD τ sig (Elt F) Λ₀ .tc) α} {Q : α → PP F} :
    aA c a sa rw fa i j ⊢ iprop((aB c a sa rw fa i j -∗ wpB c (k ⟨⟩) Q) -∗ wpB c (Prog.lift (.enqueueDma (ah3 i) (.here (av3 i)) (.dma j) hsrc hdst hsem) >>= k) Q) := by
  iintro ⟨H3, H8, H6, Hv, Hs⟩ Hk
  ihave Hv' := (Entails.of_eq (avc_parts c fa i)) $$ Hv
  icases Hv' with ⟨V6, V8, V3⟩
  imod (mixedBatch_alloc' (Lvl := ℕ) (countersEmb (U := Pipeline.UD sig nD τ)) (c.tc : Thread nD τ) () (aAm i) (aDl c a sa rw i) (sm := SemLoc.dma j) (E := Set.univ)) $$ Hs with HM
  iapply (issueB (c := (c.tc : Thread nD τ)) (src := ah3 i) (dst := av3 i) (sm := SemLoc.dma j) (aAm i) (aDl c a sa rw i) rw fa (AV a sa rw) (j := 0) (u := 0) (by decide) ((View.amount_dma _ _).trans (tri_0 _ _ _ _).symm) (Nat.zero_le _) (Entails.of_eq (tri_0 _ _ _ _).symm) (ah3_read a sa rw i)) $$ [H3 V3 HM]
  · isplitl [H3]; · iexact H3
    isplitl [V3]; · iexact V3
    iexact HM
  iintro HM
  iapply Hk
  isplitl [H8]; · iexact H8
  isplitl [H6]; · iexact H6
  isplitl [V8]; · iexact V8
  isplitl [V6]; · iexact V6
  iexact HM

theorem issA2 {j : Fin 25} {hsrc : (ah8 i).view.WordExact} {hdst : (av8 i).view.WordExact}
    {hsem : DmaTarget.Typed (nD := nD) .hbm (.dma j) (.here (av8 i) : DmaTarget nD τ sig .tc .vmem S64x2048 .bf16)} {α : Type} {k : PUnit → Prog (TpuEff nD τ sig (Elt F) Λ₀ .tc) α} {Q : α → PP F} :
    aB c a sa rw fa i j ⊢ iprop((aC c a sa rw fa i j -∗ wpB c (k ⟨⟩) Q) -∗ wpB c (Prog.lift (.enqueueDma (ah8 i) (.here (av8 i)) (.dma j) hsrc hdst hsem) >>= k) Q) := by
  iintro ⟨H8, H6, V8, V6, HM⟩ Hk
  iapply (issueB (c := (c.tc : Thread nD τ)) (src := ah8 i) (dst := av8 i) (sm := SemLoc.dma j) (aAm i) (aDl c a sa rw i) sa fa (AV a sa rw) (j := 1) (u := 0) (by decide) ((View.amount_dma _ _).trans (tri_1 _ _ _ _).symm) (Nat.zero_le _) (Entails.of_eq (tri_1 _ _ _ _).symm) (ah8_read a sa rw i)) $$ [H8 V8 HM]
  · isplitl [H8]; · iexact H8
    isplitl [V8]; · iexact V8
    iexact HM
  iintro HM
  iapply Hk
  isplitl [H6]; · iexact H6
  isplitl [V6]; · iexact V6
  iexact HM

theorem issA3 {j : Fin 25} {hsrc : (ah6 i).view.WordExact} {hdst : (av6 i).view.WordExact}
    {hsem : DmaTarget.Typed (nD := nD) .hbm (.dma j) (.here (av6 i) : DmaTarget nD τ sig .tc .vmem S768x2048 .bf16)} {α : Type} {k : PUnit → Prog (TpuEff nD τ sig (Elt F) Λ₀ .tc) α} {Q : α → PP F} :
    aC c a sa rw fa i j ⊢ iprop((aF c a sa rw i j -∗ wpB c (k ⟨⟩) Q) -∗ wpB c (Prog.lift (.enqueueDma (ah6 i) (.here (av6 i)) (.dma j) hsrc hdst hsem) >>= k) Q) :=
  issueB (c := (c.tc : Thread nD τ)) (src := ah6 i) (dst := av6 i) (sm := SemLoc.dma j) (aAm i) (aDl c a sa rw i) a fa (AV a sa rw) (j := 2) (u := 0) (by decide) ((View.amount_dma _ _).trans (tri_2 _ _ _ _).symm) (Nat.zero_le _) (Entails.of_eq (tri_2 _ _ _ _).symm) (ah6_read a sa rw i)

end ACopies

/-! ## The adapters' rows: two copies on one semaphore -/

section BCopies
variable (c : Dev nD) (b : C F S768x4096 .bf16) (sb : C F S64x4096 .bf16) (fb : C F S832x4096 .bf16)

abbrev bAm : Fin 2 → ℕ := duo bv7.view.dmaCredit bv9.view.dmaCredit
abbrev bDl : Fin 2 → PP F := duo iprop(pt (c.tc : Thread nD τ) bv7 (BV b sb) ∗ pt (c.tc : Thread nD τ) m7 b) iprop(pt (c.tc : Thread nD τ) bv9 (BV b sb) ∗ pt (c.tc : Thread nD τ) m9 sb)

/-- The adapters' rows before their copies, after one, and with both in flight. -/
abbrev bA : PP F := iprop(pt (c.tc : Thread nD τ) m7 b ∗ pt (c.tc : Thread nD τ) m9 sb ∗ wh c m19 fb ∗ sv c 14)
abbrev bB : PP F := iprop(pt (c.tc : Thread nD τ) m9 sb ∗ pt (c.tc : Thread nD τ) bv9 fb ∗ mb (c.tc : Thread nD τ) (.dma 14) bAm (bDl c b sb) 1 0)
abbrev bF : PP F := mb (c.tc : Thread nD τ) (.dma 14) bAm (bDl c b sb) 2 0

theorem issB1 {hsrc : m7.view.WordExact} {hdst : bv7.view.WordExact}
    {hsem : DmaTarget.Typed (nD := nD) .hbm (.dma 14) (.here bv7 : DmaTarget nD τ sig .tc .vmem S768x4096 .bf16)} {α : Type} {k : PUnit → Prog (TpuEff nD τ sig (Elt F) Λ₀ .tc) α} {Q : α → PP F} :
    bA c b sb fb ⊢ iprop((bB c b sb fb -∗ wpB c (k ⟨⟩) Q) -∗ wpB c (Prog.lift (.enqueueDma m7 (.here bv7) (.dma 14) hsrc hdst hsem) >>= k) Q) := by
  iintro ⟨H7, H9, Hv, Hs⟩ Hk
  ihave Hv' := (Entails.of_eq (b_parts c fb)) $$ Hv
  icases Hv' with ⟨V7, V9⟩
  imod (mixedBatch_alloc' (Lvl := ℕ) (countersEmb (U := Pipeline.UD sig nD τ)) (c.tc : Thread nD τ) () bAm (bDl c b sb) (sm := SemLoc.dma 14) (E := Set.univ)) $$ Hs with HM
  iapply (issueB (c := (c.tc : Thread nD τ)) (src := m7) (dst := bv7) (sm := SemLoc.dma 14) bAm (bDl c b sb) b fb (BV b sb) (j := 0) (u := 0) (by decide) ((View.amount_dma _ _).trans (duo_0 _ _ _).symm) (Nat.zero_le _) (Entails.of_eq (duo_0 _ _ _).symm) (b7_read b sb)) $$ [H7 V7 HM]
  · isplitl [H7]; · iexact H7
    isplitl [V7]; · iexact V7
    iexact HM
  iintro HM
  iapply Hk
  isplitl [H9]; · iexact H9
  isplitl [V9]; · iexact V9
  iexact HM

theorem issB2 {hsrc : m9.view.WordExact} {hdst : bv9.view.WordExact}
    {hsem : DmaTarget.Typed (nD := nD) .hbm (.dma 14) (.here bv9 : DmaTarget nD τ sig .tc .vmem S64x4096 .bf16)} {α : Type} {k : PUnit → Prog (TpuEff nD τ sig (Elt F) Λ₀ .tc) α} {Q : α → PP F} :
    bB c b sb fb ⊢ iprop((bF c b sb -∗ wpB c (k ⟨⟩) Q) -∗ wpB c (Prog.lift (.enqueueDma m9 (.here bv9) (.dma 14) hsrc hdst hsem) >>= k) Q) :=
  issueB (c := (c.tc : Thread nD τ)) (src := m9) (dst := bv9) (sm := SemLoc.dma 14) bAm (bDl c b sb) sb fb (BV b sb) (j := 1) (u := 0) (by decide) ((View.amount_dma _ _).trans (duo_1 _ _ _).symm) (Nat.zero_le _) (Entails.of_eq (duo_1 _ _ _).symm) (b9_read b sb)

end BCopies

/-! ## The weight's ring, and the small operands -/

section WCopies
variable (c : Dev nD) (w : C F S14336x4096 .fp8e4m3) (b : Fin 8) (s : Fin 3)

/-- Block `b` of the weight in flight to slot `s`. -/
abbrev wF (j : Fin 25) : PP F := fl (c.tc : Thread nD τ) (.dma j) ((wS s).view.dmaCredit) iprop(pt (c.tc : Thread nD τ) (wS s) (Wb w b) ∗ pt (c.tc : Thread nD τ) (wH b) w)

theorem issW (fw : C F S3x14336x512 .fp8e4m3) {j : Fin 25} {off1 : Fin 2 → ℕ} {inb1 : ∀ a, off1 a + S14336x512.size a ≤ S14336x4096.size a} {off2 : Fin 3 → ℕ} {inb2 : ∀ a, off2 a + S1x14336x512.size a ≤ S3x14336x512.size a}
    (h1 : off1 = ![0, 512 * b.val]) (h2 : off2 = ![s.val, 0, 0]) {hsrc : (wHo off1 inb1).view.WordExact} {hdst : (wSo off2 inb2).view.WordExact}
    {hsem : DmaTarget.Typed (nD := nD) .hbm (.dma j) (.here (wSo off2 inb2) : DmaTarget nD τ sig .tc .vmem S14336x512 .fp8e4m3)} {α : Type} {k : PUnit → Prog (TpuEff nD τ sig (Elt F) Λ₀ .tc) α} {Q : α → PP F} :
    iprop(pt (c.tc : Thread nD τ) (wH b) w ∗ pt (c.tc : Thread nD τ) (wS s) fw ∗ sv c j) ⊢ iprop((wF c w b s j -∗ wpB c (k ⟨⟩) Q) -∗ wpB c (Prog.lift (.enqueueDma (wHo off1 inb1) (.here (wSo off2 inb2)) (.dma j) hsrc hdst hsem) >>= k) Q) := by
  subst h1; subst h2
  exact issue (c := (c.tc : Thread nD τ)) (src := wH b) (dst := wS s) w fw (Wb w b) (by decide) (wH_read w b s)

end WCopies

/-- A whole buffer in flight to another. -/
abbrev uF (c : Dev nD) {sp sp' : Space} {s : Shape} {e : EltTy} (src : Memref sig .tc sp s e) (dst : Memref sig .tc sp' s e) (f : Buf (Elt F) (src.view.loc (c.tc : Thread nD τ))) (g : Buf (Elt F) (dst.view.loc (c.tc : Thread nD τ))) (j : Fin 25) : PP F :=
  fl (c.tc : Thread nD τ) (.dma j) dst.view.dmaCredit iprop(pt (c.tc : Thread nD τ) dst g ∗ pt (c.tc : Thread nD τ) src f)

theorem run9 (c : Dev nD) (X fx : C F S128x14336 .bf16) (ws f24 : C F S1x4096 .f32) (rb f25 : C F S1x12 .f32) (ix f26 : C F S2x128 .i32)
    (a : C F S768x14336 .bf16) (sa : C F S64x14336 .bf16) (rw : C F S16x14336 .bf16) (fa : C F S848x14336 .bf16) (Q : PUnit → PP F) :
    iprop(xA c X fx (t1 6) 6 ∗ (pt (c.tc : Thread nD τ) m2 ws ∗ pt (c.tc : Thread nD τ) m24 f24 ∗ sv c 19) ∗ (pt (c.tc : Thread nD τ) m4 rb ∗ pt (c.tc : Thread nD τ) m25 f25 ∗ sv c 20)
      ∗ (pt (c.tc : Thread nD τ) m5 ix ∗ pt (c.tc : Thread nD τ) m26 f26 ∗ sv c 21) ∗ aA c a sa rw fa (t3 0) 7
      ∗ (iprop(xF c X (t1 6) 6 ∗ uF c m2 m24 ws ws 19 ∗ uF c m4 m25 rb rb 20 ∗ uF c m5 m26 ix ix 21 ∗ aF c a sa rw (t3 0) 7) -∗ Q ⟨⟩))
    ⊢ wpB c part9 Q := by
  iintro ⟨H0, H1, H2, H3, H4, Hk⟩
  unfold part9 k0_part9_skel
  iapply (issX c X fx (t1 6)) $$ H0; iintro H0
  iapply (issue (c := (c.tc : Thread nD τ)) (src := m2) (dst := m24) ws f24 ws (by decide) rfl) $$ H1; iintro H1
  iapply (issue (c := (c.tc : Thread nD τ)) (src := m4) (dst := m25) rb f25 rb (by decide) rfl) $$ H2; iintro H2
  iapply (issue (c := (c.tc : Thread nD τ)) (src := m5) (dst := m26) ix f26 ix (by decide) rfl) $$ H3; iintro H3
  iapply (issA1 c a sa rw fa (t3 0)) $$ H4; iintro H4
  iapply (issA2 c a sa rw fa (t3 0)) $$ H4; iintro H4
  iapply (issA3 c a sa rw fa (t3 0)) $$ H4; iintro H4
  iapply done
  iapply Hk
  isplitl [H0]; · iexact H0
  isplitl [H1]; · iexact H1
  isplitl [H2]; · iexact H2
  isplitl [H3]; · iexact H3
  iexact H4

theorem run10 (c : Dev nD) (a : C F S768x14336 .bf16) (sa : C F S64x14336 .bf16) (rw : C F S16x14336 .bf16) (fa : C F S848x14336 .bf16) (Q : PUnit → PP F) :
    iprop(aA c a sa rw fa (t3 1) 8 ∗ aA c a sa rw fa (t3 2) 9 ∗ (iprop(aF c a sa rw (t3 1) 8 ∗ aF c a sa rw (t3 2) 9) -∗ Q ⟨⟩))
    ⊢ wpB c part10 Q := by
  iintro ⟨H0, H1, Hk⟩
  unfold part10 k0_part10_skel
  iapply (issA1 c a sa rw fa (t3 1)) $$ H0; iintro H0
  iapply (issA2 c a sa rw fa (t3 1)) $$ H0; iintro H0
  iapply (issA3 c a sa rw fa (t3 1)) $$ H0; iintro H0
  iapply (issA1 c a sa rw fa (t3 2)) $$ H1; iintro H1
  iapply (issA2 c a sa rw fa (t3 2)) $$ H1; iintro H1
  iapply (issA3 c a sa rw fa (t3 2)) $$ H1; iintro H1
  iapply done
  iapply Hk
  isplitl [H0]; · iexact H0
  iexact H1

theorem run11 (c : Dev nD) (a : C F S768x14336 .bf16) (sa : C F S64x14336 .bf16) (rw : C F S16x14336 .bf16) (fa : C F S848x14336 .bf16) (Q : PUnit → PP F) :
    iprop(aA c a sa rw fa (t3 3) 10 ∗ aA c a sa rw fa (t3 4) 11 ∗ (iprop(aF c a sa rw (t3 3) 10 ∗ aF c a sa rw (t3 4) 11) -∗ Q ⟨⟩))
    ⊢ wpB c part11 Q := by
  iintro ⟨H0, H1, Hk⟩
  unfold part11 k0_part11_skel
  iapply (issA1 c a sa rw fa (t3 3)) $$ H0; iintro H0
  iapply (issA2 c a sa rw fa (t3 3)) $$ H0; iintro H0
  iapply (issA3 c a sa rw fa (t3 3)) $$ H0; iintro H0
  iapply (issA1 c a sa rw fa (t3 4)) $$ H1; iintro H1
  iapply (issA2 c a sa rw fa (t3 4)) $$ H1; iintro H1
  iapply (issA3 c a sa rw fa (t3 4)) $$ H1; iintro H1
  iapply done
  iapply Hk
  isplitl [H0]; · iexact H0
  iexact H1

theorem run12 (c : Dev nD) (a : C F S768x14336 .bf16) (sa : C F S64x14336 .bf16) (rw : C F S16x14336 .bf16) (fa : C F S848x14336 .bf16)
    (b : C F S768x4096 .bf16) (sb : C F S64x4096 .bf16) (fb : C F S832x4096 .bf16) (Q : PUnit → PP F) :
    iprop(aA c a sa rw fa (t3 5) 12 ∗ aA c a sa rw fa (t3 6) 13 ∗ bA c b sb fb ∗ (iprop(aF c a sa rw (t3 5) 12 ∗ aF c a sa rw (t3 6) 13 ∗ bF c b sb) -∗ Q ⟨⟩))
    ⊢ wpB c part12 Q := by
  iintro ⟨H0, H1, H2, Hk⟩
  unfold part12 k0_part12_skel
  iapply (issA1 c a sa rw fa (t3 5)) $$ H0; iintro H0
  iapply (issA2 c a sa rw fa (t3 5)) $$ H0; iintro H0
  iapply (issA3 c a sa rw fa (t3 5)) $$ H0; iintro H0
  iapply (issA1 c a sa rw fa (t3 6)) $$ H1; iintro H1
  iapply (issA2 c a sa rw fa (t3 6)) $$ H1; iintro H1
  iapply (issA3 c a sa rw fa (t3 6)) $$ H1; iintro H1
  iapply (issB1 c b sb fb) $$ H2; iintro H2
  iapply (issB2 c b sb fb) $$ H2; iintro H2
  iapply done
  iapply Hk
  isplitl [H0]; · iexact H0
  isplitl [H1]; · iexact H1
  iexact H2

end Cert.KernelIdeal.Hand

end
-- ==== Proof.KernelIdeal.Access.lean ====
/- Loads and stores of buffers held whole or by a block; and what the kernel computes before its weight ring: the row maxima, the scale, the codes, the products of the router and the adapters. -/
module

public import proofs.«01_k».proof.Proof.KernelIdeal.Issue

@[expose] public section

noncomputable section

namespace Cert.KernelIdeal.Hand

open Cert.KernelIdeal Cert.KernelIdeal.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

theorem off0 : (![0, 0] : Fin 2 → ℕ) = fun _ => 0 := by funext a; fin_cases a <;> rfl

section Rect2
variable {n0 n1 a b : ℕ} (off : Fin 2 → ℕ) (inb : ∀ i : Fin 2, off i + (![a, b] : Fin 2 → ℕ) i ≤ (![n0, n1] : Fin 2 → ℕ) i) (j : (⟨2, ![a, b]⟩ : Shape).Idx)

/-- An element of a rectangle of a matrix, by its row and its column. -/
theorem emb2_0 : (((Rect.unit (s := ⟨2, ![n0, n1]⟩) off ![a, b] inb).emb j) 0).val = off 0 + (j 0).val := ValueKit.rect_emb_unit_val _ _ _ _ _
theorem emb2_1 : (((Rect.unit (s := ⟨2, ![n0, n1]⟩) off ![a, b] inb).emb j) 1).val = off 1 + (j 1).val := ValueKit.rect_emb_unit_val _ _ _ _ _
theorem emb2_ext (p : (⟨2, ![n0, n1]⟩ : Shape).Idx) (h0 : off 0 + (j 0).val = (p 0).val) (h1 : off 1 + (j 1).val = (p 1).val) :
    (Rect.unit (s := ⟨2, ![n0, n1]⟩) off ![a, b] inb).emb j = p :=
  idx2_ext ((emb2_0 off inb j).trans h0) ((emb2_1 off inb j).trans h1)
end Rect2

/-- What a load of a rectangle of a whole buffer reads. -/
theorem readAt_rect {Val : EltTy → Type} {sg : RefSig} {κ : Kind} {sp : Space} {s : Shape} {e : EltTy} (M : Memref sg κ sp s e) (off size : Fin s.rank → ℕ) (inb : ∀ a, off a + size a ≤ s.size a) (f : M.view.ty.Contents Val) (j : (Rect.unit off size inb).toLoadRect.shape.Idx) :
    M.view.readAt Val (Rect.unit off size inb).toLoadRect f j = M.view.read Val f ((Rect.unit off size inb).emb j) := rfl

/-- One part of the body after another. -/
theorem seq (c : Dev nD) {α β : Type} {p : Prog (TpuEff nD τ sig (Elt F) Λ₀ .tc) α} {k : α → Prog (TpuEff nD τ sig (Elt F) Λ₀ .tc) β} {Q : β → PP F} :
    wpB c p (fun a => wpB c (k a) Q) ⊢ wpB c (p >>= k) Q :=
  Entails.of_eq (wp_bind ..).symm

/-- Load from a buffer held whole. -/
theorem ldW (c : Dev nD) {cs : CoreSpace} {s : Shape} {e : EltTy} {m : Memref sig .tc cs s e} {r : LoadRect s} {hl : m.view.LoadsAt r} {α : Type} {k : (r.shape.Idx → Elt F e) → Prog (TpuEff nD τ sig (Elt F) Λ₀ .tc) α} {Q : α → PP F}
    (f : Buf (Elt F) (m.view.loc (c.tc : Thread nD τ))) (v : r.shape.Idx → Elt F e) (h : m.view.readAt (Elt F) r f = v) :
    wh c m f ⊢ iprop((wh c m f -∗ wpB c (k v) Q) -∗ wpB c (Prog.lift (.load m r hl) >>= k) Q) := by
  subst h
  exact load (c := (c.tc : Thread nD τ)) (Finset.subset_univ _)

/-- Store into a buffer held whole. -/
theorem stW0 (c : Dev nD) {cs : CoreSpace} {s : Shape} {e : EltTy} {m : Memref sig .tc cs s e} {r : Rect s} {w : r.shape.Idx → Elt F e} {Mk : Finset r.shape.Idx} {hx : (m.access r).Stores Mk} {hm : Mk = Finset.univ ∨ ∀ a, r.stride a = 1} {α : Type}
    {k : PUnit → Prog (TpuEff nD τ sig (Elt F) Λ₀ .tc) α} {Q : α → PP F} (f g : Buf (Elt F) ((m.access r).loc (c.tc : Thread nD τ))) (h : (m.access r).write (Elt F) f w Mk = g) :
    ((m.access r).loc (c.tc : Thread nD τ) ↦{fullShare} f : PP F) ⊢ iprop((((m.access r).loc (c.tc : Thread nD τ) ↦{fullShare} g) -∗ wpB c (k ⟨⟩) Q) -∗ wpB c (Prog.lift (.store m r w Mk hx hm) >>= k) Q) := by
  subst h
  exact store (c := (c.tc : Thread nD τ)) (Finset.subset_univ _)

theorem stW (c : Dev nD) {cs : CoreSpace} {s : Shape} {e : EltTy} {m : Memref sig .tc cs s e} {r : Rect s} {w : r.shape.Idx → Elt F e} {Mk : Finset r.shape.Idx} {hx : (m.access r).Stores Mk} {hm : Mk = Finset.univ ∨ ∀ a, r.stride a = 1} {α : Type}
    {k : PUnit → Prog (TpuEff nD τ sig (Elt F) Λ₀ .tc) α} {Q : α → PP F} (f g : Buf (Elt F) (m.view.loc (c.tc : Thread nD τ))) (h : (m.access r).write (Elt F) f w Mk = g) :
    wh c m f ⊢ iprop((wh c m g -∗ wpB c (k ⟨⟩) Q) -∗ wpB c (Prog.lift (.store m r w Mk hx hm) >>= k) Q) :=
  stW0 c (m := m) (r := r) (w := w) (Mk := Mk) f g h

/-- Load from inside a block that is held. -/
theorem ldS (c : Dev nD) {cs : CoreSpace} {s : Shape} {e : EltTy} {m : Memref sig .tc cs s e} {off off' size : Fin s.rank → ℕ} {inb : ∀ a, off a + size a ≤ s.size a} {inb' : ∀ a, off' a + size a ≤ s.size a}
    {hu : ∀ a, (Rect.unit off' size inb').stride a = 1} {hl : m.view.LoadsAt (Rect.unit off size inb).toLoadRect} {α : Type} {k : ((Rect.unit off size inb).toLoadRect.shape.Idx → Elt F e) → Prog (TpuEff nD τ sig (Elt F) Λ₀ .tc) α} {Q : α → PP F}
    (ho : off = off') (f : Buf (Elt F) (m.view.loc (c.tc : Thread nD τ))) :
    pt (c.tc : Thread nD τ) (m.slice (Rect.unit off' size inb') hu) f
      ⊢ iprop((pt (c.tc : Thread nD τ) (m.slice (Rect.unit off' size inb') hu) f -∗ wpB c (k (m.view.readAt (Elt F) (Rect.unit off size inb).toLoadRect f)) Q) -∗ wpB c (Prog.lift (.load m (Rect.unit off size inb).toLoadRect hl) >>= k) Q) := by
  subst ho
  exact load (c := (c.tc : Thread nD τ)) (S := (m.view.slice (Rect.unit off size inb)).set) (by rw [View.set_slice]; exact Finset.Subset.refl _)

/-! ## Row maxima -/

/-- The largest magnitudes of the lanes of the first `k` blocks. -/
def AM (X : C F S128x14336 .bf16) : ℕ → FVec F S128x128 .bf16
  | 0 => k0_pay21
  | k + 1 => if h : k < k0_t1_loop.trips then k0_pay22 (AM X k) (m14.view.readAt (Elt F) (Rect.unit (s := S128x14336) (k0_off3 ⟨k, h⟩) S128x2048.size (k0_off3_inb ⟨k, h⟩)).toLoadRect X) else AM X k

theorem AM_succ (X : C F S128x14336 .bf16) (k : Fin k0_t1_loop.trips) :
    AM X (k.val + 1) = k0_pay22 (AM X k.val) (m14.view.readAt (Elt F) (Rect.unit (s := S128x14336) (k0_off3 k) S128x2048.size (k0_off3_inb k)).toLoadRect X) := by
  rw [AM, dif_pos k.isLt]

abbrev xs (i : Fin k0_t1_loop.trips) : Fin 25 := i.castLE (by decide)

theorem t1_sem (k : Fin k0_t1_loop.trips) : ((cc0_scratch15.slice (Rect.unit (s := S7) (k0_off1 k) S1.size (k0_off1_inb k))).squeeze S_ squeezes_S1_S_).sem = xs k := by
  revert k; decide +kernel

theorem off3_off2 (k : Fin k0_t1_loop.trips) : k0_off3 k = k0_off2 k := rfl

/-- Wait for a block of the activations. -/
theorem waitX (c : Dev nD) (X : C F S128x14336 .bf16) (i : Fin k0_t1_loop.trips) {j : Fin 25} {sm : DmaSem sig} (h : sm = j) {hsrc : (xh i).view.WordExact} {hdst : (xv i).view.WordExact} {α : Type} {k : PUnit → Prog (TpuEff nD τ sig (Elt F) Λ₀ .tc) α} {Q : α → PP F} :
    iprop(xF c X i j ∗ ow (c.tc : Thread nD τ))
      ⊢ iprop((iprop((pt (c.tc : Thread nD τ) (xv i) X ∗ pt (c.tc : Thread nD τ) (xh i) X) ∗ sv c j ∗ ow (c.tc : Thread nD τ)) -∗ wpB c (k ⟨⟩) Q)
        -∗ wpB c (Prog.lift (.waitDma2 sm (xh i) (xv i) hsrc hdst) >>= k) Q) := by
  subst h
  exact wait (c := (c.tc : Thread nD τ)) rfl

/-- Blocks of the activations arrived. -/
abbrev xD (c : Dev nD) (X : C F S128x14336 .bf16) (i : Fin k0_t1_loop.trips) : PP F := iprop((pt (c.tc : Thread nD τ) (xv i) X ∗ pt (c.tc : Thread nD τ) (xh i) X) ∗ sv c (xs i))

abbrev inv1 (c : Dev nD) (X : C F S128x14336 .bf16) (k : ℕ) (acc : FVec F S128x128 .bf16) : PP F :=
  iprop(⌜acc = AM X k⌝ ∗ stage (fun i => xF c X i (xs i)) (xD c X) k ∗ ow (c.tc : Thread nD τ))

theorem trip1 (c : Dev nD) (X : C F S128x14336 .bf16) (k : Fin k0_t1_loop.trips) (acc : FVec F S128x128 .bf16) :
    inv1 c X k.val acc ⊢ wpB c (k0_t1_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 k acc) (inv1 c X (k.val + 1)) := by
  unfold inv1
  iintro ⟨%ha, HS, HO⟩
  ihave HS := (Entails.of_eq (stage_out (fun i => xF c X i (xs i)) (xD c X) k)) $$ HS
  icases HS with ⟨HF, HR⟩
  unfold k0_t1_body
  iapply (waitX c X k (t1_sem k)) $$ [HF HO]
  · isplitl [HF]; · iexact HF
    iexact HO
  iintro ⟨⟨HV, HH⟩, Hs, HO⟩
  iapply (ldS c (off3_off2 k) X) $$ HV; iintro HV
  iapply done
  isplitr
  · ipureintro; rw [AM_succ, ha]
  isplitr [HO]
  · iapply (Entails.of_eq (stage_in (fun i => xF c X i (xs i)) (xD c X) k))
    isplitr [HR]
    · isplitr [Hs]
      · isplitl [HV]; · iexact HV
        iexact HH
      iexact Hs
    iexact HR
  iexact HO

theorem trips1 : k0_t1_loop.trips = 7 := by decide

/-- Everything the row maxima are read from, arrived. -/
theorem xD_all (c : Dev nD) (X : C F S128x14336 .bf16) :
    stage (fun i => xF c X i (xs i)) (xD c X) k0_t1_loop.trips ⊢ iprop(wh c m14 X ∗ wh c m0 X ∗ (sv c 0 ∗ sv c 1 ∗ sv c 2 ∗ sv c 3 ∗ sv c 4 ∗ sv c 5 ∗ sv c 6)) := by
  rw [stage_last _ _ le_rfl, xv_split, xh_split, bigSep7, bigSep7, bigSep7]
  iintro ⟨⟨⟨V0, H0⟩, s0⟩, ⟨⟨V1, H1⟩, s1⟩, ⟨⟨V2, H2⟩, s2⟩, ⟨⟨V3, H3⟩, s3⟩, ⟨⟨V4, H4⟩, s4⟩, ⟨⟨V5, H5⟩, s5⟩, ⟨⟨V6, H6⟩, s6⟩⟩
  isplitl [V0 V1 V2 V3 V4 V5 V6]
  · isplitl [V0]; · iexact V0
    isplitl [V1]; · iexact V1
    isplitl [V2]; · iexact V2
    isplitl [V3]; · iexact V3
    isplitl [V4]; · iexact V4
    isplitl [V5]; · iexact V5
    iexact V6
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [s0]; · iexact s0
  isplitl [s1]; · iexact s1
  isplitl [s2]; · iexact s2
  isplitl [s3]; · iexact s3
  isplitl [s4]; · iexact s4
  isplitl [s5]; · iexact s5
  iexact s6

/-- A slot of the ring, a block of the weight, and their semaphore, before the copy. -/
abbrev wA (c : Dev nD) (w : C F S14336x4096 .fp8e4m3) (fw : C F S3x14336x512 .fp8e4m3) (b : Fin 8) (s : Fin 3) (j : Fin 25) : PP F := iprop(pt (c.tc : Thread nD τ) (wH b) w ∗ pt (c.tc : Thread nD τ) (wS s) fw ∗ sv c j)

theorem run13 (c : Dev nD) (X : C F S128x14336 .bf16) (w : C F S14336x4096 .fp8e4m3) (fw : C F S3x14336x512 .fp8e4m3) (Q : (Σ' (v141 : IVec S128x256 32) (v148 : IVec S128x256 1), IVec S128x256 32) → PP F) :
    iprop(wA c w fw 0 0 15 ∗ wA c w fw 1 1 16 ∗ wA c w fw 2 2 17
      ∗ (xF c X (t1 0) 0 ∗ xF c X (t1 1) 1 ∗ xF c X (t1 2) 2 ∗ xF c X (t1 3) 3 ∗ xF c X (t1 4) 4 ∗ xF c X (t1 5) 5 ∗ xF c X (t1 6) 6) ∗ ow (c.tc : Thread nD τ)
      ∗ (iprop(wF c w 0 0 15 ∗ wF c w 1 1 16 ∗ wF c w 2 2 17 ∗ (wh c m14 X ∗ wh c m0 X ∗ (sv c 0 ∗ sv c 1 ∗ sv c 2 ∗ sv c 3 ∗ sv c 4 ∗ sv c 5 ∗ sv c 6)) ∗ ow (c.tc : Thread nD τ))
          -∗ Q ⟨iota .tc S128x256 32 [1] iota_S128x256_d1_w32, k0_pay23 (AM X 7), k0_pay24⟩))
    ⊢ wpB c part13 Q := by
  iintro ⟨H0, H1, H2, HX, HO, Hk⟩
  unfold part13 k0_part13_skel
  iapply (issW c w 0 0 fw rfl rfl) $$ H0; iintro H0
  iapply (issW c w 1 1 fw rfl rfl) $$ H1; iintro H1
  iapply (issW c w 2 2 fw rfl rfl) $$ H2; iintro H2
  iapply (Scf.wp_for_bind _ _ _ _ _ _ _ _ _ (inv1 c X) (trip1 c X)) $$ [HX HO]
  · unfold inv1
    isplitr
    · ipureintro; rfl
    isplitl [HX]
    · rw [stage_zero, bigSep7]; iexact HX
    iexact HO
  iintro %acc ⟨%ha, HS, HO⟩
  ihave HS := (xD_all c X) $$ HS
  have ha7 : acc = AM X 7 := ha.trans (congrArg (AM X) trips1)
  subst ha7
  iapply done
  iapply Hk
  isplitl [H0]; · iexact H0
  isplitl [H1]; · iexact H1
  isplitl [H2]; · iexact H2
  isplitl [HS]; · iexact HS
  iexact HO

/-! ## The scale -/

/-- The scale and its reciprocal along the lanes, and the scale as a row. -/
def XSV (X : C F S128x14336 .bf16) : C F S128x128 .f32 := k0_pay26 (F := F) (iota .tc S128x256 32 [1] iota_S128x256_d1_w32) (k0_pay23 (AM X 7)) k0_pay24
def INV (X : C F S128x14336 .bf16) : C F S128x128 .f32 := k0_pay27 (F := F) (iota .tc S128x256 32 [1] iota_S128x256_d1_w32) (k0_pay23 (AM X 7)) k0_pay24
def XSR (X : C F S128x14336 .bf16) : C F S1x128 .f32 := k0_pay29 (k0_pay28 (XSV X))

theorem run14 (c : Dev nD) (X : C F S128x14336 .bf16) (f22 f23 : C F S128x128 .f32) (Q : FVec F S128 .f32 → PP F) :
    iprop(wh c m22 f22 ∗ wh c m23 f23 ∗ (iprop(wh c m22 (XSV X) ∗ wh c m23 (INV X)) -∗ Q (k0_pay28 (XSV X))))
    ⊢ wpB c (part14 (iota .tc S128x256 32 [1] iota_S128x256_d1_w32) (k0_pay23 (AM X 7)) k0_pay24) Q := by
  iintro ⟨H0, H1, Hk⟩
  unfold part14 k0_part14_skel
  iapply (ldW c (m := m22) f22 f22 (Memref.readAt_unit_zero (Elt F) cc0_scratch8 off0 _ f22)) $$ H0; iintro H0
  iapply (stW c (m := m22) f22 (XSV X) (Memref.write_access_unit_zero_univ (Elt F) cc0_scratch8 off0 _ f22 _)) $$ H0; iintro H0
  iapply (ldW c (m := m23) f23 f23 (Memref.readAt_unit_zero (Elt F) cc0_scratch9 off0 _ f23)) $$ H1; iintro H1
  iapply (stW c (m := m23) f23 (INV X) (Memref.write_access_unit_zero_univ (Elt F) cc0_scratch9 off0 _ f23 _)) $$ H1; iintro H1
  iapply (ldW c (m := m22) (XSV X) (XSV X) (Memref.readAt_unit_zero (Elt F) cc0_scratch8 off0 _ (XSV X))) $$ H0; iintro H0
  iapply done
  iapply Hk
  isplitl [H0]; · iexact H0
  iexact H1

end Cert.KernelIdeal.Hand

end
-- ==== Proof.KernelIdeal.Quant.lean ====
/- The quantisation loop: seven trips of sixteen slices of 128 columns. -/
module

public import proofs.«01_k».proof.Proof.KernelIdeal.Access

@[expose] public section

noncomputable section

namespace Cert.KernelIdeal.Hand

open Cert.KernelIdeal Cert.KernelIdeal.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The codes: each block of 128 columns scaled, clipped and rounded. -/
def QF (X : C F S128x14336 .bf16) : C F S128x14336 .fp8e4m3 := fun p =>
  k0_pay1 (INV X) (fun j : S128x128.Idx => X (ValueIdx.ix2 (n0 := 128) (n1 := 14336) (j 0) ⟨128 * ((p 1).val / 128) + (j 1).val, by have := ValueIdx.idx2_lt1 p; have := ValueIdx.idx2_lt1 j; omega⟩))
    (ValueIdx.ix2 (n0 := 128) (n1 := 128) (p 0) ⟨(p 1).val % 128, Nat.mod_lt _ (by decide)⟩)

/-- `xq_v` holding the codes in its first `n` columns. -/
def qA (c : Dev nD) (X : C F S128x14336 .bf16) (n : ℕ) : PP F :=
  iprop(∃ f : C F S128x14336 .fp8e4m3, ⌜∀ p : S128x14336.Idx, (p 1).val < n → f p = QF X p⌝ ∗ wh c m15 f)

theorem ldQ (c : Dev nD) (X : C F S128x14336 .bf16) (n : ℕ) {r : LoadRect S128x14336} {hl : m15.view.LoadsAt r} {α : Type} {k : Prog (TpuEff nD τ sig (Elt F) Λ₀ .tc) α} {Q : α → PP F} :
    qA c X n ⊢ iprop((qA c X n -∗ wpB c k Q) -∗ wpB c (Prog.lift (.load m15 r hl) >>= fun _ => k) Q) := by
  unfold qA
  iintro ⟨%f, %hf, H⟩ Hk
  iapply (ldW c (m := m15) f _ rfl) $$ H; iintro H
  iapply Hk
  iexists f
  isplitr
  · ipureintro; exact hf
  iexact H

theorem QF_at (X : C F S128x14336 .bf16) (n : ℕ) (off : Fin 2 → ℕ) (ho : off = ![0, 128 * n]) (inb : ∀ a, off a + S128x128.size a ≤ S128x14336.size a) (j : S128x128.Idx) :
    QF X ((Rect.unit (s := S128x14336) off S128x128.size inb).emb j)
      = k0_pay1 (INV X) (m14.view.readAt (Elt F) (Rect.unit (s := S128x14336) off S128x128.size inb).toLoadRect X) j := by
  have h0 : off 0 = 0 := by rw [ho]; rfl
  have h1 : off 1 = 128 * n := by rw [ho]; rfl
  have l1 := ValueIdx.idx2_lt1 j
  have e0 := emb2_0 (n0 := 128) (n1 := 14336) (a := 128) (b := 128) off inb j
  have e1 := emb2_1 (n0 := 128) (n1 := 14336) (a := 128) (b := 128) off inb j
  generalize hp : (Rect.unit (s := S128x14336) off S128x128.size inb).emb j = p
  have p0 : (p 0).val = off 0 + (j 0).val := by rw [← hp]; exact e0
  have p1 : (p 1).val = off 1 + (j 1).val := by rw [← hp]; exact e1
  have d : (p 1).val / 128 = n := by omega
  have m : (p 1).val % 128 = (j 1).val := by omega
  unfold QF
  refine congr (congrArg (k0_pay1 (INV X)) (funext fun i => ?_)) ?_
  · refine congrArg X (Eq.symm ?_)
    refine emb2_ext (n0 := 128) (n1 := 14336) (a := 128) (b := 128) off inb i _ ?_ ?_
    · show off 0 + (i 0).val = (i 0).val
      omega
    · show off 1 + (i 1).val = 128 * ((p 1).val / 128) + (i 1).val
      rw [d, h1]
  · refine idx2_ext ?_ ?_
    · show (p 0).val = (j 0).val
      omega
    · exact m

theorem stQ (c : Dev nD) (X : C F S128x14336 .bf16) (n : ℕ) {off : Fin 2 → ℕ} (ho : off = ![0, 128 * n]) {inb : ∀ a, off a + S128x128.size a ≤ S128x14336.size a} {w : S128x128.Idx → Elt F .fp8e4m3}
    (hw : w = k0_pay1 (INV X) (m14.view.readAt (Elt F) (Rect.unit (s := S128x14336) off S128x128.size inb).toLoadRect X))
    {hx : (m15.access (Rect.unit (s := S128x14336) off S128x128.size inb)).Stores Finset.univ} {hm : (Finset.univ : Finset S128x128.Idx) = Finset.univ ∨ ∀ a, (Rect.unit (s := S128x14336) off S128x128.size inb).stride a = 1} {α : Type} {k : PUnit → Prog (TpuEff nD τ sig (Elt F) Λ₀ .tc) α} {Q : α → PP F} :
    qA c X (128 * n) ⊢ iprop((qA c X (128 * (n + 1)) -∗ wpB c (k ⟨⟩) Q) -∗ wpB c (Prog.lift (.store m15 (Rect.unit (s := S128x14336) off S128x128.size inb) w Finset.univ hx hm) >>= k) Q) := by
  unfold qA
  iintro ⟨%f, %hf, H⟩ Hk
  iapply (stW c (m := m15) f ((m15.access (Rect.unit (s := S128x14336) off S128x128.size inb)).write (Elt F) f w Finset.univ) rfl) $$ H; iintro H
  iapply Hk
  iexists ((m15.access (Rect.unit (s := S128x14336) off S128x128.size inb)).write (Elt F) f w Finset.univ)
  isplitr
  · ipureintro
    intro p hp
    have h1 : off 1 = 128 * n := by rw [ho]; rfl
    have h0 : off 0 = 0 := by rw [ho]; rfl
    by_cases h : (p 1).val < 128 * n
    · refine Eq.trans (View.write_of_not_mem (v := m15.access (Rect.unit (s := S128x14336) off S128x128.size inb)) f w Finset.univ ?_) (hf p h)
      intro hmem
      obtain ⟨y, -, hy⟩ := Finset.mem_map.mp hmem
      have e1 := emb2_1 (n0 := 128) (n1 := 14336) (a := 128) (b := 128) off inb y
      have e2 : ((((Rect.unit (s := S128x14336) off S128x128.size inb).emb y) 1).val : ℕ) = (p 1).val := congrArg (fun q : S128x14336.Idx => (q 1).val) hy
      have e3 : (p 1).val = off 1 + (y 1).val := e2.symm.trans e1
      omega
    · have hj : (Rect.unit (s := S128x14336) off S128x128.size inb).emb (ValueIdx.ix2 (n0 := 128) (n1 := 128) (p 0) ⟨(p 1).val - 128 * n, by omega⟩) = p := by
        refine emb2_ext (n0 := 128) (n1 := 14336) (a := 128) (b := 128) off inb _ p ?_ ?_
        · show off 0 + (p 0).val = (p 0).val
          omega
        · show off 1 + ((p 1).val - 128 * n) = (p 1).val
          omega
      rw [← hj, QF_at X n off ho inb, ← hw]
      exact View.write_emb_of_mem _ _ (Finset.mem_univ _)
  iexact H

theorem off4_val (k : Fin k0_t2_loop.trips) (r : Fin 16) : k0_off4 k (BitVec.ofNat 32 (128 * r.val)) = ![0, 128 * (16 * k.val + r.val)] := by
  have h : ∀ (k : Fin k0_t2_loop.trips) (r : Fin 16) (a : Fin 2), k0_off4 k (BitVec.ofNat 32 (128 * r.val)) a = (![0, 128 * (16 * k.val + r.val)] : Fin 2 → ℕ) a := by decide +kernel
  exact funext fun a => h k r a

theorem run_p1 (c : Dev nD) (X : C F S128x14336 .bf16) (k : Fin k0_t2_loop.trips)  (Q : (Σ' (v356 : BitVec 32) (v357 : Vec F S128x128 .f32) (v389 : BitVec 32), FVec F S128x128 .f32) → PP F) :
    iprop(wh c m14 X ∗ wh c m23 (INV X) ∗ qA c X (128 * (16 * k.val + 0)) ∗ (iprop(wh c m14 X ∗ wh c m23 (INV X) ∗ qA c X (128 * (16 * k.val + 2))) -∗ (∀ b1 b2, Q ⟨b1, INV X, b2, k0_pay3 (m14.view.readAt (Elt F) (Rect.unit (s := S128x14336) (k0_off4 k 256#32) S128x128.size (k0_off4_inb k 2)).toLoadRect X)⟩)))
    ⊢ wpB c (k0_part1_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 0#32 1#32 k) Q := by
  iintro ⟨HX, HI, HQ, Hk⟩
  unfold k0_part1_skel
  iapply (ldW c (m := m23) (INV X) (INV X) (Memref.readAt_unit_zero (Elt F) cc0_scratch9 off0 _ (INV X))) $$ HI; iintro HI
  iapply (ldW c (m := m14) X _ rfl) $$ HX; iintro HX
  iapply (ldQ c X (128 * (16 * k.val + 0))) $$ HQ; iintro HQ
  iapply (stQ c X (16 * k.val + 0) (off4_val k 0) rfl) $$ HQ; iintro HQ
  iapply (ldW c (m := m14) X _ rfl) $$ HX; iintro HX
  iapply (ldQ c X (128 * (16 * k.val + 1))) $$ HQ; iintro HQ
  iapply (stQ c X (16 * k.val + 1) (off4_val k 1) rfl) $$ HQ; iintro HQ
  iapply (ldW c (m := m14) X _ rfl) $$ HX; iintro HX
  iapply done
  ispecialize Hk $$ [HX HI HQ]
  · isplitl [HX]; · iexact HX
    isplitl [HI]; · iexact HI
    iexact HQ
  iapply Hk

theorem run_p2 (c : Dev nD) (X : C F S128x14336 .bf16) (k : Fin k0_t2_loop.trips) (b1 b2 : BitVec 32) (Q : BitVec 32 → PP F) :
    iprop(wh c m14 X ∗ qA c X (128 * (16 * k.val + 2)) ∗ (iprop(wh c m14 X ∗ qA c X (128 * (16 * k.val + 5))) -∗ (∀ b, Q b)))
    ⊢ wpB c (k0_part2_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 k b1 (INV X) b2 (k0_pay3 (m14.view.readAt (Elt F) (Rect.unit (s := S128x14336) (k0_off4 k 256#32) S128x128.size (k0_off4_inb k 2)).toLoadRect X))) Q := by
  iintro ⟨HX, HQ, Hk⟩
  unfold k0_part2_skel
  iapply (ldQ c X (128 * (16 * k.val + 2))) $$ HQ; iintro HQ
  iapply (stQ c X (16 * k.val + 2) (off4_val k 2) rfl) $$ HQ; iintro HQ
  iapply (ldW c (m := m14) X _ rfl) $$ HX; iintro HX
  iapply (ldQ c X (128 * (16 * k.val + 3))) $$ HQ; iintro HQ
  iapply (stQ c X (16 * k.val + 3) (off4_val k 3) rfl) $$ HQ; iintro HQ
  iapply (ldW c (m := m14) X _ rfl) $$ HX; iintro HX
  iapply (ldQ c X (128 * (16 * k.val + 4))) $$ HQ; iintro HQ
  iapply (stQ c X (16 * k.val + 4) (off4_val k 4) rfl) $$ HQ; iintro HQ
  iapply done
  ispecialize Hk $$ [HX HQ]
  · isplitl [HX]; · iexact HX
    iexact HQ
  iapply Hk

theorem run_p3 (c : Dev nD) (X : C F S128x14336 .bf16) (k : Fin k0_t2_loop.trips) (b1 b2 : BitVec 32) (Q : (FVec F S128x128 .fp8e4m3) → PP F) :
    iprop(wh c m14 X ∗ qA c X (128 * (16 * k.val + 5)) ∗ (iprop(wh c m14 X ∗ qA c X (128 * (16 * k.val + 7))) -∗ Q (k0_pay9 (INV X) (m14.view.readAt (Elt F) (Rect.unit (s := S128x14336) (k0_off4 k 896#32) S128x128.size (k0_off4_inb k 7)).toLoadRect X))))
    ⊢ wpB c (k0_part3_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 k b1 (INV X) b2) Q := by
  iintro ⟨HX, HQ, Hk⟩
  unfold k0_part3_skel
  iapply (ldW c (m := m14) X _ rfl) $$ HX; iintro HX
  iapply (ldQ c X (128 * (16 * k.val + 5))) $$ HQ; iintro HQ
  iapply (stQ c X (16 * k.val + 5) (off4_val k 5) rfl) $$ HQ; iintro HQ
  iapply (ldW c (m := m14) X _ rfl) $$ HX; iintro HX
  iapply (ldQ c X (128 * (16 * k.val + 6))) $$ HQ; iintro HQ
  iapply (stQ c X (16 * k.val + 6) (off4_val k 6) rfl) $$ HQ; iintro HQ
  iapply (ldW c (m := m14) X _ rfl) $$ HX; iintro HX
  iapply done
  ispecialize Hk $$ [HX HQ]
  · isplitl [HX]; · iexact HX
    iexact HQ
  iapply Hk

theorem run_p4 (c : Dev nD) (X : C F S128x14336 .bf16) (k : Fin k0_t2_loop.trips) (b1 : BitVec 32) (Q : (Σ' (v509 : BitVec 32) (v513 : FVec F S128x128 .f32) (cst_327 : F .f32), FVec F S128x128 .f32) → PP F) :
    iprop(wh c m14 X ∗ qA c X (128 * (16 * k.val + 7)) ∗ (iprop(wh c m14 X ∗ qA c X (128 * (16 * k.val + 10))) -∗ (∀ b, Q ⟨b, k0_pay13 (INV X) (m14.view.readAt (Elt F) (Rect.unit (s := S128x14336) (k0_off4 k 1280#32) S128x128.size (k0_off4_inb k 10)).toLoadRect X), Scalar.ofBits .f32 0x43E00000#32, k0_pay14⟩)))
    ⊢ wpB c (k0_part4_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 k b1 (INV X) (k0_pay9 (INV X) (m14.view.readAt (Elt F) (Rect.unit (s := S128x14336) (k0_off4 k 896#32) S128x128.size (k0_off4_inb k 7)).toLoadRect X))) Q := by
  iintro ⟨HX, HQ, Hk⟩
  unfold k0_part4_skel
  iapply (ldQ c X (128 * (16 * k.val + 7))) $$ HQ; iintro HQ
  iapply (stQ c X (16 * k.val + 7) (off4_val k 7) rfl) $$ HQ; iintro HQ
  iapply (ldW c (m := m14) X _ rfl) $$ HX; iintro HX
  iapply (ldQ c X (128 * (16 * k.val + 8))) $$ HQ; iintro HQ
  iapply (stQ c X (16 * k.val + 8) (off4_val k 8) rfl) $$ HQ; iintro HQ
  iapply (ldW c (m := m14) X _ rfl) $$ HX; iintro HX
  iapply (ldQ c X (128 * (16 * k.val + 9))) $$ HQ; iintro HQ
  iapply (stQ c X (16 * k.val + 9) (off4_val k 9) rfl) $$ HQ; iintro HQ
  iapply (ldW c (m := m14) X _ rfl) $$ HX; iintro HX
  iapply done
  ispecialize Hk $$ [HX HQ]
  · isplitl [HX]; · iexact HX
    iexact HQ
  iapply Hk

theorem run_p5 (c : Dev nD) (X : C F S128x14336 .bf16) (k : Fin k0_t2_loop.trips) (b1 b2 : BitVec 32) (Q : BitVec 32 → PP F) :
    iprop(wh c m14 X ∗ qA c X (128 * (16 * k.val + 10)) ∗ (iprop(wh c m14 X ∗ qA c X (128 * (16 * k.val + 13))) -∗ (∀ b, Q b)))
    ⊢ wpB c (k0_part5_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 k b1 (INV X) b2 (k0_pay13 (INV X) (m14.view.readAt (Elt F) (Rect.unit (s := S128x14336) (k0_off4 k 1280#32) S128x128.size (k0_off4_inb k 10)).toLoadRect X)) (Scalar.ofBits .f32 0x43E00000#32) k0_pay14) Q := by
  iintro ⟨HX, HQ, Hk⟩
  unfold k0_part5_skel
  iapply (ldQ c X (128 * (16 * k.val + 10))) $$ HQ; iintro HQ
  iapply (stQ c X (16 * k.val + 10) (off4_val k 10) rfl) $$ HQ; iintro HQ
  iapply (ldW c (m := m14) X _ rfl) $$ HX; iintro HX
  iapply (ldQ c X (128 * (16 * k.val + 11))) $$ HQ; iintro HQ
  iapply (stQ c X (16 * k.val + 11) (off4_val k 11) rfl) $$ HQ; iintro HQ
  iapply (ldW c (m := m14) X _ rfl) $$ HX; iintro HX
  iapply (ldQ c X (128 * (16 * k.val + 12))) $$ HQ; iintro HQ
  iapply (stQ c X (16 * k.val + 12) (off4_val k 12) rfl) $$ HQ; iintro HQ
  iapply done
  ispecialize Hk $$ [HX HQ]
  · isplitl [HX]; · iexact HX
    iexact HQ
  iapply Hk

theorem run_p6 (c : Dev nD) (X : C F S128x14336 .bf16) (k : Fin k0_t2_loop.trips) (b1 b2 : BitVec 32) (Q : PUnit → PP F) :
    iprop(wh c m14 X ∗ qA c X (128 * (16 * k.val + 13)) ∗ (iprop(wh c m14 X ∗ qA c X (128 * (16 * k.val + 16))) -∗ Q ⟨⟩))
    ⊢ wpB c (k0_part6_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 k b1 (INV X) b2) Q := by
  iintro ⟨HX, HQ, Hk⟩
  unfold k0_part6_skel
  iapply (ldW c (m := m14) X _ rfl) $$ HX; iintro HX
  iapply (ldQ c X (128 * (16 * k.val + 13))) $$ HQ; iintro HQ
  iapply (stQ c X (16 * k.val + 13) (off4_val k 13) rfl) $$ HQ; iintro HQ
  iapply (ldW c (m := m14) X _ rfl) $$ HX; iintro HX
  iapply (ldQ c X (128 * (16 * k.val + 14))) $$ HQ; iintro HQ
  iapply (stQ c X (16 * k.val + 14) (off4_val k 14) rfl) $$ HQ; iintro HQ
  iapply (ldW c (m := m14) X _ rfl) $$ HX; iintro HX
  iapply (ldQ c X (128 * (16 * k.val + 15))) $$ HQ; iintro HQ
  iapply (stQ c X (16 * k.val + 15) (off4_val k 15) rfl) $$ HQ; iintro HQ
  iapply done
  ispecialize Hk $$ [HX HQ]
  · isplitl [HX]; · iexact HX
    iexact HQ
  iapply Hk

abbrev inv2 (c : Dev nD) (X : C F S128x14336 .bf16) (k : ℕ) (_ : Unit) : PP F := iprop(wh c m14 X ∗ wh c m23 (INV X) ∗ qA c X (128 * (16 * k)))

theorem trip2 (c : Dev nD) (X : C F S128x14336 .bf16) (v190 : FVec F S128 .f32) (k : Fin k0_t2_loop.trips) (u : Unit) :
    inv2 c X k.val u ⊢ wpB c (k0_t2_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v190 k u) (inv2 c X (k.val + 1)) := by
  unfold inv2
  iintro ⟨HX, HI, HQ⟩
  unfold k0_t2_body
  rw [k0_part1_eq_skeleton, k0_part2_eq_skeleton, k0_part3_eq_skeleton, k0_part4_eq_skeleton, k0_part5_eq_skeleton, k0_part6_eq_skeleton]
  iapply (seq c)
  iapply (run_p1 c X k)
  isplitl [HX]; · iexact HX
  isplitl [HI]; · iexact HI
  isplitl [HQ]; · iexact HQ
  iintro ⟨HX, HI, HQ⟩ %b1 %b2
  iapply (seq c)
  iapply (run_p2 c X k b1 b2)
  isplitl [HX]; · iexact HX
  isplitl [HQ]; · iexact HQ
  iintro ⟨HX, HQ⟩ %b3
  iapply (seq c)
  iapply (run_p3 c X k b1 b3)
  isplitl [HX]; · iexact HX
  isplitl [HQ]; · iexact HQ
  iintro ⟨HX, HQ⟩
  iapply (seq c)
  iapply (run_p4 c X k b1)
  isplitl [HX]; · iexact HX
  isplitl [HQ]; · iexact HQ
  iintro ⟨HX, HQ⟩ %b4
  iapply (seq c)
  iapply (run_p5 c X k b1 b4)
  isplitl [HX]; · iexact HX
  isplitl [HQ]; · iexact HQ
  iintro ⟨HX, HQ⟩ %b5
  iapply (seq c)
  iapply (run_p6 c X k b1 b5)
  isplitl [HX]; · iexact HX
  isplitl [HQ]; · iexact HQ
  iintro ⟨HX, HQ⟩
  iapply done
  isplitl [HX]; · iexact HX
  isplitl [HI]; · iexact HI
  rw [show 128 * (16 * k.val + 16) = 128 * (16 * (k.val + 1)) by omega]
  iexact HQ

theorem trips2 : k0_t2_loop.trips = 7 := by decide

/-- No column agreed with is any contents; all agreed with is the codes. -/
theorem qA_zero (c : Dev nD) (X : C F S128x14336 .bf16) (f : C F S128x14336 .fp8e4m3) : wh c m15 f ⊢ qA c X (128 * (16 * 0)) := by
  unfold qA
  iintro H
  iexists f
  isplitr
  · ipureintro; intro p hp; omega
  iexact H

theorem qA_all (c : Dev nD) (X : C F S128x14336 .bf16) : qA c X (128 * (16 * k0_t2_loop.trips)) ⊢ wh c m15 (QF X) := by
  unfold qA
  rw [trips2]
  iintro ⟨%f, %hf, H⟩
  have e : f = QF X := funext fun p => hf p (by have := ValueIdx.idx2_lt1 p; omega)
  subst e
  iexact H

end Cert.KernelIdeal.Hand

end
-- ==== Proof.KernelIdeal.Adapt.lean ====
/- The loop over blocks of columns that accumulates the products of the router and of the adapters' first matrices. -/
module

public import proofs.«01_k».proof.Proof.KernelIdeal.Quant

@[expose] public section

noncomputable section

namespace Cert.KernelIdeal.Hand

open Cert.KernelIdeal Cert.KernelIdeal.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Whole buffers as memrefs; and reading a buffer while it is copied from -/

theorem wh_pt (c : Dev nD) (b : Ref sig .tc) (f : Buf (Elt F) ((c.tc : Thread nD τ).loc b)) :
    (wh c (Memref.whole b) f : PP F) = pt (c.tc : Thread nD τ) (Memref.whole b) f := by
  show (_ ↦[Finset.univ]{fullShare} f : PP F) = (_ ↦[(View.whole b).set]{fullShare} f)
  rw [View.set_whole]

/-- Half of a buffer's elements' shares, one half or the other. -/
abbrev whL (c : Dev nD) {sp : Space} {s : Shape} {e : EltTy} (M : Memref sig .tc sp s e) (f : Buf (Elt F) (M.view.loc (c.tc : Thread nD τ))) : PP F :=
  M.view.loc (c.tc : Thread nD τ) ↦{fullShare.left} f
abbrev ptR (c : Dev nD) {sp : Space} {s : Shape} {e : EltTy} (M : Memref sig .tc sp s e) (f : Buf (Elt F) (M.view.loc (c.tc : Thread nD τ))) : PP F :=
  M.view.loc (c.tc : Thread nD τ) ↦[M.view.set]{fullShare.right} f

theorem wh_halves (c : Dev nD) (b : Ref sig .tc) (f : Buf (Elt F) ((c.tc : Thread nD τ).loc b)) :
    (wh c (Memref.whole b) f : PP F) = iprop(whL c (Memref.whole b) f ∗ ptR c (Memref.whole b) f) := by
  have h : (ptR c (Memref.whole b) f : PP F) = ((Memref.whole b).view.loc (c.tc : Thread nD τ) ↦{fullShare.right} f) := by
    show (_ ↦[(View.whole b).set]{fullShare.right} f : PP F) = (_ ↦[Finset.univ]{fullShare.right} f)
    rw [View.set_whole]
  rw [h]
  exact Entails.antisymm (pointsTo_share (PosShare.mem_left_op_right fullShare)).1 (pointsTo_share (PosShare.mem_left_op_right fullShare)).2

theorem ldL (c : Dev nD) {cs : CoreSpace} {s : Shape} {e : EltTy} {m : Memref sig .tc cs s e} {r : LoadRect s} {hl : m.view.LoadsAt r} {α : Type} {k : (r.shape.Idx → Elt F e) → Prog (TpuEff nD τ sig (Elt F) Λ₀ .tc) α} {Q : α → PP F}
    (f : Buf (Elt F) (m.view.loc (c.tc : Thread nD τ))) (v : r.shape.Idx → Elt F e) (h : m.view.readAt (Elt F) r f = v) :
    whL c m f ⊢ iprop((whL c m f -∗ wpB c (k v) Q) -∗ wpB c (Prog.lift (.load m r hl) >>= k) Q) := by
  subst h
  exact wp_load (Ix := Unit) (Val := Elt F) (Name := ℕ) (U := Pipeline.UD sig nD τ) (Lvl := ℕ) Variants.none (c.tc : Thread nD τ) none Set.univ (hl := hl) (k := k) (Finset.subset_univ _)

/-- The codes in flight to the result, from a half of their buffer's shares. -/
abbrev qF (c : Dev nD) (f : C F S128x14336 .fp8e4m3) : PP F :=
  fl (c.tc : Thread nD τ) (.dma 22) m12.view.dmaCredit iprop(pt (c.tc : Thread nD τ) m12 f ∗ ptR c m15 f)

theorem issQ (c : Dev nD) (f g : C F S128x14336 .fp8e4m3) {hsrc : m15.view.WordExact} {hdst : m12.view.WordExact}
    {hsem : DmaTarget.Typed (nD := nD) .vmem (.dma 22) (.here m12 : DmaTarget nD τ sig .tc .hbm S128x14336 .fp8e4m3)} {α : Type} {k : PUnit → Prog (TpuEff nD τ sig (Elt F) Λ₀ .tc) α} {Q : α → PP F} :
    iprop(ptR c m15 f ∗ pt (c.tc : Thread nD τ) m12 g ∗ sv c 22)
      ⊢ iprop((qF c f -∗ wpB c (k ⟨⟩) Q) -∗ wpB c (Prog.lift (.enqueueDma m15 (.here m12) (.dma 22) hsrc hdst hsem) >>= k) Q) := by
  iintro H Hk
  iapply (wp_dmaLocal EC Variants.none (c.tc : Thread nD τ) none (src := m15) (dst := m12) (sm := .dma 22) (via := .same) (hsrc := hsrc) (hdst := hdst) (hsem := hsem) (k := k) (q := fullShare.right) (fs := f) (Sd := m12.view.set) (fd := g)
    () m12.view.dmaCredit rfl (View.dmaCredit_pos _ (by decide)) subset_rfl) $$ H
  iintro HF
  iapply Hk
  iapply (Flight_mono EC (c.tc : Thread nD τ) ?_) $$ HF
  refine sep_mono (Entails.of_eq (pt_eq ?_)) .rfl
  rw [View.read_write_univ]
  rfl

/-! ## The router's and the adapters' products -/

theorem tri_le1 (x y z : ℕ) : 0 + x ≤ sumTo (tri x y z) 3 := by rw [tri_sum]; omega
theorem tri_le2 (x y z : ℕ) : 0 + x + y ≤ sumTo (tri x y z) 3 := by rw [tri_sum]; omega
theorem tri_all (x y z : ℕ) : 0 + x + y + z = sumTo (tri x y z) 3 := by rw [tri_sum]; omega
theorem duo_le1 (x y : ℕ) : 0 + x ≤ sumTo (duo x y) 2 := by rw [duo_sum]; omega
theorem duo_all (x y : ℕ) : 0 + x + y = sumTo (duo x y) 2 := by rw [duo_sum]; omega

section AWaits
variable (c : Dev nD) (a : C F S768x14336 .bf16) (sa : C F S64x14336 .bf16) (rw : C F S16x14336 .bf16) (i : Fin k0_t3_loop.trips)

/-- A block in flight, of which units have been waited for. -/
abbrev aW (j : Fin 25) (u : ℕ) : PP F := mb (c.tc : Thread nD τ) (.dma j) (aAm i) (aDl c a sa rw i) 3 u

/-- A block arrived. -/
abbrev aG (j : Fin 25) : PP F := iprop(pt (c.tc : Thread nD τ) (avc i) (AV a sa rw) ∗ (pt (c.tc : Thread nD τ) (ah3 i) rw ∗ pt (c.tc : Thread nD τ) (ah8 i) sa ∗ pt (c.tc : Thread nD τ) (ah6 i) a) ∗ sv c j)

theorem waitA1 {j : Fin 25} {sm : DmaSem sig} (h : sm = j) {hsrc : (ah3 i).view.WordExact} {hdst : (av3 i).view.WordExact} {α : Type} {k : PUnit → Prog (TpuEff nD τ sig (Elt F) Λ₀ .tc) α} {Q : α → PP F} :
    iprop(aF c a sa rw i j ∗ ow (c.tc : Thread nD τ))
      ⊢ iprop((iprop(aW c a sa rw i j (0 + (av3 i).view.dmaCredit) ∗ ow (c.tc : Thread nD τ)) -∗ wpB c (k ⟨⟩) Q)
        -∗ wpB c (Prog.lift (.waitDma2 sm (ah3 i) (av3 i) hsrc hdst) >>= k) Q) := by
  subst h
  exact waitB (c := (c.tc : Thread nD τ)) (A := aAm i) (D := aDl c a sa rw i) (av3 i).view.dmaCredit rfl (tri_le1 _ _ _)

theorem waitA2 {j : Fin 25} {sm : DmaSem sig} (h : sm = j) {hsrc : (ah8 i).view.WordExact} {hdst : (av8 i).view.WordExact} {α : Type} {k : PUnit → Prog (TpuEff nD τ sig (Elt F) Λ₀ .tc) α} {Q : α → PP F} :
    iprop(aW c a sa rw i j (0 + (av3 i).view.dmaCredit) ∗ ow (c.tc : Thread nD τ))
      ⊢ iprop((iprop(aW c a sa rw i j (0 + (av3 i).view.dmaCredit + (av8 i).view.dmaCredit) ∗ ow (c.tc : Thread nD τ)) -∗ wpB c (k ⟨⟩) Q)
        -∗ wpB c (Prog.lift (.waitDma2 sm (ah8 i) (av8 i) hsrc hdst) >>= k) Q) := by
  subst h
  exact waitB (c := (c.tc : Thread nD τ)) (A := aAm i) (D := aDl c a sa rw i) (av8 i).view.dmaCredit rfl (tri_le2 _ _ _)

theorem waitA3 {j : Fin 25} {sm : DmaSem sig} (h : sm = j) {hsrc : (ah6 i).view.WordExact} {hdst : (av6 i).view.WordExact} {α : Type} {k : PUnit → Prog (TpuEff nD τ sig (Elt F) Λ₀ .tc) α} {Q : α → PP F} :
    iprop(aW c a sa rw i j (0 + (av3 i).view.dmaCredit + (av8 i).view.dmaCredit) ∗ ow (c.tc : Thread nD τ))
      ⊢ iprop((iprop(aG c a sa rw i j ∗ ow (c.tc : Thread nD τ)) -∗ wpB c (k ⟨⟩) Q)
        -∗ wpB c (Prog.lift (.waitDma2 sm (ah6 i) (av6 i) hsrc hdst) >>= k) Q) := by
  subst h
  iintro H Hk
  iapply (waitBAll (c := (c.tc : Thread nD τ)) (A := aAm i) (D := aDl c a sa rw i) (av6 i).view.dmaCredit rfl (tri_pos (View.dmaCredit_pos _ (by decide)) (View.dmaCredit_pos _ (by decide)) (View.dmaCredit_pos _ (by decide))) (tri_all _ _ _)) $$ H
  iintro ⟨HD, Hs, HO⟩
  ihave HD := (Entails.of_eq (bigSep_tri _ _ _)) $$ HD
  icases HD with ⟨⟨V3, H3⟩, ⟨V8, H8⟩, ⟨V6, H6⟩⟩
  iapply Hk
  isplitr [HO]
  · isplitl [V3 V8 V6]
    · iapply (Entails.of_eq (avc_parts c (AV a sa rw) i).symm)
      isplitl [V6]; · iexact V6
      isplitl [V8]; · iexact V8
      iexact V3
    isplitr [Hs]
    · isplitl [H3]; · iexact H3
      isplitl [H8]; · iexact H8
      iexact H6
    iexact Hs
  iexact HO

end AWaits

abbrev js (i : Fin k0_t3_loop.trips) : Fin 25 := ⟨7 + i.val, by have h : i.val < 7 := i.isLt.trans_eq (by decide); omega⟩

theorem t3_sem (k : Fin k0_t3_loop.trips) : ((cc0_scratch16.slice (Rect.unit (s := S7) (k0_off5 k) S1.size (k0_off5_inb k))).squeeze S_ squeezes_S1_S_).sem = js k := by
  revert k; decide +kernel

/-- The products accumulated over the first `k` blocks of columns. -/
def HV (X : C F S128x14336 .bf16) (A : C F S848x14336 .bf16) : ℕ → C F S848x128 .f32
  | 0 => k0_pay30
  | k + 1 => if h : k < k0_t3_loop.trips then k0_pay31 (HV X A k) (m16.view.readAt (Elt F) (Rect.unit (s := S848x14336) (k0_off12 ⟨k, h⟩) S848x2048.size (k0_off12_inb ⟨k, h⟩)).toLoadRect A)
      (m14.view.readAt (Elt F) (Rect.unit (s := S128x14336) (k0_off13 ⟨k, h⟩) S128x2048.size (k0_off13_inb ⟨k, h⟩)).toLoadRect X) else HV X A k

theorem HV_succ (X : C F S128x14336 .bf16) (A : C F S848x14336 .bf16) (k : Fin k0_t3_loop.trips) :
    HV X A (k.val + 1) = k0_pay31 (HV X A k.val) (m16.view.readAt (Elt F) (Rect.unit (s := S848x14336) (k0_off12 k) S848x2048.size (k0_off12_inb k)).toLoadRect A)
      (m14.view.readAt (Elt F) (Rect.unit (s := S128x14336) (k0_off13 k) S128x2048.size (k0_off13_inb k)).toLoadRect X) := by
  rw [HV, dif_pos k.isLt]

section T3
variable (c : Dev nD) (X : C F S128x14336 .bf16) (a : C F S768x14336 .bf16) (sa : C F S64x14336 .bf16) (rw : C F S16x14336 .bf16)

abbrev aS (k : ℕ) : PP F := stage (fun i => aF c a sa rw i (js i)) (fun i => aG c a sa rw i (js i)) k
abbrev inv3 (k : ℕ) (_ : Unit) : PP F := iprop(wh c m14 X ∗ wh c m17 (HV X (AV a sa rw) k) ∗ aS c a sa rw k ∗ ow (c.tc : Thread nD τ))

theorem trip3 (v190 : FVec F S128 .f32) (k : Fin k0_t3_loop.trips) (u : Unit) :
    inv3 c X a sa rw k.val u ⊢ wpB c (k0_t3_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v190 k u) (inv3 c X a sa rw (k.val + 1)) := by
  unfold inv3 aS
  iintro ⟨HX, HH, HS, HO⟩
  ihave HS := (Entails.of_eq (stage_out (fun i => aF c a sa rw i (js i)) (fun i => aG c a sa rw i (js i)) k)) $$ HS
  icases HS with ⟨HF, HR⟩
  unfold k0_t3_body
  iapply (waitA1 c a sa rw k (t3_sem k)) $$ [HF HO]
  · isplitl [HF]; · iexact HF
    iexact HO
  iintro HF
  iapply (waitA2 c a sa rw k (t3_sem k)) $$ HF
  iintro HF
  iapply (waitA3 c a sa rw k (t3_sem k)) $$ HF
  iintro ⟨⟨HV', HG⟩, HO⟩
  iapply (ldW c (m := m17) (HV X (AV a sa rw) k.val) (HV X (AV a sa rw) k.val) (Memref.readAt_unit_zero (Elt F) cc0_scratch3 off0 _ _)) $$ HH; iintro HH
  iapply (ldS c (m := m16) rfl (AV a sa rw)) $$ HV'; iintro HV'
  iapply (ldW c (m := m14) X _ rfl) $$ HX; iintro HX
  iapply (ldW c (m := m17) (HV X (AV a sa rw) k.val) (HV X (AV a sa rw) k.val) (Memref.readAt_unit_zero (Elt F) cc0_scratch3 off0 _ _)) $$ HH; iintro HH
  iapply (stW c (m := m17) (HV X (AV a sa rw) k.val) (HV X (AV a sa rw) (k.val + 1)) ((Memref.write_access_unit_zero_univ (Elt F) cc0_scratch3 off0 _ _ _).trans (HV_succ X (AV a sa rw) k).symm)) $$ HH; iintro HH
  iapply done
  isplitl [HX]; · iexact HX
  isplitl [HH]; · iexact HH
  isplitr [HO]
  · iapply (Entails.of_eq (stage_in (fun i => aF c a sa rw i (js i)) (fun i => aG c a sa rw i (js i)) k))
    isplitr [HR]
    · isplitl [HV']; · iexact HV'
      iexact HG
    iexact HR
  iexact HO

theorem univ7' : (Finset.univ : Finset (Fin k0_t3_loop.trips)) = [t3 0, t3 1, t3 2, t3 3, t3 4, t3 5, t3 6].toFinset := by decide
theorem bigSep7' (Φ : Fin k0_t3_loop.trips → PP F) : bigSep Finset.univ Φ = iprop(Φ (t3 0) ∗ Φ (t3 1) ∗ Φ (t3 2) ∗ Φ (t3 3) ∗ Φ (t3 4) ∗ Φ (t3 5) ∗ Φ (t3 6)) :=
  BI.bigSep_univ_eq_bigSepL [t3 0, t3 1, t3 2, t3 3, t3 4, t3 5, t3 6] (by decide) (by decide) Φ

theorem aS_zero : aS c a sa rw 0 = iprop(aF c a sa rw (t3 0) 7 ∗ aF c a sa rw (t3 1) 8 ∗ aF c a sa rw (t3 2) 9 ∗ aF c a sa rw (t3 3) 10 ∗ aF c a sa rw (t3 4) 11 ∗ aF c a sa rw (t3 5) 12 ∗ aF c a sa rw (t3 6) 13) := by
  unfold aS
  rw [stage_zero, bigSep7']
  rfl

/-- The semaphores of the blocks. -/
abbrev sv7 : PP F := iprop(sv c 7 ∗ sv c 8 ∗ sv c 9 ∗ sv c 10 ∗ sv c 11 ∗ sv c 12 ∗ sv c 13)

theorem aS_all : aS c a sa rw k0_t3_loop.trips ⊢ iprop(wh c m16 (AV a sa rw) ∗ (wh c m3 rw ∗ wh c m8 sa ∗ wh c m6 a) ∗ sv7 c) := by
  unfold aS
  rw [stage_last _ _ le_rfl, avc_split, ah3_split, ah8_split, ah6_split, bigSep7', bigSep7', bigSep7', bigSep7', bigSep7']
  iintro ⟨⟨V0, ⟨R0, S0, A0⟩, s0⟩, ⟨V1, ⟨R1, S1, A1⟩, s1⟩, ⟨V2, ⟨R2, S2, A2⟩, s2⟩, ⟨V3, ⟨R3, S3, A3⟩, s3⟩, ⟨V4, ⟨R4, S4, A4⟩, s4⟩, ⟨V5, ⟨R5, S5, A5⟩, s5⟩, ⟨V6, ⟨R6, S6, A6⟩, s6⟩⟩
  isplitl [V0 V1 V2 V3 V4 V5 V6]
  · isplitl [V0]; · iexact V0
    isplitl [V1]; · iexact V1
    isplitl [V2]; · iexact V2
    isplitl [V3]; · iexact V3
    isplitl [V4]; · iexact V4
    isplitl [V5]; · iexact V5
    iexact V6
  isplitr [s0 s1 s2 s3 s4 s5 s6]
  · isplitl [R0 R1 R2 R3 R4 R5 R6]
    · isplitl [R0]; · iexact R0
      isplitl [R1]; · iexact R1
      isplitl [R2]; · iexact R2
      isplitl [R3]; · iexact R3
      isplitl [R4]; · iexact R4
      isplitl [R5]; · iexact R5
      iexact R6
    isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    isplitl [A0]; · iexact A0
    isplitl [A1]; · iexact A1
    isplitl [A2]; · iexact A2
    isplitl [A3]; · iexact A3
    isplitl [A4]; · iexact A4
    isplitl [A5]; · iexact A5
    iexact A6
  isplitl [s0]; · iexact s0
  isplitl [s1]; · iexact s1
  isplitl [s2]; · iexact s2
  isplitl [s3]; · iexact s3
  isplitl [s4]; · iexact s4
  isplitl [s5]; · iexact s5
  iexact s6

theorem trips3 : k0_t3_loop.trips = 7 := by decide

end T3

end Cert.KernelIdeal.Hand

end
-- ==== Proof.KernelIdeal.Mid.lean ====
/- The quantisation and the adapters' products, run. -/
module

public import proofs.«01_k».proof.Proof.KernelIdeal.Adapt

@[expose] public section

noncomputable section

namespace Cert.KernelIdeal.Hand

open Cert.KernelIdeal Cert.KernelIdeal.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

theorem waitU (c : Dev nD) {sp sp' sp1 : Space} {s s' : Shape} {e e' : EltTy} {src : Memref sig .tc sp s e} {dst : Memref sig .tc sp' s e} (f : Buf (Elt F) (src.view.loc (c.tc : Thread nD τ))) (g : Buf (Elt F) (dst.view.loc (c.tc : Thread nD τ)))
    {j : Fin 25} {sm : DmaSem sig} (h : sm = j) {srcw : Memref sig .tc sp1 s' e'} {hsrc : srcw.view.WordExact} {hdst : dst.view.WordExact} {α : Type} {k : PUnit → Prog (TpuEff nD τ sig (Elt F) Λ₀ .tc) α} {Q : α → PP F} :
    iprop(uF c src dst f g j ∗ ow (c.tc : Thread nD τ))
      ⊢ iprop((iprop((pt (c.tc : Thread nD τ) dst g ∗ pt (c.tc : Thread nD τ) src f) ∗ sv c j ∗ ow (c.tc : Thread nD τ)) -∗ wpB c (k ⟨⟩) Q)
        -∗ wpB c (Prog.lift (.waitDma2 sm srcw dst hsrc hdst) >>= k) Q) := by
  subst h
  exact wait (c := (c.tc : Thread nD τ)) rfl

/-- The products accumulated over every block of columns. -/
abbrev HF (X : C F S128x14336 .bf16) (a : C F S768x14336 .bf16) (sa : C F S64x14336 .bf16) (rw : C F S16x14336 .bf16) : C F S848x128 .f32 := HV X (AV a sa rw) k0_t3_loop.trips

theorem sem_s0 : ((cc0_scratch20.slice (Rect.unit (s := S3) ![0] S1.size inb_S3_S1_0)).squeeze S_ squeezes_S1_S_).sem = (19 : Fin 25) := by decide +kernel
theorem sem_s1 : ((cc0_scratch20.slice (Rect.unit (s := S3) ![1] S1.size inb_S3_S1_1)).squeeze S_ squeezes_S1_S_).sem = (20 : Fin 25) := by decide +kernel
theorem sem_s2 : ((cc0_scratch20.slice (Rect.unit (s := S3) ![2] S1.size inb_S3_S1_2)).squeeze S_ squeezes_S1_S_).sem = (21 : Fin 25) := by decide +kernel

section Run15
variable (c : Dev nD) (X : C F S128x14336 .bf16) (a : C F S768x14336 .bf16) (sa : C F S64x14336 .bf16) (rw : C F S16x14336 .bf16) (ws : C F S1x4096 .f32) (rb : C F S1x12 .f32) (ix : C F S2x128 .i32)
  (f28 f13 : C F S1x128 .f32) (f15 f12 : C F S128x14336 .fp8e4m3) (f17 : C F S848x128 .f32)

theorem run15 (Q : FVec F S12 .f32 → PP F) :
    iprop((wh c m28 f28 ∗ wh c m14 X ∗ wh c m23 (INV X) ∗ wh c m15 f15 ∗ wh c m17 f17 ∗ aS c a sa rw 0 ∗ ow (c.tc : Thread nD τ)
      ∗ pt (c.tc : Thread nD τ) m12 f12 ∗ sv c 22 ∗ pt (c.tc : Thread nD τ) m13 f13 ∗ sv c 23 ∗ uF c m2 m24 ws ws 19 ∗ uF c m4 m25 rb rb 20 ∗ uF c m5 m26 ix ix 21)
      ∗ (iprop(wh c m14 X ∗ wh c m23 (INV X) ∗ wh c m17 (HF X a sa rw) ∗ whL c m15 (QF X) ∗ qF c (QF X) ∗ uF c m28 m13 (XSR X) (XSR X) 23
          ∗ (wh c m16 (AV a sa rw) ∗ (wh c m3 rw ∗ wh c m8 sa ∗ wh c m6 a) ∗ sv7 c) ∗ ow (c.tc : Thread nD τ)
          ∗ (wh c m24 ws ∗ wh c m2 ws ∗ sv c 19) ∗ (wh c m25 rb ∗ wh c m4 rb ∗ sv c 20) ∗ (wh c m26 ix ∗ wh c m5 ix ∗ sv c 21)) -∗ Q (k0_pay32 rb)))
    ⊢ wpB c (part15 (k0_pay28 (XSV X))) Q := by
  iintro ⟨⟨H28, HX, HI, HQ, HH, HA, HO, P12, V22, P13, V23, U19, U20, U21⟩, Hk⟩
  unfold part15 k0_part15_skel
  iapply (ldW c (m := m28) f28 f28 (Memref.readAt_unit_zero (Elt F) cc0_scratch14 off0 _ f28)) $$ H28; iintro H28
  iapply (stW c (m := m28) f28 (XSR X) (Memref.write_access_unit_zero_univ (Elt F) cc0_scratch14 off0 _ f28 _)) $$ H28; iintro H28
  ihave HQ := (qA_zero c X f15) $$ HQ
  iapply (Scf.wp_for_bind _ _ _ _ _ _ _ _ _ (inv2 c X) (trip2 c X (k0_pay28 (XSV X)))) $$ [HX HI HQ]
  · isplitl [HX]; · iexact HX
    isplitl [HI]; · iexact HI
    iexact HQ
  iintro %acc ⟨HX, HI, HQ⟩
  ihave HQ := (qA_all c X) $$ HQ
  iapply (ldW c (m := m17) f17 f17 (Memref.readAt_unit_zero (Elt F) cc0_scratch3 off0 _ f17)) $$ HH; iintro HH
  iapply (stW c (m := m17) f17 (HV X (AV a sa rw) 0) (Memref.write_access_unit_zero_univ (Elt F) cc0_scratch3 off0 _ f17 _)) $$ HH; iintro HH
  iapply (Scf.wp_for_bind _ _ _ _ _ _ _ _ _ (inv3 c X a sa rw) (trip3 c X a sa rw (k0_pay28 (XSV X)))) $$ [HX HH HA HO]
  · isplitl [HX]; · iexact HX
    isplitl [HH]; · iexact HH
    isplitl [HA]; · iexact HA
    iexact HO
  iintro %acc' ⟨HX, HH, HA, HO⟩
  ihave HQ := (Entails.of_eq (wh_halves c cc0_scratch1 (QF X))) $$ HQ
  icases HQ with ⟨HL, HR⟩
  iapply (issQ c (QF X) f12) $$ [HR P12 V22]
  · isplitl [HR]; · iexact HR
    isplitl [P12]; · iexact P12
    iexact V22
  iintro HQ
  ihave P28 := (Entails.of_eq (wh_pt c cc0_scratch14 (XSR X))) $$ H28
  iapply (issue (c := (c.tc : Thread nD τ)) (src := m28) (dst := m13) (sm := 23) (XSR X) f13 (XSR X) (by decide) rfl) $$ [P28 P13 V23]
  · isplitl [P28]; · iexact P28
    isplitl [P13]; · iexact P13
    iexact V23
  iintro U23
  iapply (waitU c (src := m2) (dst := m24) ws ws sem_s0) $$ [U19 HO]
  · isplitl [U19]; · iexact U19
    iexact HO
  iintro ⟨⟨P24, P2⟩, V19, HO⟩
  iapply (waitU c (src := m4) (dst := m25) rb rb sem_s1) $$ [U20 HO]
  · isplitl [U20]; · iexact U20
    iexact HO
  iintro ⟨⟨P25, P4⟩, V20, HO⟩
  iapply (waitU c (src := m5) (dst := m26) ix ix sem_s2) $$ [U21 HO]
  · isplitl [U21]; · iexact U21
    iexact HO
  iintro ⟨⟨P26, P5⟩, V21, HO⟩
  ihave P24 := (Entails.of_eq (wh_pt c cc0_scratch10 ws).symm) $$ P24
  ihave P25 := (Entails.of_eq (wh_pt c cc0_scratch11 rb).symm) $$ P25
  ihave P26 := (Entails.of_eq (wh_pt c cc0_scratch12 ix).symm) $$ P26
  ihave P2 := (Entails.of_eq (wh_pt c main_v1 ws).symm) $$ P2
  ihave P4 := (Entails.of_eq (wh_pt c main_v4 rb).symm) $$ P4
  ihave P5 := (Entails.of_eq (wh_pt c main_v6 ix).symm) $$ P5
  iapply (ldW c (m := m25) rb rb (Memref.readAt_unit_zero (Elt F) cc0_scratch11 off0 _ rb)) $$ P25; iintro P25
  iapply done
  iapply Hk
  ihave HA := (aS_all c a sa rw) $$ HA
  icases HA with ⟨H16, ⟨H3, H8, H6⟩, S7⟩
  isplitl [HX]; · iexact HX
  isplitl [HI]; · iexact HI
  isplitl [HH]; · iexact HH
  isplitl [HL]; · iexact HL
  isplitl [HQ]; · iexact HQ
  isplitl [U23]; · iexact U23
  isplitl [H16 H3 H8 H6 S7]
  · isplitl [H16]; · iexact H16
    isplitl [H3 H8 H6]
    · isplitl [H3]; · iexact H3
      isplitl [H8]; · iexact H8
      iexact H6
    iexact S7
  isplitl [HO]; · iexact HO
  isplitl [P24 P2 V19]
  · isplitl [P24]; · iexact P24
    isplitl [P2]; · iexact P2
    iexact V19
  isplitl [P25 P4 V20]
  · isplitl [P25]; · iexact P25
    isplitl [P4]; · iexact P4
    iexact V20
  isplitl [P26]; · iexact P26
  isplitl [P5]; · iexact P5
  iexact V21

end Run15

end Cert.KernelIdeal.Hand

end
-- ==== Proof.KernelIdeal.Out.lean ====
/- The loop over the result's blocks of 512 columns. -/
module

public import proofs.«01_k».proof.Proof.KernelIdeal.Mid

@[expose] public section

noncomputable section

namespace Cert.KernelIdeal.Hand

open Cert.KernelIdeal Cert.KernelIdeal.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Small facts about the third loop's counters -/

theorem trips4 : k0_t4_loop.trips = 8 := by decide
/-- The block of columns of trip `k`, its slot in the weight's ring and that slot's semaphore. -/
abbrev kb (k : Fin k0_t4_loop.trips) : Fin 8 := ⟨k.val, k.isLt.trans_eq trips4⟩
abbrev s3 (n : ℕ) : Fin 3 := ⟨n % 3, Nat.mod_lt _ (by decide)⟩
abbrev j3 (n : ℕ) : Fin 25 := ⟨15 + n % 3, by have := Nat.mod_lt n (show 3 > 0 by decide); omega⟩

theorem s3_inb (m : Fin 3) : ∀ a, (![m.val] : Fin 1 → ℕ) a + S1.size a ≤ S3.size a := by revert m; decide
theorem sem3' (m : Fin 3) : ((cc0_scratch18.slice (Rect.unit (s := S3) ![m.val] S1.size (s3_inb m))).squeeze S_ squeezes_S1_S_).sem = (⟨15 + m.val, by omega⟩ : Fin 25) := by revert m; decide +kernel
theorem sem3 (n : ℕ) {off : Fin 1 → ℕ} {inb : ∀ a, off a + S1.size a ≤ S3.size a} (h : off = ![n % 3]) :
    ((cc0_scratch18.slice (Rect.unit (s := S3) off S1.size inb)).squeeze S_ squeezes_S1_S_).sem = j3 n := by
  subst h
  exact sem3' ⟨n % 3, Nat.mod_lt _ (by decide)⟩

theorem off14_eq (k : Fin k0_t4_loop.trips) : k0_off14 k = ![k.val % 3] := funext (by revert k; decide +kernel)
theorem off15_eq (k : Fin k0_t4_loop.trips) : k0_off15 k = ![(s3 k.val).val, 0, 0] := funext (by revert k; decide +kernel)
theorem off17_eq (k : Fin k0_t4_loop.trips) : k0_off17 k = ![(s3 k.val).val, 0, 0] := funext (by revert k; decide +kernel)
theorem off18_eq (k : Fin k0_t4_loop.trips) : k0_off18 k = ![0, 512 * (kb k).val] := funext (by revert k; decide +kernel)
theorem off19_eq (k : Fin k0_t4_loop.trips) : k0_off19 k = ![0, 512 * (kb k).val] := funext (by revert k; decide +kernel)
theorem off20_eq (k : Fin k0_t4_loop.trips) : k0_off20 k = ![0, 512 * (kb k).val] := funext (by revert k; decide +kernel)
theorem cond1_lt (k : Fin k0_t4_loop.trips) (h : k0_cond1 k = 1#1) : k.val + 3 < 8 := by revert k; decide +kernel
theorem cond1_ge (k : Fin k0_t4_loop.trips) (h : ¬ k0_cond1 k = 1#1) : 8 ≤ k.val + 3 := by revert k; decide +kernel
theorem cond2_pos (k : Fin k0_t4_loop.trips) (h : k0_cond2 k = 1#1) : 0 < k.val := by revert k; decide +kernel
theorem cond2_zero (k : Fin k0_t4_loop.trips) (h : ¬ k0_cond2 k = 1#1) : k.val = 0 := by revert k; decide +kernel
theorem off21_eq (k : Fin k0_t4_loop.trips) : k0_off21 k = ![(k.val + 3) % 3] := funext (by revert k; decide +kernel)
theorem off22_eq (k : Fin k0_t4_loop.trips) : k0_off22 k = ![(s3 (k.val + 3)).val, 0, 0] := funext (by revert k; decide +kernel)
theorem off23_eq (k : Fin k0_t4_loop.trips) (h : k.val + 3 < 8) : k0_off23 k = ![0, 512 * (⟨k.val + 3, h⟩ : Fin 8).val] := by
  have h' : ∀ k : Fin k0_t4_loop.trips, k.val + 3 < 8 → ∀ a : Fin 2, k0_off23 k a = (![0, 512 * (k.val + 3)] : Fin 2 → ℕ) a := by decide +kernel
  exact funext (h' k h)
theorem off24_eq (k : Fin k0_t4_loop.trips) (h : 0 < k.val) : k0_off24 k = ![0, 512 * (k.val - 1)] := by
  have h' : ∀ k : Fin k0_t4_loop.trips, 0 < k.val → ∀ a : Fin 2, k0_off24 k a = (![0, 512 * (k.val - 1)] : Fin 2 → ℕ) a := by decide +kernel
  exact funext (h' k h)

/-- A conditional step before the rest of the program. -/
theorem dite_run (c : Dev nD) {α : Type} {P : Prop} [Decidable P] {t : P → Prog (TpuEff nD τ sig (Elt F) Λ₀ .tc) α} {jp : Prog (TpuEff nD τ sig (Elt F) Λ₀ .tc) α} {Q : α → PP F} (R R' : PP F)
    (hp : ∀ h : P, R ⊢ iprop((R' -∗ wpB c jp Q) -∗ wpB c (t h) Q)) (hn : ¬ P → R ⊢ R') :
    R ⊢ iprop((R' -∗ wpB c jp Q) -∗ wpB c (dite P t (fun _ => jp)) Q) := by
  by_cases h : P
  · rw [dif_pos h]; exact hp h
  · rw [dif_neg h]
    iintro H Hk
    iapply Hk
    iapply (hn h) $$ H

section Out
variable (c : Dev nD) (X : C F S128x14336 .bf16) (w : C F S14336x4096 .fp8e4m3) (hb : C F S128x832 .bf16) (bv : C F S832x4096 .bf16) (ws : C F S1x4096 .f32)

/-- The columns of block `b`, of the weight, of the adapters' second matrices and of the weight's scales. -/
def wr (b : Fin 8) : C F S1x14336x512 .fp8e4m3 := fun j => w (ValueIdx.ix2 (n0 := 14336) (n1 := 4096) (j 1) ⟨512 * b.val + (j 2).val, by have h : (j 2).val < 512 := (j 2).isLt; have := b.isLt; show _ < 4096; omega⟩)
def br (b : Fin 8) : C F S832x512 .bf16 := fun j => bv (ValueIdx.ix2 (n0 := 832) (n1 := 4096) (j 0) ⟨512 * b.val + (j 1).val, by have h : (j 1).val < 512 := (j 1).isLt; have := b.isLt; show _ < 4096; omega⟩)
def wsr (b : Fin 8) : C F S1x512 .f32 := fun j => ws (ValueIdx.ix2 (n0 := 1) (n1 := 4096) (j 0) ⟨512 * b.val + (j 1).val, by have h : (j 1).val < 512 := (j 1).isLt; have := b.isLt; show _ < 4096; omega⟩)

/-- Block `b` of the result, and the result. -/
def OB (b : Fin 8) : C F S128x512 .bf16 := k0_pay54 (QF X) (wr w b) hb (br bv b) (XSV X) (wsr ws b)
def OF : C F S128x4096 .bf16 := fun p => OB X w hb bv ws ⟨(p 1).val / 512, by have := ValueIdx.idx2_lt1 p; omega⟩ (ValueIdx.ix2 (n0 := 128) (n1 := 512) (p 0) ⟨(p 1).val % 512, Nat.mod_lt _ (by decide)⟩)

theorem wr_read (b : Fin 8) (s : Fin 3) (off : Fin 3 → ℕ) (ho : off = ![s.val, 0, 0]) (inb : ∀ a, off a + S1x14336x512.size a ≤ S3x14336x512.size a) :
    m20.view.readAt (Elt F) (Rect.unit (s := S3x14336x512) off S1x14336x512.size inb).toLoadRect (Wb w b) = wr w b := by
  subst ho
  funext j
  show Wb w b _ = _
  unfold Wb wr
  refine congrArg w (idx2_ext ?_ ?_)
  · exact (ValueKit.rect_emb_unit_val (s := S3x14336x512) ![s.val, 0, 0] S1x14336x512.size inb j 1).trans (Nat.zero_add _)
  · exact congrArg (512 * b.val + ·) ((ValueKit.rect_emb_unit_val (s := S3x14336x512) ![s.val, 0, 0] S1x14336x512.size inb j 2).trans (Nat.zero_add _))

theorem br_read (b : Fin 8) (off : Fin 2 → ℕ) (ho : off = ![0, 512 * b.val]) (inb : ∀ a, off a + S832x512.size a ≤ S832x4096.size a) :
    m19.view.readAt (Elt F) (Rect.unit (s := S832x4096) off S832x512.size inb).toLoadRect bv = br bv b := by
  subst ho
  funext j
  show bv _ = _
  unfold br
  refine congrArg bv ?_
  refine emb2_ext (n0 := 832) (n1 := 4096) (a := 832) (b := 512) _ inb j _ ?_ ?_
  · exact Nat.zero_add _
  · rfl

theorem wsr_read (b : Fin 8) (off : Fin 2 → ℕ) (ho : off = ![0, 512 * b.val]) (inb : ∀ a, off a + S1x512.size a ≤ S1x4096.size a) :
    m24.view.readAt (Elt F) (Rect.unit (s := S1x4096) off S1x512.size inb).toLoadRect ws = wsr ws b := by
  subst ho
  funext j
  show ws _ = _
  unfold wsr
  refine congrArg ws ?_
  refine emb2_ext (n0 := 1) (n1 := 4096) (a := 1) (b := 512) _ inb j _ ?_ ?_
  · exact Nat.zero_add _
  · rfl

theorem OF_read (b : Fin 8) : (oV b).view.read (Elt F) (OF X w hb bv ws) = OB X w hb bv ws b := by
  funext j
  have l1 := ValueIdx.idx2_lt1 j
  have e0 := emb2_0 (n0 := 128) (n1 := 4096) (a := 128) (b := 512) ![0, 512 * b.val] (o_inb b) j
  have e1 := emb2_1 (n0 := 128) (n1 := 4096) (a := 128) (b := 512) ![0, 512 * b.val] (o_inb b) j
  show OF X w hb bv ws ((Rect.unit (s := S128x4096) ![0, 512 * b.val] S128x512.size (o_inb b)).emb j) = _
  generalize hp : (Rect.unit (s := S128x4096) ![0, 512 * b.val] S128x512.size (o_inb b)).emb j = p
  have p0 : (p 0).val = 0 + (j 0).val := by rw [← hp]; exact e0
  have p1 : (p 1).val = 512 * b.val + (j 1).val := by rw [← hp]; exact e1
  unfold OF
  refine congr (congrArg (OB X w hb bv ws) (Fin.ext ?_)) (idx2_ext ?_ ?_)
  · show (p 1).val / 512 = b.val; omega
  · show (p 0).val = (j 0).val; omega
  · show (p 1).val % 512 = (j 1).val; omega

/-! ## The weight's ring -/

theorem waitW (b : Fin 8) (s : Fin 3) {j : Fin 25} {sm : DmaSem sig} (h : sm = j) {off : Fin 3 → ℕ} (ho : off = ![s.val, 0, 0]) {inb : ∀ a, off a + S1x14336x512.size a ≤ S3x14336x512.size a} {sp1 : Space} {s' : Shape} {e' : EltTy}
    {srcw : Memref sig .tc sp1 s' e'} {hsrc : srcw.view.WordExact} {hdst : (wSo off inb).view.WordExact} {α : Type} {k : PUnit → Prog (TpuEff nD τ sig (Elt F) Λ₀ .tc) α} {Q : α → PP F} :
    iprop(wF c w b s j ∗ ow (c.tc : Thread nD τ))
      ⊢ iprop((iprop((pt (c.tc : Thread nD τ) (wS s) (Wb w b) ∗ pt (c.tc : Thread nD τ) (wH b) w) ∗ sv c j ∗ ow (c.tc : Thread nD τ)) -∗ wpB c (k ⟨⟩) Q)
        -∗ wpB c (Prog.lift (.waitDma2 sm srcw (wSo off inb) hsrc hdst) >>= k) Q) := by
  subst h; subst ho
  exact wait (c := (c.tc : Thread nD τ)) rfl

theorem ldR (b : Fin 8) (s : Fin 3) {off : Fin 3 → ℕ} (ho : off = ![s.val, 0, 0]) {inb : ∀ a, off a + S1x14336x512.size a ≤ S3x14336x512.size a} {hl : m20.view.LoadsAt (Rect.unit (s := S3x14336x512) off S1x14336x512.size inb).toLoadRect} {α : Type} {k : C F S1x14336x512 .fp8e4m3 → Prog (TpuEff nD τ sig (Elt F) Λ₀ .tc) α} {Q : α → PP F} :
    pt (c.tc : Thread nD τ) (wS s) (Wb w b)
      ⊢ iprop((pt (c.tc : Thread nD τ) (wS s) (Wb w b) -∗ wpB c (k (wr w b)) Q) -∗ wpB c (Prog.lift (.load m20 (Rect.unit (s := S3x14336x512) off S1x14336x512.size inb).toLoadRect hl) >>= k) Q) := by
  rw [← wr_read w b s off ho inb]
  subst ho
  refine load (c := (c.tc : Thread nD τ)) (m := m20) (S := (wS s).view.set) ?_
  refine Finset.Subset.trans ?_ (Finset.subset_of_eq (Memref.set_view_squeeze (m20.slice (Rect.unit (s := S3x14336x512) ![s.val, 0, 0] S1x14336x512.size inb) (fun _ => rfl)) squeezes_S1x14336x512_S14336x512).symm)
  refine Finset.Subset.trans ?_ (Finset.subset_of_eq (View.set_slice m20.view (Rect.unit (s := S3x14336x512) ![s.val, 0, 0] S1x14336x512.size inb)).symm)
  exact Finset.Subset.refl _

/-- The copies of the weight ahead of trip `n`: in flight, or past the last block and its slot free. -/
def RR (n : ℕ) : PP F := if h : n < 8 then wF c w ⟨n, h⟩ (s3 n) (j3 n) else iprop((∃ f : C F S3x14336x512 .fp8e4m3, pt (c.tc : Thread nD τ) (wS (s3 n)) f) ∗ sv c (j3 n))
/-- The blocks of the weight not yet sent for, and those come back. -/
abbrev SWt (n : ℕ) : PP F := stage (fun b => pt (c.tc : Thread nD τ) (wH b) w) (fun _ => (BI.emp : PP F)) n
abbrev SRt (n : ℕ) : PP F := stage (fun _ => (BI.emp : PP F)) (fun b => pt (c.tc : Thread nD τ) (wH b) w) n

/-- Where the ring's conditional copy starts from, and what it leaves. -/
abbrev cA1 (k : Fin k0_t4_loop.trips) : PP F := iprop((pt (c.tc : Thread nD τ) (wS (s3 k.val)) (Wb w (kb k)) ∗ sv c (j3 k.val)) ∗ SWt c w (k.val + 3))
abbrev cB1 (k : Fin k0_t4_loop.trips) : PP F := iprop(RR c w (k.val + 3) ∗ SWt c w (k.val + 4))

theorem if1_neg (k : Fin k0_t4_loop.trips) (h : ¬ k0_cond1 k = 1#1) : cA1 c w k ⊢ cB1 c w k := by
  have h8 := cond1_ge k h
  have es : s3 (k.val + 3) = s3 k.val := Fin.ext (Nat.add_mod_right _ _)
  have ej : j3 (k.val + 3) = j3 k.val := Fin.ext (congrArg (15 + ·) (Nat.add_mod_right _ _))
  unfold cA1 cB1 RR SWt
  rw [dif_neg (by omega), es, ej, stage_last _ _ h8, stage_last _ _ (show 8 ≤ k.val + 4 by omega)]
  iintro ⟨⟨H, Hs⟩, HW⟩
  isplitr [HW]
  · isplitl [H]
    · iexists (Wb w (kb k)); iexact H
    iexact Hs
  iexact HW

theorem if1_pos (k : Fin k0_t4_loop.trips) (h : k0_cond1 k = 1#1) {off0 : Fin 1 → ℕ} (h0 : off0 = ![(k.val + 3) % 3]) {inb0 : ∀ a, off0 a + S1.size a ≤ S3.size a} {off1 : Fin 2 → ℕ} (h1 : ∀ h : k.val + 3 < 8, off1 = ![0, 512 * (⟨k.val + 3, h⟩ : Fin 8).val]) {inb1 : ∀ a, off1 a + S14336x512.size a ≤ S14336x4096.size a} {off2 : Fin 3 → ℕ} (h2 : off2 = ![(s3 (k.val + 3)).val, 0, 0]) {inb2 : ∀ a, off2 a + S1x14336x512.size a ≤ S3x14336x512.size a}
    {hsrc : (wHo off1 inb1).view.WordExact} {hdst : (wSo off2 inb2).view.WordExact}
    {hsem : DmaTarget.Typed (nD := nD) .hbm (.dma ((cc0_scratch18.slice (Rect.unit (s := S3) off0 S1.size inb0)).squeeze S_ squeezes_S1_S_).sem) (.here (wSo off2 inb2) : DmaTarget nD τ sig .tc .vmem S14336x512 .fp8e4m3)}
    {α : Type} {jp : Prog (TpuEff nD τ sig (Elt F) Λ₀ .tc) α} {Q : α → PP F} :
    cA1 c w k ⊢ iprop((cB1 c w k -∗ wpB c jp Q) -∗ wpB c (Prog.lift (.enqueueDma (wHo off1 inb1) (.here (wSo off2 inb2)) (.dma ((cc0_scratch18.slice (Rect.unit (s := S3) off0 S1.size inb0)).squeeze S_ squeezes_S1_S_).sem) hsrc hdst hsem) >>= fun _ => jp) Q) := by
  have h8 := cond1_lt k h
  have es : s3 (k.val + 3) = s3 k.val := Fin.ext (Nat.add_mod_right _ _)
  have ej : j3 (k.val + 3) = j3 k.val := Fin.ext (congrArg (15 + ·) (Nat.add_mod_right _ _))
  have hs := sem3 (k.val + 3) (inb := inb0) h0
  revert hsem
  generalize ((cc0_scratch18.slice (Rect.unit (s := S3) off0 S1.size inb0)).squeeze S_ squeezes_S1_S_).sem = sm at hs ⊢
  subst hs
  intro hsem
  unfold cA1 cB1 RR SWt
  rw [dif_pos h8, ← es, ← ej]
  iintro ⟨⟨H, Hs⟩, HW⟩ Hk
  ihave HW := (Entails.of_eq (stage_out (fun b : Fin 8 => pt (c.tc : Thread nD τ) (wH b) w) (fun _ => (BI.emp : PP F)) ⟨k.val + 3, h8⟩)) $$ HW
  icases HW with ⟨HH, HR⟩
  iapply (issW c w ⟨k.val + 3, h8⟩ (s3 (k.val + 3)) (Wb w (kb k)) (h1 h8) h2) $$ [HH H Hs]
  · isplitl [HH]; · iexact HH
    isplitl [H]; · iexact H
    iexact Hs
  iintro HF
  iapply Hk
  isplitl [HF]; · iexact HF
  iapply (Entails.of_eq (stage_in (fun b : Fin 8 => pt (c.tc : Thread nD τ) (wH b) w) (fun _ => (BI.emp : PP F)) ⟨k.val + 3, h8⟩))
  isplitr
  · iempintro
  iexact HR

/-! ## The result's blocks -/

/-- The amounts and the deliveries of the result's copies. -/
abbrev oA : Fin 8 → ℕ := fun b => (oH b).view.dmaCredit
abbrev oD (O : C F S128x4096 .bf16) : Fin 8 → PP F := fun b => iprop(pt (c.tc : Thread nD τ) (oH b) O ∗ pt (c.tc : Thread nD τ) (oV b) O)
abbrev oM (O : C F S128x4096 .bf16) (j u : ℕ) : PP F := mb (c.tc : Thread nD τ) (.dma 18) oA (oD c O) j u
abbrev oSH (g : C F S128x4096 .bf16) (n : ℕ) : PP F := stage (fun b => pt (c.tc : Thread nD τ) (oH b) g) (fun _ => (BI.emp : PP F)) n
abbrev oSV (f : C F S128x4096 .bf16) (n : ℕ) : PP F := stage (fun b => pt (c.tc : Thread nD τ) (oV b) f) (fun _ => (BI.emp : PP F)) n
/-- The block written in the trip before, whose copy has not started. -/
def oL (O : C F S128x4096 .bf16) (n : ℕ) : PP F := if h : 0 < n ∧ n ≤ 8 then pt (c.tc : Thread nD τ) (oV ⟨n - 1, by omega⟩) O else BI.emp

theorem oL_succ (O : C F S128x4096 .bf16) (k : Fin k0_t4_loop.trips) : oL c O (k.val + 1) = pt (c.tc : Thread nD τ) (oV (kb k)) O := by
  have h8 : k.val < 8 := k.isLt.trans_eq trips4
  unfold oL
  rw [dif_pos (show 0 < k.val + 1 ∧ k.val + 1 ≤ 8 from ⟨Nat.succ_pos _, h8⟩)]
  rfl

theorem issO (O g : C F S128x4096 .bf16) (b : Fin 8) {off : Fin 2 → ℕ} (ho : off = ![0, 512 * b.val]) {inb inb' : ∀ a, off a + S128x512.size a ≤ S128x4096.size a}
    {hsrc : (oVo off inb).view.WordExact} {hdst : (oHo off inb').view.WordExact} {hsem : DmaTarget.Typed (nD := nD) .vmem (.dma 18) (.here (oHo off inb') : DmaTarget nD τ sig .tc .hbm S128x512 .bf16)}
    {α : Type} {k : PUnit → Prog (TpuEff nD τ sig (Elt F) Λ₀ .tc) α} {Q : α → PP F} :
    iprop(pt (c.tc : Thread nD τ) (oV b) O ∗ pt (c.tc : Thread nD τ) (oH b) g ∗ oM c O b.val 0)
      ⊢ iprop((oM c O (b.val + 1) 0 -∗ wpB c (k ⟨⟩) Q) -∗ wpB c (Prog.lift (.enqueueDma (oVo off inb) (.here (oHo off inb')) (.dma 18) hsrc hdst hsem) >>= k) Q) := by
  subst ho
  exact issueB (c := (c.tc : Thread nD τ)) (src := oV b) (dst := oH b) (sm := SemLoc.dma 18) oA (oD c O) O g O (j := b.val) (u := 0) b.isLt (View.amount_dma _ _) (Nat.zero_le _) .rfl rfl

abbrev cA2 (O g : C F S128x4096 .bf16) (k : Fin k0_t4_loop.trips) : PP F := iprop(oL c O k.val ∗ oM c O (k.val - 1) 0 ∗ oSH c g (k.val - 1))
abbrev cB2 (O g : C F S128x4096 .bf16) (k : Fin k0_t4_loop.trips) : PP F := iprop(oM c O k.val 0 ∗ oSH c g k.val)

theorem if2_neg (O g : C F S128x4096 .bf16) (k : Fin k0_t4_loop.trips) (h : ¬ k0_cond2 k = 1#1) : cA2 c O g k ⊢ cB2 c O g k := by
  have h0 := cond2_zero k h
  unfold cA2 cB2
  rw [h0]
  iintro ⟨-, HM, HS⟩
  isplitl [HM]; · iexact HM
  iexact HS

theorem if2_pos (O g : C F S128x4096 .bf16) (k : Fin k0_t4_loop.trips) (h : k0_cond2 k = 1#1) {off : Fin 2 → ℕ} (ho : 0 < k.val → off = ![0, 512 * (k.val - 1)]) {inb inb' : ∀ a, off a + S128x512.size a ≤ S128x4096.size a}
    {hsrc : (oVo off inb).view.WordExact} {hdst : (oHo off inb').view.WordExact} {hsem : DmaTarget.Typed (nD := nD) .vmem (.dma 18) (.here (oHo off inb') : DmaTarget nD τ sig .tc .hbm S128x512 .bf16)}
    {α : Type} {jp : Prog (TpuEff nD τ sig (Elt F) Λ₀ .tc) α} {Q : α → PP F} :
    cA2 c O g k ⊢ iprop((cB2 c O g k -∗ wpB c jp Q) -∗ wpB c (Prog.lift (.enqueueDma (oVo off inb) (.here (oHo off inb')) (.dma 18) hsrc hdst hsem) >>= fun _ => jp) Q) := by
  have h0 := cond2_pos k h
  have h8 : k.val < 8 := k.isLt.trans_eq trips4
  have hb : k.val - 1 < 8 := by omega
  have e : (⟨k.val - 1, hb⟩ : Fin 8).val + 1 = k.val := by show k.val - 1 + 1 = k.val; omega
  unfold cA2 cB2 oL
  rw [dif_pos ⟨h0, by omega⟩]
  iintro ⟨HV, HM, HS⟩ Hk
  ihave HS := (Entails.of_eq (stage_out (fun b : Fin 8 => pt (c.tc : Thread nD τ) (oH b) g) (fun _ => (BI.emp : PP F)) ⟨k.val - 1, hb⟩)) $$ HS
  icases HS with ⟨HH, HR⟩
  iapply (issO c O g ⟨k.val - 1, hb⟩ (ho h0)) $$ [HV HH HM]
  · isplitl [HV]; · iexact HV
    isplitl [HH]; · iexact HH
    iexact HM
  iintro HM
  iapply Hk
  isplitl [HM]
  · iapply (Entails.of_eq (congrArg (fun n => oM c O n 0) e)) $$ HM
  ihave HR := (Entails.of_eq (stage_in (fun b : Fin 8 => pt (c.tc : Thread nD τ) (oH b) g) (fun _ => (BI.emp : PP F)) ⟨k.val - 1, hb⟩)) $$ [HR]
  · isplitr
    · iempintro
    iexact HR
  iapply (Entails.of_eq (congrArg (fun n => oSH c g n) e)) $$ HR

theorem stO (O f : C F S128x4096 .bf16) (b : Fin 8) {off : Fin 2 → ℕ} (ho : off = ![0, 512 * b.val]) {inb : ∀ a, off a + S128x512.size a ≤ S128x4096.size a} {v : C F S128x512 .bf16} (hv : (oV b).view.read (Elt F) O = v)
    {hx : (m21.access (Rect.unit (s := S128x4096) off S128x512.size inb)).Stores Finset.univ} {hm : (Finset.univ : Finset S128x512.Idx) = Finset.univ ∨ ∀ a, (Rect.unit (s := S128x4096) off S128x512.size inb).stride a = 1}
    {α : Type} {k : PUnit → Prog (TpuEff nD τ sig (Elt F) Λ₀ .tc) α} {Q : α → PP F} :
    pt (c.tc : Thread nD τ) (oV b) f ⊢ iprop((pt (c.tc : Thread nD τ) (oV b) O -∗ wpB c (k ⟨⟩) Q) -∗ wpB c (Prog.lift (.store m21 (Rect.unit (s := S128x4096) off S128x512.size inb) v Finset.univ hx hm) >>= k) Q) := by
  subst ho
  iintro H Hk
  iapply (store (c := (c.tc : Thread nD τ)) (m := m21) (r := Rect.unit (s := S128x4096) ![0, 512 * b.val] S128x512.size inb) (S := (oV b).view.set) (f := f) (Finset.Subset.refl _)) $$ H
  iintro H
  iapply Hk
  iapply (Entails.of_eq (pt_eq (c := (c.tc : Thread nD τ)) (M := oV b) (f := (oV b).view.write (Elt F) f v Finset.univ) (g := O) ?_)) $$ H
  rw [hv]
  exact View.read_write_univ (v := (oV b).view) f v

/-! ## A trip -/

theorem run7 (k : Fin k0_t4_loop.trips) (Q : (Σ' (v356 : BitVec 32) (v366 : BitVec 32), BitVec 32) → PP F) :
    (∀ p, Q p) ⊢ wpB c (k0_part7 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 0#32 1#32 k) Q := by
  rw [k0_part7_eq_skeleton]
  unfold k0_part7_skel
  iintro H
  iapply done
  iapply H

abbrev inv4 (f21 g10 : C F S128x4096 .bf16) (k : ℕ) (_ : Unit) : PP F :=
  iprop(whL c m15 (QF X) ∗ wh c m18 hb ∗ wh c m19 bv ∗ wh c m22 (XSV X) ∗ wh c m24 ws ∗ ow (c.tc : Thread nD τ)
    ∗ (RR c w k ∗ RR c w (k + 1) ∗ RR c w (k + 2)) ∗ SRt c w k ∗ SWt c w (k + 3)
    ∗ oSV c f21 k ∗ oL c (OF X w hb bv ws) k ∗ oM c (OF X w hb bv ws) (k - 1) 0 ∗ oSH c g10 (k - 1))

theorem trip4 (f21 g10 : C F S128x4096 .bf16) (v268 : FVec F S12x128 .f32) (v272 v276 v280 v284 v288 v292 v296 v300 : FVec F S64x128 .f32) (k : Fin k0_t4_loop.trips) (u : Unit) :
    inv4 c X w hb bv ws f21 g10 k.val u ⊢ wpB c (k0_t4_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v268 v272 v276 v280 v284 v288 v292 v296 v300 k u) (inv4 c X w hb bv ws f21 g10 (k.val + 1)) := by
  have h8 : k.val < 8 := k.isLt.trans_eq trips4
  unfold inv4
  iintro ⟨HL, H18, H19, H22, H24, HO, ⟨R0, R1, R2⟩, SR, SW, SV, LT, MB, SH⟩
  unfold k0_t4_body
  iapply (seq c)
  iapply (run7 c k)
  iintro %p
  ihave R0 := (Entails.of_eq (show RR c w k.val = wF c w (kb k) (s3 k.val) (j3 k.val) from dif_pos h8)) $$ R0
  iapply (waitW c w (kb k) (s3 k.val) (sem3 k.val (off14_eq k)) (off15_eq k)) $$ [R0 HO]
  · isplitl [R0]; · iexact R0
    iexact HO
  iintro ⟨⟨HS, HH⟩, Hs, HO⟩
  iapply (ldL c (m := m15) (QF X) (QF X) (Memref.readAt_unit_zero (Elt F) cc0_scratch1 off0 _ (QF X))) $$ HL; iintro HL
  iapply (ldR c w (kb k) (s3 k.val) (off17_eq k)) $$ HS; iintro HS
  iapply (ldW c (m := m18) hb hb (Memref.readAt_unit_zero (Elt F) cc0_scratch4 off0 _ hb)) $$ H18; iintro H18
  iapply (ldW c (m := m19) bv (br bv (kb k)) (br_read bv (kb k) _ (off18_eq k) _)) $$ H19; iintro H19
  iapply (ldW c (m := m22) (XSV X) (XSV X) (Memref.readAt_unit_zero (Elt F) cc0_scratch8 off0 _ (XSV X))) $$ H22; iintro H22
  iapply (ldW c (m := m24) ws (wsr ws (kb k)) (wsr_read ws (kb k) _ (off19_eq k) _)) $$ H24; iintro H24
  ihave SV := (Entails.of_eq (stage_out (fun b : Fin 8 => pt (c.tc : Thread nD τ) (oV b) f21) (fun _ => (BI.emp : PP F)) (kb k))) $$ SV
  icases SV with ⟨HV, SV⟩
  iapply (ldS c (m := m21) (hu := fun _ => rfl) (off20_eq k) f21) $$ HV; iintro HV
  iapply (stO c (OF X w hb bv ws) f21 (kb k) (off20_eq k) (OF_read X w hb bv ws (kb k))) $$ HV; iintro HV
  iapply (dite_run c (cA1 c w k) (cB1 c w k) (fun h => if1_pos c w k h (off21_eq k) (off23_eq k) (off22_eq k)) (if1_neg c w k)) $$ [HS Hs SW]
  · isplitr [SW]
    · isplitl [HS]; · iexact HS
      iexact Hs
    iexact SW
  iintro ⟨R3, SW⟩
  iapply (dite_run c (cA2 c (OF X w hb bv ws) g10 k) (cB2 c (OF X w hb bv ws) g10 k) (fun h => if2_pos c (OF X w hb bv ws) g10 k h (off24_eq k)) (if2_neg c (OF X w hb bv ws) g10 k)) $$ [LT MB SH]
  · isplitl [LT]; · iexact LT
    isplitl [MB]; · iexact MB
    iexact SH
  iintro ⟨MB, SH⟩
  iapply done
  ihave SV := (Entails.of_eq (stage_in (fun b : Fin 8 => pt (c.tc : Thread nD τ) (oV b) f21) (fun _ => (BI.emp : PP F)) (kb k))) $$ [SV]
  · isplitr
    · iempintro
    iexact SV
  ihave SR := (Entails.of_eq (stage_out (fun _ => (BI.emp : PP F)) (fun b : Fin 8 => pt (c.tc : Thread nD τ) (wH b) w) (kb k))) $$ SR
  icases SR with ⟨-, SR⟩
  ihave SR := (Entails.of_eq (stage_in (fun _ => (BI.emp : PP F)) (fun b : Fin 8 => pt (c.tc : Thread nD τ) (wH b) w) (kb k))) $$ [HH SR]
  · isplitl [HH]; · iexact HH
    iexact SR
  ihave HV := (Entails.of_eq (oL_succ c (OF X w hb bv ws) k).symm) $$ HV
  isplitl [HL]; · iexact HL
  isplitl [H18]; · iexact H18
  isplitl [H19]; · iexact H19
  isplitl [H22]; · iexact H22
  isplitl [H24]; · iexact H24
  isplitl [HO]; · iexact HO
  isplitl [R1 R2 R3]
  · isplitl [R1]; · iexact R1
    isplitl [R2]; · iexact R2
    iexact R3
  isplitl [SR]; · iexact SR
  isplitl [SW]; · iexact SW
  isplitl [SV]; · iexact SV
  isplitl [HV]; · iexact HV
  isplitl [MB]; · iexact MB
  iexact SH

end Out

end Cert.KernelIdeal.Hand

end
-- ==== Proof.KernelIdeal.Gate.lean ====
/- The gates and the gated products. -/
module

public import proofs.«01_k».proof.Proof.KernelIdeal.Mid

@[expose] public section

noncomputable section

namespace Cert.KernelIdeal.Hand

open Cert.KernelIdeal Cert.KernelIdeal.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The loads between the second and the third loop -/

abbrev part16 (v219 : FVec F S12 .f32) : Prog (TpuEff nD τ sig (Elt F) Λ₀ .tc) (Σ' (v236 : IVec S12x128 1) (v239 : IVec S12x128 1) (v251 : FVec F S1x128 .f32) (v259 : FVec F S12x128 .f32), FVec F S12x128 .f32) := k0_part16_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v219
abbrev part17 (v236 v239 : IVec S12x128 1) (v251 : FVec F S1x128 .f32) (v259 v260 : FVec F S12x128 .f32) : Prog (TpuEff nD τ sig (Elt F) Λ₀ .tc) (Σ' (v268 : FVec F S12x128 .f32) (v272 : FVec F S64x128 .f32) (v276 : FVec F S64x128 .f32) (v280 : FVec F S64x128 .f32) (v284 : FVec F S64x128 .f32) (v288 : FVec F S64x128 .f32) (v292 : FVec F S64x128 .f32) (v296 : FVec F S64x128 .f32), FVec F S64x128 .f32) := k0_part17_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v236 v239 v251 v259 v260
abbrev part18 (v268 : FVec F S12x128 .f32) (v272 v276 v280 v284 v288 v292 v296 v300 : FVec F S64x128 .f32) : Prog (TpuEff nD τ sig (Elt F) Λ₀ .tc) PUnit := k0_part18_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21 v268 v272 v276 v280 v284 v288 v292 v296 v300
abbrev part19 : Prog (TpuEff nD τ sig (Elt F) Λ₀ .tc) PUnit := k0_part19_skel (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21

/-- The router's rows of the products, and the rows of each adapter. -/
abbrev hR (H : C F S848x128 .f32) : C F S12x128 .f32 := m17.view.readAt (Elt F) (Rect.unit (s := S848x128) ![832, 0] S12x128.size inb_S848x128_S12x128_832_0).toLoadRect H
abbrev h0 (H : C F S848x128 .f32) : C F S64x128 .f32 := m17.view.readAt (Elt F) (Rect.unit (s := S848x128) ![0, 0] S64x128.size inb_S848x128_S64x128_0_0).toLoadRect H
abbrev h1 (H : C F S848x128 .f32) : C F S64x128 .f32 := m17.view.readAt (Elt F) (Rect.unit (s := S848x128) ![64, 0] S64x128.size inb_S848x128_S64x128_64_0).toLoadRect H
abbrev h2 (H : C F S848x128 .f32) : C F S64x128 .f32 := m17.view.readAt (Elt F) (Rect.unit (s := S848x128) ![128, 0] S64x128.size inb_S848x128_S64x128_128_0).toLoadRect H
abbrev h3 (H : C F S848x128 .f32) : C F S64x128 .f32 := m17.view.readAt (Elt F) (Rect.unit (s := S848x128) ![192, 0] S64x128.size inb_S848x128_S64x128_192_0).toLoadRect H
abbrev h4 (H : C F S848x128 .f32) : C F S64x128 .f32 := m17.view.readAt (Elt F) (Rect.unit (s := S848x128) ![256, 0] S64x128.size inb_S848x128_S64x128_256_0).toLoadRect H
abbrev h5 (H : C F S848x128 .f32) : C F S64x128 .f32 := m17.view.readAt (Elt F) (Rect.unit (s := S848x128) ![320, 0] S64x128.size inb_S848x128_S64x128_320_0).toLoadRect H
abbrev h6 (H : C F S848x128 .f32) : C F S64x128 .f32 := m17.view.readAt (Elt F) (Rect.unit (s := S848x128) ![384, 0] S64x128.size inb_S848x128_S64x128_384_0).toLoadRect H
abbrev h7 (H : C F S848x128 .f32) : C F S64x128 .f32 := m17.view.readAt (Elt F) (Rect.unit (s := S848x128) ![448, 0] S64x128.size inb_S848x128_S64x128_448_0).toLoadRect H
abbrev h8 (H : C F S848x128 .f32) : C F S64x128 .f32 := m17.view.readAt (Elt F) (Rect.unit (s := S848x128) ![512, 0] S64x128.size inb_S848x128_S64x128_512_0).toLoadRect H
abbrev h9 (H : C F S848x128 .f32) : C F S64x128 .f32 := m17.view.readAt (Elt F) (Rect.unit (s := S848x128) ![576, 0] S64x128.size inb_S848x128_S64x128_576_0).toLoadRect H
abbrev h10 (H : C F S848x128 .f32) : C F S64x128 .f32 := m17.view.readAt (Elt F) (Rect.unit (s := S848x128) ![640, 0] S64x128.size inb_S848x128_S64x128_640_0).toLoadRect H
abbrev h11 (H : C F S848x128 .f32) : C F S64x128 .f32 := m17.view.readAt (Elt F) (Rect.unit (s := S848x128) ![704, 0] S64x128.size inb_S848x128_S64x128_704_0).toLoadRect H
abbrev h12 (H : C F S848x128 .f32) : C F S64x128 .f32 := m17.view.readAt (Elt F) (Rect.unit (s := S848x128) ![768, 0] S64x128.size inb_S848x128_S64x128_768_0).toLoadRect H
/-- The two rows of chosen experts. -/
abbrev i0 (ix : C F S2x128 .i32) : C F S1x128 .i32 := m26.view.readAt (Elt F) (Rect.unit (s := S2x128) ![0, 0] S1x128.size inb_S2x128_S1x128_0_0).toLoadRect ix
abbrev i1 (ix : C F S2x128 .i32) : C F S1x128 .i32 := m26.view.readAt (Elt F) (Rect.unit (s := S2x128) ![1, 0] S1x128.size inb_S2x128_S1x128_1_0).toLoadRect ix

section
variable (rb : C F S1x12 .f32) (ix : C F S2x128 .i32) (H : C F S848x128 .f32)

/-- The gates. -/
def GT : C F S2x128 .f32 := fun p => if (p 0).val = 0 then k0_pay40 (k0_pay32 rb) (hR H) (i0 ix) (i1 ix) (ValueIdx.ix2 (n0 := 1) (n1 := 128) ⟨0, Nat.one_pos⟩ (p 1))
  else k0_pay41 (k0_pay32 rb) (hR H) (i0 ix) (i1 ix) (ValueIdx.ix2 (n0 := 1) (n1 := 128) ⟨0, Nat.one_pos⟩ (p 1))

abbrev g1 : FVec F S1x128 .f32 := k0_pay39 (k0_pay32 rb) (hR H) (i0 ix) (i1 ix)
abbrev g2 : FVec F S12x128 .f32 := k0_pay42 (k0_pay32 rb) (hR H) (i0 ix) (i1 ix)

/-- The gated products, rounded: what is multiplied by the adapters' second matrices. -/
def HB : C F S128x832 .bf16 := k0_pay53 (k0_pay44 (k0_pay34 (i0 ix)) (k0_pay35 (i1 ix)) (g1 rb ix H) (g2 rb ix H) k0_pay43) (k0_pay45 (k0_pay34 (i0 ix)) (k0_pay35 (i1 ix)) (g1 rb ix H) (g2 rb ix H) k0_pay43 (h0 H)) (k0_pay46 (k0_pay34 (i0 ix)) (k0_pay35 (i1 ix)) (g1 rb ix H) (g2 rb ix H) k0_pay43 (h1 H)) (k0_pay47 (k0_pay34 (i0 ix)) (k0_pay35 (i1 ix)) (g1 rb ix H) (g2 rb ix H) k0_pay43 (h2 H)) (k0_pay48 (k0_pay34 (i0 ix)) (k0_pay35 (i1 ix)) (g1 rb ix H) (g2 rb ix H) k0_pay43 (h3 H)) (k0_pay49 (k0_pay34 (i0 ix)) (k0_pay35 (i1 ix)) (g1 rb ix H) (g2 rb ix H) k0_pay43 (h4 H)) (k0_pay50 (k0_pay34 (i0 ix)) (k0_pay35 (i1 ix)) (g1 rb ix H) (g2 rb ix H) k0_pay43 (h5 H)) (k0_pay51 (k0_pay34 (i0 ix)) (k0_pay35 (i1 ix)) (g1 rb ix H) (g2 rb ix H) k0_pay43 (h6 H)) (k0_pay52 (k0_pay34 (i0 ix)) (k0_pay35 (i1 ix)) (g1 rb ix H) (g2 rb ix H) k0_pay43 (h7 H)) (h8 H) (h9 H) (h10 H) (h11 H) (h12 H)

theorem GT_write (f : C F S2x128 .f32) (u v : C F S1x128 .f32) (hu : u = k0_pay40 (k0_pay32 rb) (hR H) (i0 ix) (i1 ix)) (hv : v = k0_pay41 (k0_pay32 rb) (hR H) (i0 ix) (i1 ix)) :
    (m27.access (Rect.unit (s := S2x128) ![1, 0] S1x128.size inb_S2x128_S1x128_1_0)).write (Elt F) ((m27.access (Rect.unit (s := S2x128) ![0, 0] S1x128.size inb_S2x128_S1x128_0_0)).write (Elt F) f u Finset.univ) v Finset.univ = GT rb ix H := by
  funext p
  have p0 : (p 0).val < 2 := (p 0).isLt
  unfold GT
  by_cases h : (p 0).val = 0
  · rw [if_pos h, ← hu]
    refine (View.write_of_not_mem (v := m27.access (Rect.unit (s := S2x128) ![1, 0] S1x128.size inb_S2x128_S1x128_1_0)) _ v Finset.univ ?_).trans ?_
    · intro hmem
      obtain ⟨y, -, hy⟩ := Finset.mem_map.mp hmem
      have e1 := emb2_0 (n0 := 2) (n1 := 128) (a := 1) (b := 128) ![1, 0] inb_S2x128_S1x128_1_0 y
      have e2 : (((Rect.unit (s := S2x128) ![1, 0] S1x128.size inb_S2x128_S1x128_1_0).emb y) 0).val = (p 0).val := congrArg (fun q : S2x128.Idx => (q 0).val) hy
      have e3 : (p 0).val = 1 + (y 0).val := e2.symm.trans e1
      omega
    · have hj : (Rect.unit (s := S2x128) ![0, 0] S1x128.size inb_S2x128_S1x128_0_0).emb (ValueIdx.ix2 (n0 := 1) (n1 := 128) ⟨0, Nat.one_pos⟩ (p 1)) = p :=
        emb2_ext (n0 := 2) (n1 := 128) (a := 1) (b := 128) ![0, 0] inb_S2x128_S1x128_0_0 _ p (by show 0 + 0 = (p 0).val; omega) (by show 0 + (p 1).val = (p 1).val; omega)
      refine (congrArg ((m27.access (Rect.unit (s := S2x128) ![0, 0] S1x128.size inb_S2x128_S1x128_0_0)).write (Elt F) f u Finset.univ) hj.symm).trans ?_
      exact View.write_emb_of_mem (v := m27.access (Rect.unit (s := S2x128) ![0, 0] S1x128.size inb_S2x128_S1x128_0_0)) _ _ (Finset.mem_univ _)
  · rw [if_neg h, ← hv]
    have hj : (Rect.unit (s := S2x128) ![1, 0] S1x128.size inb_S2x128_S1x128_1_0).emb (ValueIdx.ix2 (n0 := 1) (n1 := 128) ⟨0, Nat.one_pos⟩ (p 1)) = p :=
      emb2_ext (n0 := 2) (n1 := 128) (a := 1) (b := 128) ![1, 0] inb_S2x128_S1x128_1_0 _ p (by show 1 + 0 = (p 0).val; omega) (by show 0 + (p 1).val = (p 1).val; omega)
    refine (congrArg ((m27.access (Rect.unit (s := S2x128) ![1, 0] S1x128.size inb_S2x128_S1x128_1_0)).write (Elt F) _ v Finset.univ) hj.symm).trans ?_
    exact View.write_emb_of_mem (v := m27.access (Rect.unit (s := S2x128) ![1, 0] S1x128.size inb_S2x128_S1x128_1_0)) _ _ (Finset.mem_univ _)

theorem run16 (c : Dev nD) (f27 : C F S2x128 .f32) (Q : (Σ' (v236 : IVec S12x128 1) (v239 : IVec S12x128 1) (v251 : FVec F S1x128 .f32) (v259 : FVec F S12x128 .f32), FVec F S12x128 .f32) → PP F) :
    iprop(wh c m17 H ∗ wh c m26 ix ∗ wh c m27 f27 ∗ (iprop(wh c m17 H ∗ wh c m26 ix ∗ wh c m27 (GT rb ix H)) -∗ Q ⟨k0_pay34 (i0 ix), k0_pay35 (i1 ix), g1 rb ix H, g2 rb ix H, k0_pay43⟩))
    ⊢ wpB c (part16 (k0_pay32 rb)) Q := by
  iintro ⟨HH, HI, HG, Hk⟩
  unfold part16 k0_part16_skel
  iapply (ldW c (m := m17) H (hR H) rfl) $$ HH; iintro HH
  iapply (ldW c (m := m26) ix (i0 ix) rfl) $$ HI; iintro HI
  iapply (ldW c (m := m26) ix (i1 ix) rfl) $$ HI; iintro HI
  iapply (ldW c (m := m27) f27 _ rfl) $$ HG; iintro HG
  iapply (stW c (m := m27) f27 ((m27.access (Rect.unit (s := S2x128) ![0, 0] S1x128.size inb_S2x128_S1x128_0_0)).write (Elt F) f27 (k0_pay40 (k0_pay32 rb) (hR H) (i0 ix) (i1 ix)) Finset.univ) rfl) $$ HG; iintro HG
  iapply (ldW c (m := m27) ((m27.access (Rect.unit (s := S2x128) ![0, 0] S1x128.size inb_S2x128_S1x128_0_0)).write (Elt F) f27 (k0_pay40 (k0_pay32 rb) (hR H) (i0 ix) (i1 ix)) Finset.univ) _ rfl) $$ HG; iintro HG
  iapply (stW c (m := m27) ((m27.access (Rect.unit (s := S2x128) ![0, 0] S1x128.size inb_S2x128_S1x128_0_0)).write (Elt F) f27 (k0_pay40 (k0_pay32 rb) (hR H) (i0 ix) (i1 ix)) Finset.univ) (GT rb ix H) (GT_write rb ix H f27 _ _ rfl rfl)) $$ HG; iintro HG
  iapply done
  iapply Hk
  isplitl [HH]; · iexact HH
  isplitl [HI]; · iexact HI
  iexact HG

theorem run17 (c : Dev nD) (v236 v239 : IVec S12x128 1) (v251 : FVec F S1x128 .f32) (v259 v260 : FVec F S12x128 .f32) (Q : (Σ' (v268 : FVec F S12x128 .f32) (v272 : FVec F S64x128 .f32) (v276 : FVec F S64x128 .f32) (v280 : FVec F S64x128 .f32) (v284 : FVec F S64x128 .f32) (v288 : FVec F S64x128 .f32) (v292 : FVec F S64x128 .f32) (v296 : FVec F S64x128 .f32), FVec F S64x128 .f32) → PP F) :
    iprop(wh c m17 H ∗ (wh c m17 H -∗ Q ⟨k0_pay44 v236 v239 v251 v259 v260, k0_pay45 v236 v239 v251 v259 v260 (h0 H), k0_pay46 v236 v239 v251 v259 v260 (h1 H), k0_pay47 v236 v239 v251 v259 v260 (h2 H), k0_pay48 v236 v239 v251 v259 v260 (h3 H), k0_pay49 v236 v239 v251 v259 v260 (h4 H), k0_pay50 v236 v239 v251 v259 v260 (h5 H), k0_pay51 v236 v239 v251 v259 v260 (h6 H), k0_pay52 v236 v239 v251 v259 v260 (h7 H)⟩))
    ⊢ wpB c (part17 v236 v239 v251 v259 v260) Q := by
  iintro ⟨HH, Hk⟩
  unfold part17 k0_part17_skel
  iapply (ldW c (m := m17) H (h0 H) rfl) $$ HH; iintro HH
  iapply (ldW c (m := m17) H (h1 H) rfl) $$ HH; iintro HH
  iapply (ldW c (m := m17) H (h2 H) rfl) $$ HH; iintro HH
  iapply (ldW c (m := m17) H (h3 H) rfl) $$ HH; iintro HH
  iapply (ldW c (m := m17) H (h4 H) rfl) $$ HH; iintro HH
  iapply (ldW c (m := m17) H (h5 H) rfl) $$ HH; iintro HH
  iapply (ldW c (m := m17) H (h6 H) rfl) $$ HH; iintro HH
  iapply (ldW c (m := m17) H (h7 H) rfl) $$ HH; iintro HH
  iapply done
  iapply Hk
  iexact HH
end

/-! ## The copies of the adapters' second matrices -/

theorem waitB1 (c : Dev nD) (b : C F S768x4096 .bf16) (sb : C F S64x4096 .bf16) {hsrc : m7.view.WordExact} {hdst : bv7.view.WordExact} {α : Type} {k : PUnit → Prog (TpuEff nD τ sig (Elt F) Λ₀ .tc) α} {Q : α → PP F} :
    iprop(bF c b sb ∗ ow (c.tc : Thread nD τ))
      ⊢ iprop((iprop(mb (c.tc : Thread nD τ) (.dma 14) bAm (bDl c b sb) 2 (0 + bv7.view.dmaCredit) ∗ ow (c.tc : Thread nD τ)) -∗ wpB c (k ⟨⟩) Q)
        -∗ wpB c (Prog.lift (.waitDma2 14 m7 bv7 hsrc hdst) >>= k) Q) :=
  waitB (c := (c.tc : Thread nD τ)) (A := bAm) (D := bDl c b sb) bv7.view.dmaCredit rfl (duo_le1 _ _)

theorem waitB2 (c : Dev nD) (b : C F S768x4096 .bf16) (sb : C F S64x4096 .bf16) {hsrc : m9.view.WordExact} {hdst : bv9.view.WordExact} {α : Type} {k : PUnit → Prog (TpuEff nD τ sig (Elt F) Λ₀ .tc) α} {Q : α → PP F} :
    iprop(mb (c.tc : Thread nD τ) (.dma 14) bAm (bDl c b sb) 2 (0 + bv7.view.dmaCredit) ∗ ow (c.tc : Thread nD τ))
      ⊢ iprop((iprop((wh c m19 (BV b sb) ∗ wh c m7 b ∗ wh c m9 sb ∗ sv c 14) ∗ ow (c.tc : Thread nD τ)) -∗ wpB c (k ⟨⟩) Q)
        -∗ wpB c (Prog.lift (.waitDma2 14 m9 bv9 hsrc hdst) >>= k) Q) := by
  iintro H Hk
  iapply (waitBAll (c := (c.tc : Thread nD τ)) (A := bAm) (D := bDl c b sb) bv9.view.dmaCredit rfl (duo_pos (View.dmaCredit_pos _ (by decide)) (View.dmaCredit_pos _ (by decide))) (duo_all _ _)) $$ H
  iintro ⟨HD, Hs, HO⟩
  ihave HD := (Entails.of_eq (bigSep_duo _ _)) $$ HD
  icases HD with ⟨⟨V7, H7⟩, ⟨V9, H9⟩⟩
  iapply Hk
  isplitr [HO]
  · isplitl [V7 V9]
    · iapply (Entails.of_eq (b_parts c (BV b sb)).symm)
      isplitl [V7]; · iexact V7
      iexact V9
    isplitl [H7]
    · iapply (Entails.of_eq (wh_pt c main_v9 b).symm) $$ H7
    isplitl [H9]
    · iapply (Entails.of_eq (wh_pt c main_arg9 sb).symm) $$ H9
    iexact Hs
  iexact HO

end Cert.KernelIdeal.Hand

end
-- ==== Proof.KernelIdeal.Tail.lean ====
/- The rest of the body: the result's blocks and the last copies. -/
module

public import proofs.«01_k».proof.Proof.KernelIdeal.Out
public import proofs.«01_k».proof.Proof.KernelIdeal.Gate

@[expose] public section

noncomputable section

namespace Cert.KernelIdeal.Hand

open Cert.KernelIdeal Cert.KernelIdeal.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

section Tail
variable (c : Dev nD) (X : C F S128x14336 .bf16) (w : C F S14336x4096 .fp8e4m3) (b : C F S768x4096 .bf16) (sb : C F S64x4096 .bf16) (ws : C F S1x4096 .f32)
  (rb : C F S1x12 .f32) (ix : C F S2x128 .i32) (H : C F S848x128 .f32)

theorem waitB1' {j : DmaSem sig} (h : j = 14) {hsrc : m7.view.WordExact} {hdst : bv7.view.WordExact} {α : Type} {k : PUnit → Prog (TpuEff nD τ sig (Elt F) Λ₀ .tc) α} {Q : α → PP F} :
    iprop(bF c b sb ∗ ow (c.tc : Thread nD τ))
      ⊢ iprop((iprop(mb (c.tc : Thread nD τ) (.dma 14) bAm (bDl c b sb) 2 (0 + bv7.view.dmaCredit) ∗ ow (c.tc : Thread nD τ)) -∗ wpB c (k ⟨⟩) Q)
        -∗ wpB c (Prog.lift (.waitDma2 j m7 bv7 hsrc hdst) >>= k) Q) := by
  subst h; exact waitB1 c b sb
theorem waitB2' {j : DmaSem sig} (h : j = 14) {hsrc : m9.view.WordExact} {hdst : bv9.view.WordExact} {α : Type} {k : PUnit → Prog (TpuEff nD τ sig (Elt F) Λ₀ .tc) α} {Q : α → PP F} :
    iprop(mb (c.tc : Thread nD τ) (.dma 14) bAm (bDl c b sb) 2 (0 + bv7.view.dmaCredit) ∗ ow (c.tc : Thread nD τ))
      ⊢ iprop((iprop((wh c m19 (BV b sb) ∗ wh c m7 b ∗ wh c m9 sb ∗ sv c 14) ∗ ow (c.tc : Thread nD τ)) -∗ wpB c (k ⟨⟩) Q)
        -∗ wpB c (Prog.lift (.waitDma2 j m9 bv9 hsrc hdst) >>= k) Q) := by
  subst h; exact waitB2 c b sb

theorem sem_b : (cc0_scratch17 : DmaSems sig S_).sem = (14 : Fin 25) := by decide +kernel
theorem sem_o : (cc0_scratch19 : DmaSems sig S_).sem = (18 : Fin 25) := by decide +kernel
theorem sem_r0 : ((cc0_scratch21.slice (Rect.unit (s := S3) ![0] S1.size inb_S3_S1_0)).squeeze S_ squeezes_S1_S_).sem = (22 : Fin 25) := by decide +kernel
theorem sem_r1 : ((cc0_scratch21.slice (Rect.unit (s := S3) ![1] S1.size inb_S3_S1_1)).squeeze S_ squeezes_S1_S_).sem = (23 : Fin 25) := by decide +kernel
theorem sem_r2 : ((cc0_scratch21.slice (Rect.unit (s := S3) ![2] S1.size inb_S3_S1_2)).squeeze S_ squeezes_S1_S_).sem = (24 : Fin 25) := by decide +kernel

theorem oL_zero (O : C F S128x4096 .bf16) : oL c O 0 = (BI.emp : PP F) := by
  unfold oL
  rw [dif_neg (show ¬ (0 < 0 ∧ 0 ≤ 8) by decide)]

/-- The result. -/
abbrev OO : C F S128x4096 .bf16 := OF X w (HB rb ix H) (BV b sb) ws
abbrev I4 (f21 g10 : C F S128x4096 .bf16) (k : ℕ) : PP F := inv4 c X w (HB rb ix H) (BV b sb) ws f21 g10 k ()

theorem run18 (f18 : C F S128x832 .bf16) (f11 : C F S2x128 .f32) (f21 g10 : C F S128x4096 .bf16) (Q : PUnit → PP F) :
    iprop((wh c m17 H ∗ wh c m18 f18 ∗ (wh c m27 (GT rb ix H) ∗ pt (c.tc : Thread nD τ) m11 f11 ∗ sv c 24) ∗ bF c b sb
        ∗ whL c m15 (QF X) ∗ wh c m22 (XSV X) ∗ wh c m24 ws ∗ ow (c.tc : Thread nD τ)
        ∗ (RR c w 0 ∗ RR c w 1 ∗ RR c w 2) ∗ SRt c w 0 ∗ SWt c w 3
        ∗ oSV c f21 0 ∗ oM c (OO X w b sb ws rb ix H) 0 0 ∗ oSH c g10 0)
      ∗ (iprop(wh c m17 H ∗ uF c m27 m11 (GT rb ix H) (GT rb ix H) 24 ∗ (wh c m7 b ∗ wh c m9 sb ∗ sv c 14) ∗ I4 c X w b sb ws rb ix H f21 g10 k0_t4_loop.trips) -∗ Q ⟨⟩))
    ⊢ wpB c (part18 (k0_pay44 (k0_pay34 (i0 ix)) (k0_pay35 (i1 ix)) (g1 rb ix H) (g2 rb ix H) k0_pay43) (k0_pay45 (k0_pay34 (i0 ix)) (k0_pay35 (i1 ix)) (g1 rb ix H) (g2 rb ix H) k0_pay43 (h0 H)) (k0_pay46 (k0_pay34 (i0 ix)) (k0_pay35 (i1 ix)) (g1 rb ix H) (g2 rb ix H) k0_pay43 (h1 H)) (k0_pay47 (k0_pay34 (i0 ix)) (k0_pay35 (i1 ix)) (g1 rb ix H) (g2 rb ix H) k0_pay43 (h2 H)) (k0_pay48 (k0_pay34 (i0 ix)) (k0_pay35 (i1 ix)) (g1 rb ix H) (g2 rb ix H) k0_pay43 (h3 H)) (k0_pay49 (k0_pay34 (i0 ix)) (k0_pay35 (i1 ix)) (g1 rb ix H) (g2 rb ix H) k0_pay43 (h4 H)) (k0_pay50 (k0_pay34 (i0 ix)) (k0_pay35 (i1 ix)) (g1 rb ix H) (g2 rb ix H) k0_pay43 (h5 H)) (k0_pay51 (k0_pay34 (i0 ix)) (k0_pay35 (i1 ix)) (g1 rb ix H) (g2 rb ix H) k0_pay43 (h6 H)) (k0_pay52 (k0_pay34 (i0 ix)) (k0_pay35 (i1 ix)) (g1 rb ix H) (g2 rb ix H) k0_pay43 (h7 H))) Q := by
  iintro ⟨⟨HH, H18, ⟨HG, P11, V24⟩, HB, HL, H22, H24, HO, HR, SR, SW, SV, MB, SH⟩, Hk⟩
  unfold part18 k0_part18_skel
  iapply (ldW c (m := m17) H (h8 H) rfl) $$ HH; iintro HH
  iapply (ldW c (m := m17) H (h9 H) rfl) $$ HH; iintro HH
  iapply (ldW c (m := m17) H (h10 H) rfl) $$ HH; iintro HH
  iapply (ldW c (m := m17) H (h11 H) rfl) $$ HH; iintro HH
  iapply (ldW c (m := m17) H (h12 H) rfl) $$ HH; iintro HH
  iapply (ldW c (m := m18) f18 f18 (Memref.readAt_unit_zero (Elt F) cc0_scratch4 off0 _ f18)) $$ H18; iintro H18
  iapply (stW c (m := m18) f18 (HB rb ix H) (Memref.write_access_unit_zero_univ (Elt F) cc0_scratch4 off0 _ f18 _)) $$ H18; iintro H18
  ihave P27 := (Entails.of_eq (wh_pt c cc0_scratch13 (GT rb ix H))) $$ HG
  iapply (issue (c := (c.tc : Thread nD τ)) (src := m27) (dst := m11) (sm := 24) (GT rb ix H) f11 (GT rb ix H) (by decide) rfl) $$ [P27 P11 V24]
  · isplitl [P27]; · iexact P27
    isplitl [P11]; · iexact P11
    iexact V24
  iintro U24
  iapply (waitB1' c b sb sem_b) $$ [HB HO]
  · isplitl [HB]; · iexact HB
    iexact HO
  iintro HB
  iapply (waitB2' c b sb sem_b) $$ HB
  iintro ⟨⟨H19, H7, H9, V14⟩, HO⟩
  iapply (Scf.wp_for_bind _ _ _ _ _ _ _ _ _ (inv4 c X w (HB rb ix H) (BV b sb) ws f21 g10) (trip4 c X w (HB rb ix H) (BV b sb) ws f21 g10 (k0_pay44 (k0_pay34 (i0 ix)) (k0_pay35 (i1 ix)) (g1 rb ix H) (g2 rb ix H) k0_pay43) (k0_pay45 (k0_pay34 (i0 ix)) (k0_pay35 (i1 ix)) (g1 rb ix H) (g2 rb ix H) k0_pay43 (h0 H)) (k0_pay46 (k0_pay34 (i0 ix)) (k0_pay35 (i1 ix)) (g1 rb ix H) (g2 rb ix H) k0_pay43 (h1 H)) (k0_pay47 (k0_pay34 (i0 ix)) (k0_pay35 (i1 ix)) (g1 rb ix H) (g2 rb ix H) k0_pay43 (h2 H)) (k0_pay48 (k0_pay34 (i0 ix)) (k0_pay35 (i1 ix)) (g1 rb ix H) (g2 rb ix H) k0_pay43 (h3 H)) (k0_pay49 (k0_pay34 (i0 ix)) (k0_pay35 (i1 ix)) (g1 rb ix H) (g2 rb ix H) k0_pay43 (h4 H)) (k0_pay50 (k0_pay34 (i0 ix)) (k0_pay35 (i1 ix)) (g1 rb ix H) (g2 rb ix H) k0_pay43 (h5 H)) (k0_pay51 (k0_pay34 (i0 ix)) (k0_pay35 (i1 ix)) (g1 rb ix H) (g2 rb ix H) k0_pay43 (h6 H)) (k0_pay52 (k0_pay34 (i0 ix)) (k0_pay35 (i1 ix)) (g1 rb ix H) (g2 rb ix H) k0_pay43 (h7 H)))) $$ [HL H18 H19 H22 H24 HO HR SR SW SV MB SH]
  · isplitl [HL]; · iexact HL
    isplitl [H18]; · iexact H18
    isplitl [H19]; · iexact H19
    isplitl [H22]; · iexact H22
    isplitl [H24]; · iexact H24
    isplitl [HO]; · iexact HO
    isplitl [HR]; · iexact HR
    isplitl [SR]; · iexact SR
    isplitl [SW]; · iexact SW
    isplitl [SV]; · iexact SV
    isplitr
    · iapply (Entails.of_eq (oL_zero c (OF X w (HB rb ix H) (BV b sb) ws)).symm)
      iempintro
    isplitl [MB]; · iexact MB
    iexact SH
  iintro %acc HI
  iapply done
  iapply Hk
  isplitl [HH]; · iexact HH
  isplitl [U24]; · iexact U24
  isplitl [H7 H9 V14]
  · isplitl [H7]; · iexact H7
    isplitl [H9]; · iexact H9
    iexact V14
  iexact HI

theorem sumTo_mono {n : ℕ} (A : Fin n → ℕ) {i j : ℕ} (h : i ≤ j) (hj : j ≤ n) : sumTo A i ≤ sumTo A j := by
  induction j with
  | zero => rw [Nat.le_zero.mp h]
  | succ j ih =>
    rcases Nat.lt_or_ge i (j + 1) with h' | h'
    · rw [sumTo_succ A (Nat.lt_of_succ_le hj)]
      exact (ih (Nat.le_of_lt_succ h') (Nat.le_of_succ_le hj)).trans (Nat.le_add_right _ _)
    · rw [Nat.le_antisymm h h']

theorem waitO (O : C F S128x4096 .bf16) (i : Fin 8) (n n' : ℕ) (hn : i.val = n) (hn' : i.val + 1 = n') {j : DmaSem sig} (hs : j = 18) {off : Fin 2 → ℕ} (ho : off = ![0, 512 * i.val]) {inb inb' : ∀ a, off a + S128x512.size a ≤ S128x4096.size a}
    {hsrc : (oVo off inb).view.WordExact} {hdst : (oHo off inb').view.WordExact} {α : Type} {k : PUnit → Prog (TpuEff nD τ sig (Elt F) Λ₀ .tc) α} {Q : α → PP F} :
    iprop(oM c O 8 (sumTo oA n) ∗ ow (c.tc : Thread nD τ))
      ⊢ iprop((iprop(oM c O 8 (sumTo oA n') ∗ ow (c.tc : Thread nD τ)) -∗ wpB c (k ⟨⟩) Q)
        -∗ wpB c (Prog.lift (.waitDma2 j (oVo off inb) (oHo off inb') hsrc hdst) >>= k) Q) := by
  subst hs; subst ho; subst hn; subst hn'
  have e := sumTo_succ oA i.isLt
  rw [e]
  exact waitB (c := (c.tc : Thread nD τ)) (A := oA) (D := oD c O) (oA i) rfl (by
    rw [show sumTo oA i.val + oA i = sumTo oA (i.val + 1) from e.symm]; exact sumTo_mono oA (by omega) le_rfl)

theorem oD_sep (O : C F S128x4096 .bf16) : bigSep Finset.univ (oD c O) ⊢ iprop(bigSep Finset.univ (fun b : Fin 8 => pt (c.tc : Thread nD τ) (oH b) O) ∗ bigSep Finset.univ (fun b : Fin 8 => pt (c.tc : Thread nD τ) (oV b) O)) :=
  Entails.of_eq (BI.bigSep_sep _ _ _)

theorem waitO7 (O : C F S128x4096 .bf16) {j : DmaSem sig} (hs : j = 18) {off : Fin 2 → ℕ} (ho : off = ![0, 512 * (7 : Fin 8).val]) {inb inb' : ∀ a, off a + S128x512.size a ≤ S128x4096.size a}
    {hsrc : (oVo off inb).view.WordExact} {hdst : (oHo off inb').view.WordExact} {α : Type} {k : PUnit → Prog (TpuEff nD τ sig (Elt F) Λ₀ .tc) α} {Q : α → PP F} :
    iprop(oM c O 8 (sumTo oA 7) ∗ ow (c.tc : Thread nD τ))
      ⊢ iprop((iprop((wh c m10 O ∗ wh c m21 O ∗ sv c 18) ∗ ow (c.tc : Thread nD τ)) -∗ wpB c (k ⟨⟩) Q)
        -∗ wpB c (Prog.lift (.waitDma2 j (oVo off inb) (oHo off inb') hsrc hdst) >>= k) Q) := by
  subst hs; subst ho
  iintro H Hk
  iapply (waitBAll (c := (c.tc : Thread nD τ)) (A := oA) (D := oD c O) (oA 7) rfl (fun t => View.dmaCredit_pos _ (by decide)) (sumTo_succ oA (show 7 < 8 by decide)).symm) $$ H
  iintro ⟨HD, Hs, HO⟩
  ihave HD := (oD_sep c O) $$ HD
  icases HD with ⟨HH, HV⟩
  iapply Hk
  isplitr [HO]
  · isplitl [HH]
    · iapply (Entails.of_eq (oH_split c O).symm) $$ HH
    isplitl [HV]
    · iapply (Entails.of_eq (oV_split c O).symm) $$ HV
    iexact Hs
  iexact HO

theorem issO' (O g : C F S128x4096 .bf16) (b : Fin 8) {j : DmaSem sig} (hs : j = 18) {off : Fin 2 → ℕ} (ho : off = ![0, 512 * b.val]) {inb inb' : ∀ a, off a + S128x512.size a ≤ S128x4096.size a}
    {hsrc : (oVo off inb).view.WordExact} {hdst : (oHo off inb').view.WordExact} {hsem : DmaTarget.Typed (nD := nD) .vmem (.dma j) (.here (oHo off inb') : DmaTarget nD τ sig .tc .hbm S128x512 .bf16)}
    {α : Type} {k : PUnit → Prog (TpuEff nD τ sig (Elt F) Λ₀ .tc) α} {Q : α → PP F} :
    iprop(pt (c.tc : Thread nD τ) (oV b) O ∗ pt (c.tc : Thread nD τ) (oH b) g ∗ oM c O b.val 0)
      ⊢ iprop((oM c O (b.val + 1) 0 -∗ wpB c (k ⟨⟩) Q) -∗ wpB c (Prog.lift (.enqueueDma (oVo off inb) (.here (oHo off inb')) (.dma j) hsrc hdst hsem) >>= k) Q) := by
  subst hs; exact issO c O g b ho

theorem run19 (O g : C F S128x4096 .bf16) (Q : PUnit → PP F) :
    iprop((oL c O 8 ∗ oM c O 7 0 ∗ oSH c g 7 ∗ ow (c.tc : Thread nD τ)) ∗ (iprop((wh c m10 O ∗ wh c m21 O ∗ sv c 18) ∗ ow (c.tc : Thread nD τ)) -∗ Q ⟨⟩))
    ⊢ wpB c part19 Q := by
  iintro ⟨⟨HV, MB, SH, HO⟩, Hk⟩
  ihave HV := (Entails.of_eq (oL_succ c O ⟨7, by rw [trips4]; decide⟩)) $$ HV
  ihave SH := (Entails.of_eq (show oSH c g 7 = iprop(pt (c.tc : Thread nD τ) (oH 7) g ∗ stageRest (fun b : Fin 8 => pt (c.tc : Thread nD τ) (oH b) g) (fun _ => (BI.emp : PP F)) 7) from stage_out _ _ (7 : Fin 8))) $$ SH
  icases SH with ⟨HH, -⟩
  unfold part19 k0_part19_skel
  iapply (issO' c O g 7 sem_o rfl) $$ [HV HH MB]
  · isplitl [HV]; · iexact HV
    isplitl [HH]; · iexact HH
    iexact MB
  iintro MB
  ihave MB := (Entails.of_eq (show oM c O ((7 : Fin 8).val + 1) 0 = oM c O 8 (sumTo oA 0) from congrArg (oM c O 8) (sumTo_zero oA).symm)) $$ MB
  iapply (waitO c O 0 0 1 rfl rfl sem_o rfl) $$ [MB HO]
  · isplitl [MB]; · iexact MB
    iexact HO
  iintro H
  iapply (waitO c O 1 1 2 rfl rfl sem_o rfl) $$ H
  iintro H
  iapply (waitO c O 2 2 3 rfl rfl sem_o rfl) $$ H
  iintro H
  iapply (waitO c O 3 3 4 rfl rfl sem_o rfl) $$ H
  iintro H
  iapply (waitO c O 4 4 5 rfl rfl sem_o rfl) $$ H
  iintro H
  iapply (waitO c O 5 5 6 rfl rfl sem_o rfl) $$ H
  iintro H
  iapply (waitO c O 6 6 7 rfl rfl sem_o rfl) $$ H
  iintro H
  iapply (waitO7 c O sem_o rfl) $$ H
  iintro H
  iapply done
  iapply Hk
  iexact H
end Tail

end Cert.KernelIdeal.Hand

end
-- ==== Proof.KernelIdeal.Body.lean ====
/- The whole body. -/
module

public import proofs.«01_k».proof.Proof.KernelIdeal.Tail

@[expose] public section

noncomputable section

namespace Cert.KernelIdeal.Hand

open Cert.KernelIdeal Cert.KernelIdeal.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

section Open
variable (c : Dev nD) (w : C F S14336x4096 .fp8e4m3)

/-- The weight, less the three blocks sent for first. -/
theorem w_open : wh c m1 w ⊢ iprop(pt (c.tc : Thread nD τ) (wH 0) w ∗ pt (c.tc : Thread nD τ) (wH 1) w ∗ pt (c.tc : Thread nD τ) (wH 2) w ∗ SWt c w 3) := by
  iintro H
  ihave H := (Entails.of_eq ((wH_split c w).trans (stage_zero (fun b : Fin 8 => pt (c.tc : Thread nD τ) (wH b) w) (fun _ => (BI.emp : PP F))).symm)) $$ H
  ihave H := (Entails.of_eq (show stage (fun b : Fin 8 => pt (c.tc : Thread nD τ) (wH b) w) (fun _ => (BI.emp : PP F)) 0 = iprop(pt (c.tc : Thread nD τ) (wH 0) w ∗ stageRest (fun b : Fin 8 => pt (c.tc : Thread nD τ) (wH b) w) (fun _ => (BI.emp : PP F)) 0) from stage_out (fun b : Fin 8 => pt (c.tc : Thread nD τ) (wH b) w) (fun _ => (BI.emp : PP F)) (0 : Fin 8))) $$ H
  icases H with ⟨H0, H⟩
  ihave H := (Entails.of_eq (show iprop((BI.emp : PP F) ∗ stageRest (fun b : Fin 8 => pt (c.tc : Thread nD τ) (wH b) w) (fun _ => (BI.emp : PP F)) 0) = SWt c w 1 from stage_in (fun b : Fin 8 => pt (c.tc : Thread nD τ) (wH b) w) (fun _ => (BI.emp : PP F)) (0 : Fin 8))) $$ [H]
  · isplitr
    · iempintro
    iexact H
  ihave H := (Entails.of_eq (show SWt c w 1 = iprop(pt (c.tc : Thread nD τ) (wH 1) w ∗ stageRest (fun b : Fin 8 => pt (c.tc : Thread nD τ) (wH b) w) (fun _ => (BI.emp : PP F)) 1) from stage_out (fun b : Fin 8 => pt (c.tc : Thread nD τ) (wH b) w) (fun _ => (BI.emp : PP F)) (1 : Fin 8))) $$ H
  icases H with ⟨H1, H⟩
  ihave H := (Entails.of_eq (show iprop((BI.emp : PP F) ∗ stageRest (fun b : Fin 8 => pt (c.tc : Thread nD τ) (wH b) w) (fun _ => (BI.emp : PP F)) 1) = SWt c w 2 from stage_in (fun b : Fin 8 => pt (c.tc : Thread nD τ) (wH b) w) (fun _ => (BI.emp : PP F)) (1 : Fin 8))) $$ [H]
  · isplitr
    · iempintro
    iexact H
  ihave H := (Entails.of_eq (show SWt c w 2 = iprop(pt (c.tc : Thread nD τ) (wH 2) w ∗ stageRest (fun b : Fin 8 => pt (c.tc : Thread nD τ) (wH b) w) (fun _ => (BI.emp : PP F)) 2) from stage_out (fun b : Fin 8 => pt (c.tc : Thread nD τ) (wH b) w) (fun _ => (BI.emp : PP F)) (2 : Fin 8))) $$ H
  icases H with ⟨H2, H⟩
  ihave H := (Entails.of_eq (show iprop((BI.emp : PP F) ∗ stageRest (fun b : Fin 8 => pt (c.tc : Thread nD τ) (wH b) w) (fun _ => (BI.emp : PP F)) 2) = SWt c w 3 from stage_in (fun b : Fin 8 => pt (c.tc : Thread nD τ) (wH b) w) (fun _ => (BI.emp : PP F)) (2 : Fin 8))) $$ [H]
  · isplitr
    · iempintro
    iexact H
  isplitl [H0]; · iexact H0
  isplitl [H1]; · iexact H1
  isplitl [H2]; · iexact H2
  iexact H

theorem bigSep3 (Φ : Fin 3 → PP F) : bigSep Finset.univ Φ = iprop(Φ 0 ∗ Φ 1 ∗ Φ 2) :=
  BI.bigSep_univ_eq_bigSepL [0, 1, 2] (by decide) (by decide) Φ

theorem wS_open (f : C F S3x14336x512 .fp8e4m3) : wh c m20 f ⊢ iprop(pt (c.tc : Thread nD τ) (wS 0) f ∗ pt (c.tc : Thread nD τ) (wS 1) f ∗ pt (c.tc : Thread nD τ) (wS 2) f) :=
  Entails.of_eq ((wS_split c f).trans (bigSep3 _))

/-- Three contents of the ring's buffer that agree with one on their own slots are that one. -/
theorem slot_congr (s : Fin 3) (f g : C F S3x14336x512 .fp8e4m3) (h : ∀ p : S3x14336x512.Idx, (p 0).val = s.val → f p = g p) :
    (pt (c.tc : Thread nD τ) (wS s) f : PP F) = pt (c.tc : Thread nD τ) (wS s) g := by
  refine pt_eq ?_
  funext x
  obtain ⟨u, v, rfl⟩ : ∃ u v, x = ValueIdx.ix2 u v := ⟨x 0, x 1, ValueIdx.eq_ix2 x⟩
  refine (read_sq m20 ![s.val, 0, 0] (wS_inb s) squeezes_S1x14336x512_S14336x512 f u v).trans (Eq.trans ?_ (read_sq m20 ![s.val, 0, 0] (wS_inb s) squeezes_S1x14336x512_S14336x512 g u v).symm)
  refine h _ ?_
  exact ValueKit.rect_emb_unit_val (s := S3x14336x512) ![s.val, 0, 0] S1x14336x512.size (wS_inb s) (ValueIdx.ix3 (⟨0, Nat.one_pos⟩ : Fin 1) u v) 0

theorem RR_lt (n : ℕ) (h : n < 8) : RR c w n = wF c w ⟨n, h⟩ (s3 n) (j3 n) := by
  unfold RR; rw [dif_pos h]
theorem RR_ge (n : ℕ) (h : ¬ n < 8) (s : Fin 3) (j : Fin 25) (hs : s3 n = s) (hj : j3 n = j) : RR c w n = iprop((∃ f : C F S3x14336x512 .fp8e4m3, pt (c.tc : Thread nD τ) (wS s) f) ∗ sv c j) := by
  subst hs hj; unfold RR; rw [dif_neg h]

/-- Three contents in one, told apart by the slot. -/
def slots (f0 f1 f2 : C F S3x14336x512 .fp8e4m3) : C F S3x14336x512 .fp8e4m3 :=
  fun p : S3x14336x512.Idx => if (p 0).val = 0 then f0 p else if (p 0).val = 1 then f1 p else f2 p

theorem ring_end : iprop(RR c w k0_t4_loop.trips ∗ RR c w (k0_t4_loop.trips + 1) ∗ RR c w (k0_t4_loop.trips + 2))
    ⊢ iprop((∃ f : C F S3x14336x512 .fp8e4m3, wh c m20 f) ∗ sv c 15 ∗ sv c 16 ∗ sv c 17) := by
  rw [trips4, RR_ge c w 8 (by decide) 2 17 rfl rfl, RR_ge c w (8 + 1) (by decide) 0 15 rfl rfl, RR_ge c w (8 + 2) (by decide) 1 16 rfl rfl]
  iintro ⟨⟨⟨%f2, H2⟩, V2⟩, ⟨⟨%f0, H0⟩, V0⟩, ⟨⟨%f1, H1⟩, V1⟩⟩
  isplitl [H0 H1 H2]
  · iexists (slots f0 f1 f2)
    iapply (Entails.of_eq ((wS_split c (slots f0 f1 f2)).trans (bigSep3 _)).symm)
    isplitl [H0]
    · iapply (Entails.of_eq (slot_congr c 0 f0 (slots f0 f1 f2) (fun p h => (if_pos h).symm))) $$ H0
    isplitl [H1]
    · iapply (Entails.of_eq (slot_congr c 1 f1 (slots f0 f1 f2) (fun p h => by
        have h1 : (p 0).val = 1 := h
        unfold slots
        rw [if_neg (by omega), if_pos h1]))) $$ H1
    iapply (Entails.of_eq (slot_congr c 2 f2 (slots f0 f1 f2) (fun p h => by
      have h1 : (p 0).val = 2 := h
      unfold slots
      rw [if_neg (by omega), if_neg (by omega)]))) $$ H2
  isplitl [V0]; · iexact V0
  isplitl [V1]; · iexact V1
  iexact V2

theorem SRt_zero : (BI.emp : PP F) ⊢ SRt c w 0 := by
  unfold SRt; rw [stage_zero, BI.bigSep_emp_const]
theorem SRt_end : SRt c w k0_t4_loop.trips = wh c m1 w := by
  unfold SRt; rw [stage_last _ _ (show 8 ≤ k0_t4_loop.trips from le_of_eq trips4.symm)]; exact (wH_split c w).symm

theorem o_alloc (O : C F S128x4096 .bf16) : sv c 18 ⊢ iprop(|={Set.univ}=> oM c O 0 0) :=
  mixedBatch_alloc' (Lvl := ℕ) (countersEmb (U := Pipeline.UD sig nD τ)) (c.tc : Thread nD τ) () oA (oD c O) (sm := SemLoc.dma 18) (E := Set.univ)

theorem waitQ (f : C F S128x14336 .fp8e4m3) {sm : DmaSem sig} (h : sm = 22) {hsrc : m15.view.WordExact} {hdst : m12.view.WordExact} {α : Type} {k : PUnit → Prog (TpuEff nD τ sig (Elt F) Λ₀ .tc) α} {Q : α → PP F} :
    iprop(qF c f ∗ ow (c.tc : Thread nD τ))
      ⊢ iprop((iprop((pt (c.tc : Thread nD τ) m12 f ∗ ptR c m15 f) ∗ sv c 22 ∗ ow (c.tc : Thread nD τ)) -∗ wpB c (k ⟨⟩) Q)
        -∗ wpB c (Prog.lift (.waitDma2 sm m15 m12 hsrc hdst) >>= k) Q) := by
  subst h
  exact wait (c := (c.tc : Thread nD τ)) rfl
end Open

section Body
variable (c : Dev nD) (X : C F S128x14336 .bf16) (w : C F S14336x4096 .fp8e4m3) (ws : C F S1x4096 .f32) (rw : C F S16x14336 .bf16) (rb : C F S1x12 .f32) (ix : C F S2x128 .i32)
  (a : C F S768x14336 .bf16) (b : C F S768x4096 .bf16) (sa : C F S64x14336 .bf16) (sb : C F S64x4096 .bf16)

/-- The chip's buffers at some contents. -/
abbrev Scr : PP F := iprop((∃ f : C F S128x14336 .bf16, wh c m14 f) ∗ (∃ f : C F S128x14336 .fp8e4m3, wh c m15 f) ∗ (∃ f : C F S848x14336 .bf16, wh c m16 f) ∗ (∃ f : C F S848x128 .f32, wh c m17 f) ∗ (∃ f : C F S128x832 .bf16, wh c m18 f) ∗ (∃ f : C F S832x4096 .bf16, wh c m19 f) ∗ (∃ f : C F S3x14336x512 .fp8e4m3, wh c m20 f) ∗ (∃ f : C F S128x4096 .bf16, wh c m21 f) ∗ (∃ f : C F S128x128 .f32, wh c m22 f) ∗ (∃ f : C F S128x128 .f32, wh c m23 f) ∗ (∃ f : C F S1x4096 .f32, wh c m24 f) ∗ (∃ f : C F S1x12 .f32, wh c m25 f) ∗ (∃ f : C F S2x128 .i32, wh c m26 f) ∗ (∃ f : C F S2x128 .f32, wh c m27 f) ∗ (∃ f : C F S1x128 .f32, wh c m28 f))
/-- The semaphores at zero. -/
abbrev Sems : PP F := iprop(sv c 0 ∗ sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20 ∗ sv c 21 ∗ sv c 22 ∗ sv c 23 ∗ sv c 24)
/-- The operands. -/
abbrev Ins : PP F := iprop(wh c m0 X ∗ wh c m1 w ∗ wh c m2 ws ∗ wh c m3 rw ∗ wh c m4 rb ∗ wh c m5 ix ∗ wh c m6 a ∗ wh c m7 b ∗ wh c m8 sa ∗ wh c m9 sb)
/-- The result of the kernel's first output from all of its operands. -/
abbrev RES : C F S128x4096 .bf16 := OO X w b sb ws rb ix (HF X a sa rw)

theorem run_body (g10 : C F S128x4096 .bf16) (g11 : C F S2x128 .f32) (g12 : C F S128x14336 .fp8e4m3) (g13 : C F S1x128 .f32) (Q : PUnit → PP F) :
    iprop((Scr c ∗ Sems c ∗ Ins c X w ws rw rb ix a b sa sb ∗ (wh c m10 g10 ∗ wh c m11 g11 ∗ wh c m12 g12 ∗ wh c m13 g13) ∗ ow (c.tc : Thread nD τ))
      ∗ (iprop(Scr c ∗ Sems c ∗ Ins c X w ws rw rb ix a b sa sb
          ∗ (wh c m10 (RES X w ws rw rb ix a b sa sb) ∗ wh c m11 (GT rb ix (HF X a sa rw)) ∗ wh c m12 (QF X) ∗ wh c m13 (XSR X)) ∗ ow (c.tc : Thread nD τ)) -∗ Q ⟨⟩))
    ⊢ wpB c (cc0_mixlora (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) m20 (Memref.isWhole_whole _) m21 (Memref.isWhole_whole _) m22 (Memref.isWhole_whole _) m23 (Memref.isWhole_whole _) m24 (Memref.isWhole_whole _) m25 (Memref.isWhole_whole _) m26 (Memref.isWhole_whole _) m27 (Memref.isWhole_whole _) m28 (Memref.isWhole_whole _) cc0_scratch15 cc0_scratch16 cc0_scratch17 cc0_scratch18 cc0_scratch19 cc0_scratch20 cc0_scratch21) Q := by
  rw [cc0_mixlora_eq_skeleton]
  unfold cc0_mixlora_skel
  rw [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  iintro ⟨⟨⟨⟨%f14, S14⟩, ⟨%f15, S15⟩, ⟨%f16, S16⟩, ⟨%f17, S17⟩, ⟨%f18, S18⟩, ⟨%f19, S19⟩, ⟨%f20, S20⟩, ⟨%f21, S21⟩, ⟨%f22, S22⟩, ⟨%f23, S23⟩, ⟨%f24, S24⟩, ⟨%f25, S25⟩, ⟨%f26, S26⟩, ⟨%f27, S27⟩, ⟨%f28, S28⟩⟩, ⟨V0, V1, V2, V3, V4, V5, V6, V7, V8, V9, V10, V11, V12, V13, V14, V15, V16, V17, V18, V19, V20, V21, V22, V23, V24⟩, ⟨I0, I1, I2, I3, I4, I5, I6, I7, I8, I9⟩, ⟨G10, G11, G12, G13⟩, O⟩, Hk⟩
  ihave I0 := (Entails.of_eq ((xh_split c X).trans (bigSep7 _))) $$ I0
  icases I0 with ⟨xh0, xh1, xh2, xh3, xh4, xh5, xh6⟩
  ihave S14 := (Entails.of_eq ((xv_split c f14).trans (bigSep7 _))) $$ S14
  icases S14 with ⟨xv0, xv1, xv2, xv3, xv4, xv5, xv6⟩
  iapply (seq c)
  iapply (run8 c X f14)
  isplitl [xh0 xv0 V0]
  · isplitl [xh0]; · iexact xh0
    isplitl [xv0]; · iexact xv0
    iexact V0
  isplitl [xh1 xv1 V1]
  · isplitl [xh1]; · iexact xh1
    isplitl [xv1]; · iexact xv1
    iexact V1
  isplitl [xh2 xv2 V2]
  · isplitl [xh2]; · iexact xh2
    isplitl [xv2]; · iexact xv2
    iexact V2
  isplitl [xh3 xv3 V3]
  · isplitl [xh3]; · iexact xh3
    isplitl [xv3]; · iexact xv3
    iexact V3
  isplitl [xh4 xv4 V4]
  · isplitl [xh4]; · iexact xh4
    isplitl [xv4]; · iexact xv4
    iexact V4
  isplitl [xh5 xv5 V5]
  · isplitl [xh5]; · iexact xh5
    isplitl [xv5]; · iexact xv5
    iexact V5
  iintro ⟨xF0, xF1, xF2, xF3, xF4, xF5⟩
  ihave I3 := (Entails.of_eq ((ah3_split c rw).trans (bigSep7' _))) $$ I3
  icases I3 with ⟨r0, r1, r2, r3, r4, r5, r6⟩
  ihave I8 := (Entails.of_eq ((ah8_split c sa).trans (bigSep7' _))) $$ I8
  icases I8 with ⟨s0, s1, s2, s3, s4, s5, s6⟩
  ihave I6 := (Entails.of_eq ((ah6_split c a).trans (bigSep7' _))) $$ I6
  icases I6 with ⟨a0, a1, a2, a3, a4, a5, a6⟩
  ihave S16 := (Entails.of_eq ((avc_split c f16).trans (bigSep7' _))) $$ S16
  icases S16 with ⟨v0, v1, v2, v3, v4, v5, v6⟩
  ihave I2 := (Entails.of_eq (wh_pt c main_v1 _)) $$ I2
  ihave I4 := (Entails.of_eq (wh_pt c main_v4 _)) $$ I4
  ihave I5 := (Entails.of_eq (wh_pt c main_v6 _)) $$ I5
  ihave S24 := (Entails.of_eq (wh_pt c cc0_scratch10 _)) $$ S24
  ihave S25 := (Entails.of_eq (wh_pt c cc0_scratch11 _)) $$ S25
  ihave S26 := (Entails.of_eq (wh_pt c cc0_scratch12 _)) $$ S26
  ihave I7 := (Entails.of_eq (wh_pt c main_v9 _)) $$ I7
  ihave I9 := (Entails.of_eq (wh_pt c main_arg9 _)) $$ I9
  ihave G11 := (Entails.of_eq (wh_pt c main_v11_1 _)) $$ G11
  ihave G12 := (Entails.of_eq (wh_pt c main_v11_2 _)) $$ G12
  ihave G13 := (Entails.of_eq (wh_pt c main_v11_3 _)) $$ G13
  iapply (seq c)
  iapply (run9 c X f14 ws f24 rb f25 ix f26 a sa rw f16)
  isplitl [xh6 xv6 V6]
  · isplitl [xh6]; · iexact xh6
    isplitl [xv6]; · iexact xv6
    iexact V6
  isplitl [I2 S24 V19]
  · isplitl [I2]; · iexact I2
    isplitl [S24]; · iexact S24
    iexact V19
  isplitl [I4 S25 V20]
  · isplitl [I4]; · iexact I4
    isplitl [S25]; · iexact S25
    iexact V20
  isplitl [I5 S26 V21]
  · isplitl [I5]; · iexact I5
    isplitl [S26]; · iexact S26
    iexact V21
  isplitl [r0 s0 a0 v0 V7]
  · isplitl [r0]; · iexact r0
    isplitl [s0]; · iexact s0
    isplitl [a0]; · iexact a0
    isplitl [v0]; · iexact v0
    iexact V7
  iintro ⟨xF6, U19, U20, U21, aF0⟩
  iapply (seq c)
  iapply (run10 c a sa rw f16)
  isplitl [r1 s1 a1 v1 V8]
  · isplitl [r1]; · iexact r1
    isplitl [s1]; · iexact s1
    isplitl [a1]; · iexact a1
    isplitl [v1]; · iexact v1
    iexact V8
  isplitl [r2 s2 a2 v2 V9]
  · isplitl [r2]; · iexact r2
    isplitl [s2]; · iexact s2
    isplitl [a2]; · iexact a2
    isplitl [v2]; · iexact v2
    iexact V9
  iintro ⟨aF1, aF2⟩
  iapply (seq c)
  iapply (run11 c a sa rw f16)
  isplitl [r3 s3 a3 v3 V10]
  · isplitl [r3]; · iexact r3
    isplitl [s3]; · iexact s3
    isplitl [a3]; · iexact a3
    isplitl [v3]; · iexact v3
    iexact V10
  isplitl [r4 s4 a4 v4 V11]
  · isplitl [r4]; · iexact r4
    isplitl [s4]; · iexact s4
    isplitl [a4]; · iexact a4
    isplitl [v4]; · iexact v4
    iexact V11
  iintro ⟨aF3, aF4⟩
  iapply (seq c)
  iapply (run12 c a sa rw f16 b sb f19)
  isplitl [r5 s5 a5 v5 V12]
  · isplitl [r5]; · iexact r5
    isplitl [s5]; · iexact s5
    isplitl [a5]; · iexact a5
    isplitl [v5]; · iexact v5
    iexact V12
  isplitl [r6 s6 a6 v6 V13]
  · isplitl [r6]; · iexact r6
    isplitl [s6]; · iexact s6
    isplitl [a6]; · iexact a6
    isplitl [v6]; · iexact v6
    iexact V13
  isplitl [I7 I9 S19 V14]
  · isplitl [I7]; · iexact I7
    isplitl [I9]; · iexact I9
    isplitl [S19]; · iexact S19
    iexact V14
  iintro ⟨aF5, aF6, bF⟩
  ihave I1 := (w_open c w) $$ I1
  icases I1 with ⟨w0, w1, w2, SW⟩
  ihave S20 := (wS_open c f20) $$ S20
  icases S20 with ⟨sl0, sl1, sl2⟩
  iapply (seq c)
  iapply (run13 c X w f20)
  isplitl [w0 sl0 V15]
  · isplitl [w0]; · iexact w0
    isplitl [sl0]; · iexact sl0
    iexact V15
  isplitl [w1 sl1 V16]
  · isplitl [w1]; · iexact w1
    isplitl [sl1]; · iexact sl1
    iexact V16
  isplitl [w2 sl2 V17]
  · isplitl [w2]; · iexact w2
    isplitl [sl2]; · iexact sl2
    iexact V17
  isplitl [xF0 xF1 xF2 xF3 xF4 xF5 xF6]
  · isplitl [xF0]; · iexact xF0
    isplitl [xF1]; · iexact xF1
    isplitl [xF2]; · iexact xF2
    isplitl [xF3]; · iexact xF3
    isplitl [xF4]; · iexact xF4
    isplitl [xF5]; · iexact xF5
    iexact xF6
  isplitl [O]; · iexact O
  iintro ⟨R0, R1, R2, ⟨S14, I0, ⟨V0, V1, V2, V3, V4, V5, V6⟩⟩, O⟩
  iapply (seq c)
  iapply (run14 c X f22 f23)
  isplitl [S22]; · iexact S22
  isplitl [S23]; · iexact S23
  iintro ⟨S22, S23⟩
  ihave aF := (Entails.of_eq (aS_zero c a sa rw).symm) $$ [aF0 aF1 aF2 aF3 aF4 aF5 aF6]
  · isplitl [aF0]; · iexact aF0
    isplitl [aF1]; · iexact aF1
    isplitl [aF2]; · iexact aF2
    isplitl [aF3]; · iexact aF3
    isplitl [aF4]; · iexact aF4
    isplitl [aF5]; · iexact aF5
    iexact aF6
  iapply (seq c)
  iapply (run15 c X a sa rw ws rb ix f28 g13 f15 g12 f17)
  isplitl [S28 S14 S23 S15 S17 aF O G12 V22 G13 V23 U19 U20 U21]
  · isplitl [S28]; · iexact S28
    isplitl [S14]; · iexact S14
    isplitl [S23]; · iexact S23
    isplitl [S15]; · iexact S15
    isplitl [S17]; · iexact S17
    isplitl [aF]; · iexact aF
    isplitl [O]; · iexact O
    isplitl [G12]; · iexact G12
    isplitl [V22]; · iexact V22
    isplitl [G13]; · iexact G13
    isplitl [V23]; · iexact V23
    isplitl [U19]; · iexact U19
    isplitl [U20]; · iexact U20
    iexact U21
  iintro ⟨S14, S23, S17, HL, HQ, U23, ⟨S16, ⟨I3, I8, I6⟩, ⟨V7, V8, V9, V10, V11, V12, V13⟩⟩, O, ⟨S24, I2, V19⟩, ⟨S25, I4, V20⟩, ⟨S26, I5, V21⟩⟩
  iapply (seq c)
  iapply (run16 rb ix (HF X a sa rw) c f27)
  isplitl [S17]; · iexact S17
  isplitl [S26]; · iexact S26
  isplitl [S27]; · iexact S27
  iintro ⟨S17, S26, S27⟩
  iapply (seq c)
  iapply (run17 (HF X a sa rw) c _ _ _ _ _)
  isplitl [S17]; · iexact S17
  iintro S17
  imod (o_alloc c (OO X w b sb ws rb ix (HF X a sa rw))) $$ V18 with MB
  ihave S21 := (Entails.of_eq ((oV_split c f21).trans (stage_zero _ _).symm)) $$ S21
  ihave G10 := (Entails.of_eq ((oH_split c g10).trans (stage_zero _ _).symm)) $$ G10
  ihave R0 := (Entails.of_eq (show wF c w 0 0 15 = RR c w 0 from (RR_lt c w 0 (by decide)).symm)) $$ R0
  ihave R1 := (Entails.of_eq (show wF c w 1 1 16 = RR c w 1 from (RR_lt c w 1 (by decide)).symm)) $$ R1
  ihave R2 := (Entails.of_eq (show wF c w 2 2 17 = RR c w 2 from (RR_lt c w 2 (by decide)).symm)) $$ R2
  iapply (seq c)
  iapply (run18 c X w b sb ws rb ix (HF X a sa rw) f18 g11 f21 g10)
  isplitl [S17 S18 S27 G11 V24 bF HL S22 S24 O R0 R1 R2 SW S21 MB G10]
  · isplitl [S17]; · iexact S17
    isplitl [S18]; · iexact S18
    isplitl [S27 G11 V24]
    · isplitl [S27]; · iexact S27
      isplitl [G11]; · iexact G11
      iexact V24
    isplitl [bF]; · iexact bF
    isplitl [HL]; · iexact HL
    isplitl [S22]; · iexact S22
    isplitl [S24]; · iexact S24
    isplitl [O]; · iexact O
    isplitl [R0 R1 R2]
    · isplitl [R0]; · iexact R0
      isplitl [R1]; · iexact R1
      iexact R2
    isplitr [SW S21 MB G10]
    · iapply (SRt_zero c w)
      iempintro
    isplitl [SW]; · iexact SW
    isplitl [S21]; · iexact S21
    isplitl [MB]; · iexact MB
    iexact G10
  iintro ⟨S17, U24, ⟨I7, I9, V14⟩, ⟨HL, S18, S19, S22, S24, O, ⟨R0, R1, R2⟩, I1, SW, SV, LT, MB, SH⟩⟩
  ihave RS := (ring_end c w) $$ [R0 R1 R2]
  · isplitl [R0]; · iexact R0
    isplitl [R1]; · iexact R1
    iexact R2
  icases RS with ⟨S20, V15, V16, V17⟩
  ihave I1 := (Entails.of_eq (SRt_end c w)) $$ I1
  iapply (seq c)
  iapply (run19 c (OO X w b sb ws rb ix (HF X a sa rw)) g10)
  isplitl [LT MB SH O]
  · isplitl [LT]; · iexact LT
    isplitl [MB]; · iexact MB
    isplitl [SH]; · iexact SH
    iexact O
  iintro ⟨⟨G10, S21, V18⟩, O⟩
  iapply (waitQ c (QF X) sem_r0) $$ [HQ O]
  · isplitl [HQ]; · iexact HQ
    iexact O
  iintro ⟨⟨G12, HR⟩, V22, O⟩
  iapply (waitU c (src := m28) (dst := m13) (XSR X) (XSR X) sem_r1) $$ [U23 O]
  · isplitl [U23]; · iexact U23
    iexact O
  iintro ⟨⟨G13, S28⟩, V23, O⟩
  iapply (waitU c (src := m27) (dst := m11) (GT rb ix (HF X a sa rw)) (GT rb ix (HF X a sa rw)) sem_r2) $$ [U24 O]
  · isplitl [U24]; · iexact U24
    iexact O
  iintro ⟨⟨G11, S27⟩, V24, O⟩
  ihave S15 := (Entails.of_eq (wh_halves c cc0_scratch1 (QF X)).symm) $$ [HL HR]
  · isplitl [HL]; · iexact HL
    iexact HR
  ihave G11 := (Entails.of_eq (wh_pt c main_v11_1 _).symm) $$ G11
  ihave G12 := (Entails.of_eq (wh_pt c main_v11_2 _).symm) $$ G12
  ihave G13 := (Entails.of_eq (wh_pt c main_v11_3 _).symm) $$ G13
  ihave S27 := (Entails.of_eq (wh_pt c cc0_scratch13 _).symm) $$ S27
  ihave S28 := (Entails.of_eq (wh_pt c cc0_scratch14 _).symm) $$ S28
  iapply done
  iapply Hk
  isplitl [S14 S15 S16 S17 S18 S19 S20 S21 S22 S23 S24 S25 S26 S27 S28]
  · isplitl [S14]; · iexists (X); iexact S14
    isplitl [S15]; · iexists (QF X); iexact S15
    isplitl [S16]; · iexists (AV a sa rw); iexact S16
    isplitl [S17]; · iexists (HF X a sa rw); iexact S17
    isplitl [S18]; · iexists (HB rb ix (HF X a sa rw)); iexact S18
    isplitl [S19]; · iexists (BV b sb); iexact S19
    isplitl [S20]; · iexact S20
    isplitl [S21]; · iexists (OO X w b sb ws rb ix (HF X a sa rw)); iexact S21
    isplitl [S22]; · iexists (XSV X); iexact S22
    isplitl [S23]; · iexists (INV X); iexact S23
    isplitl [S24]; · iexists (ws); iexact S24
    isplitl [S25]; · iexists (rb); iexact S25
    isplitl [S26]; · iexists (ix); iexact S26
    isplitl [S27]; · iexists (GT rb ix (HF X a sa rw)); iexact S27
    iexists (XSR X); iexact S28
  isplitl [V0 V1 V2 V3 V4 V5 V6 V7 V8 V9 V10 V11 V12 V13 V14 V15 V16 V17 V18 V19 V20 V21 V22 V23 V24]
  · isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    isplitl [V23]; · iexact V23
    iexact V24
  isplitl [I0 I1 I2 I3 I4 I5 I6 I7 I8 I9]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    iexact I9
  isplitl [G10 G11 G12 G13]
  · isplitl [G10]; · iexact G10
    isplitl [G11]; · iexact G11
    isplitl [G12]; · iexact G12
    iexact G13
  iexact O

end Body

end Cert.KernelIdeal.Hand

end
-- ==== Proof.KernelIdeal.Run.lean ====
/- The launch: the kernel's body inside the host's lines, and the frame. -/
module

public import proofs.«01_k».proof.Proof.KernelIdeal.Body
public import Idealize.ShloMosaic.Lib.Pipeline.FrameSuffixV

@[expose] public section

noncomputable section

namespace Cert.KernelIdeal.Hand

open Cert.KernelIdeal Cert.KernelIdeal.Gen Cert.Steps
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

open Pipeline (Dat BodyObligation BodyObligationLoose Cfg WinSpec)

variable (m : (ℓ : Loc nD τ sig) → Buf (Elt F) ℓ) (ρ : Dev nD → PrngReg)

/-! ## The four arrays the kernel leaves -/

def out0 (c : Dev nD) : C F S128x4096 .bf16 := RES (Gen.V m c main_v0) (Gen.V m c main_arg1) (Gen.V m c main_v1) (Gen.V m c main_v3) (Gen.V m c main_v4) (Gen.V m c main_v6) (Gen.V m c main_v8) (Gen.V m c main_v9) (Gen.V m c main_v10) (Gen.V m c main_arg9)
def out1 (c : Dev nD) : C F S2x128 .f32 := GT (Gen.V m c main_v4) (Gen.V m c main_v6) (HF (Gen.V m c main_v0) (Gen.V m c main_v8) (Gen.V m c main_v10) (Gen.V m c main_v3))
def out2 (c : Dev nD) : C F S128x14336 .fp8e4m3 := QF (Gen.V m c main_v0)
def out3 (c : Dev nD) : C F S1x128 .f32 := XSR (Gen.V m c main_v0)

/-- Every buffer after the kernel: its four results at what it computes, the others as it found them. -/
def GG (c : Dev nD) : (b : Ref sig .tc) → Buf (Elt F) ((c.tc : Thread nD τ).loc b) :=
  Function.update (Function.update (Function.update (Function.update (Gen.V m c) main_v11_0 (out0 m c)) main_v11_1 (out1 m c)) main_v11_2 (out2 m c)) main_v11_3 (out3 m c)

theorem GG0 (c : Dev nD) : GG m c main_v11_0 = out0 m c := by
  unfold GG
  rw [Function.update_of_ne (by decide), Function.update_of_ne (by decide), Function.update_of_ne (by decide), Function.update_self]
theorem GG1 (c : Dev nD) : GG m c main_v11_1 = out1 m c := by
  unfold GG
  rw [Function.update_of_ne (by decide), Function.update_of_ne (by decide), Function.update_self]
theorem GG2 (c : Dev nD) : GG m c main_v11_2 = out2 m c := by
  unfold GG
  rw [Function.update_of_ne (by decide), Function.update_self]
theorem GG3 (c : Dev nD) : GG m c main_v11_3 = out3 m c := by
  unfold GG
  rw [Function.update_self]

/-! ## What the launch hands the body -/

/-- The kernel's semaphores. -/
abbrev osem0 : Fin 25 → SemLoc sig := fun j => SemLoc.dma j
theorem ownSemFacts0 : Pipeline.OwnSemFacts cfg0.spec osem0 := by decide +kernel
/-- The arrays the kernel reads. -/
def H0 : Finset (Ref sig .tc) := {main_v0, main_arg1, main_v1, main_v3, main_v4, main_v6, main_v8, main_v9, main_v10, main_arg9}
theorem H0_sub : H0 ⊆ Pipeline.restRefs sig cfg0.spec := by decide +kernel
/-- The arrays the kernel writes. -/
def R0 : Finset (Ref sig .tc) := {main_v11_0, main_v11_1, main_v11_2, main_v11_3}
theorem R0_sub : R0 ⊆ Pipeline.restRefs sig cfg0.spec \ H0 := by decide +kernel

theorem sems_eq (c : Dev nD) :
    (Pipeline.ownSems0 (Ix := Unit) (Name := ℕ) (U := Pipeline.UD sig nD τ) (Lvl := ℕ) (Val := Elt F) (τ := τ) osem0 c : PP F) = Sems c := by
  rw [Pipeline.ownSems0_eq_of_list c osem0 [0, 1, 2, 3, 4, 5, 6, 7, 8, 9, 10, 11, 12, 13, 14, 15, 16, 17, 18, 19, 20, 21, 22, 23, 24] (by decide) (by decide)]; rfl
theorem ins_eq (c : Dev nD) :
    (bigSep H0 (fun b => ((c.tc : Thread nD τ).loc b) ↦{fullShare} Gen.V m c b) : PP F) = Ins c (Gen.V m c main_v0) (Gen.V m c main_arg1) (Gen.V m c main_v1) (Gen.V m c main_v3) (Gen.V m c main_v4) (Gen.V m c main_v6) (Gen.V m c main_v8) (Gen.V m c main_v9) (Gen.V m c main_v10) (Gen.V m c main_arg9) := by
  rw [BI.bigSep_eq_bigSepL_of_eq [main_v0, main_arg1, main_v1, main_v3, main_v4, main_v6, main_v8, main_v9, main_v10, main_arg9] (by decide) (by decide)]; rfl
theorem outs_eq (G : (c : Dev nD) → (b : Ref sig .tc) → Buf (Elt F) ((c.tc : Thread nD τ).loc b)) (c : Dev nD) :
    (bigSep R0 (fun b => ((c.tc : Thread nD τ).loc b) ↦{fullShare} G c b) : PP F)
      = iprop(wh c m10 (G c main_v11_0) ∗ wh c m11 (G c main_v11_1) ∗ wh c m12 (G c main_v11_2) ∗ wh c m13 (G c main_v11_3)) := by
  rw [BI.bigSep_eq_bigSepL_of_eq [main_v11_0, main_v11_1, main_v11_2, main_v11_3] (by decide) (by decide)]; rfl
theorem scr_eq (c : Dev nD) :
    (Pipeline.scopedRest (Ix := Unit) (Name := ℕ) (U := Pipeline.UD sig nD τ) (Lvl := ℕ) (Val := Elt F) (cfg0.spec) c : PP F) = Scr c :=
  scopedRest0_eq c

theorem phi_eq (G : (c : Dev nD) → (b : Ref sig .tc) → Buf (Elt F) ((c.tc : Thread nD τ).loc b)) (c : Dev nD) :
    (Pipeline.ΦDRV osem0 cfg0.spec H0 R0 (Gen.V m) G c : PP F)
      = iprop(Scr c ∗ Sems c ∗ Ins c (Gen.V m c main_v0) (Gen.V m c main_arg1) (Gen.V m c main_v1) (Gen.V m c main_v3) (Gen.V m c main_v4) (Gen.V m c main_v6) (Gen.V m c main_v8) (Gen.V m c main_v9) (Gen.V m c main_v10) (Gen.V m c main_arg9) ∗ (wh c m10 (G c main_v11_0) ∗ wh c m11 (G c main_v11_1) ∗ wh c m12 (G c main_v11_2) ∗ wh c m13 (G c main_v11_3))) := by
  unfold Pipeline.ΦDRV
  rw [scr_eq, sems_eq, ins_eq, outs_eq]

/-! ## The region -/

/-- The region: before its one point the arrays as launched, after it the four results. -/
def dats (_ : Fin 1) (c : Dev nD) : Dat τ (Elt F) Unit ℕ (Pipeline.UD sig nD τ) ℕ cfg0 c where
  A w := Gen.V m c (Pipeline.arrRef cfg0.spec w)
  after w _ := Fin.elim0 w
  Φ (t : Fin (cfg0.N + 1)) := Pipeline.ΦDRV osem0 cfg0.spec H0 R0 (Gen.V m) (if t.val = 0 then Gen.V m else GG m) c
  q _ := fullShare
  owed _ := 0

theorem A_eq (c : Dev nD) (w : Fin cfg0.W) : (dats m 0 c).A w = Gen.V m c (Pipeline.arrRef cfg0.spec w) := by
  dsimp only [dats]

theorem phi_first (c : Dev nD) (t : Fin cfg0.N) : (dats m 0 c).Φ t.castSucc = Pipeline.ΦDRV osem0 cfg0.spec H0 R0 (Gen.V m) (Gen.V m) c := by
  have h : t.castSucc.val = 0 := Nat.lt_one_iff.mp t.isLt
  show Pipeline.ΦDRV osem0 cfg0.spec H0 R0 (Gen.V m) (if t.castSucc.val = 0 then Gen.V m else GG m) c = _
  rw [if_pos h]
theorem phi_last (c : Dev nD) (t : Fin cfg0.N) : (dats m 0 c).Φ t.succ = Pipeline.ΦDRV osem0 cfg0.spec H0 R0 (Gen.V m) (GG m) c := by
  have h : ¬ t.succ.val = 0 := Nat.succ_ne_zero _
  show Pipeline.ΦDRV osem0 cfg0.spec H0 R0 (Gen.V m) (if t.succ.val = 0 then Gen.V m else GG m) c = _
  rw [if_neg h]

def bodyPre (c : Dev nD) (t : Fin cfg0.N) : PP F :=
  iprop((dats m 0 c).Φ t.castSucc ∗ (dats m 0 c).owesAt () t.castSucc ∗ (BI.emp : PP F))
def bodyPost (c : Dev nD) (t : Fin cfg0.N) : PP F :=
  iprop((dats m 0 c).Φ t.succ ∗ (dats m 0 c).owesAt () t.succ ∗ (BI.emp : PP F))

theorem sound_body (c : Dev nD) (t : Fin cfg0.N) :
    bodyPre m c t ⊢ wpB c (bodyAt0 t) (fun _ => bodyPost m c t) := by
  unfold bodyPre bodyPost bodyAt0
  rw [phi_first, phi_last, phi_eq, phi_eq, GG0, GG1, GG2, GG3]
  unfold Dat.owesAt Pipeline.owesWithin
  rw [show (dats m 0 c).owed t.castSucc = 0 from rfl, show (dats m 0 c).owed t.succ = 0 from rfl]
  iintro ⟨⟨HS, HV, HI, G10, G11, G12, G13⟩, ⟨%W, -, HW⟩, -⟩
  iapply (run_body c (Gen.V m c main_v0) (Gen.V m c main_arg1) (Gen.V m c main_v1) (Gen.V m c main_v3) (Gen.V m c main_v4) (Gen.V m c main_v6) (Gen.V m c main_v8) (Gen.V m c main_v9) (Gen.V m c main_v10) (Gen.V m c main_arg9) (Gen.V m c main_v11_0) (Gen.V m c main_v11_1) (Gen.V m c main_v11_2) (Gen.V m c main_v11_3))
  isplitl [HS HV HI G10 G11 G12 G13 HW]
  · isplitl [HS]; · iexact HS
    isplitl [HV]; · iexact HV
    isplitl [HI]; · iexact HI
    isplitl [G10 G11 G12 G13]
    · isplitl [G10]; · iexact G10
      isplitl [G11]; · iexact G11
      isplitl [G12]; · iexact G12
      iexact G13
    iexists W; iexact HW
  iintro ⟨HS, HV, HI, ⟨G10, G11, G12, G13⟩, ⟨%W', HW'⟩⟩
  isplitl [HS HV HI G10 G11 G12 G13]
  · isplitl [HS]; · iexact HS
    isplitl [HV]; · iexact HV
    isplitl [HI]; · iexact HI
    isplitl [G10]; · iexact G10
    isplitl [G11]; · iexact G11
    isplitl [G12]; · iexact G12
    iexact G13
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem bigSep0 (Φ : Fin cfg0.W → PP F) : bigSep Finset.univ Φ = (BI.emp : PP F) :=
  BI.bigSep_univ_eq_bigSepL [] (by decide) (by decide) Φ

theorem body_obligation (c : Dev nD) : BodyObligation (dats (F := F) m 0 c) (defs₀ (F := F)) Variants.none () Set.univ := fun t => by
  rw [bigSep0, bigSep0, defs₀_row]
  exact triple_restated (sound_body m c t) rfl .rfl fun _ => .rfl

/-! ## The run -/

theorem hmainD (𝒱₀ : Variants) : Pipeline.HMainK (Ix := Unit) (Name := ℕ) (U := Pipeline.UD sig nD τ) (Lvl := ℕ) cfgs 0 defs₀ 𝒱₀ m (main (F := F)) (Gen.V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- A buffer at the end: what the host lines after the kernel make of the kernel's results. -/
def fin (c : Dev nD) (b : Ref sig .tc) : Buf (Elt F) ((c.tc : Thread nD τ).loc b) :=
  StableHlo.after ([hostOps1] : List (List (HloOp τ sig (Elt F)))).flatten (Pipeline.withArrays cfg0.spec c (Pipeline.withR (Gen.V0 m c) R0 c (GG m c)) fun w => (dats m 0 c).arrAt w cfg0.N) (Proc.devRef .tc b)

set_option backward.isDefEq.respectTransparency.types false in
/-- The program runs, every buffer outside the chip ends at `fin`, every counter at zero. -/
theorem run_main : θ_run defs (onTc (τ := τ) (main (F := F))) (s₀ m ρ) (fun r => (∀ c : Dev nD, ∀ b ∈ Pipeline.restRefs sig cfg0.spec, r.2.mem ((c.tc : Thread nD τ).loc b) = fin m c b) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := Gen.V0 m) (opss := [hostOps1]) (hsub := sfx_sub) (hfresh := sfx_fresh) (hkeep := sfx_keeps) (G := GG m)
    (hmain := hmainD m Variants.none) (hA := A_eq m) (hin := fun _ => .rfl) (hout := fun _ => .rfl)
    (hQ' := fun _ h => ⟨fun c b hb => (h.1 c).2 b hb, h.2⟩)

/-- A buffer that nothing after the entry of the kernel writes. -/
theorem fin_of_not_mem (c : Dev nD) (b : Ref sig .tc) (h1 : b ≠ main_v12) (h2 : b ≠ main_v13) (h3 : b ≠ main_v14) (h4 : b ≠ main_v15) (hR : b ∉ R0) :
    fin m c b = Gen.V m c b := by
  unfold fin
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne h1, StableHlo.devRef_ne_of_ne h2, StableHlo.devRef_ne_of_ne h3, StableHlo.devRef_ne_of_ne h4⟩)),
    Pipeline.withArrays_of_ne _ c _ _ b (fun w => w.elim0), Pipeline.withR_of_not_mem _ _ _ _ _ hR]

/-- The program runs, its arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1 c main_arg0 (Pipeline.mem_restRefs_of main_arg0 (by decide) (by decide))).trans ((fin_of_not_mem m c main_arg0 (by decide) (by decide) (by decide) (by decide) (by decide)).trans (V_main_arg0 m c)),
      (h.1 c main_arg1 (Pipeline.mem_restRefs_of main_arg1 (by decide) (by decide))).trans ((fin_of_not_mem m c main_arg1 (by decide) (by decide) (by decide) (by decide) (by decide)).trans (V_main_arg1 m c)),
      (h.1 c main_arg2 (Pipeline.mem_restRefs_of main_arg2 (by decide) (by decide))).trans ((fin_of_not_mem m c main_arg2 (by decide) (by decide) (by decide) (by decide) (by decide)).trans (V_main_arg2 m c)),
      (h.1 c main_arg3 (Pipeline.mem_restRefs_of main_arg3 (by decide) (by decide))).trans ((fin_of_not_mem m c main_arg3 (by decide) (by decide) (by decide) (by decide) (by decide)).trans (V_main_arg3 m c)),
      (h.1 c main_arg4 (Pipeline.mem_restRefs_of main_arg4 (by decide) (by decide))).trans ((fin_of_not_mem m c main_arg4 (by decide) (by decide) (by decide) (by decide) (by decide)).trans (V_main_arg4 m c)),
      (h.1 c main_arg5 (Pipeline.mem_restRefs_of main_arg5 (by decide) (by decide))).trans ((fin_of_not_mem m c main_arg5 (by decide) (by decide) (by decide) (by decide) (by decide)).trans (V_main_arg5 m c)),
      (h.1 c main_arg6 (Pipeline.mem_restRefs_of main_arg6 (by decide) (by decide))).trans ((fin_of_not_mem m c main_arg6 (by decide) (by decide) (by decide) (by decide) (by decide)).trans (V_main_arg6 m c)),
      (h.1 c main_arg7 (Pipeline.mem_restRefs_of main_arg7 (by decide) (by decide))).trans ((fin_of_not_mem m c main_arg7 (by decide) (by decide) (by decide) (by decide) (by decide)).trans (V_main_arg7 m c)),
      (h.1 c main_arg8 (Pipeline.mem_restRefs_of main_arg8 (by decide) (by decide))).trans ((fin_of_not_mem m c main_arg8 (by decide) (by decide) (by decide) (by decide) (by decide)).trans (V_main_arg8 m c)),
      (h.1 c main_arg9 (Pipeline.mem_restRefs_of main_arg9 (by decide) (by decide))).trans ((fin_of_not_mem m c main_arg9 (by decide) (by decide) (by decide) (by decide) (by decide)).trans (V_main_arg9 m c))⟩, h.2⟩) (run_main m ρ)

end Cert.KernelIdeal.Hand

end
-- ==== Proof.Value.Scale.lean ====
/- A row's scale: the least power of two above the row's largest magnitude divided by 448, found by counting and by a minimum. -/
module

public import Idealize.ShloMosaic.Lib.Pointwise
public import Idealize.ShloMosaic.Lib.IndicatorCount

@[expose] public section

noncomputable section

namespace Cert.Values

open Idealize.ShloMosaic

/-- The value of the pattern with exponent field `k` and nothing else set. -/
def pw (k : ℕ) : EReal := Ideal.ofBits .f32 (BitVec.ofNat 32 k <<< 23)

/-- A power of two by its exponent field, as a real number. -/
theorem pw_coe (k : ℕ) (h1 : 1 ≤ k) (h2 : k ≤ 254) : pw k = (((2 : ℝ) ^ ((k : ℤ) - 127) : ℝ) : EReal) := by
  unfold pw
  have e1 : ((BitVec.ofNat 32 k <<< 23).extractLsb' 31 1 == 1#1) = false := by
    have : ∀ k : Fin 255, ((BitVec.ofNat 32 k.val <<< 23).extractLsb' 31 1 == 1#1) = false := by decide +kernel
    exact this ⟨k, by omega⟩
  have e2 : ((BitVec.ofNat 32 k <<< 23).extractLsb' 23 8).toNat = k := by
    have : ∀ k : Fin 255, ((BitVec.ofNat 32 k.val <<< 23).extractLsb' 23 8).toNat = k.val := by decide +kernel
    exact this ⟨k, by omega⟩
  have e3 : ((BitVec.ofNat 32 k <<< 23).extractLsb' 0 23).toNat = 0 := by
    have : ∀ k : Fin 255, ((BitVec.ofNat 32 k.val <<< 23).extractLsb' 0 23).toNat = 0 := by decide +kernel
    exact this ⟨k, by omega⟩
  simp only [Ideal.ofBits, Ideal.ieee]
  rw [e1, e2, e3, if_neg (by omega), if_neg (by omega)]
  rw [EReal.coe_eq_coe_iff]
  norm_num
  rw [show (8388608 : ℝ) = 2 ^ (23 : ℤ) by norm_num, ← zpow_add₀ (by norm_num)]
  refine congrArg (fun z : ℤ => (2 : ℝ) ^ z) ?_
  ring

/-- The word of the largest exponent field is infinity. -/
theorem pw_top : pw 255 = ⊤ := by
  simp [pw, Ideal.ofBits, Ideal.ieee]

/-- Powers of two grow strictly with the exponent field. -/
theorem pw_lt {i j : ℕ} (h1 : 1 ≤ i) (h : i < j) (h2 : j ≤ 254) : pw i < pw j := by
  rw [pw_coe i h1 (by omega), pw_coe j (by omega) h2, EReal.coe_lt_coe_iff]
  exact zpow_lt_zpow_right₀ (by norm_num) (by omega)

/-- Powers of two grow with the exponent field. -/
theorem pw_le {i j : ℕ} (h1 : 1 ≤ i) (h : i ≤ j) (h2 : j ≤ 254) : pw i ≤ pw j := by
  rcases h.eq_or_lt with rfl | h
  · exact le_rfl
  · exact (pw_lt h1 h h2).le

/-- How many of the powers a value reaches. -/
def cnt (v : EReal) : ℕ := Nat.findGreatest (fun k => pw k ≤ v ∧ 1 ≤ k) 252

/-- The count is at most 252. -/
theorem cnt_le (v : EReal) : cnt v ≤ 252 := Nat.findGreatest_le _

/-- Below the power `253` a value reaches the powers `1 … cnt v` and no other. -/
theorem le_cnt {v : EReal} (hv : v < pw 253) {k : ℕ} (h1 : 1 ≤ k) (h2 : k ≤ 255) : pw k ≤ v ↔ k ≤ cnt v := by
  constructor
  · intro h
    have : k ≤ 252 := by
      by_contra hk
      rcases (show k ≤ 254 ∨ k = 255 by omega) with h3 | rfl
      · exact absurd (lt_of_le_of_lt ((pw_le (by norm_num) (by omega) h3).trans h) hv) (lt_irrefl _)
      · rw [pw_top, top_le_iff] at h; rw [h] at hv; exact not_top_lt hv
    exact Nat.le_findGreatest this ⟨h, h1⟩
  · intro h
    have h0 : cnt v ≠ 0 := by omega
    have hs := (Nat.findGreatest_of_ne_zero (P := fun k => pw k ≤ v ∧ 1 ≤ k) (n := 252) (m := cnt v) rfl h0).1
    exact (pw_le h1 h (by have := cnt_le v; omega)).trans hs

/-- The scale of a value, and its reciprocal. -/
def scl (v : EReal) : EReal := if cnt v = 0 then 1 else pw (cnt v + 1)
/-- The reciprocal of the scale. -/
def rcp (v : EReal) : EReal := if cnt v = 0 then 1 else pw (253 - cnt v)

/-- The exponent field 127 is one. -/
theorem pw_one : pw 127 = 1 := by rw [pw_coe _ (by norm_num) (by norm_num)]; norm_num

/-- One over the scale is the reciprocal. -/
theorem div_scl (v : EReal) : Ideal.div 1 (scl v) = rcp v := by
  unfold scl rcp
  have := cnt_le v
  split_ifs with h
  · rw [show (1 : EReal) = ((1 : ℝ) : EReal) from rfl, Ideal.div_coe one_ne_zero]; norm_num
  · rw [pw_coe _ (by omega) (by omega), Ideal.div_coe (by positivity), one_mul, pw_coe _ (by omega) (by omega), one_div, ← zpow_neg]
    congr 2
    omega

/-- The count the kernel makes, as a word. -/
theorem card_cnt {v : EReal} (hv : v < pw 253) :
    ((Finset.univ : Finset (Fin 256)).filter fun k => pw k.val ≤ v ∧ 1 ≤ k.val).card = cnt v := by
  have e : ((Finset.univ : Finset (Fin 256)).filter fun k => pw k.val ≤ v ∧ 1 ≤ k.val).image Fin.val = Finset.Icc 1 (cnt v) := by
    ext n
    simp only [Finset.mem_image, Finset.mem_filter, Finset.mem_univ, true_and, Finset.mem_Icc]
    constructor
    · rintro ⟨k, ⟨h1, h2⟩, rfl⟩
      exact ⟨h2, (le_cnt hv h2 (by omega)).1 h1⟩
    · rintro ⟨h1, h2⟩
      have := cnt_le v
      exact ⟨⟨n, by omega⟩, ⟨(le_cnt hv h1 (by omega)).2 h2, h1⟩, rfl⟩
  rw [← Finset.card_image_of_injective _ Fin.val_injective, e, Nat.card_Icc]; omega

/-- The minimum the reference takes. -/
theorem min_cnt {v : EReal} (hv : v < pw 253) :
    (if v < pw 1 then 1 else (Finset.univ : Finset (Fin 254)).fold min ⊤ fun k => if v < pw (k.val + 1) then pw (k.val + 1) else ⊤) = scl v := by
  have hc := cnt_le v
  unfold scl
  by_cases h : v < pw 1
  · rw [if_pos h, if_pos]
    by_contra h0
    exact absurd ((le_cnt hv le_rfl (by norm_num)).2 (by omega)) (not_le.2 h)
  · have h1 := (le_cnt hv le_rfl (by norm_num)).1 (not_lt.1 h)
    rw [if_neg h, if_neg (by omega)]
    refine eq_of_forall_le_iff fun b => ?_
    rw [Finset.le_fold_min]
    constructor
    · rintro ⟨-, hb⟩
      have := hb ⟨cnt v, by omega⟩ (Finset.mem_univ _)
      rwa [if_pos (not_le.1 fun hh => by exact absurd ((le_cnt (k := cnt v + 1) hv (by omega) (by omega)).1 hh) (by omega))] at this
    · intro hb
      refine ⟨le_top, fun k _ => ?_⟩
      split_ifs with hk
      · have : ¬ k.val + 1 ≤ cnt v := fun hh => absurd ((le_cnt hv (by omega) (by omega)).2 hh) (not_le.2 hk)
        exact hb.trans (pw_le (by omega) (by omega) (by omega))
      · exact le_top

end Cert.Values

end
-- ==== Proof.Value.RowMax.lean ====
/- The kernel's quantiser: each row's scale and codes, from the payloads of its first two loops. -/
module

public import proofs.«01_k».proof.Proof.Value.Scale
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic

/-- The word read as minus infinity. -/
theorem ofBits_bot : Ideal.ofBits .f32 4286578688#32 = ⊥ := by
  simp [Ideal.ofBits, Ideal.ieee]

/-- The magnitudes of row `t`, and what the row's scale is found from. -/
def rowv (X : Fin 128 → Fin 14336 → EReal) (t : Fin 128) : EReal :=
  (Finset.univ.fold max ⊥ fun d => max (X t d) (-X t d)) * Ideal.ofBits .f32 991054117#32

/-- The code of an element. -/
def code (X : Fin 128 → Fin 14336 → EReal) (t : Fin 128) (d : Fin 14336) : EReal :=
  min (Ideal.ofBits .f32 1138753536#32) (max (Ideal.ofBits .f32 3286237184#32) (X t d * rcp (rowv X t)))

/-- A magnitude is not negative. -/
theorem abs_nonneg' (x : EReal) : 0 ≤ max x (-x) := by
  rcases le_total 0 x with h | h
  · exact le_max_of_le_left h
  · exact le_max_of_le_right (EReal.neg_nonneg.mpr h)

namespace K
open Cert.KernelIdeal Cert.KernelIdeal.Gen Cert.KernelIdeal.Hand

/-- One trip of the running maximum. -/
theorem pay22_le (A : C Ideal S128x128 .bf16) (V : C Ideal S128x2048 .bf16) (t l : Fin 128) (b : EReal) :
    (k0_pay22 (F := Ideal) A V (ix2 t l) : EReal) ≤ b ↔ (A (ix2 t l) : EReal) ≤ b ∧ ∀ i : Fin 16, max (V (ix2 t ⟨128 * i.val + l.val, by omega⟩) : EReal) (-(V (ix2 t ⟨128 * i.val + l.val, by omega⟩))) ≤ b := by
  pointwise [k0_pay22]
  simp only [max_le_iff (α := EReal), and_assoc]
  have e0 : (⟨l.val, by omega⟩ : Fin 2048) = ⟨128 * (0 : Fin 16).val + l.val, by have := l.isLt; show 128 * 0 + l.val < 2048; omega⟩ := Fin.ext (show l.val = 128 * 0 + l.val by omega)
  constructor
  · rintro ⟨ha, h0, h1, h2, h3, h4, h5, h6, h7, h8, h9, h10, h11, h12, h13, h14, h15⟩
    rw [e0] at h0
    refine ⟨ha, fun i => max_le_iff.1 ?_⟩
    fin_cases i
    exacts [h0, h1, h2, h3, h4, h5, h6, h7, h8, h9, h10, h11, h12, h13, h14, h15]
  · rintro ⟨ha, h⟩
    have k := fun i => max_le_iff.2 (h i)
    refine ⟨ha, ?_, k 1, k 2, k 3, k 4, k 5, k 6, k 7, k 8, k 9, k 10, k 11, k 12, k 13, k 14, k 15⟩
    rw [e0]; exact k 0

/-- The word of the scale, from the count. -/
theorem pay26_word : ∀ c : Fin 253, IntOp.shli ArithUnit.vector (IntOp.addi (Scalar.select (IntOp.ori (IntOp.cmpi CmpIPredicate.eq (BitVec.ofNat 32 c.val) 0#32) (IntOp.cmpi CmpIPredicate.eq (BitVec.ofNat 32 c.val) 255#32)) (0#32) (IntOp.subi (BitVec.ofNat 32 c.val) 126#32)) 127#32) 23#32
    = BitVec.ofNat 32 (if c.val = 0 then 127 else c.val + 1) <<< 23 := by decide +kernel
/-- The same, for a number in range. -/
theorem pay26_word' (c : ℕ) (hc : c ≤ 252) : IntOp.shli ArithUnit.vector (IntOp.addi (Scalar.select (IntOp.ori (IntOp.cmpi CmpIPredicate.eq (BitVec.ofNat 32 c) 0#32) (IntOp.cmpi CmpIPredicate.eq (BitVec.ofNat 32 c) 255#32)) (0#32) (IntOp.subi (BitVec.ofNat 32 c) 126#32)) 127#32) 23#32
    = BitVec.ofNat 32 (if c = 0 then 127 else c + 1) <<< 23 := pay26_word ⟨c, by omega⟩
/-- The word of the reciprocal scale, from the count. -/
theorem pay27_word : ∀ c : Fin 253, IntOp.shli ArithUnit.vector (IntOp.subi 127#32 (Scalar.select (IntOp.ori (IntOp.cmpi CmpIPredicate.eq (BitVec.ofNat 32 c.val) 0#32) (IntOp.cmpi CmpIPredicate.eq (BitVec.ofNat 32 c.val) 255#32)) (0#32) (IntOp.subi (BitVec.ofNat 32 c.val) 126#32))) 23#32
    = BitVec.ofNat 32 (if c.val = 0 then 127 else 253 - c.val) <<< 23 := by decide +kernel
/-- The same, for a number in range. -/
theorem pay27_word' (c : ℕ) (hc : c ≤ 252) : IntOp.shli ArithUnit.vector (IntOp.subi 127#32 (Scalar.select (IntOp.ori (IntOp.cmpi CmpIPredicate.eq (BitVec.ofNat 32 c) 0#32) (IntOp.cmpi CmpIPredicate.eq (BitVec.ofNat 32 c) 255#32)) (0#32) (IntOp.subi (BitVec.ofNat 32 c) 126#32))) 23#32
    = BitVec.ofNat 32 (if c = 0 then 127 else 253 - c) <<< 23 := pay27_word ⟨c, by omega⟩

/-- The comparison of a lane number with zero. -/
theorem sgt_word : ∀ k : Fin 256, (IntOp.cmpi CmpIPredicate.sgt (BitVec.ofNat 32 k.val) 0#32) = BitVec.ofBool (decide (1 ≤ k.val)) := by decide +kernel

/-- A lane number shifted to the exponent field. -/
theorem shl_word : ∀ k : Fin 256, IntOp.shli ArithUnit.vector (BitVec.ofNat 32 k.val) 23#32 = BitVec.ofNat 32 k.val <<< 23 := by decide +kernel

/-- The count of the powers of two that a row's value reaches. -/
theorem count {v : EReal} (hv : v < pw 253) :
    (Finset.univ : Finset (Fin 256)).fold IntOp.addi 0#32 (fun x => BitVec.setWidth 32 (IntOp.andi (BitVec.ofBool (decide (Ideal.ofBits FTy.f32 (IntOp.shli ArithUnit.vector (BitVec.ofNat 32 x.val) 23#32) ≤ v))) (IntOp.cmpi CmpIPredicate.sgt (BitVec.ofNat 32 x.val) 0#32)))
      = BitVec.ofNat 32 (cnt v) := by
  rw [IndicatorCount.fold_addi_setWidth_eq_card (w := 32) (p := fun x : Fin 256 => IntOp.andi (BitVec.ofBool (decide (Ideal.ofBits FTy.f32 (IntOp.shli ArithUnit.vector (BitVec.ofNat 32 x.val) 23#32) ≤ v))) (IntOp.cmpi CmpIPredicate.sgt (BitVec.ofNat 32 x.val) 0#32)), ← card_cnt hv]
  congr 2
  refine Finset.filter_congr fun x _ => ?_
  rw [sgt_word, shl_word]
  show _ ↔ (Ideal.ofBits .f32 (BitVec.ofNat 32 x.val <<< 23) ≤ v ∧ _)
  generalize Ideal.ofBits .f32 (BitVec.ofNat 32 x.val <<< 23) = u
  by_cases h1 : u ≤ v <;> by_cases h2 : 1 ≤ x.val <;> simp [h1, h2, IntOp.andi]

/-- A word equals itself. -/
theorem eq_word (b : BitVec 32) : IntOp.cmpi CmpIPredicate.eq b b = 1#1 := by
  simp [IntOp.cmpi]
/-- Two unequal small numbers are unequal words. -/
theorem eq_word_ne {n : ℕ} (x t : Fin n) (hx : x ≠ t) (hn : n ≤ 2 ^ 32 := by norm_num) : IntOp.cmpi CmpIPredicate.eq (BitVec.ofNat 32 x.val) (BitVec.ofNat 32 t.val) = 0#1 := by
  have h : BitVec.ofNat 32 x.val ≠ BitVec.ofNat 32 t.val := fun e => hx (Fin.ext (by
    have := congrArg BitVec.toNat e
    simp only [BitVec.toNat_ofNat] at this
    rwa [Nat.mod_eq_of_lt (by have := x.isLt; omega), Nat.mod_eq_of_lt (by have := t.isLt; omega)] at this))
  show BitVec.ofBool (BitVec.ofNat 32 x.val == BitVec.ofNat 32 t.val) = 0#1
  rw [beq_false_of_ne h]; rfl

/-- The row of scales is the diagonal of the broadcast scales. -/
theorem e5 (A : C Ideal S128x128 .f32) (t : Fin 128)  : k0_pay29 (F := Ideal) (k0_pay28 A) (ix2 0 t) = A (ix2 t t) := by
  pointwise [k0_pay29, k0_pay28]
  refine (Finset.sum_eq_single t (fun x _ hx => ?_) (fun h => absurd (Finset.mem_univ _) h)).trans ?_
  · have : IntOp.cmpi CmpIPredicate.eq (BitVec.ofNat 32 x.val) (BitVec.ofNat 32 t.val) = 0#1 := eq_word_ne x t hx
    rw [this]; rfl
  · have : IntOp.cmpi CmpIPredicate.eq (BitVec.ofNat 32 t.val) (BitVec.ofNat 32 t.val) = 1#1 := eq_word _
    rw [this]; rfl
/-- A code: the input times the reciprocal scale, clamped. -/
theorem e6 (A : C Ideal S128x128 .f32) (B : C Ideal S128x128 .bf16) (t l : Fin 128)  : k0_pay1 (F := Ideal) A B (ix2 t l) = min (Ideal.ofBits .f32 1138753536#32) (max (Ideal.ofBits .f32 3286237184#32) ((B (ix2 t l) : EReal) * A (ix2 t l))) := by
  pointwise [k0_pay1]

/-- The columns read by a trip. -/
theorem off3_val (k : Fin k0_t1_loop.trips) (a : Fin 2) : k0_off3 k a = (![0, 2048 * k.val] : Fin 2 → ℕ) a := by
  have h : ∀ (k : Fin k0_t1_loop.trips) (a : Fin 2), k0_off3 k a = (![0, 2048 * k.val] : Fin 2 → ℕ) a := by decide +kernel
  exact h k a

/-- A block of the input that the first loop reads. -/
theorem read3 (X : C Ideal S128x14336 .bf16) (k : Fin k0_t1_loop.trips) (t : Fin 128) (d : Fin 2048) (hk : 2048 * k.val + d.val < 14336) :
    m14.view.readAt (Elt Ideal) (Rect.unit (s := S128x14336) (k0_off3 k) S128x2048.size (k0_off3_inb k)).toLoadRect X (ix2 t d) = X (ix2 t ⟨2048 * k.val + d.val, hk⟩) := by
  show X _ = X _
  refine congrArg X (emb2_ext (n0 := 128) (n1 := 14336) (a := 128) (b := 2048) (k0_off3 k) (k0_off3_inb k) _ _ ?_ ?_)
  · rw [off3_val]; show 0 + t.val = t.val; omega
  · rw [off3_val]; rfl

/-- The number of trips of the first loop. -/
theorem trips1 : k0_t1_loop.trips = 7 := by decide

/-- The lane maxima after some trips are bounded exactly by the bounds of the magnitudes seen. -/
theorem am_le (X : C Ideal S128x14336 .bf16) (t l : Fin 128) (b : EReal) : ∀ n, n ≤ 7 →
    ((AM X n (ix2 t l) : EReal) ≤ b ↔ 0 ≤ b ∧ ∀ k : Fin 7, k.val < n → ∀ i : Fin 16, max (X (ix2 t ⟨2048 * k.val + (128 * i.val + l.val), by omega⟩) : EReal) (-(X (ix2 t ⟨2048 * k.val + (128 * i.val + l.val), by omega⟩))) ≤ b)
  | 0, _ => by
    have e : (AM X 0 (ix2 t l) : EReal) = 0 := by
      show k0_pay21 (F := Ideal) (ix2 t l) = (0 : EReal)
      simp [k0_pay21, broadcast, Scalar.ofBits, FloatOps.ofBits, Ideal.ofBits, Ideal.ieee]
    rw [e]
    exact ⟨fun h => ⟨h, fun k hk => absurd hk (Nat.not_lt_zero _)⟩, fun h => h.1⟩
  | n + 1, hn => by
    have h7 : n < k0_t1_loop.trips := by rw [trips1]; omega
    have e := AM_succ X ⟨n, h7⟩
    simp only at e
    rw [e, pay22_le, am_le X t l b n (by omega)]
    constructor
    · rintro ⟨⟨h0, h⟩, h'⟩
      refine ⟨h0, fun k hk i => ?_⟩
      rcases Nat.lt_succ_iff_lt_or_eq.1 hk with hk | hk
      · exact h k hk i
      · have := h' i
        rw [read3 X ⟨n, h7⟩ t _ (by show 2048 * n + (128 * i.val + l.val) < 14336; omega)] at this
        obtain ⟨k, hk'⟩ := k
        subst hk
        exact this
    · rintro ⟨h0, h⟩
      refine ⟨⟨h0, fun k hk i => h k (by omega) i⟩, fun i => ?_⟩
      rw [read3 X ⟨n, h7⟩ t _ (by show 2048 * n + (128 * i.val + l.val) < 14336; omega)]
      exact h ⟨n, by omega⟩ (Nat.lt_succ_self n) i

/-- The largest magnitude of a row, found lane by lane. -/
theorem am_max (X : C Ideal S128x14336 .bf16) (t : Fin 128) :
    ((Finset.univ : Finset (Fin 128)).fold max (⊥ : EReal) fun l => AM X 7 (ix2 t l)) = (Finset.univ : Finset (Fin 14336)).fold max ⊥ fun d => max (X (ix2 t d) : EReal) (-(X (ix2 t d))) := by
  refine eq_of_forall_ge_iff fun b => ?_
  rw [Finset.fold_max_le, Finset.fold_max_le]
  refine and_congr_right fun _ => ?_
  constructor
  · intro h d _
    have := ((am_le X t ⟨d.val % 128, Nat.mod_lt _ (by norm_num)⟩ b 7 le_rfl).1 (h _ (Finset.mem_univ _))).2 ⟨d.val / 2048, by omega⟩ (by show d.val / 2048 < 7; omega) ⟨d.val % 2048 / 128, by omega⟩
    have e : (⟨2048 * (d.val / 2048) + (128 * (d.val % 2048 / 128) + d.val % 128), by omega⟩ : Fin 14336) = d := Fin.ext (show 2048 * (d.val / 2048) + (128 * (d.val % 2048 / 128) + d.val % 128) = d.val by omega)
    simp only [e] at this
    exact this
  · intro h l _
    refine (am_le X t l b 7 le_rfl).2 ⟨(abs_nonneg' _).trans (h ⟨0, by norm_num⟩ (Finset.mem_univ _)), fun k _ i => h _ (Finset.mem_univ _)⟩

/-- The compare of a row's value with the powers of two. -/
theorem pay23_at (A : C Ideal S128x128 .bf16) (t : Fin 128) (k : Fin 256) : k0_pay23 (F := Ideal) A (ix2 t k)
    = BitVec.ofBool (decide (Ideal.ofBits FTy.f32 (IntOp.shli ArithUnit.vector (BitVec.ofNat 32 k.val) 23#32) ≤ ((Finset.univ : Finset (Fin 128)).fold max (⊥ : EReal) fun l => A (ix2 t l)) * Ideal.ofBits FTy.f32 991054117#32)) := by
  rw [← ofBits_bot]
  pointwise [k0_pay23]

/-- What the row's scale is found from. -/
abbrev rv (X : C Ideal S128x14336 .bf16) (t : Fin 128) : EReal := rowv (fun t d => X (ix2 t d)) t

/-- The scale of a row. -/
theorem XSV_at (X : C Ideal S128x14336 .bf16) (t l : Fin 128) (hv : rv X t < pw 253) : XSV X (ix2 t l) = scl (rv X t) := by
  unfold XSV
  pointwise [k0_pay26, k0_pay25, k0_pay24]
  simp only [pay23_at, am_max]
  have e := count hv
  unfold rv rowv at e
  rw [e]
  have hc := cnt_le (rv X t)
  unfold rv rowv at hc
  rw [pay26_word' _ hc]
  unfold scl rv rowv
  split_ifs with h
  · exact pw_one
  · rfl

/-- The reciprocal scale of a row. -/
theorem INV_at (X : C Ideal S128x14336 .bf16) (t l : Fin 128) (hv : rv X t < pw 253) : INV X (ix2 t l) = rcp (rv X t) := by
  unfold INV
  pointwise [k0_pay27, k0_pay25, k0_pay24]
  simp only [pay23_at, am_max]
  have e := count hv
  unfold rv rowv at e
  rw [e]
  have hc := cnt_le (rv X t)
  unfold rv rowv at hc
  rw [pay27_word' _ hc]
  unfold rcp rv rowv
  split_ifs with h
  · exact pw_one
  · rfl

/-- The scale of a row, in the result. -/
theorem XSR_at (X : C Ideal S128x14336 .bf16) (t : Fin 128) (hv : rv X t < pw 253) : XSR X (ix2 0 t) = scl (rv X t) :=
  (e5 (XSV X) t).trans (XSV_at X t t hv)

/-- The code of an element. -/
theorem QF_at (X : C Ideal S128x14336 .bf16) (t : Fin 128) (d : Fin 14336) (hv : rv X t < pw 253) : QF X (ix2 t d) = code (fun t d => X (ix2 t d)) t d := by
  unfold QF
  refine (e6 _ _ t ⟨d.val % 128, Nat.mod_lt _ (by norm_num)⟩).trans ?_
  unfold code
  rw [INV_at X t _ hv]
  have e : (ix2 t ⟨128 * (d.val / 128) + d.val % 128, by omega⟩ : S128x14336.Idx) = ix2 t d := congrArg (ix2 t) (Fin.ext (show 128 * (d.val / 128) + d.val % 128 = d.val by omega))
  exact congrArg (fun p => min (Ideal.ofBits .f32 1138753536#32) (max (Ideal.ofBits .f32 3286237184#32) ((X p : EReal) * rcp (rv X t)))) e

end K

end Cert.Values
-- ==== Proof.Value.KRun.lean ====
/- The kernel's four results and its operands, of the host lines before and after the call. -/
module

public import proofs.«01_k».proof.Proof.Value.RowMax
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace K
open Cert.KernelIdeal Cert.KernelIdeal.Gen Cert.KernelIdeal.Hand
variable (m : (ℓ : Loc nD τ sig) → Buf (Elt Ideal) ℓ) (c : Dev nD)

/-- A result of the call, after it. -/
theorem wv (b : Ref sig .tc) (hR : b ∈ R0) : (Pipeline.withArrays cfg0.spec c (Pipeline.withR (Gen.V0 m c) R0 c (GG m c)) fun w => (dats m 0 c).arrAt w cfg0.N) (Proc.devRef .tc b) = GG m c b := by
  rw [Pipeline.withArrays_of_ne _ c _ _ b (fun w => w.elim0), Pipeline.withR_of_mem _ _ _ _ _ hR]

/-- The main result is the call's, reshaped. -/
theorem fin_v12 : fin m c main_v12 = shapeCast S1x128x4096 (out0 m c) shapeCasts_S128x4096_S1x128x4096 := by
  have h : main_v11_0 ∈ R0 := by decide
  rw [← GG0, ← wv m c _ h]
  unfold fin
  generalize (Pipeline.withArrays cfg0.spec c (Pipeline.withR (Gen.V0 m c) R0 c (GG m c)) fun w => (dats m 0 c).arrAt w cfg0.N) = V
  simp only [List.flatten_cons, List.flatten_nil, List.append_nil]
  after_results_simp
  rfl
/-- The gates are the call's, transposed and reshaped. -/
theorem fin_v14 : fin m c main_v14 = shapeCast S1x128x2 (transpose S128x2 [1, 0] (out1 m c) transposes_S2x128_S128x2_1_0) shapeCasts_S128x2_S1x128x2 := by
  have h : main_v11_1 ∈ R0 := by decide
  rw [← GG1, ← wv m c _ h]
  unfold fin
  generalize (Pipeline.withArrays cfg0.spec c (Pipeline.withR (Gen.V0 m c) R0 c (GG m c)) fun w => (dats m 0 c).arrAt w cfg0.N) = V
  simp only [List.flatten_cons, List.flatten_nil, List.append_nil]
  after_results_simp
  rfl
/-- The codes are the call's, reshaped. -/
theorem fin_v15 : fin m c main_v15 = shapeCast S1x128x14336 (out2 m c) shapeCasts_S128x14336_S1x128x14336 := by
  have h : main_v11_2 ∈ R0 := by decide
  rw [← GG2, ← wv m c _ h]
  unfold fin
  generalize (Pipeline.withArrays cfg0.spec c (Pipeline.withR (Gen.V0 m c) R0 c (GG m c)) fun w => (dats m 0 c).arrAt w cfg0.N) = V
  simp only [List.flatten_cons, List.flatten_nil, List.append_nil]
  after_results_simp
  rfl
/-- The scales are the call's. -/
theorem fin_v11 : fin m c main_v11_3 = out3 m c := by
  have h : main_v11_3 ∈ R0 := by decide
  rw [← GG3, ← wv m c _ h]
  unfold fin
  generalize (Pipeline.withArrays cfg0.spec c (Pipeline.withR (Gen.V0 m c) R0 c (GG m c)) fun w => (dats m 0 c).arrAt w cfg0.N) = V
  simp only [List.flatten_cons, List.flatten_nil, List.append_nil]
  after_results_simp

/-- The input, reshaped. -/
theorem V_v0 : Gen.V m c main_v0 = shapeCast S128x14336 (m ((c.tc : Thread nD τ).loc main_arg0)) shapeCasts_S1x128x14336_S128x14336 := by
  show StableHlo.after _ _ _ = _
  simp only [List.flatten_cons, List.flatten_nil, List.cons_append, List.nil_append, List.append_nil]
  after_results_simp
  rfl
/-- The weight's scales, reshaped. -/
theorem V_v1 : Gen.V m c main_v1 = shapeCast S1x4096 (m ((c.tc : Thread nD τ).loc main_arg2)) shapeCasts_S4096_S1x4096 := by
  show StableHlo.after _ _ _ = _
  simp only [List.flatten_cons, List.flatten_nil, List.cons_append, List.nil_append, List.append_nil]
  after_results_simp
  rfl
/-- The router's weight, transposed and padded. -/
theorem V_v3 : Gen.V m c main_v3 = pad S16x14336 ![0, 0] ![4, 0] ![0, 0] (transpose S12x14336 [1, 0] (m ((c.tc : Thread nD τ).loc main_arg3)) transposes_S14336x12_S12x14336_1_0) (sitofp (F := Ideal) .bf16 (constantI S_ 32 0#32)) pads_S12x14336_S16x14336_040_000 h_S_ := by
  show StableHlo.after _ _ _ = _
  simp only [List.flatten_cons, List.flatten_nil, List.cons_append, List.nil_append, List.append_nil]
  after_results_simp
  rfl
/-- The router's bias, reshaped. -/
theorem V_v4 : Gen.V m c main_v4 = shapeCast S1x12 (m ((c.tc : Thread nD τ).loc main_arg4)) shapeCasts_S12_S1x12 := by
  show StableHlo.after _ _ _ = _
  simp only [List.flatten_cons, List.flatten_nil, List.cons_append, List.nil_append, List.append_nil]
  after_results_simp
  rfl
/-- The selected experts, transposed. -/
theorem V_v6 : Gen.V m c main_v6 = transpose S2x128 [1, 0] (shapeCast S128x2 (m ((c.tc : Thread nD τ).loc main_arg5)) shapeCasts_S1x128x2_S128x2) transposes_S128x2_S2x128_1_0 := by
  show StableHlo.after _ _ _ = _
  simp only [List.flatten_cons, List.flatten_nil, List.cons_append, List.nil_append, List.append_nil]
  after_results_simp
  rfl
/-- The left factors, transposed and stacked. -/
theorem V_v8 : Gen.V m c main_v8 = shapeCast S768x14336 (transpose S12x64x14336 [0, 2, 1] (m ((c.tc : Thread nD τ).loc main_arg6)) transposes_S12x14336x64_S12x64x14336_0_2_1) shapeCasts_S12x64x14336_S768x14336 := by
  show StableHlo.after _ _ _ = _
  simp only [List.flatten_cons, List.flatten_nil, List.cons_append, List.nil_append, List.append_nil]
  after_results_simp
  rfl
/-- The right factors, stacked. -/
theorem V_v9 : Gen.V m c main_v9 = shapeCast S768x4096 (m ((c.tc : Thread nD τ).loc main_arg7)) shapeCasts_S12x64x4096_S768x4096 := by
  show StableHlo.after _ _ _ = _
  simp only [List.flatten_cons, List.flatten_nil, List.cons_append, List.nil_append, List.append_nil]
  after_results_simp
  rfl
/-- The shared left factor, transposed. -/
theorem V_v10 : Gen.V m c main_v10 = transpose S64x14336 [1, 0] (m ((c.tc : Thread nD τ).loc main_arg8)) transposes_S14336x64_S64x14336_1_0 := by
  show StableHlo.after _ _ _ = _
  simp only [List.flatten_cons, List.flatten_nil, List.cons_append, List.nil_append, List.append_nil]
  after_results_simp
end K
end Cert.Values
-- ==== Proof.Value.KProd.lean ====
/- The kernel's product of the small left factors with the input: seven blocks of 2048 columns make one sum. -/
module

public import proofs.«01_k».proof.Proof.Value.KRun
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace K
open Cert.KernelIdeal Cert.KernelIdeal.Gen Cert.KernelIdeal.Hand
/-- The number of trips of the product's loop. -/
theorem trips3 : k0_t3_loop.trips = 7 := by decide
/-- The first block's product. -/
theorem pay30_at (p : S848x128.Idx) : (k0_pay30 (F := Ideal)) p = (0 : EReal) := by
  unfold k0_pay30
  show Ideal.ofBits .f32 0#32 = 0
  simp
/-- A later block's product, added. -/
theorem pay31_at (A : Vec Ideal S848x128 .f32) (B : Vec Ideal S848x2048 .bf16) (D : Vec Ideal S128x2048 .bf16) (r : Fin 848) (t : Fin 128) :
    k0_pay31 (F := Ideal) A B D (ix2 r t) = A (ix2 r t) + ∑ x, B (ix2 r x) * D (ix2 t x) := by
  unfold k0_pay31
  pointwise [dot_S848x2048_S128x2048_S848x128_1_1_0_0_n_n]
/-- The first block's offset. -/
theorem off12 (k : Fin k0_t3_loop.trips) : k0_off12 k = ![0, 2048 * k.val] := by
  revert k; decide +kernel
/-- A later block's offset. -/
theorem off13 (k : Fin k0_t3_loop.trips) : k0_off13 k = ![0, 2048 * k.val] := by
  revert k; decide +kernel
/-- A block of the small rows. -/
theorem read12 (A : C Ideal S848x14336 .bf16) (k : Fin k0_t3_loop.trips) (r : Fin 848) (x : Fin 2048) (h : 2048 * k.val + x.val < 14336) :
    (m16.view.readAt (Elt Ideal) (Rect.unit (s := S848x14336) (k0_off12 k) S848x2048.size (k0_off12_inb k)).toLoadRect A) (ix2 r x) = A (ix2 r ⟨2048 * k.val + x.val, h⟩) := by
  show A _ = A _
  refine congrArg A (emb2_ext (n0 := 848) (n1 := 14336) (a := 848) (b := 2048) (k0_off12 k) (k0_off12_inb k) _ _ ?_ ?_)
  · rw [off12]; show 0 + r.val = r.val; omega
  · rw [off12]; rfl
/-- A block of the input. -/
theorem read13 (X : C Ideal S128x14336 .bf16) (k : Fin k0_t3_loop.trips) (t : Fin 128) (x : Fin 2048) (h : 2048 * k.val + x.val < 14336) :
    (m14.view.readAt (Elt Ideal) (Rect.unit (s := S128x14336) (k0_off13 k) S128x2048.size (k0_off13_inb k)).toLoadRect X) (ix2 t x) = X (ix2 t ⟨2048 * k.val + x.val, h⟩) := by
  show X _ = X _
  refine congrArg X (emb2_ext (n0 := 128) (n1 := 14336) (a := 128) (b := 2048) (k0_off13 k) (k0_off13_inb k) _ _ ?_ ?_)
  · rw [off13]; show 0 + t.val = t.val; omega
  · rw [off13]; rfl

/-- A block of 2048 terms of a sum over 14336. -/
def blk (f : Fin 14336 → EReal) (k : ℕ) : EReal := ∑ x : Fin 2048, if h : 2048 * k + x.val < 14336 then f ⟨2048 * k + x.val, h⟩ else 0

/-- The product after some trips is a sum over the blocks so far. -/
theorem HV_at (X : C Ideal S128x14336 .bf16) (A : C Ideal S848x14336 .bf16) (r : Fin 848) (t : Fin 128) (n : ℕ) (hn : n ≤ 7) :
    HV X A n (ix2 r t) = ∑ k ∈ Finset.range n, blk (fun d => A (ix2 r d) * X (ix2 t d)) k := by
  induction n with
  | zero => exact pay30_at _
  | succ n ih =>
    have hk : n < k0_t3_loop.trips := by rw [trips3]; omega
    rw [show HV X A (n + 1) = _ from HV_succ X A ⟨n, hk⟩, pay31_at, Finset.sum_range_succ, ← ih (by omega)]
    refine congrArg (HV X A n (ix2 r t) + ·) ?_
    unfold blk
    refine Finset.sum_congr rfl fun x _ => ?_
    have h : 2048 * n + x.val < 14336 := by have := x.isLt; omega
    rw [dif_pos h, read12 A ⟨n, hk⟩ r x h, read13 X ⟨n, hk⟩ t x h]

/-- The blocks' sums make the whole sum. -/
theorem sum_blk (f : Fin 14336 → EReal) : ∑ k ∈ Finset.range 7, blk f k = ∑ d, f d := by
  have h14 : 7 * 2048 = 14336 := by norm_num
  rw [← Equiv.sum_comp ((finProdFinEquiv (m := 7) (n := 2048)).trans (finCongr h14)) f, Fintype.sum_prod_type, Finset.sum_range]
  refine Finset.sum_congr rfl fun k _ => ?_
  unfold blk
  refine Finset.sum_congr rfl fun x _ => ?_
  have h : 2048 * k.val + x.val < 14336 := by have := x.isLt; have := k.isLt; omega
  rw [dif_pos h]
  refine congrArg f (Fin.ext ?_)
  show 2048 * k.val + x.val = x.val + 2048 * k.val
  omega

/-- The product after all trips. -/
theorem HV_all (X : C Ideal S128x14336 .bf16) (A : C Ideal S848x14336 .bf16) (r : Fin 848) (t : Fin 128) :
    HV X A k0_t3_loop.trips (ix2 r t) = ∑ d, A (ix2 r d) * X (ix2 t d) := by
  rw [trips3, HV_at X A r t 7 le_rfl, sum_blk]
end K
end Cert.Values
-- ==== Proof.Value.KGate.lean ====
/- The kernel's router and gates, element by element. -/
module

public import proofs.«01_k».proof.Proof.Value.KProd
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace K
open Cert.KernelIdeal Cert.KernelIdeal.Gen Cert.KernelIdeal.Hand
/-- The router's bias, laid along the rows. -/
theorem pay32_at (A : Vec Ideal S1x12 .f32) (e : Fin 12) : k0_pay32 (F := Ideal) A (ix1 e) = A (ix2 0 e) := by
  unfold k0_pay32
  pointwise []
  rw [Finset.sum_eq_single e (fun x _ h => by rw [eq_word_ne e x (fun h' => h h'.symm)]; rfl) (fun h => absurd (Finset.mem_univ e) h), eq_word]
  rfl
/-- A probability. -/
theorem pay33_at (A : Vec Ideal S12 .f32) (B : Vec Ideal S12x128 .f32) (e : Fin 12) (t : Fin 128) : k0_pay33 (F := Ideal) A B (ix2 e t) =
    Ideal.div (Ideal.exp (B (ix2 e t) + A (ix1 e) - Finset.univ.fold max (Ideal.ofBits .f32 4286578688#32) (fun x => B (ix2 x t) + A (ix1 x))))
      (∑ y, Ideal.exp (B (ix2 y t) + A (ix1 y) - Finset.univ.fold max (Ideal.ofBits .f32 4286578688#32) (fun x => B (ix2 x t) + A (ix1 x)))) := by
  unfold k0_pay33
  pointwise []
/-- The first selected probability. -/
theorem pay36_at (A : Vec Ideal S12 .f32) (B : Vec Ideal S12x128 .f32) (I : Vec Ideal S1x128 .i32) (t : Fin 128) (k : Fin 12) (hk : I (ix2 0 t) = BitVec.ofNat 32 k.val) :
    k0_pay36 (F := Ideal) A B I (ix2 0 t) = k0_pay33 (F := Ideal) A B (ix2 k t) := by
  unfold k0_pay36 k0_pay34
  generalize k0_pay33 A B = P
  pointwise []
  rw [hk, Finset.sum_eq_single k (fun x _ h => by rw [eq_word_ne x k h]; rfl) (fun h => absurd (Finset.mem_univ k) h), eq_word]
  rfl
/-- The second selected probability. -/
theorem pay37_at (A : Vec Ideal S12 .f32) (B : Vec Ideal S12x128 .f32) (I : Vec Ideal S1x128 .i32) (t : Fin 128) (k : Fin 12) (hk : I (ix2 0 t) = BitVec.ofNat 32 k.val) :
    k0_pay37 (F := Ideal) A B I (ix2 0 t) = k0_pay33 (F := Ideal) A B (ix2 k t) := by
  unfold k0_pay37 k0_pay35
  generalize k0_pay33 A B = P
  pointwise []
  rw [hk, Finset.sum_eq_single k (fun x _ h => by rw [eq_word_ne x k h]; rfl) (fun h => absurd (Finset.mem_univ k) h), eq_word]
  rfl
/-- The first gate. -/
theorem pay40_at (A : Vec Ideal S12 .f32) (B : Vec Ideal S12x128 .f32) (I J : Vec Ideal S1x128 .i32) (t : Fin 128) :
    k0_pay40 (F := Ideal) A B I J (ix2 0 t) = Ideal.div (k0_pay36 (F := Ideal) A B I (ix2 0 t)) (k0_pay36 (F := Ideal) A B I (ix2 0 t) + k0_pay37 (F := Ideal) A B J (ix2 0 t)) := by
  unfold k0_pay40 k0_pay38
  generalize k0_pay36 A B I = P
  generalize k0_pay37 A B J = Q
  pointwise []
/-- The second gate. -/
theorem pay41_at (A : Vec Ideal S12 .f32) (B : Vec Ideal S12x128 .f32) (I J : Vec Ideal S1x128 .i32) (t : Fin 128) :
    k0_pay41 (F := Ideal) A B I J (ix2 0 t) = Ideal.div (k0_pay37 (F := Ideal) A B J (ix2 0 t)) (k0_pay36 (F := Ideal) A B I (ix2 0 t) + k0_pay37 (F := Ideal) A B J (ix2 0 t)) := by
  unfold k0_pay41 k0_pay39
  generalize k0_pay36 A B I = P
  generalize k0_pay37 A B J = Q
  pointwise []
end K
end Cert.Values
-- ==== Proof.Value.KOut.lean ====
/- The kernel's weighted small rows: each expert's 64 rows with its weight, the shared adapter's with its constant. -/
module

public import proofs.«01_k».proof.Proof.Value.KGate
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace K
open Cert.KernelIdeal Cert.KernelIdeal.Gen Cert.KernelIdeal.Hand

/-- The two chosen experts' weights summed into one of twelve, a quarter of it. -/
theorem pay44_at (p q : IVec S12x128 1) (g : FVec Ideal S1x128 .f32) (A B : FVec Ideal S12x128 .f32) (e : Fin 12) (t : Fin 128) :
    k0_pay44 (F := Ideal) p q g A B (ix2 e t) = (Scalar.select (p (ix2 e t)) (A (ix2 e t)) (B (ix2 e t)) + Scalar.select (q (ix2 e t)) (g (ix2 0 t)) 0) * Ideal.ofBits .f32 1048576000#32 := by
  unfold k0_pay44
  pointwise []
/-- An expert's row times its weight. -/
theorem pay45_at (p q : IVec S12x128 1) (g : FVec Ideal S1x128 .f32) (A B : FVec Ideal S12x128 .f32) (h : Vec Ideal S64x128 .f32) (r : Fin 64) (t : Fin 128) :
    k0_pay45 (F := Ideal) p q g A B h (ix2 r t) = h (ix2 r t) * k0_pay44 (F := Ideal) p q g A B (ix2 0 t) := by
  unfold k0_pay45
  pointwise []
/-- An expert's row times its weight. -/
theorem pay46_at (p q : IVec S12x128 1) (g : FVec Ideal S1x128 .f32) (A B : FVec Ideal S12x128 .f32) (h : Vec Ideal S64x128 .f32) (r : Fin 64) (t : Fin 128) :
    k0_pay46 (F := Ideal) p q g A B h (ix2 r t) = h (ix2 r t) * k0_pay44 (F := Ideal) p q g A B (ix2 1 t) := by
  unfold k0_pay46
  pointwise []
/-- An expert's row times its weight. -/
theorem pay47_at (p q : IVec S12x128 1) (g : FVec Ideal S1x128 .f32) (A B : FVec Ideal S12x128 .f32) (h : Vec Ideal S64x128 .f32) (r : Fin 64) (t : Fin 128) :
    k0_pay47 (F := Ideal) p q g A B h (ix2 r t) = h (ix2 r t) * k0_pay44 (F := Ideal) p q g A B (ix2 2 t) := by
  unfold k0_pay47
  pointwise []
/-- An expert's row times its weight. -/
theorem pay48_at (p q : IVec S12x128 1) (g : FVec Ideal S1x128 .f32) (A B : FVec Ideal S12x128 .f32) (h : Vec Ideal S64x128 .f32) (r : Fin 64) (t : Fin 128) :
    k0_pay48 (F := Ideal) p q g A B h (ix2 r t) = h (ix2 r t) * k0_pay44 (F := Ideal) p q g A B (ix2 3 t) := by
  unfold k0_pay48
  pointwise []
/-- An expert's row times its weight. -/
theorem pay49_at (p q : IVec S12x128 1) (g : FVec Ideal S1x128 .f32) (A B : FVec Ideal S12x128 .f32) (h : Vec Ideal S64x128 .f32) (r : Fin 64) (t : Fin 128) :
    k0_pay49 (F := Ideal) p q g A B h (ix2 r t) = h (ix2 r t) * k0_pay44 (F := Ideal) p q g A B (ix2 4 t) := by
  unfold k0_pay49
  pointwise []
/-- An expert's row times its weight. -/
theorem pay50_at (p q : IVec S12x128 1) (g : FVec Ideal S1x128 .f32) (A B : FVec Ideal S12x128 .f32) (h : Vec Ideal S64x128 .f32) (r : Fin 64) (t : Fin 128) :
    k0_pay50 (F := Ideal) p q g A B h (ix2 r t) = h (ix2 r t) * k0_pay44 (F := Ideal) p q g A B (ix2 5 t) := by
  unfold k0_pay50
  pointwise []
/-- An expert's row times its weight. -/
theorem pay51_at (p q : IVec S12x128 1) (g : FVec Ideal S1x128 .f32) (A B : FVec Ideal S12x128 .f32) (h : Vec Ideal S64x128 .f32) (r : Fin 64) (t : Fin 128) :
    k0_pay51 (F := Ideal) p q g A B h (ix2 r t) = h (ix2 r t) * k0_pay44 (F := Ideal) p q g A B (ix2 6 t) := by
  unfold k0_pay51
  pointwise []
/-- An expert's row times its weight. -/
theorem pay52_at (p q : IVec S12x128 1) (g : FVec Ideal S1x128 .f32) (A B : FVec Ideal S12x128 .f32) (h : Vec Ideal S64x128 .f32) (r : Fin 64) (t : Fin 128) :
    k0_pay52 (F := Ideal) p q g A B h (ix2 r t) = h (ix2 r t) * k0_pay44 (F := Ideal) p q g A B (ix2 7 t) := by
  unfold k0_pay52
  pointwise []
/-- The first selection's one-hot entry. -/
theorem pay34_at (I : Vec Ideal S1x128 .i32) (e : Fin 12) (t : Fin 128) : k0_pay34 (F := Ideal) I (ix2 e t) = IntOp.cmpi .eq (BitVec.ofNat 32 e) (I (ix2 0 t)) := by
  unfold k0_pay34
  pointwise []
/-- The second selection's one-hot entry. -/
theorem pay35_at (I : Vec Ideal S1x128 .i32) (e : Fin 12) (t : Fin 128) : k0_pay35 (F := Ideal) I (ix2 e t) = IntOp.cmpi .eq (BitVec.ofNat 32 e) (I (ix2 0 t)) := by
  unfold k0_pay35
  pointwise []
/-- The first gate, laid over the experts. -/
theorem pay42_at (A : Vec Ideal S12 .f32) (B : Vec Ideal S12x128 .f32) (I J : Vec Ideal S1x128 .i32) (e : Fin 12) (t : Fin 128) :
    k0_pay42 (F := Ideal) A B I J (ix2 e t) = k0_pay40 (F := Ideal) A B I J (ix2 0 t) := by
  rw [pay40_at]
  unfold k0_pay42 k0_pay38
  generalize k0_pay36 A B I = P
  generalize k0_pay37 A B J = Q
  pointwise []
/-- The second gate. -/
theorem pay39_at (A : Vec Ideal S12 .f32) (B : Vec Ideal S12x128 .f32) (I J : Vec Ideal S1x128 .i32) (t : Fin 128) :
    k0_pay39 (F := Ideal) A B I J (ix2 0 t) = k0_pay41 (F := Ideal) A B I J (ix2 0 t) := by
  rw [pay41_at]
  unfold k0_pay39
  generalize k0_pay36 A B I = P
  generalize k0_pay37 A B J = Q
  pointwise []
/-- The zero that stands where an expert is not selected. -/
theorem pay43_at (e : Fin 12) (t : Fin 128) : k0_pay43 (F := Ideal) (ix2 e t) = (0 : EReal) := by
  unfold k0_pay43
  pointwise []

/-- The thirteen pieces laid one above the other. -/
def pcs (g : FVec Ideal S12x128 .f32) (a0 a1 a2 a3 a4 a5 a6 a7 a8 a9 a10 a11 a12 : Vec Ideal S64x128 .f32) : Fin 13 → FVec Ideal S64x128 .f32 :=
  ![a0, a1, a2, a3, a4, a5, a6, a7,
    mulf (F := Ideal) (φ := .f32) a8 (broadcastTo S64x128 (extractStridedSlice S1x128 ![8, 0] g slices_S12x128_o8_0_S1x128) broadcasts_S1x128_S64x128),
    mulf (F := Ideal) (φ := .f32) a9 (broadcastTo S64x128 (extractStridedSlice S1x128 ![9, 0] g slices_S12x128_o9_0_S1x128) broadcasts_S1x128_S64x128),
    mulf (F := Ideal) (φ := .f32) a10 (broadcastTo S64x128 (extractStridedSlice S1x128 ![10, 0] g slices_S12x128_o10_0_S1x128) broadcasts_S1x128_S64x128),
    mulf (F := Ideal) (φ := .f32) a11 (broadcastTo S64x128 (extractStridedSlice S1x128 ![11, 0] g slices_S12x128_o11_0_S1x128) broadcasts_S1x128_S64x128),
    mulf (F := Ideal) (φ := .f32) a12 (broadcast S64x128 (Scalar.ofBits (F := Ideal) .f32 0x3E800000#32))]

/-- Those pieces as one array. -/
def cat13 (f : Fin 13 → FVec Ideal S64x128 .f32) : FVec Ideal S832x128 .f32 :=
  concatenate S832x128 0 (List.ofFn fun n : Fin 13 => (⟨S64x128, f n⟩ : (s : Shape) × (s.Idx → Ideal .f32))) concatenates_S64x128_S64x128_S64x128_S64x128_S64x128_S64x128_S64x128_S64x128_S64x128_S64x128_S64x128_S64x128_S64x128_S832x128_d0

/-- The stacked pieces at an element. -/
theorem cat13_at (f : Fin 13 → FVec Ideal S64x128 .f32) (e : Fin 13) (r : Fin 64) (t : Fin 128) (h : 64 * e.val + r.val < 832) :
    cat13 f (ix2 ⟨64 * e.val + r.val, h⟩ t) = f e (ix2 r t) := by
  unfold cat13
  have hr : S64x128.rank = S832x128.rank := rfl
  have hK : S64x128.size ((0 : Fin S832x128.rank).cast hr.symm) = 64 := rfl
  let j : S832x128.Idx := ix2 (n0 := 832) (n1 := 128) ⟨64 * e.val + r.val, h⟩ t
  let i : S64x128.Idx := ix2 (n0 := 64) (n1 := 128) r t
  refine Idealize.ShloMosaic.concatenate_ofFn_apply (α := Ideal .f32) (t := S832x128) (s₁ := S64x128) 0 f _ hr 64 hK j e ?_ i ?_ ?_
  · show (64 * e.val + r.val) / 64 = e.val
    have := r.isLt; omega
  · show r.val = (64 * e.val + r.val) % 64
    have := r.isLt; omega
  · intro b hb
    match b with
    | ⟨0, _⟩ => exact absurd rfl hb
    | ⟨1, _⟩ => rfl

/-- The stored rows are the stacked pieces, transposed. -/
theorem pay53_eq (g : FVec Ideal S12x128 .f32) (a0 a1 a2 a3 a4 a5 a6 a7 a8 a9 a10 a11 a12 : Vec Ideal S64x128 .f32) : k0_pay53 (F := Ideal) g a0 a1 a2 a3 a4 a5 a6 a7 a8 a9 a10 a11 a12 =
    shapeCast S128x832 (truncf (F := Ideal) .bf16 (transpose S128x832 [1, 0] (cat13 (pcs g a0 a1 a2 a3 a4 a5 a6 a7 a8 a9 a10 a11 a12)) transposes_S832x128_p1_0_S128x832) bitsLt_bf16_f32) shapeCasts_S128x832_S128x832 := rfl

/-- The stored rows at an element. -/
theorem pay53_at (g : FVec Ideal S12x128 .f32) (a0 a1 a2 a3 a4 a5 a6 a7 a8 a9 a10 a11 a12 : Vec Ideal S64x128 .f32) (e : Fin 13) (r : Fin 64) (t : Fin 128) (h : 64 * e.val + r.val < 832) :
    k0_pay53 (F := Ideal) g a0 a1 a2 a3 a4 a5 a6 a7 a8 a9 a10 a11 a12 (ix2 t ⟨64 * e.val + r.val, h⟩) = pcs g a0 a1 a2 a3 a4 a5 a6 a7 a8 a9 a10 a11 a12 e (ix2 r t) := by
  rw [pay53_eq, ← cat13_at (pcs g a0 a1 a2 a3 a4 a5 a6 a7 a8 a9 a10 a11 a12) e r t h]
  generalize cat13 (pcs g a0 a1 a2 a3 a4 a5 a6 a7 a8 a9 a10 a11 a12) = G
  pointwise []

/-- An expert's piece, weighted. -/
theorem pcs8 (g : FVec Ideal S12x128 .f32) (a0 a1 a2 a3 a4 a5 a6 a7 a8 a9 a10 a11 a12 : Vec Ideal S64x128 .f32) (r : Fin 64) (t : Fin 128) : pcs g a0 a1 a2 a3 a4 a5 a6 a7 a8 a9 a10 a11 a12 8 (ix2 r t) = a8 (ix2 r t) * g (ix2 8 t) := by
  show mulf (F := Ideal) (φ := .f32) a8 (broadcastTo S64x128 (extractStridedSlice S1x128 ![8, 0] g slices_S12x128_o8_0_S1x128) broadcasts_S1x128_S64x128) (ix2 r t) = _
  pointwise []

/-- An expert's piece, weighted. -/
theorem pcs9 (g : FVec Ideal S12x128 .f32) (a0 a1 a2 a3 a4 a5 a6 a7 a8 a9 a10 a11 a12 : Vec Ideal S64x128 .f32) (r : Fin 64) (t : Fin 128) : pcs g a0 a1 a2 a3 a4 a5 a6 a7 a8 a9 a10 a11 a12 9 (ix2 r t) = a9 (ix2 r t) * g (ix2 9 t) := by
  show mulf (F := Ideal) (φ := .f32) a9 (broadcastTo S64x128 (extractStridedSlice S1x128 ![9, 0] g slices_S12x128_o9_0_S1x128) broadcasts_S1x128_S64x128) (ix2 r t) = _
  pointwise []

/-- An expert's piece, weighted. -/
theorem pcs10 (g : FVec Ideal S12x128 .f32) (a0 a1 a2 a3 a4 a5 a6 a7 a8 a9 a10 a11 a12 : Vec Ideal S64x128 .f32) (r : Fin 64) (t : Fin 128) : pcs g a0 a1 a2 a3 a4 a5 a6 a7 a8 a9 a10 a11 a12 10 (ix2 r t) = a10 (ix2 r t) * g (ix2 10 t) := by
  show mulf (F := Ideal) (φ := .f32) a10 (broadcastTo S64x128 (extractStridedSlice S1x128 ![10, 0] g slices_S12x128_o10_0_S1x128) broadcasts_S1x128_S64x128) (ix2 r t) = _
  pointwise []

/-- An expert's piece, weighted. -/
theorem pcs11 (g : FVec Ideal S12x128 .f32) (a0 a1 a2 a3 a4 a5 a6 a7 a8 a9 a10 a11 a12 : Vec Ideal S64x128 .f32) (r : Fin 64) (t : Fin 128) : pcs g a0 a1 a2 a3 a4 a5 a6 a7 a8 a9 a10 a11 a12 11 (ix2 r t) = a11 (ix2 r t) * g (ix2 11 t) := by
  show mulf (F := Ideal) (φ := .f32) a11 (broadcastTo S64x128 (extractStridedSlice S1x128 ![11, 0] g slices_S12x128_o11_0_S1x128) broadcasts_S1x128_S64x128) (ix2 r t) = _
  pointwise []

/-- The shared adapter's piece. -/
theorem pcs12 (g : FVec Ideal S12x128 .f32) (a0 a1 a2 a3 a4 a5 a6 a7 a8 a9 a10 a11 a12 : Vec Ideal S64x128 .f32) (r : Fin 64) (t : Fin 128) : pcs g a0 a1 a2 a3 a4 a5 a6 a7 a8 a9 a10 a11 a12 12 (ix2 r t) = a12 (ix2 r t) * Ideal.ofBits .f32 1048576000#32 := by
  show mulf (F := Ideal) (φ := .f32) a12 (broadcast S64x128 (Scalar.ofBits (F := Ideal) .f32 0x3E800000#32)) (ix2 r t) = _
  pointwise []

/-- Sixty-four rows of the product, as read. -/
theorem rows_at (H : C Ideal S848x128 .f32) (n : ℕ) (inb : ∀ a, (![n, 0] : Fin 2 → ℕ) a + S64x128.size a ≤ S848x128.size a) (r : Fin 64) (t : Fin 128) (h : n + r.val < 848) :
    m17.view.readAt (Elt Ideal) (Rect.unit (s := S848x128) ![n, 0] S64x128.size inb).toLoadRect H (ix2 r t) = H (ix2 ⟨n + r.val, h⟩ t) := by
  show H _ = H _
  refine congrArg H (emb2_ext (n0 := 848) (n1 := 128) (a := 64) (b := 128) ![n, 0] inb _ _ ?_ ?_)
  · rfl
  · show 0 + t.val = t.val; omega

/-- The router's rows of the product, as read. -/
theorem hR_at (H : C Ideal S848x128 .f32) (e : Fin 12) (t : Fin 128) : hR H (ix2 e t) = H (ix2 ⟨832 + e.val, by omega⟩ t) := by
  show H _ = H _
  refine congrArg H (emb2_ext (n0 := 848) (n1 := 128) (a := 12) (b := 128) ![832, 0] inb_S848x128_S12x128_832_0 _ _ ?_ ?_)
  · rfl
  · show 0 + t.val = t.val; omega

/-- The first selections, as read. -/
theorem i0_at (ix : C Ideal S2x128 .i32) (t : Fin 128) : i0 (F := Ideal) ix (ix2 0 t) = ix (ix2 0 t) := by
  show ix _ = ix _
  refine congrArg ix (emb2_ext (n0 := 2) (n1 := 128) (a := 1) (b := 128) ![0, 0] inb_S2x128_S1x128_0_0 _ _ ?_ ?_)
  · rfl
  · show 0 + t.val = t.val; omega
/-- The second selections, as read. -/
theorem i1_at (ix : C Ideal S2x128 .i32) (t : Fin 128) : i1 (F := Ideal) ix (ix2 0 t) = ix (ix2 1 t) := by
  show ix _ = ix _
  refine congrArg ix (emb2_ext (n0 := 2) (n1 := 128) (a := 1) (b := 128) ![1, 0] inb_S2x128_S1x128_1_0 _ _ ?_ ?_)
  · rfl
  · show 0 + t.val = t.val; omega

section
variable (rb : C Ideal S1x12 .f32) (ix : C Ideal S2x128 .i32) (H : C Ideal S848x128 .f32)

/-- The first row of gates. -/
theorem GT0 (t : Fin 128) : GT rb ix H (ix2 0 t) = k0_pay40 (F := Ideal) (k0_pay32 rb) (hR H) (i0 ix) (i1 ix) (ix2 0 t) := if_pos rfl
/-- The second row of gates. -/
theorem GT1 (t : Fin 128) : GT rb ix H (ix2 1 t) = k0_pay41 (F := Ideal) (k0_pay32 rb) (hR H) (i0 ix) (i1 ix) (ix2 0 t) := if_neg Nat.one_ne_zero

/-- The weight of an expert's adapter. -/
def WK : FVec Ideal S12x128 .f32 := k0_pay44 (F := Ideal) (k0_pay34 (i0 ix)) (k0_pay35 (i1 ix)) (g1 rb ix H) (g2 rb ix H) k0_pay43

/-- The weight of an expert. -/
theorem WK_at (e : Fin 12) (t : Fin 128) : WK rb ix H (ix2 e t) =
    (Scalar.select (IntOp.cmpi .eq (BitVec.ofNat 32 e) (ix (ix2 0 t))) (GT rb ix H (ix2 0 t) : EReal) 0 + Scalar.select (IntOp.cmpi .eq (BitVec.ofNat 32 e) (ix (ix2 1 t))) (GT rb ix H (ix2 1 t) : EReal) 0) * Ideal.ofBits .f32 1048576000#32 := by
  unfold WK
  rw [pay44_at, pay34_at, pay35_at, i0_at, i1_at, pay43_at]
  unfold g1 g2
  rw [pay42_at, pay39_at, ← GT0, ← GT1]

/-- A stored row of an expert. -/
theorem HB_expert (e : Fin 12) (r : Fin 64) (t : Fin 128) (h : 64 * e.val + r.val < 832) :
    HB rb ix H (ix2 t ⟨64 * e.val + r.val, h⟩) = H (ix2 ⟨64 * e.val + r.val, by omega⟩ t) * WK rb ix H (ix2 e t) := by
  have hh := r.isLt
  unfold HB
  refine (pay53_at _ _ _ _ _ _ _ _ _ _ _ _ _ _ e.castSucc r t h).trans ?_
  match e with
  | ⟨0, _⟩ => exact (pay45_at _ _ _ _ _ (h0 H) r t).trans (congrArg (· * WK rb ix H (ix2 0 t)) (rows_at H 0 inb_S848x128_S64x128_0_0 r t (by omega)))
  | ⟨1, _⟩ => exact (pay46_at _ _ _ _ _ (h1 H) r t).trans (congrArg (· * WK rb ix H (ix2 1 t)) (rows_at H 64 inb_S848x128_S64x128_64_0 r t (by omega)))
  | ⟨2, _⟩ => exact (pay47_at _ _ _ _ _ (h2 H) r t).trans (congrArg (· * WK rb ix H (ix2 2 t)) (rows_at H 128 inb_S848x128_S64x128_128_0 r t (by omega)))
  | ⟨3, _⟩ => exact (pay48_at _ _ _ _ _ (h3 H) r t).trans (congrArg (· * WK rb ix H (ix2 3 t)) (rows_at H 192 inb_S848x128_S64x128_192_0 r t (by omega)))
  | ⟨4, _⟩ => exact (pay49_at _ _ _ _ _ (h4 H) r t).trans (congrArg (· * WK rb ix H (ix2 4 t)) (rows_at H 256 inb_S848x128_S64x128_256_0 r t (by omega)))
  | ⟨5, _⟩ => exact (pay50_at _ _ _ _ _ (h5 H) r t).trans (congrArg (· * WK rb ix H (ix2 5 t)) (rows_at H 320 inb_S848x128_S64x128_320_0 r t (by omega)))
  | ⟨6, _⟩ => exact (pay51_at _ _ _ _ _ (h6 H) r t).trans (congrArg (· * WK rb ix H (ix2 6 t)) (rows_at H 384 inb_S848x128_S64x128_384_0 r t (by omega)))
  | ⟨7, _⟩ => exact (pay52_at _ _ _ _ _ (h7 H) r t).trans (congrArg (· * WK rb ix H (ix2 7 t)) (rows_at H 448 inb_S848x128_S64x128_448_0 r t (by omega)))
  | ⟨8, _⟩ => exact (pcs8 _ _ _ _ _ _ _ _ _ _ _ _ _ _ r t).trans (congrArg (· * WK rb ix H (ix2 8 t)) (rows_at H 512 inb_S848x128_S64x128_512_0 r t (by omega)))
  | ⟨9, _⟩ => exact (pcs9 _ _ _ _ _ _ _ _ _ _ _ _ _ _ r t).trans (congrArg (· * WK rb ix H (ix2 9 t)) (rows_at H 576 inb_S848x128_S64x128_576_0 r t (by omega)))
  | ⟨10, _⟩ => exact (pcs10 _ _ _ _ _ _ _ _ _ _ _ _ _ _ r t).trans (congrArg (· * WK rb ix H (ix2 10 t)) (rows_at H 640 inb_S848x128_S64x128_640_0 r t (by omega)))
  | ⟨11, _⟩ => exact (pcs11 _ _ _ _ _ _ _ _ _ _ _ _ _ _ r t).trans (congrArg (· * WK rb ix H (ix2 11 t)) (rows_at H 704 inb_S848x128_S64x128_704_0 r t (by omega)))

/-- A stored row of the shared adapter. -/
theorem HB_shared (r : Fin 64) (t : Fin 128) (h : 768 + r.val < 832) :
    HB rb ix H (ix2 t ⟨768 + r.val, h⟩) = H (ix2 ⟨768 + r.val, by omega⟩ t) * Ideal.ofBits .f32 1048576000#32 := by
  unfold HB
  refine (pay53_at _ _ _ _ _ _ _ _ _ _ _ _ _ _ 12 r t h).trans ?_
  exact (pcs12 _ _ _ _ _ _ _ _ _ _ _ _ _ _ r t).trans (congrArg (· * Ideal.ofBits .f32 1048576000#32) (rows_at H 768 inb_S848x128_S64x128_768_0 r t (by omega)))
end
end K
end Cert.Values
-- ==== Proof.Value.KEnd.lean ====
/- The kernel's main result, element by element. -/
module

public import proofs.«01_k».proof.Proof.Value.KGate
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace K
open Cert.KernelIdeal Cert.KernelIdeal.Gen Cert.KernelIdeal.Hand
/-- A block of the main result at an element. -/
theorem pay54_at (a : Vec Ideal S128x14336 .fp8e4m3) (b : Vec Ideal S1x14336x512 .fp8e4m3) (c : Vec Ideal S128x832 .bf16) (d : Vec Ideal S832x512 .bf16) (e : Vec Ideal S128x128 .f32) (f : Vec Ideal S1x512 .f32) (t : Fin 128) (o : Fin 512) (s : EReal)
    (he : ∀ l : Fin 128, e (ix2 t l) = s) :
    k0_pay54 (F := Ideal) a b c d e f (ix2 t o) = (∑ x : Fin 14336, a (ix2 t x) * b (ix3 0 x o)) * s * f (ix2 0 o) + ∑ x : Fin 832, c (ix2 t x) * d (ix2 x o) := by
  pointwise [k0_pay54]
  simp only [he]
  split_ifs <;> rfl

section
variable (X : C Ideal S128x14336 .bf16) (w : C Ideal S14336x4096 .fp8e4m3) (hb : C Ideal S128x832 .bf16) (bv : C Ideal S832x4096 .bf16) (ws : C Ideal S1x4096 .f32)

/-- The kernel's main result at an element. -/
theorem OF_at (t : Fin 128) (o : Fin 4096) (hv : rv X t < pw 253) :
    OF X w hb bv ws (ix2 t o) = (∑ x : Fin 14336, QF X (ix2 t x) * w (ix2 x o)) * scl (rv X t) * ws (ix2 0 o) + ∑ x : Fin 832, hb (ix2 t x) * bv (ix2 x o) := by
  have ho : 512 * (o.val / 512) + o.val % 512 = o.val := Nat.div_add_mod _ _
  show k0_pay54 (F := Ideal) (QF X) (wr w ⟨o.val / 512, by omega⟩) hb (br bv ⟨o.val / 512, by omega⟩) (XSV X) (wsr ws ⟨o.val / 512, by omega⟩) (ix2 t ⟨o.val % 512, Nat.mod_lt _ (by decide)⟩) = _
  refine (pay54_at _ _ _ _ _ _ t _ (scl (rv X t)) (fun l => XSV_at X t l hv)).trans ?_
  have e1 : ∀ x : Fin 14336, wr w ⟨o.val / 512, by omega⟩ (ix3 0 x ⟨o.val % 512, Nat.mod_lt _ (by decide)⟩) = w (ix2 x o) := fun x =>
    congrArg (fun k => w (ix2 x k)) (Fin.ext ho)
  have e2 : ∀ x : Fin 832, br bv ⟨o.val / 512, by omega⟩ (ix2 x ⟨o.val % 512, Nat.mod_lt _ (by decide)⟩) = bv (ix2 x o) := fun x =>
    congrArg (fun k => bv (ix2 x k)) (Fin.ext ho)
  have e3 : wsr ws ⟨o.val / 512, by omega⟩ (ix2 0 ⟨o.val % 512, Nat.mod_lt _ (by decide)⟩) = ws (ix2 0 o) :=
    congrArg (fun k => ws (ix2 0 k)) (Fin.ext ho)
  simp only [e1, e2, e3]
end
end K
end Cert.Values
-- ==== Proof.Value.HostReads.lean ====
/- The kernel's host-side rearrangements of its arguments, element by element. -/
module

public import proofs.«01_k».proof.Proof.Value.KRun
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace K
open Cert.KernelIdeal Cert.KernelIdeal.Gen Cert.KernelIdeal.Hand
/-- The reshaped input. -/
theorem v0_at (x : FVec Ideal S1x128x14336 .bf16) (t : Fin 128) (d : Fin 14336) : shapeCast S128x14336 x shapeCasts_S1x128x14336_S128x14336 (ix2 t d) = x (ix3 0 t d) := by
  pointwise []
/-- The reshaped codes. -/
theorem v15_at (x : FVec Ideal S128x14336 .fp8e4m3) (t : Fin 128) (d : Fin 14336) : shapeCast S1x128x14336 x shapeCasts_S128x14336_S1x128x14336 (ix3 0 t d) = x (ix2 t d) := by
  pointwise []

/-- The padded router's weight, in its twelve rows. -/
theorem pad_at (w : FVec Ideal S14336x12 .bf16) (z : FVec Ideal S_ .bf16) (e : Fin 12) (d : Fin 14336) :
    pad S16x14336 ![0, 0] ![4, 0] ![0, 0] (transpose S12x14336 [1, 0] w transposes_S14336x12_S12x14336_1_0) z pads_S12x14336_S16x14336_040_000 h_S_ (ix2 ⟨e.val, by omega⟩ d) = w (ix2 d e) := by
  pointwise []

/-- The stacked left factors. -/
theorem v8_at (a : FVec Ideal S12x14336x64 .bf16) (e : Fin 12) (r : Fin 64) (d : Fin 14336) (h : 64 * e.val + r.val < 768) :
    shapeCast S768x14336 (transpose S12x64x14336 [0, 2, 1] a transposes_S12x14336x64_S12x64x14336_0_2_1) shapeCasts_S12x64x14336_S768x14336 (ix2 ⟨64 * e.val + r.val, h⟩ d) = a (ix3 e d r) := by
  have e1 : (transpose S12x64x14336 [0, 2, 1] a transposes_S12x14336x64_S12x64x14336_0_2_1) (ix3 e r d) = a (ix3 e d r) := by pointwise []
  rw [← e1]
  generalize transpose S12x64x14336 [0, 2, 1] a transposes_S12x14336x64_S12x64x14336_0_2_1 = G
  pointwise []

/-- The stacked right factors. -/
theorem v9_at (a : FVec Ideal S12x64x4096 .bf16) (e : Fin 12) (r : Fin 64) (d : Fin 4096) (h : 64 * e.val + r.val < 768) :
    shapeCast S768x4096 a shapeCasts_S12x64x4096_S768x4096 (ix2 ⟨64 * e.val + r.val, h⟩ d) = a (ix3 e r d) := by
  pointwise []

/-- The transposed shared left factor. -/
theorem v10_at (a : FVec Ideal S14336x64 .bf16) (r : Fin 64) (d : Fin 14336) :
    transpose S64x14336 [1, 0] a transposes_S14336x64_S64x14336_1_0 (ix2 r d) = a (ix2 d r) := by
  pointwise []
/-- The transposed selections. -/
theorem v6_at (i : IVec S1x128x2 32) (j : Fin 2) (t : Fin 128) : transpose S2x128 [1, 0] (shapeCast S128x2 i shapeCasts_S1x128x2_S128x2) transposes_S128x2_S2x128_1_0 (ix2 j t) = i (ix3 0 t j) := by
  pointwise []
/-- The reshaped bias. -/
theorem v4_at (b : FVec Ideal S12 .f32) (e : Fin 12) : shapeCast S1x12 b shapeCasts_S12_S1x12 (ix2 0 e) = b (ix1 e) := by
  pointwise []
/-- The reshaped weight's scales. -/
theorem v1_at (b : FVec Ideal S4096 .f32) (e : Fin 4096) : shapeCast S1x4096 b shapeCasts_S4096_S1x4096 (ix2 0 e) = b (ix1 e) := by
  pointwise []
/-- The reshaped main result. -/
theorem v12_at (b : FVec Ideal S128x4096 .bf16) (t : Fin 128) (e : Fin 4096) : shapeCast S1x128x4096 b shapeCasts_S128x4096_S1x128x4096 (ix3 0 t e) = b (ix2 t e) := by
  pointwise []
/-- The transposed gates. -/
theorem v14_at (g : FVec Ideal S2x128 .f32) (t : Fin 128) (j : Fin 2) : shapeCast S1x128x2 (transpose S128x2 [1, 0] g transposes_S2x128_S128x2_1_0) shapeCasts_S128x2_S1x128x2 (ix3 0 t j) = g (ix2 j t) := by
  pointwise []

end K
end Cert.Values
-- ==== Proof.Value.Ref.lean ====
/- The reference's quantiser and base product, element by element. -/
module

public import proofs.«01_k».proof.Proof.Value.RowMax
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic

namespace R
open Cert.ReferenceIdeal Cert.ReferenceIdeal.Gen

/-- The input as it is read. -/
theorem pay1_eq (V : Vec Ideal S128x14336 .bf16) : k0_pay1 (F := Ideal) V = V := by
  unfold k0_pay1
  rw [shapeCast_id]; rfl

/-- The scale of a row whose largest magnitude is given. -/
def sc (v4 : FVec Ideal S128 .f32) : FVec Ideal S128x1 .f32 :=
  have v5 : FVec Ideal S128x1 .f32 := shapeCast S128x1 v4 shapeCasts_S128_S128x1
  have v6 : FVec Ideal S128x1 .f32 := broadcast S128x1 (Scalar.ofBits .f32 0x3B124925#32)
  have v7 : FVec Ideal S128x1 .f32 := mulf v5 v6
  have v8 : IVec S128x254 32 := iota .tc S128x254 32 [1] iota_S128x254_d1_w32
  have v9 : IVec S128x254 32 := broadcast S128x254 1#32
  have v10 : IVec S128x254 32 := addi v8 v9
  have v11 : IVec S128x254 32 := broadcast S128x254 23#32
  have v12 : IVec S128x254 32 := shli v10 v11
  have v13 : FVec Ideal S128x254 .f32 := bitcastToFloat .f32 v12
  have v14 : FVec Ideal S128x1 .f32 := broadcast S128x1 (Scalar.ofBits .f32 0x00800000#32)
  have v15 : IVec S128x1 1 := cmpf .olt v7 v14
  have v16 : FVec Ideal S128x254 .f32 := broadcastTo S128x254 v7 broadcasts_S128x1_S128x254
  have v17 : IVec S128x254 1 := cmpf .ogt v13 v16
  have v18 : FVec Ideal S128x254 .f32 := broadcast S128x254 (Scalar.ofBits .f32 0x7F800000#32)
  have v19 : FVec Ideal S128x254 .f32 := select v17 v13 v18
  have v20 : FVec Ideal S128 .f32 := multiReduction .minimumf [1] S128 v19 0x7F800000#32 reduces_S128x254_S128 (.inl rfl) rfl
  have v21 : FVec Ideal S128x1 .f32 := shapeCast S128x1 v20 shapeCasts_S128_S128x1
  have v22 : FVec Ideal S128x1 .f32 := broadcast S128x1 (Scalar.ofBits .f32 0x3F800000#32)
  have v23 : FVec Ideal S128x1 .f32 := select v15 v22 v21
  v23

/-- The scale of a row, from its maximum. -/
theorem sc_at (M : FVec Ideal S128 .f32) (t : Fin 128) : sc M (ix2 t 0)
    = (if M (ix1 t) * Ideal.ofBits FTy.f32 991054117#32 < pw 1 then 1 else (Finset.univ : Finset (Fin 254)).fold min ⊤ fun k => if M (ix1 t) * Ideal.ofBits FTy.f32 991054117#32 < pw (k.val + 1) then pw (k.val + 1) else (⊤ : EReal)) := by
  pointwise [sc]
  have w : ∀ x : Fin 254, IntOp.shli ArithUnit.vector (IntOp.addi (BitVec.ofNat 32 x.val) 1#32) 23#32 = BitVec.ofNat 32 (x.val + 1) <<< 23 := by decide +kernel
  have e1 : Ideal.ofBits FTy.f32 8388608#32 = pw 1 := rfl
  have e2 : Ideal.ofBits FTy.f32 2139095040#32 = ⊤ := pw_top
  simp only [w, e1, e2]
  rfl

/-- A row's maximum. -/
theorem mr_at (A : FVec Ideal S128x14336 .f32) (t : Fin 128) :
    multiReduction .maximumf [1] S128 A 0xFF800000#32 reduces_S128x14336_S128 (.inl rfl) rfl (ix1 t) = (Finset.univ : Finset (Fin 14336)).fold max (Ideal.ofBits .f32 4286578688#32) fun d => A (ix2 t d) := by
  refine (Ideal.multiReduction_maximumf_single A _ _ _ _ _).trans ?_
  refine Finset.fold_congr fun d _ => congrArg A ?_
  funext a
  refine Fin.cases rfl (fun a => Fin.cases rfl (fun a => a.elim0) a) a

/-- The scale's text. -/
theorem pay2_eq (V : Vec Ideal S128x14336 .bf16) : k0_pay2 (F := Ideal) V = sc (multiReduction .maximumf [1] S128 (absf (φ := .f32) V) 0xFF800000#32 reduces_S128x14336_S128 (.inl rfl) rfl) := by
  have e : k0_pay2 (F := Ideal) V = sc (multiReduction .maximumf [1] S128 (absf (k0_pay1 V)) 0xFF800000#32 reduces_S128x14336_S128 (.inl rfl) rfl) := rfl
  rw [e, pay1_eq]

/-- The code's text. -/
def cd (v2 : FVec Ideal S128x14336 .f32) (s : FVec Ideal S128x1 .f32) : FVec Ideal S128x14336 .fp8e4m3 :=
  have v24 : FVec Ideal S128x1 .f32 := broadcast S128x1 (Scalar.ofBits .f32 0x3F800000#32)
  have v25 : FVec Ideal S128x1 .f32 := divf v24 s
  have v26 : FVec Ideal S128x14336 .f32 := broadcastTo S128x14336 v25 broadcasts_S128x1_S128x14336
  have v27 : FVec Ideal S128x14336 .f32 := mulf v2 v26
  have v28 : FVec Ideal S128x14336 .f32 := broadcast S128x14336 (Scalar.ofBits .f32 0xC3E00000#32)
  have v29 : FVec Ideal S128x14336 .f32 := maximumf v28 v27
  have v30 : FVec Ideal S128x14336 .f32 := broadcast S128x14336 (Scalar.ofBits .f32 0x43E00000#32)
  have v31 : FVec Ideal S128x14336 .f32 := minimumf v30 v29
  truncf .fp8e4m3 v31 bitsLt_fp8e4m3_f32

/-- The codes are that text. -/
theorem pay3_eq (V : Vec Ideal S128x14336 .bf16) : k0_pay3 (F := Ideal) V = cd V (k0_pay2 V) := by
  have e : k0_pay3 (F := Ideal) V = cd (k0_pay1 V) (k0_pay2 V) := rfl
  rw [e, pay1_eq]

/-- A code: the input times the reciprocal scale, clamped. -/
theorem cd_at (V : FVec Ideal S128x14336 .f32) (s : FVec Ideal S128x1 .f32) (t : Fin 128) (d : Fin 14336) : cd V s (ix2 t d) = min (Ideal.ofBits .f32 1138753536#32) (max (Ideal.ofBits .f32 3286237184#32) (V (ix2 t d) * Ideal.div 1 (s (ix2 t 0)))) := by
  pointwise [cd]

/-- What the row's scale is found from. -/
abbrev rv (X : Vec Ideal S128x14336 .bf16) (t : Fin 128) : EReal := rowv (fun t d => X (ix2 t d)) t

/-- The scale of a row. -/
theorem pay2_at (X : Vec Ideal S128x14336 .bf16) (t : Fin 128) (hv : rv X t < pw 253) : k0_pay2 (F := Ideal) X (ix2 t 0) = scl (rv X t) := by
  rw [pay2_eq, sc_at, ← min_cnt hv]
  rw [mr_at, ofBits_bot]
  rfl

/-- The code of an element. -/
theorem pay3_at (X : Vec Ideal S128x14336 .bf16) (t : Fin 128) (d : Fin 14336) (hv : rv X t < pw 253) : k0_pay3 (F := Ideal) X (ix2 t d) = code (fun t d => X (ix2 t d)) t d := by
  rw [pay3_eq, cd_at, pay2_at X t hv, div_scl]
  rfl

/-- The base product at an element. -/
theorem pay4_at (V : Vec Ideal S128x14336 .bf16) (W : Vec Ideal S14336x4096 .fp8e4m3) (t : Fin 128) (d : Fin 4096) : k0_pay4 (F := Ideal) V W (ix2 t d) = ∑ x : Fin 14336, (k0_pay3 (F := Ideal) V (ix2 t x) : EReal) * W (ix2 x d) := by
  pointwise [k0_pay4, dot_S128x14336_S14336x4096_S128x4096_1_0_0_1_n_n]
end R
end Cert.Values
-- ==== Proof.Value.RTail.lean ====
/- The reference's router and gates: named functions of the arguments, and the host lines that compute them. -/
module

public import proofs.«01_k».proof.Proof.Value.Ref
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace R
open Cert.ReferenceIdeal Cert.ReferenceIdeal.Gen

/-- The router's logits. -/
def logit (x : FVec Ideal S1x128x14336 .bf16) (w : FVec Ideal S14336x12 .bf16) (b : FVec Ideal S12 .f32) : FVec Ideal S1x128x12 .f32 :=
  addf (Host.dotGeneral dot_S1x128x14336_S14336x12_S1x128x12_2_0_01_1_n_n none x w)
    (broadcastInDim S1x128x12 ![0, 1, 2] bcast_S1x1x12_S1x128x12_0_1_2 (broadcastInDim S1x1x12 ![2] bcast_S12_S1x1x12_2 b))

/-- The exponentials of the logits less the row's largest. -/
def expo (l : FVec Ideal S1x128x12 .f32) : FVec Ideal S1x128x12 .f32 :=
  Host.exp (subf l (broadcastInDim S1x128x12 ![0, 1, 2] bcast_S1x128x1_S1x128x12_0_1_2 (broadcastInDim S1x128x1 ![0, 1] bcast_S1x128_S1x128x1_0_1
    (maximumf (broadcastInDim S1x128 ![] bcast_S_S1x128 (constant S_ FTy.f32 0xFF800000#32)) (Host.reduce FloatOps.maximumf l (constant S_ FTy.f32 0xFF800000#32) reducesTo_S1x128x12_S1x128_d2 h_S_)))))

/-- The softmax. -/
def soft (e : FVec Ideal S1x128x12 .f32) : FVec Ideal S1x128x12 .f32 :=
  Host.divf e (broadcastInDim S1x128x12 ![0, 1, 2] bcast_S1x128x1_S1x128x12_0_1_2 (broadcastInDim S1x128x1 ![0, 1] bcast_S1x128_S1x128x1_0_1
    (Host.reduceAdd e (constant S_ FTy.f32 0#32) reducesTo_S1x128x12_S1x128_d2 h_S_)))

/-- The chosen experts, a negative one counted from the end. -/
def wrapped (i : IVec S1x128x2 32) : IVec S128x2x1 32 :=
  shapeCast S128x2x1 (select (cmpi .slt i (broadcastInDim S1x128x2 ![] bcast_S_S1x128x2 (constantI S_ 32 0#32))) (addi i (broadcastInDim S1x128x2 ![] bcast_S_S1x128x2 (constantI S_ 32 12#32))) i) shapeCasts_S1x128x2_S128x2x1

/-- The softmax at the chosen experts. -/
def took (s : FVec Ideal S1x128x12 .f32) (i : IVec S1x128x2 32) : FVec Ideal S1x128x2 .f32 :=
  select (broadcastInDim S1x128x2 ![1, 2] bcast_S128x2_S1x128x2_1_2 (Host.reduce IntOp.andi
      (andi (cmpi .sge (wrapped i) (broadcastInDim S128x2x1 ![] bcast_S_S128x2x1 (constantI S_ 32 0#32)))
        (cmpi .sle (wrapped i) (broadcastInDim S128x2x1 ![0, 1, 2] bcast_S1x1x1_S128x2x1_0_1_2 (broadcastInDim S1x1x1 ![2] bcast_S1_S1x1x1_2 (constantI S1 32 11#32)))))
      (constantI S_ 1 1#1) reducesTo_S128x2x1_S128x2_d2 h_S_))
    (Host.gather gather_S1x128x12_S128x2x1_S1x128x2_0_2_1_0_2_2_111 s (wrapped i))
    (broadcastInDim S1x128x2 ![] bcast_S_S1x128x2 (constant S_ .f32 0x7FC00000#32))

/-- The gates. -/
def gates (p : FVec Ideal S1x128x2 .f32) : FVec Ideal S1x128x2 .f32 :=
  Host.divf p (broadcastInDim S1x128x2 ![0, 1, 2] bcast_S1x128x1_S1x128x2_0_1_2 (broadcastInDim S1x128x1 ![0, 1] bcast_S1x128_S1x128x1_0_1
    (Host.reduceAdd p (constant S_ FTy.f32 0#32) reducesTo_S1x128x2_S1x128_d2 h_S_)))

variable (V : Valuation τ sig (Elt Ideal))

/-- The host lines reshape the codes. -/
theorem t3 : StableHlo.after hostOps1 V (Proc.devRef .tc main_v3) = shapeCast S1x128x14336 (V (Proc.devRef .tc main_v1_1)) shapeCasts_S128x14336_S1x128x14336 := by
  after_results_simp
  rfl
/-- The host lines reshape the scales. -/
theorem t4 : StableHlo.after hostOps1 V (Proc.devRef .tc main_v4) = shapeCast S1x128 (V (Proc.devRef .tc main_v1_2)) shapeCasts_S128x1_S1x128 := by
  after_results_simp
  rfl
/-- The host lines compute the router's probabilities. -/
theorem t25 : StableHlo.after hostOps1 V (Proc.devRef .tc main_v25) = soft (expo (logit (V (Proc.devRef .tc main_arg0)) (V (Proc.devRef .tc main_arg3)) (V (Proc.devRef .tc main_arg4)))) := by
  after_results_simp
  rfl
/-- The host lines take the selected probabilities. -/
theorem t26 : StableHlo.after hostOps1_1 V (Proc.devRef .tc main_v26) = took (V (Proc.devRef .tc main_v25)) (V (Proc.devRef .tc main_arg5)) := by
  after_results_simp
  rfl
/-- The host lines compute the gates. -/
theorem t30 : StableHlo.after hostOps1_2 V (Proc.devRef .tc main_v30) = gates (V (Proc.devRef .tc main_v26)) := by
  after_results_simp
  rfl
end R
end Cert.Values
-- ==== Proof.Value.RTail2.lean ====
/- The reference's base term, adapters and shared adapter: named functions, and the host lines that compute them. -/
module

public import proofs.«01_k».proof.Proof.Value.RTail
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace R
open Cert.ReferenceIdeal Cert.ReferenceIdeal.Gen

/-- The base product times the two scales. -/
def base (p : FVec Ideal S128x4096 .f32) (s : FVec Ideal S128x1 .f32) (w : FVec Ideal S4096 .f32) : FVec Ideal S1x128x4096 .f32 :=
  mulf
      (mulf (shapeCast S1x128x4096 p shapeCasts_S128x4096_S1x128x4096)
        (broadcastInDim S1x128x4096 ![0, 1, 2] bcast_S1x128x1_S1x128x4096_0_1_2
          (broadcastInDim S1x128x1 ![0, 1] bcast_S1x128_S1x128x1_0_1 (shapeCast S1x128 s shapeCasts_S128x1_S1x128))))
      (broadcastInDim S1x128x4096 ![0, 1, 2] bcast_S1x1x4096_S1x128x4096_0_1_2
        (broadcastInDim S1x1x4096 ![2] bcast_S4096_S1x1x4096_2 w))

/-- One for the chosen expert, zero for the others. -/
def hot (i : IVec S1x128x2 32) : FVec Ideal S1x128x2x12 .f32 :=
  uitofp FTy.f32 (cmpi CmpIPredicate.eq (broadcastInDim S1x128x2x12 ![0, 1, 2, 3] bcast_S1x128x2x1_S1x128x2x12_0_1_2_3 (broadcastInDim S1x128x2x1 ![0, 1, 2] bcast_S1x128x2_S1x128x2x1_0_1_2 i))
    (broadcastInDim S1x128x2x12 ![0, 1, 2, 3] bcast_S1x1x1x12_S1x128x2x12_0_1_2_3 (iotaInDim S1x1x1x12 32 3)))

/-- The weight of each expert's adapter. -/
def wgt (h : FVec Ideal S1x128x2x12 .f32) (g : FVec Ideal S1x128x2 .f32) : FVec Ideal S1x128x12 .f32 :=
  mulf (Host.reduceAdd (mulf h (broadcastInDim S1x128x2x12 ![0, 1, 2, 3] bcast_S1x128x2x1_S1x128x2x12_0_1_2_3 (broadcastInDim S1x128x2x1 ![0, 1, 2] bcast_S1x128x2_S1x128x2x1_0_1_2 g)))
        (constant S_ FTy.f32 0#32) reducesTo_S1x128x2x12_S1x128x12_d2 h_S_)
      (broadcastInDim S1x128x12 ![] bcast_S_S1x128x12 (constant S_ FTy.f32 1048576000#32))

/-- The experts' adapters. -/
def exps (x : FVec Ideal S1x128x14336 .bf16) (a : FVec Ideal S12x14336x64 .bf16) (b : FVec Ideal S12x64x4096 .bf16) (w : FVec Ideal S1x128x12 .f32) : FVec Ideal S1x128x4096 .f32 :=
  Host.dotGeneral dot_S1x128x12x64_S12x64x4096_S1x128x4096_23_01_01_2_n_n none
            (truncf FTy.bf16
              (mulf (Host.dotGeneral dot_S1x128x14336_S12x14336x64_S1x128x12x64_2_1_01_02_n_n none x a)
                (broadcastInDim S1x128x12x64 ![0, 1, 2, 3] bcast_S1x128x12x1_S1x128x12x64_0_1_2_3
                  (broadcastInDim S1x128x12x1 ![0, 1, 2] bcast_S1x128x12_S1x128x12x1_0_1_2 w)))
              bitsLt_bf16_f32) b

/-- The shared adapter. -/
def shar (x : FVec Ideal S1x128x14336 .bf16) (a : FVec Ideal S14336x64 .bf16) (b : FVec Ideal S64x4096 .bf16) : FVec Ideal S1x128x4096 .f32 :=
  Host.dotGeneral dot_S1x128x64_S64x4096_S1x128x4096_2_0_01_1_n_n none
          (truncf FTy.bf16
            (mulf (Host.dotGeneral dot_S1x128x14336_S14336x64_S1x128x64_2_0_01_1_n_n none x a)
              (broadcastInDim S1x128x64 ![] bcast_S_S1x128x64 (constant S_ FTy.f32 1048576000#32)))
            bitsLt_bf16_f32) b

variable (V : Valuation τ sig (Elt Ideal))
/-- The host lines compute the base term. -/
theorem t10 : StableHlo.after hostOps1 V (Proc.devRef .tc main_v10) = base (V (Proc.devRef .tc main_v1_0)) (V (Proc.devRef .tc main_v1_2)) (V (Proc.devRef .tc main_arg2)) := by
  after_results_simp
  rfl
/-- The host lines compute the one-hot selection. -/
theorem t31 : StableHlo.after hostOps1_3 V (Proc.devRef .tc main_v31) = hot (V (Proc.devRef .tc main_arg5)) := by
  after_results_simp
  rfl
/-- The host lines compute the main result. -/
theorem t51 : StableHlo.after hostOps1_4 V (Proc.devRef .tc main_v51) =
    truncf FTy.bf16 (addf (addf (V (Proc.devRef .tc main_v10)) (exps (V (Proc.devRef .tc main_arg0)) (V (Proc.devRef .tc main_arg6)) (V (Proc.devRef .tc main_arg7)) (wgt (V (Proc.devRef .tc main_v31)) (V (Proc.devRef .tc main_v30)))))
      (shar (V (Proc.devRef .tc main_arg0)) (V (Proc.devRef .tc main_arg8)) (V (Proc.devRef .tc main_arg9)))) bitsLt_bf16_f32 := by
  after_results_simp
  rfl
end R
end Cert.Values
-- ==== Proof.Value.RTail3.lean ====
/- The reference's host functions, element by element. -/
module

public import proofs.«01_k».proof.Proof.Value.RTail2
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace R
open Cert.ReferenceIdeal Cert.ReferenceIdeal.Gen

/-- A logit. -/
theorem logit_at (x : FVec Ideal S1x128x14336 .bf16) (w : FVec Ideal S14336x12 .bf16) (b : FVec Ideal S12 .f32) (t : Fin 128) (e : Fin 12) :
    logit x w b (ix3 0 t e) = (∑ d, x (ix3 0 t d) * w (ix2 d e)) + b (ix1 e) := by
  unfold logit
  pointwise []
/-- An exponential of a logit above the row's maximum. -/
theorem expo_at (l : FVec Ideal S1x128x12 .f32) (t : Fin 128) (e : Fin 12) :
    expo l (ix3 0 t e) = Ideal.exp (l (ix3 0 t e) - Finset.univ.fold max (Ideal.ofBits FTy.f32 4286578688#32) fun x => l (ix3 0 t x)) := by
  unfold expo
  pointwise []
  rw [ofBits_bot, max_eq_right bot_le]
/-- A probability. -/
theorem soft_at (l : FVec Ideal S1x128x12 .f32) (t : Fin 128) (e : Fin 12) : soft l (ix3 0 t e) = Ideal.div (l (ix3 0 t e)) (∑ x, l (ix3 0 t x)) := by
  unfold soft
  pointwise []
/-- A gate. -/
theorem gates_at (l : FVec Ideal S1x128x2 .f32) (t : Fin 128) (e : Fin 2) : gates l (ix3 0 t e) = Ideal.div (l (ix3 0 t e)) (l (ix3 0 t 0) + l (ix3 0 t 1)) := by
  unfold gates
  pointwise []
  rw [Fin.sum_univ_two]
/-- A wrapped index. -/
theorem wrapped_at (i : IVec S1x128x2 32) (t : Fin 128) (e : Fin 2) : wrapped i (ix3 t e 0) =
    Scalar.select (IntOp.cmpi CmpIPredicate.slt (i (ix3 0 t e)) 0#32) (IntOp.addi (i (ix3 0 t e)) 12#32) (i (ix3 0 t e)) := by
  unfold wrapped
  pointwise []
/-- An entry of the one-hot selection. -/
theorem hot_at (i : IVec S1x128x2 32) (t : Fin 128) (j : Fin 2) (e : Fin 12) : hot i (ix4 0 t j e) = (FloatOps.uitofp FTy.f32 (IntOp.cmpi CmpIPredicate.eq (i (ix3 0 t j)) (BitVec.ofNat 32 e)) : Ideal .f32) := by
  unfold hot
  pointwise []
/-- The weight of an expert. -/
theorem wgt_at (h : FVec Ideal S1x128x2x12 .f32) (g : FVec Ideal S1x128x2 .f32) (t : Fin 128) (e : Fin 12) : wgt h g (ix3 0 t e) =
    (h (ix4 0 t 0 e) * g (ix3 0 t 0) + h (ix4 0 t 1 e) * g (ix3 0 t 1)) * Ideal.ofBits FTy.f32 1048576000#32 := by
  unfold wgt
  pointwise []
  rw [Fin.sum_univ_two]
/-- The base term at an element. -/
theorem base_at (p : FVec Ideal S128x4096 .f32) (s : FVec Ideal S128x1 .f32) (w : FVec Ideal S4096 .f32) (t : Fin 128) (o : Fin 4096) :
    base p s w (ix3 0 t o) = p (ix2 t o) * s (ix2 t 0) * w (ix1 o) := by
  unfold base
  pointwise []
/-- The experts' term at an element. -/
theorem exps_at (x : FVec Ideal S1x128x14336 .bf16) (a : FVec Ideal S12x14336x64 .bf16) (b : FVec Ideal S12x64x4096 .bf16) (w : FVec Ideal S1x128x12 .f32) (t : Fin 128) (o : Fin 4096) :
    exps x a b w (ix3 0 t o) = ∑ e, ∑ r, (∑ d, x (ix3 0 t d) * a (ix3 e d r)) * w (ix3 0 t e) * b (ix3 e r o) := by
  unfold exps
  pointwise []
/-- The shared adapter's term at an element. -/
theorem shar_at (x : FVec Ideal S1x128x14336 .bf16) (a : FVec Ideal S14336x64 .bf16) (b : FVec Ideal S64x4096 .bf16) (t : Fin 128) (o : Fin 4096) :
    shar x a b (ix3 0 t o) = ∑ r, (∑ d, x (ix3 0 t d) * a (ix2 d r)) * Ideal.ofBits FTy.f32 1048576000#32 * b (ix2 r o) := by
  unfold shar
  pointwise []

/-- An expert's number is one of the twelve. -/
def Ok (i : IVec S1x128x2 32) : Prop := ∀ t j, (i (ix3 0 t j)).toNat < 12

/-- A small word is the word of a small number. -/
theorem word_lt (b : BitVec 32) (h : b.toNat < 12) : ∃ k : Fin 12, b = BitVec.ofNat 32 k.val := ⟨⟨b.toNat, h⟩, by simp⟩

/-- A word in range is not wrapped. -/
theorem wrap_word (b : BitVec 32) (h : b.toNat < 12) : Scalar.select (IntOp.cmpi CmpIPredicate.slt b 0#32) (IntOp.addi b 12#32) b = b := by
  obtain ⟨k, rfl⟩ := word_lt b h
  revert k
  decide
/-- A word in range passes the range test. -/
theorem in_word (b : BitVec 32) (h : b.toNat < 12) : IntOp.andi (IntOp.cmpi CmpIPredicate.sge b 0#32) (IntOp.cmpi CmpIPredicate.sle b 11#32) = 1#1 := by
  obtain ⟨k, rfl⟩ := word_lt b h
  revert k
  decide
/-- A word in range is not clamped. -/
theorem int_word (b : BitVec 32) (h : b.toNat < 12) : min b.toInt.toNat 11 = b.toNat := by
  obtain ⟨k, rfl⟩ := word_lt b h
  revert k
  decide

/-- The layout of the selection. -/
abbrev gd := gather_S1x128x12_S128x2x1_S1x128x2_0_2_1_0_2_2_111

/-- The selection at an element. -/
theorem gather_at (s : FVec Ideal S1x128x12 .f32) (w : IVec S128x2x1 32) (t : Fin 128) (j : Fin 2) :
    Host.gather gather_S1x128x12_S128x2x1_S1x128x2_0_2_1_0_2_2_111 s w (ix3 0 t j) = s (ix3 0 t ⟨min (w (ix3 t j 0)).toInt.toNat 11, by omega⟩) := by
  unfold Host.gather
  congr 1
  funext a
  refine Fin.ext ?_
  show gd.start (ix3 0 t j) w a + gd.batchCoord (ix3 0 t j) a + gd.offCoord (ix3 0 t j) a = _
  match a with
  | ⟨0, _⟩ =>
    have : gd.start (ix3 0 t j) w 0 + gd.batchCoord (ix3 0 t j) 0 + gd.offCoord (ix3 0 t j) 0 < 1 := (gd.operandIdx (ix3 0 t j) w 0).isLt
    show gd.start (ix3 0 t j) w 0 + gd.batchCoord (ix3 0 t j) 0 + gd.offCoord (ix3 0 t j) 0 = 0
    omega
  | ⟨1, _⟩ =>
    show gd.start (ix3 0 t j) w 1 + gd.batchCoord (ix3 0 t j) 1 + gd.offCoord (ix3 0 t j) 1 = t.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (1 : Fin 3) ∈ gd.operandBatchingDims from List.mem_singleton.mpr rfl)]
    rfl
  | ⟨2, _⟩ =>
    show gd.start (ix3 0 t j) w 2 + gd.batchCoord (ix3 0 t j) 2 + gd.offCoord (ix3 0 t j) 2 = min (w (ix3 t j 0)).toInt.toNat 11
    rw [GatherDims.batchCoord_eq_zero _ _ _ (fun h => by simp [gather_S1x128x12_S128x2x1_S1x128x2_0_2_1_0_2_2_111] at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gd.startIndexMap from List.mem_singleton.mpr rfl)]
    have hsi : gd.siIdx (ix3 0 t j) ⟨List.idxOf (2 : Fin 3) gd.startIndexMap, List.idxOf_lt_length_iff.2 (List.mem_singleton.mpr rfl)⟩ = ix3 t j 0 := by
      funext b; refine Fin.ext ?_
      match b with
      | ⟨0, _⟩ => rfl
      | ⟨1, _⟩ => rfl
      | ⟨2, _⟩ => rfl
    rw [hsi]
    rfl

/-- A selected probability. -/
theorem took_at (s : FVec Ideal S1x128x12 .f32) (i : IVec S1x128x2 32) (hi : Ok i) (t : Fin 128) (j : Fin 2) :
    took s i (ix3 0 t j) = s (ix3 0 t ⟨(i (ix3 0 t j)).toNat, hi t j⟩) := by
  have hw : wrapped i (ix3 t j 0) = i (ix3 0 t j) := (wrapped_at i t j).trans (wrap_word _ (hi t j))
  have hg := gather_at s (wrapped i) t j
  have hf : (⟨min (wrapped i (ix3 t j 0)).toInt.toNat 11, by omega⟩ : Fin 12) = ⟨(i (ix3 0 t j)).toNat, hi t j⟩ := Fin.ext (by
    show min (wrapped i (ix3 t j 0)).toInt.toNat 11 = _
    rw [hw]; exact int_word _ (hi t j))
  rw [hf] at hg
  unfold took
  generalize hG : Host.gather gather_S1x128x12_S128x2x1_S1x128x2_0_2_1_0_2_2_111 s (wrapped i) = G at hg ⊢
  generalize wrapped i = W at hw ⊢
  rw [← hg]
  pointwise []
  have hx : ∀ x : Fin 1, IntOp.andi (IntOp.cmpi CmpIPredicate.sge (W (ix3 t j x)) 0#32) (IntOp.cmpi CmpIPredicate.sle (W (ix3 t j x)) 11#32) = 1#1 := by
    intro x
    obtain rfl : x = 0 := Subsingleton.elim _ _
    rw [hw]; exact in_word _ (hi t j)
  simp only [hx]
  rw [show (Finset.fold IntOp.andi (1#1) (fun _ : Fin 1 => 1#1) Finset.univ) = 1#1 by decide]
  rfl
end R
end Cert.Values
-- ==== Proof.Value.Pre.lean ====
/- What the precondition says of an element of the input and of a selected expert. -/
module

public import proofs.«01_k».proof.Proof.Value.RTail3
public import proofs.«01_k».proof.Proof.KernelIdeal.Run
public import proofs.«01_k».proof.Proof.Gen.ReferenceIdeal.Frame
public import Idealize.ShloMosaic.Lib.Pointwise
public import Idealize.ShloMosaic.Lib.ReduceAll
public import proofs.«01_k».proof.Pre_in_range

@[expose] public section

noncomputable section

namespace Cert.Values

open Idealize.ShloMosaic
namespace P
open Cert.Pre_in_range
variable [Facts]
open Facts

/-- A scalar has one index. -/
instance : Subsingleton S_.Idx := ⟨fun a b => funext fun i => i.elim0⟩

/-- A conjunction of bits is one only when both are. -/
theorem and1 (x y : BitVec 1) : IntOp.andi x y = 1#1 → x = 1#1 ∧ y = 1#1 := by
  revert x y
  decide

/-- The precondition is its two parts, everywhere. -/
theorem pre_split (a0 : FVec Ideal S1x128x14336 .bf16) (a1 a2 a3 a4) (a5 : IVec S1x128x2 32) (a6 a7 a8 a9)
    (h : fn (F := Ideal) a0 a1 a2 a3 a4 a5 a6 a7 a8 a9 = fun _ => 1#1) :
    (∀ i, cmpf CmpFPredicate.ole (Host.absf a0) (broadcastInDim S1x128x14336 ![] bcast_S_S1x128x14336 (constant (F := Ideal) S_ .bf16 0x7F7F#16)) i = 1#1)
    ∧ (∀ i, andi (cmpi .sge a5 (broadcastInDim S1x128x2 ![] bcast_S_S1x128x2 (constantI S_ 32 0#32))) (cmpi .slt a5 (broadcastInDim S1x128x2 ![] bcast_S_S1x128x2 (constantI S_ 32 12#32))) i = 1#1) := by
  have h0 := congrFun h (fun i => i.elim0)
  have h1 : IntOp.andi _ _ = 1#1 := h0
  obtain ⟨ha, hb⟩ := and1 _ _ h1
  exact ⟨fun i => Host.reduce_andi_all _ _ _ _ _ ha i, fun i => Host.reduce_andi_all _ _ _ _ _ hb i⟩

/-- The input's magnitude is bounded. -/
theorem ole_at (a0 : FVec Ideal S1x128x14336 .bf16) (t : Fin 128) (d : Fin 14336)
   (h : cmpf CmpFPredicate.ole (Host.absf a0) (broadcastInDim S1x128x14336 ![] bcast_S_S1x128x14336 (constant (F := Ideal) S_ .bf16 0x7F7F#16)) (ix3 0 t d) = 1#1) :
    max (a0 (ix3 0 t d)) (-a0 (ix3 0 t d)) ≤ Ideal.ofBits .bf16 32639#16 := by
  revert h
  pointwise []
  intro h
  by_contra hc
  rw [show decide (FloatOps.absf (a0 (ix3 0 t d)) ≤ Ideal.ofBits FTy.bf16 32639#16) = false from decide_eq_false hc] at h
  exact absurd h (by decide)
/-- A word between zero and twelve. -/
theorem rng (b : BitVec 32) : IntOp.andi (IntOp.cmpi CmpIPredicate.sge b 0#32) (IntOp.cmpi CmpIPredicate.slt b 12#32) = 1#1 → b.toNat < 12 := by
  intro h
  have h2 : (0#32).sle b = true ∧ b.slt 12#32 = true := by
    revert h
    show BitVec.ofBool ((0#32).sle b) &&& BitVec.ofBool (b.slt 12#32) = 1#1 → _
    generalize (0#32).sle b = p
    generalize b.slt 12#32 = q
    revert p q
    decide
  simp only [BitVec.sle, BitVec.slt, decide_eq_true_eq] at h2
  have h3 := BitVec.toInt_eq_toNat_cond b
  have h4 := b.isLt
  have h5 : (0#32).toInt = 0 := by decide
  have h6 : (12#32).toInt = 12 := by decide
  split_ifs at h3 <;> omega
/-- A selected expert is one of the twelve. -/
theorem idx_at (a5 : IVec S1x128x2 32) (t : Fin 128) (j : Fin 2)
   (h : andi (cmpi .sge a5 (broadcastInDim S1x128x2 ![] bcast_S_S1x128x2 (constantI S_ 32 0#32))) (cmpi .slt a5 (broadcastInDim S1x128x2 ![] bcast_S_S1x128x2 (constantI S_ 32 12#32))) (ix3 0 t j) = 1#1) :
    (a5 (ix3 0 t j)).toNat < 12 := by
  revert h
  pointwise []
  generalize a5 (ix3 0 t j) = b
  exact rng b

/-- The bound as a number. -/
theorem top_val : Ideal.ofBits .bf16 32639#16 = ((255 * 2 ^ 120 : ℝ) : EReal) := by
  simp [Ideal.ofBits, Ideal.ieee]
/-- The factor 1/448 as a number. -/
theorem step_val : Ideal.ofBits .f32 991054117#32 = ((9586981 * (2 ^ 32)⁻¹ : ℝ) : EReal) := by
  simp [Ideal.ofBits, Ideal.ieee]

/-- A bounded row's value stays below the last power of two that is counted. -/
theorem rowv_lt (X : Fin 128 → Fin 14336 → EReal) (t : Fin 128) (h : ∀ d, max (X t d) (-X t d) ≤ Ideal.ofBits .bf16 32639#16) : rowv X t < pw 253 := by
  have h1 : (Finset.univ.fold max (⊥ : EReal) fun d => max (X t d) (-X t d)) ≤ Ideal.ofBits .bf16 32639#16 :=
    (Finset.fold_max_le _).2 ⟨bot_le, fun d _ => h d⟩
  have h0 : 0 ≤ Ideal.ofBits .f32 991054117#32 := by
    rw [step_val]; exact_mod_cast (by norm_num : (0 : ℝ) ≤ 9586981 * (2 ^ 32)⁻¹)
  unfold rowv
  refine lt_of_le_of_lt (mul_le_mul_of_nonneg_right h1 h0) ?_
  rw [top_val, step_val, pw_coe 253 (by norm_num) (by norm_num), ← EReal.coe_mul, EReal.coe_lt_coe_iff]
  norm_num
end P
end Cert.Values
-- ==== Proof.Value.RRunA.lean ====
/- The reference's one call: what its three result arrays hold. -/
module

public import proofs.«01_k».proof.Proof.Value.RTail2
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace R
open Cert.ReferenceIdeal Cert.ReferenceIdeal.Gen
variable (m : (ℓ : Loc nD τ sig) → Buf (Elt Ideal) ℓ) (c : Dev nD)

/-- The zero offset. -/
theorem hz2 : ((![0, 0] : Fin 2 → ℕ)) = fun _ => 0 := by decide
/-- What the body stores in a result. -/
theorem o2 (x0 : Vec Ideal S128x14336 .bf16) (x1 : Vec Ideal S14336x4096 .fp8e4m3) : out0_2 (F := Ideal) x0 x1 = k0_pay4 (F := Ideal) x0 x1 := by
  unfold out0_2
  rw [View.ld_unit_zero hz2, View.ld_unit_zero hz2]
  exact View.canon_cons_unit_zero hz2 _ _ _
/-- What the body stores in a result. -/
theorem o3 (x0 : Vec Ideal S128x14336 .bf16) (x1 : Vec Ideal S14336x4096 .fp8e4m3) : out0_3 (F := Ideal) x0 x1 = k0_pay3 (F := Ideal) x0 := by
  unfold out0_3
  rw [View.ld_unit_zero hz2]
  exact View.canon_cons_unit_zero hz2 _ _ _
/-- What the body stores in a result. -/
theorem o4 (x0 : Vec Ideal S128x14336 .bf16) (x1 : Vec Ideal S14336x4096 .fp8e4m3) : out0_4 (F := Ideal) x0 x1 = k0_pay2 (F := Ideal) x0 := by
  unfold out0_4
  rw [View.ld_unit_zero hz2]
  exact View.canon_cons_unit_zero hz2 _ _ _

/-- The argument reshaped, as the region finds it. -/
theorem V_v0 : V m c main_v0 = shapeCast S128x14336 (m ((c.tc : Thread nD τ).loc main_arg0)) shapeCasts_S1x128x14336_S128x14336 := by
  show StableHlo.after _ _ _ = _
  simp only [List.flatten_cons, List.flatten_nil, List.cons_append, List.nil_append, List.append_nil]
  after_results_simp
  rfl

/-- The weight's codes at the call. -/
theorem V_a1 : V m c main_arg1 = m ((c.tc : Thread nD τ).loc main_arg1) := V_main_arg1 m c

/-- The window's one block is the whole array. -/
theorem emb0 (y : ((cfg0.win 0).xblock (cfg0.grid.coords t0_0)).Idx) : ((cfg0.win 0).blk t0_0).view.emb y = y := by
  have e : ∀ a, win0_0.index t0_0 a * win0_0.size a = 0 := by decide +kernel
  funext a
  refine Fin.ext ((ValueKit.view_emb_slice_whole_unit_val main_v0 _ _ _ y a).trans ?_)
  show win0_0.index t0_0 a * win0_0.size a + (y a).val = (y a).val
  rw [e a, Nat.zero_add]

/-- The input window holds the input. -/
theorem ib0 : iblk m c 0 t0_0 = V m c main_v0 := by
  funext y
  exact congrArg (V m c main_v0) (emb0 y)

/-- The window's one block is the whole array. -/
theorem emb1 (y : ((cfg0.win 1).xblock (cfg0.grid.coords t0_0)).Idx) : ((cfg0.win 1).blk t0_0).view.emb y = y := by
  have e : ∀ a, win0_1.index t0_0 a * win0_1.size a = 0 := by decide +kernel
  funext a
  refine Fin.ext ((ValueKit.view_emb_slice_whole_unit_val main_arg1 _ _ _ y a).trans ?_)
  show win0_1.index t0_0 a * win0_1.size a + (y a).val = (y a).val
  rw [e a, Nat.zero_add]

/-- The weight window holds the weight. -/
theorem ib1 : iblk m c 1 t0_0 = V m c main_arg1 := by
  funext y
  exact congrArg (V m c main_arg1) (emb1 y)

/-- The window's one block is the whole array. -/
theorem emb2 (y : ((cfg0.win 2).xblock (cfg0.grid.coords t0_0)).Idx) : ((cfg0.win 2).blk t0_0).view.emb y = y := by
  have e : ∀ a, win0_2.index t0_0 a * win0_2.size a = 0 := by decide +kernel
  funext a
  refine Fin.ext ((ValueKit.view_emb_slice_whole_unit_val main_v1_0 _ _ _ y a).trans ?_)
  show win0_2.index t0_0 a * win0_2.size a + (y a).val = (y a).val
  rw [e a, Nat.zero_add]

/-- The one block covers the result. -/
theorem cover2 (i : S128x4096.Idx) : ∃ t : Fin cfg0.N, (cfg0.win 2).flush t = true ∧ i ∈ ((cfg0.win 2).blk t).view.set := by
  refine ⟨t0_0, flush0_2 _, ?_⟩
  show i ∈ ((View.whole main_v1_0).slice (win0_2.rect t0_0)).set
  rw [View.set_slice_whole, Rect.mem_set_unit]
  have e : ∀ a, win0_2.index t0_0 a * win0_2.size a = 0 ∧ win0_2.xsize (grid0.coords t0_0) a = S128x4096.size a := by
    decide +kernel
  intro a
  show win0_2.index t0_0 a * win0_2.size a ≤ (i a : Nat) ∧ (i a : Nat) < win0_2.index t0_0 a * win0_2.size a + win0_2.xsize (grid0.coords t0_0) a
  rw [(e a).1, (e a).2, Nat.zero_add]
  exact ⟨Nat.zero_le _, (i a).isLt⟩

/-- The window's one block is the whole array. -/
theorem emb3 (y : ((cfg0.win 3).xblock (cfg0.grid.coords t0_0)).Idx) : ((cfg0.win 3).blk t0_0).view.emb y = y := by
  have e : ∀ a, win0_3.index t0_0 a * win0_3.size a = 0 := by decide +kernel
  funext a
  refine Fin.ext ((ValueKit.view_emb_slice_whole_unit_val main_v1_1 _ _ _ y a).trans ?_)
  show win0_3.index t0_0 a * win0_3.size a + (y a).val = (y a).val
  rw [e a, Nat.zero_add]

/-- The one block covers the result. -/
theorem cover3 (i : S128x14336.Idx) : ∃ t : Fin cfg0.N, (cfg0.win 3).flush t = true ∧ i ∈ ((cfg0.win 3).blk t).view.set := by
  refine ⟨t0_0, flush0_3 _, ?_⟩
  show i ∈ ((View.whole main_v1_1).slice (win0_3.rect t0_0)).set
  rw [View.set_slice_whole, Rect.mem_set_unit]
  have e : ∀ a, win0_3.index t0_0 a * win0_3.size a = 0 ∧ win0_3.xsize (grid0.coords t0_0) a = S128x14336.size a := by
    decide +kernel
  intro a
  show win0_3.index t0_0 a * win0_3.size a ≤ (i a : Nat) ∧ (i a : Nat) < win0_3.index t0_0 a * win0_3.size a + win0_3.xsize (grid0.coords t0_0) a
  rw [(e a).1, (e a).2, Nat.zero_add]
  exact ⟨Nat.zero_le _, (i a).isLt⟩

/-- The window's one block is the whole array. -/
theorem emb4 (y : ((cfg0.win 4).xblock (cfg0.grid.coords t0_0)).Idx) : ((cfg0.win 4).blk t0_0).view.emb y = y := by
  have e : ∀ a, win0_4.index t0_0 a * win0_4.size a = 0 := by decide +kernel
  funext a
  refine Fin.ext ((ValueKit.view_emb_slice_whole_unit_val main_v1_2 _ _ _ y a).trans ?_)
  show win0_4.index t0_0 a * win0_4.size a + (y a).val = (y a).val
  rw [e a, Nat.zero_add]

/-- The one block covers the result. -/
theorem cover4 (i : S128x1.Idx) : ∃ t : Fin cfg0.N, (cfg0.win 4).flush t = true ∧ i ∈ ((cfg0.win 4).blk t).view.set := by
  refine ⟨t0_0, flush0_4 _, ?_⟩
  show i ∈ ((View.whole main_v1_2).slice (win0_4.rect t0_0)).set
  rw [View.set_slice_whole, Rect.mem_set_unit]
  have e : ∀ a, win0_4.index t0_0 a * win0_4.size a = 0 ∧ win0_4.xsize (grid0.coords t0_0) a = S128x1.size a := by
    decide +kernel
  intro a
  show win0_4.index t0_0 a * win0_4.size a ≤ (i a : Nat) ∧ (i a : Nat) < win0_4.index t0_0 a * win0_4.size a + win0_4.xsize (grid0.coords t0_0) a
  rw [(e a).1, (e a).2, Nat.zero_add]
  exact ⟨Nat.zero_le _, (i a).isLt⟩

/-- A whole array read through the one block. -/
theorem cut2 (Z : Vec Ideal S128x4096 .f32) : (cfg0.win 2).cut (grid0.coords t0_0) Z = ((cfg0.win 2).blk t0_0).view.read (Elt Ideal) Z := by
  funext y
  exact (congrArg Z (emb2 y)).symm
/-- What output 2 ends holding. -/
abbrev val2 : Vec Ideal S128x4096 .f32 := k0_pay4 (F := Ideal) (V m c main_v0) (V m c main_arg1)
/-- What is written back of a result. -/
theorem flushed2 (t : Fin cfg0.N) : (dats m 0 c).flushed 2 t = ((cfg0.win 2).blk t).view.read (Elt Ideal) (val2 m c) := by
  obtain rfl : t = t0_0 := fin_N0 t
  show (cfg0.win 2).cut (grid0.coords t0_0) ((dats m 0 c).after 2 t0_0) = _
  rw [after0_2, ib0, ib1, o2]
  exact cut2 (val2 m c)
/-- What a result holds after the call. -/
theorem final2 : (dats m 0 c).arrAt 2 cfg0.N = val2 m c :=
  (dats m 0 c).arrAt_eq_of_cover 2 (val2 m c) (fun t _ => flushed2 m c t) cover2

/-- A whole array read through the one block. -/
theorem cut3 (Z : Vec Ideal S128x14336 .fp8e4m3) : (cfg0.win 3).cut (grid0.coords t0_0) Z = ((cfg0.win 3).blk t0_0).view.read (Elt Ideal) Z := by
  funext y
  exact (congrArg Z (emb3 y)).symm
/-- What output 3 ends holding. -/
abbrev val3 : Vec Ideal S128x14336 .fp8e4m3 := k0_pay3 (F := Ideal) (V m c main_v0)
/-- What is written back of a result. -/
theorem flushed3 (t : Fin cfg0.N) : (dats m 0 c).flushed 3 t = ((cfg0.win 3).blk t).view.read (Elt Ideal) (val3 m c) := by
  obtain rfl : t = t0_0 := fin_N0 t
  show (cfg0.win 3).cut (grid0.coords t0_0) ((dats m 0 c).after 3 t0_0) = _
  rw [after0_3, ib0, ib1, o3]
  exact cut3 (val3 m c)
/-- What a result holds after the call. -/
theorem final3 : (dats m 0 c).arrAt 3 cfg0.N = val3 m c :=
  (dats m 0 c).arrAt_eq_of_cover 3 (val3 m c) (fun t _ => flushed3 m c t) cover3

/-- A whole array read through the one block. -/
theorem cut4 (Z : Vec Ideal S128x1 .f32) : (cfg0.win 4).cut (grid0.coords t0_0) Z = ((cfg0.win 4).blk t0_0).view.read (Elt Ideal) Z := by
  funext y
  exact (congrArg Z (emb4 y)).symm
/-- What output 4 ends holding. -/
abbrev val4 : Vec Ideal S128x1 .f32 := k0_pay2 (F := Ideal) (V m c main_v0)
/-- What is written back of a result. -/
theorem flushed4 (t : Fin cfg0.N) : (dats m 0 c).flushed 4 t = ((cfg0.win 4).blk t).view.read (Elt Ideal) (val4 m c) := by
  obtain rfl : t = t0_0 := fin_N0 t
  show (cfg0.win 4).cut (grid0.coords t0_0) ((dats m 0 c).after 4 t0_0) = _
  rw [after0_4, ib0, ib1, o4]
  exact cut4 (val4 m c)
/-- What a result holds after the call. -/
theorem final4 : (dats m 0 c).arrAt 4 cfg0.N = val4 m c :=
  (dats m 0 c).arrAt_eq_of_cover 4 (val4 m c) (fun t _ => flushed4 m c t) cover4

end R
end Cert.Values
-- ==== Proof.Value.RRunB.lean ====
/- The reference's four results after the host lines that follow its call. -/
module

public import proofs.«01_k».proof.Proof.Value.RRunA
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace R
open Cert.ReferenceIdeal Cert.ReferenceIdeal.Gen
variable (m : (ℓ : Loc nD τ sig) → Buf (Elt Ideal) ℓ) (c : Dev nD)

/-- The windows' arrays are distinct. -/
theorem arr_inj : Function.Injective (Pipeline.arrRef spec0) := by decide

/-- The buffers after the region. -/
abbrev W0 : Valuation τ sig (Elt Ideal) := Pipeline.withArrays (cfgs 0).spec c (V0 m c) fun w => (dats m 0 c).arrAt w (cfgs 0).N
/-- The buffers after more of the host lines. -/
abbrev W1 : Valuation τ sig (Elt Ideal) := StableHlo.after hostOps1 (W0 m c)
/-- The buffers after more of the host lines. -/
abbrev W2 : Valuation τ sig (Elt Ideal) := StableHlo.after hostOps1_1 (W1 m c)
/-- The buffers after more of the host lines. -/
abbrev W3 : Valuation τ sig (Elt Ideal) := StableHlo.after hostOps1_2 (W2 m c)
/-- The buffers after more of the host lines. -/
abbrev W4 : Valuation τ sig (Elt Ideal) := StableHlo.after hostOps1_3 (W3 m c)
/-- The buffers after more of the host lines. -/
abbrev W5 : Valuation τ sig (Elt Ideal) := StableHlo.after hostOps1_4 (W4 m c)

/-- The buffers at the end are those after the last host lines. -/
theorem tail_eq (b : Ref sig .tc) : Pipeline.afterTail₀ cfgs (dats m) 0 (V0 m) [hostOps1, hostOps1_1, hostOps1_2, hostOps1_3, hostOps1_4] c b = W5 m c (Proc.devRef .tc b) := by
  unfold Pipeline.afterTail₀
  rw [List.flatten_cons, List.flatten_cons, List.flatten_cons, List.flatten_cons, List.flatten_cons, List.flatten_nil, List.append_nil, StableHlo.after_append, StableHlo.after_append, StableHlo.after_append, StableHlo.after_append]

/-- A result of the call, after it. -/
theorem W0_2 : W0 m c (Proc.devRef .tc main_v1_0) = val2 m c := (Pipeline.withArrays_arr _ arr_inj c (V0 m c) _ 2).trans (final2 m c)
/-- A result of the call, after it. -/
theorem W0_3 : W0 m c (Proc.devRef .tc main_v1_1) = val3 m c := (Pipeline.withArrays_arr _ arr_inj c (V0 m c) _ 3).trans (final3 m c)
/-- A result of the call, after it. -/
theorem W0_4 : W0 m c (Proc.devRef .tc main_v1_2) = val4 m c := (Pipeline.withArrays_arr _ arr_inj c (V0 m c) _ 4).trans (final4 m c)
/-- An argument, still as launched. -/
theorem W0_a0 : W0 m c (Proc.devRef .tc main_arg0) = m ((c.tc : Thread nD τ).loc main_arg0) := (Pipeline.withArrays_of_ne _ c (V0 m c) _ main_arg0 (by exact (by decide : ∀ w, Pipeline.arrRef spec0 w ≠ main_arg0))).trans (V_main_arg0 m c)
/-- An argument, still as launched. -/
theorem W1_a0 : W1 m c (Proc.devRef .tc main_arg0) = m ((c.tc : Thread nD τ).loc main_arg0) := (StableHlo.after_of_writes_sub (r := main_arg0) hostOps1 _ hostOps1_writes (by decide +kernel)).trans (W0_a0 m c)
/-- An argument, still as launched. -/
theorem W2_a0 : W2 m c (Proc.devRef .tc main_arg0) = m ((c.tc : Thread nD τ).loc main_arg0) := (StableHlo.after_of_writes_sub (r := main_arg0) hostOps1_1 _ hostOps1_1_writes (by decide +kernel)).trans (W1_a0 m c)
/-- An argument, still as launched. -/
theorem W3_a0 : W3 m c (Proc.devRef .tc main_arg0) = m ((c.tc : Thread nD τ).loc main_arg0) := (StableHlo.after_of_writes_sub (r := main_arg0) hostOps1_2 _ hostOps1_2_writes (by decide +kernel)).trans (W2_a0 m c)
/-- An argument, still as launched. -/
theorem W4_a0 : W4 m c (Proc.devRef .tc main_arg0) = m ((c.tc : Thread nD τ).loc main_arg0) := (StableHlo.after_of_writes_sub (r := main_arg0) hostOps1_3 _ hostOps1_3_writes (by decide +kernel)).trans (W3_a0 m c)
/-- An argument, still as launched. -/
theorem W0_a2 : W0 m c (Proc.devRef .tc main_arg2) = m ((c.tc : Thread nD τ).loc main_arg2) := (Pipeline.withArrays_of_ne _ c (V0 m c) _ main_arg2 (by exact (by decide : ∀ w, Pipeline.arrRef spec0 w ≠ main_arg2))).trans (V_main_arg2 m c)
/-- An argument, still as launched. -/
theorem W1_a2 : W1 m c (Proc.devRef .tc main_arg2) = m ((c.tc : Thread nD τ).loc main_arg2) := (StableHlo.after_of_writes_sub (r := main_arg2) hostOps1 _ hostOps1_writes (by decide +kernel)).trans (W0_a2 m c)
/-- An argument, still as launched. -/
theorem W2_a2 : W2 m c (Proc.devRef .tc main_arg2) = m ((c.tc : Thread nD τ).loc main_arg2) := (StableHlo.after_of_writes_sub (r := main_arg2) hostOps1_1 _ hostOps1_1_writes (by decide +kernel)).trans (W1_a2 m c)
/-- An argument, still as launched. -/
theorem W3_a2 : W3 m c (Proc.devRef .tc main_arg2) = m ((c.tc : Thread nD τ).loc main_arg2) := (StableHlo.after_of_writes_sub (r := main_arg2) hostOps1_2 _ hostOps1_2_writes (by decide +kernel)).trans (W2_a2 m c)
/-- An argument, still as launched. -/
theorem W4_a2 : W4 m c (Proc.devRef .tc main_arg2) = m ((c.tc : Thread nD τ).loc main_arg2) := (StableHlo.after_of_writes_sub (r := main_arg2) hostOps1_3 _ hostOps1_3_writes (by decide +kernel)).trans (W3_a2 m c)
/-- An argument, still as launched. -/
theorem W0_a3 : W0 m c (Proc.devRef .tc main_arg3) = m ((c.tc : Thread nD τ).loc main_arg3) := (Pipeline.withArrays_of_ne _ c (V0 m c) _ main_arg3 (by exact (by decide : ∀ w, Pipeline.arrRef spec0 w ≠ main_arg3))).trans (V_main_arg3 m c)
/-- An argument, still as launched. -/
theorem W1_a3 : W1 m c (Proc.devRef .tc main_arg3) = m ((c.tc : Thread nD τ).loc main_arg3) := (StableHlo.after_of_writes_sub (r := main_arg3) hostOps1 _ hostOps1_writes (by decide +kernel)).trans (W0_a3 m c)
/-- An argument, still as launched. -/
theorem W2_a3 : W2 m c (Proc.devRef .tc main_arg3) = m ((c.tc : Thread nD τ).loc main_arg3) := (StableHlo.after_of_writes_sub (r := main_arg3) hostOps1_1 _ hostOps1_1_writes (by decide +kernel)).trans (W1_a3 m c)
/-- An argument, still as launched. -/
theorem W3_a3 : W3 m c (Proc.devRef .tc main_arg3) = m ((c.tc : Thread nD τ).loc main_arg3) := (StableHlo.after_of_writes_sub (r := main_arg3) hostOps1_2 _ hostOps1_2_writes (by decide +kernel)).trans (W2_a3 m c)
/-- An argument, still as launched. -/
theorem W4_a3 : W4 m c (Proc.devRef .tc main_arg3) = m ((c.tc : Thread nD τ).loc main_arg3) := (StableHlo.after_of_writes_sub (r := main_arg3) hostOps1_3 _ hostOps1_3_writes (by decide +kernel)).trans (W3_a3 m c)
/-- An argument, still as launched. -/
theorem W0_a4 : W0 m c (Proc.devRef .tc main_arg4) = m ((c.tc : Thread nD τ).loc main_arg4) := (Pipeline.withArrays_of_ne _ c (V0 m c) _ main_arg4 (by exact (by decide : ∀ w, Pipeline.arrRef spec0 w ≠ main_arg4))).trans (V_main_arg4 m c)
/-- An argument, still as launched. -/
theorem W1_a4 : W1 m c (Proc.devRef .tc main_arg4) = m ((c.tc : Thread nD τ).loc main_arg4) := (StableHlo.after_of_writes_sub (r := main_arg4) hostOps1 _ hostOps1_writes (by decide +kernel)).trans (W0_a4 m c)
/-- An argument, still as launched. -/
theorem W2_a4 : W2 m c (Proc.devRef .tc main_arg4) = m ((c.tc : Thread nD τ).loc main_arg4) := (StableHlo.after_of_writes_sub (r := main_arg4) hostOps1_1 _ hostOps1_1_writes (by decide +kernel)).trans (W1_a4 m c)
/-- An argument, still as launched. -/
theorem W3_a4 : W3 m c (Proc.devRef .tc main_arg4) = m ((c.tc : Thread nD τ).loc main_arg4) := (StableHlo.after_of_writes_sub (r := main_arg4) hostOps1_2 _ hostOps1_2_writes (by decide +kernel)).trans (W2_a4 m c)
/-- An argument, still as launched. -/
theorem W4_a4 : W4 m c (Proc.devRef .tc main_arg4) = m ((c.tc : Thread nD τ).loc main_arg4) := (StableHlo.after_of_writes_sub (r := main_arg4) hostOps1_3 _ hostOps1_3_writes (by decide +kernel)).trans (W3_a4 m c)
/-- An argument, still as launched. -/
theorem W0_a5 : W0 m c (Proc.devRef .tc main_arg5) = m ((c.tc : Thread nD τ).loc main_arg5) := (Pipeline.withArrays_of_ne _ c (V0 m c) _ main_arg5 (by exact (by decide : ∀ w, Pipeline.arrRef spec0 w ≠ main_arg5))).trans (V_main_arg5 m c)
/-- An argument, still as launched. -/
theorem W1_a5 : W1 m c (Proc.devRef .tc main_arg5) = m ((c.tc : Thread nD τ).loc main_arg5) := (StableHlo.after_of_writes_sub (r := main_arg5) hostOps1 _ hostOps1_writes (by decide +kernel)).trans (W0_a5 m c)
/-- An argument, still as launched. -/
theorem W2_a5 : W2 m c (Proc.devRef .tc main_arg5) = m ((c.tc : Thread nD τ).loc main_arg5) := (StableHlo.after_of_writes_sub (r := main_arg5) hostOps1_1 _ hostOps1_1_writes (by decide +kernel)).trans (W1_a5 m c)
/-- An argument, still as launched. -/
theorem W3_a5 : W3 m c (Proc.devRef .tc main_arg5) = m ((c.tc : Thread nD τ).loc main_arg5) := (StableHlo.after_of_writes_sub (r := main_arg5) hostOps1_2 _ hostOps1_2_writes (by decide +kernel)).trans (W2_a5 m c)
/-- An argument, still as launched. -/
theorem W4_a5 : W4 m c (Proc.devRef .tc main_arg5) = m ((c.tc : Thread nD τ).loc main_arg5) := (StableHlo.after_of_writes_sub (r := main_arg5) hostOps1_3 _ hostOps1_3_writes (by decide +kernel)).trans (W3_a5 m c)
/-- An argument, still as launched. -/
theorem W0_a6 : W0 m c (Proc.devRef .tc main_arg6) = m ((c.tc : Thread nD τ).loc main_arg6) := (Pipeline.withArrays_of_ne _ c (V0 m c) _ main_arg6 (by exact (by decide : ∀ w, Pipeline.arrRef spec0 w ≠ main_arg6))).trans (V_main_arg6 m c)
/-- An argument, still as launched. -/
theorem W1_a6 : W1 m c (Proc.devRef .tc main_arg6) = m ((c.tc : Thread nD τ).loc main_arg6) := (StableHlo.after_of_writes_sub (r := main_arg6) hostOps1 _ hostOps1_writes (by decide +kernel)).trans (W0_a6 m c)
/-- An argument, still as launched. -/
theorem W2_a6 : W2 m c (Proc.devRef .tc main_arg6) = m ((c.tc : Thread nD τ).loc main_arg6) := (StableHlo.after_of_writes_sub (r := main_arg6) hostOps1_1 _ hostOps1_1_writes (by decide +kernel)).trans (W1_a6 m c)
/-- An argument, still as launched. -/
theorem W3_a6 : W3 m c (Proc.devRef .tc main_arg6) = m ((c.tc : Thread nD τ).loc main_arg6) := (StableHlo.after_of_writes_sub (r := main_arg6) hostOps1_2 _ hostOps1_2_writes (by decide +kernel)).trans (W2_a6 m c)
/-- An argument, still as launched. -/
theorem W4_a6 : W4 m c (Proc.devRef .tc main_arg6) = m ((c.tc : Thread nD τ).loc main_arg6) := (StableHlo.after_of_writes_sub (r := main_arg6) hostOps1_3 _ hostOps1_3_writes (by decide +kernel)).trans (W3_a6 m c)
/-- An argument, still as launched. -/
theorem W0_a7 : W0 m c (Proc.devRef .tc main_arg7) = m ((c.tc : Thread nD τ).loc main_arg7) := (Pipeline.withArrays_of_ne _ c (V0 m c) _ main_arg7 (by exact (by decide : ∀ w, Pipeline.arrRef spec0 w ≠ main_arg7))).trans (V_main_arg7 m c)
/-- An argument, still as launched. -/
theorem W1_a7 : W1 m c (Proc.devRef .tc main_arg7) = m ((c.tc : Thread nD τ).loc main_arg7) := (StableHlo.after_of_writes_sub (r := main_arg7) hostOps1 _ hostOps1_writes (by decide +kernel)).trans (W0_a7 m c)
/-- An argument, still as launched. -/
theorem W2_a7 : W2 m c (Proc.devRef .tc main_arg7) = m ((c.tc : Thread nD τ).loc main_arg7) := (StableHlo.after_of_writes_sub (r := main_arg7) hostOps1_1 _ hostOps1_1_writes (by decide +kernel)).trans (W1_a7 m c)
/-- An argument, still as launched. -/
theorem W3_a7 : W3 m c (Proc.devRef .tc main_arg7) = m ((c.tc : Thread nD τ).loc main_arg7) := (StableHlo.after_of_writes_sub (r := main_arg7) hostOps1_2 _ hostOps1_2_writes (by decide +kernel)).trans (W2_a7 m c)
/-- An argument, still as launched. -/
theorem W4_a7 : W4 m c (Proc.devRef .tc main_arg7) = m ((c.tc : Thread nD τ).loc main_arg7) := (StableHlo.after_of_writes_sub (r := main_arg7) hostOps1_3 _ hostOps1_3_writes (by decide +kernel)).trans (W3_a7 m c)
/-- An argument, still as launched. -/
theorem W0_a8 : W0 m c (Proc.devRef .tc main_arg8) = m ((c.tc : Thread nD τ).loc main_arg8) := (Pipeline.withArrays_of_ne _ c (V0 m c) _ main_arg8 (by exact (by decide : ∀ w, Pipeline.arrRef spec0 w ≠ main_arg8))).trans (V_main_arg8 m c)
/-- An argument, still as launched. -/
theorem W1_a8 : W1 m c (Proc.devRef .tc main_arg8) = m ((c.tc : Thread nD τ).loc main_arg8) := (StableHlo.after_of_writes_sub (r := main_arg8) hostOps1 _ hostOps1_writes (by decide +kernel)).trans (W0_a8 m c)
/-- An argument, still as launched. -/
theorem W2_a8 : W2 m c (Proc.devRef .tc main_arg8) = m ((c.tc : Thread nD τ).loc main_arg8) := (StableHlo.after_of_writes_sub (r := main_arg8) hostOps1_1 _ hostOps1_1_writes (by decide +kernel)).trans (W1_a8 m c)
/-- An argument, still as launched. -/
theorem W3_a8 : W3 m c (Proc.devRef .tc main_arg8) = m ((c.tc : Thread nD τ).loc main_arg8) := (StableHlo.after_of_writes_sub (r := main_arg8) hostOps1_2 _ hostOps1_2_writes (by decide +kernel)).trans (W2_a8 m c)
/-- An argument, still as launched. -/
theorem W4_a8 : W4 m c (Proc.devRef .tc main_arg8) = m ((c.tc : Thread nD τ).loc main_arg8) := (StableHlo.after_of_writes_sub (r := main_arg8) hostOps1_3 _ hostOps1_3_writes (by decide +kernel)).trans (W3_a8 m c)
/-- An argument, still as launched. -/
theorem W0_a9 : W0 m c (Proc.devRef .tc main_arg9) = m ((c.tc : Thread nD τ).loc main_arg9) := (Pipeline.withArrays_of_ne _ c (V0 m c) _ main_arg9 (by exact (by decide : ∀ w, Pipeline.arrRef spec0 w ≠ main_arg9))).trans (V_main_arg9 m c)
/-- An argument, still as launched. -/
theorem W1_a9 : W1 m c (Proc.devRef .tc main_arg9) = m ((c.tc : Thread nD τ).loc main_arg9) := (StableHlo.after_of_writes_sub (r := main_arg9) hostOps1 _ hostOps1_writes (by decide +kernel)).trans (W0_a9 m c)
/-- An argument, still as launched. -/
theorem W2_a9 : W2 m c (Proc.devRef .tc main_arg9) = m ((c.tc : Thread nD τ).loc main_arg9) := (StableHlo.after_of_writes_sub (r := main_arg9) hostOps1_1 _ hostOps1_1_writes (by decide +kernel)).trans (W1_a9 m c)
/-- An argument, still as launched. -/
theorem W3_a9 : W3 m c (Proc.devRef .tc main_arg9) = m ((c.tc : Thread nD τ).loc main_arg9) := (StableHlo.after_of_writes_sub (r := main_arg9) hostOps1_2 _ hostOps1_2_writes (by decide +kernel)).trans (W2_a9 m c)
/-- An argument, still as launched. -/
theorem W4_a9 : W4 m c (Proc.devRef .tc main_arg9) = m ((c.tc : Thread nD τ).loc main_arg9) := (StableHlo.after_of_writes_sub (r := main_arg9) hostOps1_3 _ hostOps1_3_writes (by decide +kernel)).trans (W3_a9 m c)

/-- The selected probabilities. -/
abbrev A0 := m ((c.tc : Thread nD τ).loc main_arg0)
/-- The gates of the reference. -/
def GR : FVec Ideal S1x128x2 .f32 := gates (took (soft (expo (logit (m ((c.tc : Thread nD τ).loc main_arg0)) (m ((c.tc : Thread nD τ).loc main_arg3)) (m ((c.tc : Thread nD τ).loc main_arg4))))) (m ((c.tc : Thread nD τ).loc main_arg5)))
/-- The third result. -/
theorem r3 : W5 m c (Proc.devRef .tc main_v3) = shapeCast S1x128x14336 (val3 m c) shapeCasts_S128x14336_S1x128x14336 :=
  (StableHlo.after_of_writes_sub (r := main_v3) hostOps1_4 _ hostOps1_4_writes (by decide +kernel)).trans <| (StableHlo.after_of_writes_sub (r := main_v3) hostOps1_3 _ hostOps1_3_writes (by decide +kernel)).trans <| (StableHlo.after_of_writes_sub (r := main_v3) hostOps1_2 _ hostOps1_2_writes (by decide +kernel)).trans <| (StableHlo.after_of_writes_sub (r := main_v3) hostOps1_1 _ hostOps1_1_writes (by decide +kernel)).trans <| (t3 (W0 m c)).trans (by rw [W0_3])
/-- The fourth result. -/
theorem r4 : W5 m c (Proc.devRef .tc main_v4) = shapeCast S1x128 (val4 m c) shapeCasts_S128x1_S1x128 :=
  (StableHlo.after_of_writes_sub (r := main_v4) hostOps1_4 _ hostOps1_4_writes (by decide +kernel)).trans <| (StableHlo.after_of_writes_sub (r := main_v4) hostOps1_3 _ hostOps1_3_writes (by decide +kernel)).trans <| (StableHlo.after_of_writes_sub (r := main_v4) hostOps1_2 _ hostOps1_2_writes (by decide +kernel)).trans <| (StableHlo.after_of_writes_sub (r := main_v4) hostOps1_1 _ hostOps1_1_writes (by decide +kernel)).trans <| (t4 (W0 m c)).trans (by rw [W0_4])
/-- The gates, when they are computed. -/
theorem r30' : W3 m c (Proc.devRef .tc main_v30) = GR m c := by
  unfold GR
  refine (t30 (W2 m c)).trans ?_
  rw [show W2 m c (Proc.devRef .tc main_v26) = _ from t26 (W1 m c), W1_a5, show W1 m c (Proc.devRef .tc main_v25) = _ from t25 (W0 m c), W0_a0, W0_a3, W0_a4]
/-- The second result. -/
theorem r30 : W5 m c (Proc.devRef .tc main_v30) = GR m c := (StableHlo.after_of_writes_sub (r := main_v30) hostOps1_4 _ hostOps1_4_writes (by decide +kernel)).trans <| (StableHlo.after_of_writes_sub (r := main_v30) hostOps1_3 _ hostOps1_3_writes (by decide +kernel)).trans <| (r30' m c)
/-- The first result. -/
theorem r51 : W5 m c (Proc.devRef .tc main_v51) = truncf FTy.bf16 (addf (addf (base (val2 m c) (val4 m c) (m ((c.tc : Thread nD τ).loc main_arg2)))
      (exps (m ((c.tc : Thread nD τ).loc main_arg0)) (m ((c.tc : Thread nD τ).loc main_arg6)) (m ((c.tc : Thread nD τ).loc main_arg7)) (wgt (hot (m ((c.tc : Thread nD τ).loc main_arg5))) (GR m c))))
      (shar (m ((c.tc : Thread nD τ).loc main_arg0)) (m ((c.tc : Thread nD τ).loc main_arg8)) (m ((c.tc : Thread nD τ).loc main_arg9)))) bitsLt_bf16_f32 := by
  refine (t51 (W4 m c)).trans ?_
  have h10 : W4 m c (Proc.devRef .tc main_v10) = base (val2 m c) (val4 m c) (m ((c.tc : Thread nD τ).loc main_arg2)) :=
    (StableHlo.after_of_writes_sub (r := main_v10) hostOps1_3 _ hostOps1_3_writes (by decide +kernel)).trans <| (StableHlo.after_of_writes_sub (r := main_v10) hostOps1_2 _ hostOps1_2_writes (by decide +kernel)).trans <| (StableHlo.after_of_writes_sub (r := main_v10) hostOps1_1 _ hostOps1_1_writes (by decide +kernel)).trans <| (t10 (W0 m c)).trans (by rw [W0_2, W0_4, W0_a2])
  have h31 : W4 m c (Proc.devRef .tc main_v31) = hot (m ((c.tc : Thread nD τ).loc main_arg5)) := (t31 (W3 m c)).trans (by rw [W3_a5])
  have h30 : W4 m c (Proc.devRef .tc main_v30) = GR m c := (StableHlo.after_of_writes_sub (r := main_v30) hostOps1_3 _ hostOps1_3_writes (by decide +kernel)).trans <| (r30' m c)
  rw [h10, h31, h30, W4_a0, W4_a6, W4_a7, W4_a8, W4_a9]
end R
end Cert.Values
-- ==== Proof.Value.Gates.lean ====
/- The two programs' gates are equal. -/
module

public import proofs.«01_k».proof.Proof.Value.KOut
public import proofs.«01_k».proof.Proof.Value.KEnd
public import proofs.«01_k».proof.Proof.Value.HostReads
public import proofs.«01_k».proof.Proof.Value.Pre
public import proofs.«01_k».proof.Proof.Value.RRunB
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace K
open Cert.KernelIdeal Cert.KernelIdeal.Gen Cert.KernelIdeal.Hand

/-- A probability, from its logits. -/
theorem pay33_of (A : Vec Ideal S12 .f32) (B : Vec Ideal S12x128 .f32) (t : Fin 128) (L : Fin 12 → EReal) (h : ∀ e : Fin 12, B (ix2 e t) + A (ix1 e) = L e) (e : Fin 12) :
    k0_pay33 (F := Ideal) A B (ix2 e t) = Ideal.div (Ideal.exp (L e - Finset.univ.fold max (Ideal.ofBits .f32 4286578688#32) L)) (∑ y, Ideal.exp (L y - Finset.univ.fold max (Ideal.ofBits .f32 4286578688#32) L)) := by
  rw [pay33_at]
  simp only [h]

/-- The input as the call takes it. -/
abbrev Xh (x : FVec Ideal S1x128x14336 .bf16) : C Ideal S128x14336 .bf16 := shapeCast S128x14336 x shapeCasts_S1x128x14336_S128x14336
/-- The left factors as the call takes them. -/
abbrev Ah (a : FVec Ideal S12x14336x64 .bf16) : C Ideal S768x14336 .bf16 := shapeCast S768x14336 (transpose S12x64x14336 [0, 2, 1] a transposes_S12x14336x64_S12x64x14336_0_2_1) shapeCasts_S12x64x14336_S768x14336
/-- The shared left factor as the call takes it. -/
abbrev Sh (a : FVec Ideal S14336x64 .bf16) : C Ideal S64x14336 .bf16 := transpose S64x14336 [1, 0] a transposes_S14336x64_S64x14336_1_0
/-- The router's weight as the call takes it. -/
abbrev Rh (w : FVec Ideal S14336x12 .bf16) : C Ideal S16x14336 .bf16 := pad S16x14336 ![0, 0] ![4, 0] ![0, 0] (transpose S12x14336 [1, 0] w transposes_S14336x12_S12x14336_1_0) (sitofp (F := Ideal) .bf16 (constantI S_ 32 0#32)) pads_S12x14336_S16x14336_040_000 h_S_
/-- The right factors as the call takes them. -/
abbrev Bh (b : FVec Ideal S12x64x4096 .bf16) : C Ideal S768x4096 .bf16 := shapeCast S768x4096 b shapeCasts_S12x64x4096_S768x4096
/-- The router's bias as the call takes it. -/
abbrev bh (b : FVec Ideal S12 .f32) : C Ideal S1x12 .f32 := shapeCast S1x12 b shapeCasts_S12_S1x12
/-- The weight's scales as the call takes them. -/
abbrev sh (b : FVec Ideal S4096 .f32) : C Ideal S1x4096 .f32 := shapeCast S1x4096 b shapeCasts_S4096_S1x4096
/-- The selections as the call takes them. -/
abbrev ih (i : IVec S1x128x2 32) : C Ideal S2x128 .i32 := transpose S2x128 [1, 0] (shapeCast S128x2 i shapeCasts_S1x128x2_S128x2) transposes_S128x2_S2x128_1_0

section
variable (x : FVec Ideal S1x128x14336 .bf16) (a : FVec Ideal S12x14336x64 .bf16) (sa : FVec Ideal S14336x64 .bf16) (w : FVec Ideal S14336x12 .bf16)

/-- The product of all small left factors with the input. -/
def Hh : C Ideal S848x128 .f32 := HF (Xh x) (Ah a) (Sh sa) (Rh w)

/-- The product at an element. -/
theorem Hh_at (r : Fin 848) (t : Fin 128) : Hh x a sa w (ix2 r t) = ∑ d : Fin 14336, AV (Ah a) (Sh sa) (Rh w) (ix2 r d) * Xh x (ix2 t d) :=
  HV_all (Xh x) (AV (Ah a) (Sh sa) (Rh w)) r t

/-- An expert's row of the product. -/
theorem Hh_expert (e : Fin 12) (r : Fin 64) (t : Fin 128) (h : 64 * e.val + r.val < 848) :
    Hh x a sa w (ix2 ⟨64 * e.val + r.val, h⟩ t) = ∑ d : Fin 14336, x (ix3 0 t d) * a (ix3 e d r) := by
  have h1 : 64 * e.val + r.val < 768 := by have := r.isLt; have := e.isLt; omega
  rw [Hh_at]
  refine Finset.sum_congr rfl fun d _ => ?_
  have e1 : AV (Ah a) (Sh sa) (Rh w) (ix2 ⟨64 * e.val + r.val, h⟩ d) = a (ix3 e d r) := (dif_pos h1).trans (v8_at a e r d h1)
  rw [e1, show Xh x (ix2 t d) = x (ix3 0 t d) from v0_at x t d]
  exact mul_comm _ _

/-- The shared adapter's row of the product. -/
theorem Hh_shared (r : Fin 64) (t : Fin 128) (h : 768 + r.val < 848) :
    Hh x a sa w (ix2 ⟨768 + r.val, h⟩ t) = ∑ d : Fin 14336, x (ix3 0 t d) * sa (ix2 d r) := by
  have h1 : ¬ 768 + r.val < 768 := by omega
  have h2 : 768 + r.val < 832 := by omega
  rw [Hh_at]
  refine Finset.sum_congr rfl fun d _ => ?_
  have e1 : AV (Ah a) (Sh sa) (Rh w) (ix2 ⟨768 + r.val, h⟩ d) = sa (ix2 d r) :=
    (dif_neg h1).trans <| (dif_pos h2).trans <| (congrArg (fun k => Sh sa (ix2 k d)) (Fin.ext (show 768 + r.val - 768 = r.val by omega))).trans (v10_at sa r d)
  rw [e1, show Xh x (ix2 t d) = x (ix3 0 t d) from v0_at x t d]
  exact mul_comm _ _

/-- The router's row of the product. -/
theorem Hh_router (e : Fin 12) (t : Fin 128) (h : 832 + e.val < 848) :
    Hh x a sa w (ix2 ⟨832 + e.val, h⟩ t) = ∑ d : Fin 14336, x (ix3 0 t d) * w (ix2 d e) := by
  have h1 : ¬ 832 + e.val < 768 := by omega
  have h2 : ¬ 832 + e.val < 832 := by omega
  rw [Hh_at]
  refine Finset.sum_congr rfl fun d _ => ?_
  have e1 : AV (Ah a) (Sh sa) (Rh w) (ix2 ⟨832 + e.val, h⟩ d) = w (ix2 d e) :=
    (dif_neg h1).trans <| (dif_neg h2).trans <| (congrArg (fun k => Rh w (ix2 k d)) (Fin.ext (show 832 + e.val - 832 = e.val by omega))).trans (pad_at w _ e d)
  rw [e1, show Xh x (ix2 t d) = x (ix3 0 t d) from v0_at x t d]
  exact mul_comm _ _

variable (b : FVec Ideal S12 .f32) (i : IVec S1x128x2 32)

/-- The two programs' logits. -/
theorem logit_eq (e : Fin 12) (t : Fin 128) : (hR (Hh x a sa w) (ix2 e t) : EReal) + k0_pay32 (F := Ideal) (bh b) (ix1 e) = R.logit x w b (ix3 0 t e) := by
  rw [hR_at, Hh_router, pay32_at, show bh b (ix2 0 e) = b (ix1 e) from v4_at b e, R.logit_at]

/-- The two programs' probabilities. -/
theorem soft_eq (e : Fin 12) (t : Fin 128) : k0_pay33 (F := Ideal) (k0_pay32 (bh b)) (hR (Hh x a sa w)) (ix2 e t) = R.soft (R.expo (R.logit x w b)) (ix3 0 t e) := by
  rw [R.soft_at]
  simp only [R.expo_at]
  exact pay33_of _ _ t (fun e => R.logit x w b (ix3 0 t e)) (fun e => logit_eq x a sa w b e t) e

/-- The two programs' first selected probabilities. -/
theorem p36_eq (hi : R.Ok i) (t : Fin 128) : k0_pay36 (F := Ideal) (k0_pay32 (bh b)) (hR (Hh x a sa w)) (i0 (ih i)) (ix2 0 t) = R.took (R.soft (R.expo (R.logit x w b))) i (ix3 0 t 0) := by
  rw [pay36_at _ _ _ t ⟨(i (ix3 0 t 0)).toNat, hi t 0⟩ (((i0_at (ih i) t).trans (v6_at i 0 t)).trans (by simp)), soft_eq, R.took_at _ i hi t 0]
/-- The two programs' second selected probabilities. -/
theorem p37_eq (hi : R.Ok i) (t : Fin 128) : k0_pay37 (F := Ideal) (k0_pay32 (bh b)) (hR (Hh x a sa w)) (i1 (ih i)) (ix2 0 t) = R.took (R.soft (R.expo (R.logit x w b))) i (ix3 0 t 1) := by
  rw [pay37_at _ _ _ t ⟨(i (ix3 0 t 1)).toNat, hi t 1⟩ (((i1_at (ih i) t).trans (v6_at i 1 t)).trans (by simp)), soft_eq, R.took_at _ i hi t 1]

/-- The two programs' gates. -/
theorem gate_eq (hi : R.Ok i) (t : Fin 128) (j : Fin 2) : GT (bh b) (ih i) (Hh x a sa w) (ix2 j t) = R.gates (R.took (R.soft (R.expo (R.logit x w b))) i) (ix3 0 t j) := by
  rw [R.gates_at]
  match j with
  | ⟨0, _⟩ => exact (GT0 _ _ _ t).trans (by rw [pay40_at, p36_eq x a sa w b i hi, p37_eq x a sa w b i hi]; rfl)
  | ⟨1, _⟩ => exact (GT1 _ _ _ t).trans (by rw [pay41_at, p36_eq x a sa w b i hi, p37_eq x a sa w b i hi]; rfl)

/-- The two programs' gates, as whole arrays. -/
theorem gates_eq (hi : R.Ok i) : shapeCast S1x128x2 (transpose S128x2 [1, 0] (GT (bh b) (ih i) (Hh x a sa w)) transposes_S2x128_S128x2_1_0) shapeCasts_S128x2_S1x128x2 = R.gates (R.took (R.soft (R.expo (R.logit x w b))) i) := by
  funext p
  obtain ⟨z, t, j, rfl⟩ : ∃ (z : Fin 1) (t : Fin 128) (j : Fin 2), p = ix3 z t j := ⟨_, _, _, ValueIdx.eq_ix3 p⟩
  obtain rfl : z = 0 := Subsingleton.elim _ _
  exact (v14_at _ t j).trans (gate_eq x a sa w b i hi t j)
end
end K
end Cert.Values
-- ==== Proof.Value.Outs.lean ====
/- The two programs' main results, codes and scales are equal. -/
module

public import proofs.«01_k».proof.Proof.Value.Gates
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace K
open Cert.KernelIdeal Cert.KernelIdeal.Gen Cert.KernelIdeal.Hand

/-- A sum over all small rows: the twelve adapters' and the shared one's. -/
theorem sum_832 (f : Fin 832 → EReal) : ∑ k, f k = (∑ e : Fin 12, ∑ r : Fin 64, f ⟨64 * e.val + r.val, by have := e.isLt; have := r.isLt; omega⟩) + ∑ r : Fin 64, f ⟨768 + r.val, by have := r.isLt; omega⟩ := by
  have h : 12 * 64 + 64 = 832 := by norm_num
  rw [← Equiv.sum_comp (finCongr h) f, Fin.sum_univ_add, ← Equiv.sum_comp (finProdFinEquiv (m := 12) (n := 64)), Fintype.sum_prod_type]
  refine congrArg₂ (· + ·) (Finset.sum_congr rfl fun e _ => Finset.sum_congr rfl fun r _ => congrArg f (Fin.ext ?_)) (Finset.sum_congr rfl fun r _ => congrArg f (Fin.ext rfl))
  show r.val + 64 * e.val = 64 * e.val + r.val
  omega

/-- A choice of a number or zero is a product with a one-hot entry. -/
theorem one_hot (u v : BitVec 32) (g : EReal) : Scalar.select (IntOp.cmpi CmpIPredicate.eq v u) g 0 = (FloatOps.uitofp FTy.f32 (IntOp.cmpi CmpIPredicate.eq u v) : Ideal .f32) * g := by
  by_cases h : u = v
  · subst h
    rw [eq_word]
    show g = (((1#1 : BitVec 1).toNat : ℝ) : EReal) * g
    norm_num
  · have h1 : IntOp.cmpi CmpIPredicate.eq u v = 0#1 := by
      show BitVec.ofBool (u == v) = 0#1
      rw [beq_eq_false_iff_ne.mpr h]; rfl
    have h2 : IntOp.cmpi CmpIPredicate.eq v u = 0#1 := by
      show BitVec.ofBool (v == u) = 0#1
      rw [beq_eq_false_iff_ne.mpr (Ne.symm h)]; rfl
    rw [h1, h2]
    show 0 = (((0#1 : BitVec 1).toNat : ℝ) : EReal) * g
    norm_num

section
variable (x : FVec Ideal S1x128x14336 .bf16) (a : FVec Ideal S12x14336x64 .bf16) (sa : FVec Ideal S14336x64 .bf16) (w : FVec Ideal S14336x12 .bf16)
variable (b : FVec Ideal S12 .f32) (i : IVec S1x128x2 32)
variable (W : C Ideal S14336x4096 .fp8e4m3) (s : FVec Ideal S4096 .f32) (eb : FVec Ideal S12x64x4096 .bf16) (sb : C Ideal S64x4096 .bf16)

/-- The gates. -/
abbrev gs : FVec Ideal S1x128x2 .f32 := R.gates (R.took (R.soft (R.expo (R.logit x w b))) i)

/-- The two programs' weights of an expert. -/
theorem wk_eq (hi : R.Ok i) (e : Fin 12) (t : Fin 128) : WK (bh b) (ih i) (Hh x a sa w) (ix2 e t) = R.wgt (R.hot i) (gs x w b i) (ix3 0 t e) := by
  rw [WK_at, R.wgt_at, R.hot_at, R.hot_at, gate_eq x a sa w b i hi, gate_eq x a sa w b i hi, one_hot, one_hot,
    show ih i (ix2 0 t) = i (ix3 0 t 0) from v6_at i 0 t, show ih i (ix2 1 t) = i (ix3 0 t 1) from v6_at i 1 t]

/-- The two programs' small terms at an element. -/
theorem small_eq (hi : R.Ok i) (t : Fin 128) (o : Fin 4096) :
    (∑ k : Fin 832, (HB (bh b) (ih i) (Hh x a sa w) (ix2 t k) : EReal) * BV (Bh eb) sb (ix2 k o)) =
      R.exps x a eb (R.wgt (R.hot i) (gs x w b i)) (ix3 0 t o) + R.shar x sa sb (ix3 0 t o) := by
  rw [sum_832, R.exps_at, R.shar_at]
  refine congrArg₂ (· + ·) (Finset.sum_congr rfl fun e _ => Finset.sum_congr rfl fun r _ => ?_) (Finset.sum_congr rfl fun r _ => ?_)
  · have h1 : 64 * e.val + r.val < 768 := by have := r.isLt; have := e.isLt; omega
    have e1 : BV (Bh eb) sb (ix2 ⟨64 * e.val + r.val, by omega⟩ o) = eb (ix3 e r o) := (dif_pos h1).trans (v9_at eb e r o h1)
    rw [e1, HB_expert, Hh_expert, wk_eq x a sa w b i hi]
  · have h1 : ¬ 768 + r.val < 768 := by omega
    have e1 : BV (Bh eb) sb (ix2 ⟨768 + r.val, by have := r.isLt; omega⟩ o) = sb (ix2 r o) :=
      (dif_neg h1).trans (congrArg (fun k => sb (ix2 k o)) (Fin.ext (show 768 + r.val - 768 = r.val by omega)))
    rw [e1, HB_shared, Hh_shared]

/-- The two programs' codes. -/
theorem qf_eq (X : C Ideal S128x14336 .bf16) (hv : ∀ t, rv X t < pw 253) : QF X = Cert.ReferenceIdeal.Gen.k0_pay3 (F := Ideal) X := by
  funext p
  obtain ⟨t, d, rfl⟩ : ∃ (t : Fin 128) (d : Fin 14336), p = ix2 t d := ⟨_, _, ValueIdx.eq_ix2 p⟩
  exact (QF_at X t d (hv t)).trans (R.pay3_at X t d (hv t)).symm

/-- The two programs' main results at an element. -/
theorem main_at (hi : R.Ok i) (hv : ∀ t, rv (Xh x) t < pw 253) (t : Fin 128) (o : Fin 4096) :
    OF (Xh x) W (HB (bh b) (ih i) (Hh x a sa w)) (BV (Bh eb) sb) (sh s) (ix2 t o) =
      (R.base (Cert.ReferenceIdeal.Gen.k0_pay4 (F := Ideal) (Xh x) W) (Cert.ReferenceIdeal.Gen.k0_pay2 (F := Ideal) (Xh x)) s (ix3 0 t o) +
        R.exps x a eb (R.wgt (R.hot i) (gs x w b i)) (ix3 0 t o)) + R.shar x sa sb (ix3 0 t o) := by
  rw [OF_at _ _ _ _ _ t o (hv t), small_eq x a sa w b i eb sb hi t o, R.base_at, R.pay2_at _ _ (hv t), R.pay4_at, qf_eq _ hv,
    show sh s (ix2 0 o) = s (ix1 o) from v1_at s o]
  exact (add_assoc _ _ _).symm

/-- The two programs' main results. -/
theorem main_eq (hi : R.Ok i) (hv : ∀ t, rv (Xh x) t < pw 253) :
    shapeCast S1x128x4096 (OF (Xh x) W (HB (bh b) (ih i) (Hh x a sa w)) (BV (Bh eb) sb) (sh s)) shapeCasts_S128x4096_S1x128x4096 =
      truncf FTy.bf16 (addf (addf (R.base (Cert.ReferenceIdeal.Gen.k0_pay4 (F := Ideal) (Xh x) W) (Cert.ReferenceIdeal.Gen.k0_pay2 (F := Ideal) (Xh x)) s)
        (R.exps x a eb (R.wgt (R.hot i) (gs x w b i)))) (R.shar x sa sb)) Cert.ReferenceIdeal.Gen.bitsLt_bf16_f32 := by
  funext p
  obtain ⟨z, t, o, rfl⟩ : ∃ (z : Fin 1) (t : Fin 128) (o : Fin 4096), p = ix3 z t o := ⟨_, _, _, ValueIdx.eq_ix3 p⟩
  obtain rfl : z = 0 := Subsingleton.elim _ _
  exact (v12_at _ t o).trans (main_at x a sa w b i W s eb sb hi hv t o)

/-- The two programs' scales. -/
theorem scale_eq (X : C Ideal S128x14336 .bf16) (hv : ∀ t, rv X t < pw 253) : XSR X = shapeCast S1x128 (Cert.ReferenceIdeal.Gen.k0_pay2 (F := Ideal) X) Cert.ReferenceIdeal.Gen.shapeCasts_S128x1_S1x128 := by
  funext p
  obtain ⟨z, t, rfl⟩ : ∃ (z : Fin 1) (t : Fin 128), p = ix2 z t := ⟨_, _, ValueIdx.eq_ix2 p⟩
  obtain rfl : z = 0 := Subsingleton.elim _ _
  refine (XSR_at X t (hv t)).trans ?_
  rw [← R.pay2_at X t (hv t)]
  generalize Cert.ReferenceIdeal.Gen.k0_pay2 (F := Ideal) X = P
  pointwise []
end
end K
end Cert.Values
-- ==== Proof.Value.KRes.lean ====
/- The kernel's four results as functions of its arguments. -/
module

public import proofs.«01_k».proof.Proof.Value.Outs
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace K
open Cert.KernelIdeal Cert.KernelIdeal.Gen Cert.KernelIdeal.Hand
variable (m : (ℓ : Loc nD τ sig) → Buf (Elt Ideal) ℓ) (c : Dev nD)

/-- The kernel's main result, of the arguments. -/
theorem res0 : fin m c main_v12 = shapeCast S1x128x4096 (OF (Xh (m ((c.tc : Thread nD τ).loc main_arg0))) (m ((c.tc : Thread nD τ).loc main_arg1)) (HB (bh (m ((c.tc : Thread nD τ).loc main_arg4))) (ih (m ((c.tc : Thread nD τ).loc main_arg5))) (Hh (m ((c.tc : Thread nD τ).loc main_arg0)) (m ((c.tc : Thread nD τ).loc main_arg6)) (m ((c.tc : Thread nD τ).loc main_arg8)) (m ((c.tc : Thread nD τ).loc main_arg3)))) (BV (Bh (m ((c.tc : Thread nD τ).loc main_arg7))) (m ((c.tc : Thread nD τ).loc main_arg9))) (sh (m ((c.tc : Thread nD τ).loc main_arg2)))) shapeCasts_S128x4096_S1x128x4096 := by
  rw [fin_v12]
  unfold out0
  rw [V_v0, V_v1, V_v3, V_v4, V_v6, V_v8, V_v9, V_v10, V_main_arg1, V_main_arg9]
  rfl

/-- Its gates, of the arguments. -/
theorem res1 : fin m c main_v14 = shapeCast S1x128x2 (transpose S128x2 [1, 0] (GT (bh (m ((c.tc : Thread nD τ).loc main_arg4))) (ih (m ((c.tc : Thread nD τ).loc main_arg5))) (Hh (m ((c.tc : Thread nD τ).loc main_arg0)) (m ((c.tc : Thread nD τ).loc main_arg6)) (m ((c.tc : Thread nD τ).loc main_arg8)) (m ((c.tc : Thread nD τ).loc main_arg3)))) transposes_S2x128_S128x2_1_0) shapeCasts_S128x2_S1x128x2 := by
  rw [fin_v14]
  unfold out1
  rw [V_v0, V_v3, V_v4, V_v6, V_v8, V_v10]
  rfl

/-- Its codes, of the arguments. -/
theorem res2 : fin m c main_v15 = shapeCast S1x128x14336 (QF (Xh (m ((c.tc : Thread nD τ).loc main_arg0)))) shapeCasts_S128x14336_S1x128x14336 := by
  rw [fin_v15]
  unfold out2
  rw [V_v0]

/-- Its scales, of the arguments. -/
theorem res3 : fin m c main_v11_3 = XSR (Xh (m ((c.tc : Thread nD τ).loc main_arg0))) := by
  rw [fin_v11]
  unfold out3
  rw [V_v0]
end K
end Cert.Values
-- ==== Proof.Value.RRes.lean ====
/- The reference's four results as functions of its arguments, and its run. -/
module

public import proofs.«01_k».proof.Proof.Value.Outs
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
namespace R
open Cert.ReferenceIdeal Cert.ReferenceIdeal.Gen
variable (m : (ℓ : Loc nD τ sig) → Buf (Elt Ideal) ℓ) (c : Dev nD)
variable (x : FVec Ideal S1x128x14336 .bf16) (W : FVec Ideal S14336x4096 .fp8e4m3) (s : FVec Ideal S4096 .f32) (w : FVec Ideal S14336x12 .bf16) (b : FVec Ideal S12 .f32) (i : IVec S1x128x2 32) (a : FVec Ideal S12x14336x64 .bf16) (eb : FVec Ideal S12x64x4096 .bf16) (sa : FVec Ideal S14336x64 .bf16) (sb : FVec Ideal S64x4096 .bf16)

/-- The reference's main result, of the arguments. -/
theorem res0 (h0 : m ((c.tc : Thread nD τ).loc main_arg0) = x) (h1 : m ((c.tc : Thread nD τ).loc main_arg1) = W) (h2 : m ((c.tc : Thread nD τ).loc main_arg2) = s) (h3 : m ((c.tc : Thread nD τ).loc main_arg3) = w) (h4 : m ((c.tc : Thread nD τ).loc main_arg4) = b) (h5 : m ((c.tc : Thread nD τ).loc main_arg5) = i) (h6 : m ((c.tc : Thread nD τ).loc main_arg6) = a) (h7 : m ((c.tc : Thread nD τ).loc main_arg7) = eb) (h8 : m ((c.tc : Thread nD τ).loc main_arg8) = sa) (h9 : m ((c.tc : Thread nD τ).loc main_arg9) = sb) : W5 m c (Proc.devRef .tc main_v51) = truncf FTy.bf16 (addf (addf (base (k0_pay4 (F := Ideal) (K.Xh x) W) (k0_pay2 (F := Ideal) (K.Xh x)) s)
    (exps x a eb (wgt (hot i) (K.gs x w b i)))) (shar x sa sb)) bitsLt_bf16_f32 := by
  subst h0
  subst h1
  subst h2
  subst h3
  subst h4
  subst h5
  subst h6
  subst h7
  subst h8
  subst h9
  rw [r51]
  unfold val2 val4
  rw [V_v0, V_a1]
  rfl

/-- Its gates, of the arguments. -/
theorem res1 (h0 : m ((c.tc : Thread nD τ).loc main_arg0) = x) (h3 : m ((c.tc : Thread nD τ).loc main_arg3) = w) (h4 : m ((c.tc : Thread nD τ).loc main_arg4) = b) (h5 : m ((c.tc : Thread nD τ).loc main_arg5) = i) : W5 m c (Proc.devRef .tc main_v30) = K.gs x w b i := by
  subst h0
  subst h3
  subst h4
  subst h5
  exact r30 m c

/-- Its codes, of the arguments. -/
theorem res2 (h0 : m ((c.tc : Thread nD τ).loc main_arg0) = x) : W5 m c (Proc.devRef .tc main_v3) = shapeCast S1x128x14336 (k0_pay3 (F := Ideal) (K.Xh x)) shapeCasts_S128x14336_S1x128x14336 := by
  subst h0
  rw [r3]
  unfold val3
  rw [V_v0]

/-- Its scales, of the arguments. -/
theorem res3 (h0 : m ((c.tc : Thread nD τ).loc main_arg0) = x) : W5 m c (Proc.devRef .tc main_v4) = shapeCast S1x128 (k0_pay2 (F := Ideal) (K.Xh x)) shapeCasts_S128x1_S1x128 := by
  subst h0
  rw [r4]
  unfold val4
  rw [V_v0]

/-- The reference's run: its results and its arguments at the end. -/
theorem run (g : Dev nD → PrngReg) : θ_run defs (onTc (τ := τ) (main (F := Ideal))) ⟨m, fun _ => 0, g⟩ (fun r => ∀ c : Dev nD,
      r.2.mem ((c.tc : Thread nD τ).loc main_v51) = W5 m c (Proc.devRef .tc main_v51)
      ∧ r.2.mem ((c.tc : Thread nD τ).loc main_v30) = W5 m c (Proc.devRef .tc main_v30)
      ∧ r.2.mem ((c.tc : Thread nD τ).loc main_v3) = W5 m c (Proc.devRef .tc main_v3)
      ∧ r.2.mem ((c.tc : Thread nD τ).loc main_v4) = W5 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h.1 c).2 main_v51 (Pipeline.mem_restRefs_of main_v51 (by decide) (by decide))).trans (tail_eq m c main_v51),
     ((h.1 c).2 main_v30 (Pipeline.mem_restRefs_of main_v30 (by decide) (by decide))).trans (tail_eq m c main_v30),
     ((h.1 c).2 main_v3 (Pipeline.mem_restRefs_of main_v3 (by decide) (by decide))).trans (tail_eq m c main_v3),
     ((h.1 c).2 main_v4 (Pipeline.mem_restRefs_of main_v4 (by decide) (by decide))).trans (tail_eq m c main_v4), h.2 c⟩)
    (θ_run_and (run_main m g) (unchanged m g))
end R
end Cert.Values
-- ==== Proof.Value.Final.lean ====
/- The value claim: from the same arguments both programs end with equal results. -/
module

public import proofs.«01_k».proof.Proof.Value.KRes
public import proofs.«01_k».proof.Proof.Value.RRes
public import proofs.«01_k».proof.Defs
public import proofs.«01_k».proof.Proof.KernelIdeal.Run
public import proofs.«01_k».proof.Proof.Gen.ReferenceIdeal.Frame
public import Idealize.ShloMosaic.Lib.Pointwise

@[expose] public section

noncomputable section

namespace Cert.Values

open Idealize.ShloMosaic
section
variable [hp : Cert.Pre_in_range.Facts]

/-- The precondition, at an element of the input. -/
theorem small_of_pre (m : (ℓ : Loc Cert.KernelIdeal.nD Cert.KernelIdeal.τ Cert.KernelIdeal.sig) → Buf (Elt Ideal) ℓ) (h : Cert.Pre_KernelIdeal_in_range m) (c : Dev Cert.KernelIdeal.nD) (t : Fin 128) :
    K.rv (K.Xh (m ((c.tc : Thread Cert.KernelIdeal.nD Cert.KernelIdeal.τ).loc Cert.KernelIdeal.main_arg0))) t < pw 253 := by
  refine P.rowv_lt _ t fun d => ?_
  have h1 := P.ole_at (m ((c.tc : Thread Cert.KernelIdeal.nD Cert.KernelIdeal.τ).loc Cert.KernelIdeal.main_arg0)) t d ((P.pre_split _ _ _ _ _ _ _ _ _ _ (h c)).1 _)
  have h2 : K.Xh (m ((c.tc : Thread Cert.KernelIdeal.nD Cert.KernelIdeal.τ).loc Cert.KernelIdeal.main_arg0)) (ix2 t d) = (m ((c.tc : Thread Cert.KernelIdeal.nD Cert.KernelIdeal.τ).loc Cert.KernelIdeal.main_arg0)) (ix3 0 t d) := K.v0_at _ t d
  show max (K.Xh (m ((c.tc : Thread Cert.KernelIdeal.nD Cert.KernelIdeal.τ).loc Cert.KernelIdeal.main_arg0)) (ix2 t d)) (-(K.Xh (m ((c.tc : Thread Cert.KernelIdeal.nD Cert.KernelIdeal.τ).loc Cert.KernelIdeal.main_arg0)) (ix2 t d))) ≤ _
  rw [h2]
  exact h1

/-- The precondition, at a selected expert. -/
theorem ok_of_pre (m : (ℓ : Loc Cert.KernelIdeal.nD Cert.KernelIdeal.τ Cert.KernelIdeal.sig) → Buf (Elt Ideal) ℓ) (h : Cert.Pre_KernelIdeal_in_range m) (c : Dev Cert.KernelIdeal.nD) : R.Ok (m ((c.tc : Thread Cert.KernelIdeal.nD Cert.KernelIdeal.τ).loc Cert.KernelIdeal.main_arg5)) :=
  fun t j => P.idx_at (m ((c.tc : Thread Cert.KernelIdeal.nD Cert.KernelIdeal.τ).loc Cert.KernelIdeal.main_arg5)) t j ((P.pre_split _ _ _ _ _ _ _ _ _ _ (h c)).2 _)

/-- The kernel's run: its results and its arguments at the end. -/
theorem K.run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v12) = Cert.KernelIdeal.Hand.fin m c Cert.KernelIdeal.main_v12
      ∧ r.2.mem ((c.tc : Thread Cert.KernelIdeal.nD Cert.KernelIdeal.τ).loc Cert.KernelIdeal.main_v14) = Cert.KernelIdeal.Hand.fin m c Cert.KernelIdeal.main_v14
      ∧ r.2.mem ((c.tc : Thread Cert.KernelIdeal.nD Cert.KernelIdeal.τ).loc Cert.KernelIdeal.main_v15) = Cert.KernelIdeal.Hand.fin m c Cert.KernelIdeal.main_v15
      ∧ r.2.mem ((c.tc : Thread Cert.KernelIdeal.nD Cert.KernelIdeal.τ).loc Cert.KernelIdeal.main_v11_3) = Cert.KernelIdeal.Hand.fin m c Cert.KernelIdeal.main_v11_3
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono (fun _ h c => ⟨h.1.1 c Cert.KernelIdeal.main_v12 (Pipeline.mem_restRefs_of Cert.KernelIdeal.main_v12 (by decide) (by decide)), h.1.1 c Cert.KernelIdeal.main_v14 (Pipeline.mem_restRefs_of Cert.KernelIdeal.main_v14 (by decide) (by decide)), h.1.1 c Cert.KernelIdeal.main_v15 (Pipeline.mem_restRefs_of Cert.KernelIdeal.main_v15 (by decide) (by decide)), h.1.1 c Cert.KernelIdeal.main_v11_3 (Pipeline.mem_restRefs_of Cert.KernelIdeal.main_v11_3 (by decide) (by decide)), h.2.1 c⟩)
    (θ_run_and (Cert.KernelIdeal.Hand.run_main m g) (Cert.KernelIdeal.Hand.frame m g))

/-- The two programs' results are equal. -/
theorem algebraic : Cert.algebraic_KernelIdeal_ReferenceIdeal_pre_in_range (hKernelIdeal := Cert.KernelIdeal.Gen.facts) (hReferenceIdeal := Cert.ReferenceIdeal.Gen.facts) := by
  intro m g m' g' hpre hargs
  refine ⟨fun c => Cert.KernelIdeal.Hand.fin m c Cert.KernelIdeal.main_v12, fun c => Cert.KernelIdeal.Hand.fin m c Cert.KernelIdeal.main_v14, fun c => Cert.KernelIdeal.Hand.fin m c Cert.KernelIdeal.main_v15, fun c => Cert.KernelIdeal.Hand.fin m c Cert.KernelIdeal.main_v11_3, K.run m g, ?_⟩
  refine (θ_run Cert.ReferenceIdeal.defs _ _).mono (fun r h c => ?_) (R.run m' g')
  obtain ⟨a0, a1, a2, a3, a4, a5, a6, a7, a8, a9⟩ := hargs c
  obtain ⟨b0, b1, b2, b3, hb⟩ := h c
  have hv := small_of_pre m hpre c
  have hi := ok_of_pre m hpre c
  refine ⟨b0.trans ?_, b1.trans ?_, b2.trans ?_, b3.trans ?_, hb⟩
  · exact (R.res0 m' c _ _ _ _ _ _ _ _ _ _ a0 a1 a2 a3 a4 a5 a6 a7 a8 a9).trans ((K.res0 m c).trans (K.main_eq _ _ _ _ _ _ _ _ _ _ hi hv)).symm
  · exact (R.res1 m' c _ _ _ _ a0 a3 a4 a5).trans ((K.res1 m c).trans (K.gates_eq _ _ _ _ _ _ hi)).symm
  · exact (R.res2 m' c _ a0).trans ((K.res2 m c).trans (congrArg (fun q => shapeCast _ q _) (K.qf_eq _ hv))).symm
  · exact (R.res3 m' c _ a0).trans ((K.res3 m c).trans (K.scale_eq _ hv)).symm
end
end Cert.Values
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Run
public import proofs.«01_k».proof.Proof.KernelIdeal.Run
public import proofs.«01_k».proof.Proof.Value.Final
public import Idealize.ShloMosaic.Adequacy
public import Idealize.ShloMosaic.Init

@[expose] public section

noncomputable section

namespace Cert.Proof

/-- The side conditions that the precondition's operations state. -/
theorem pre_facts : Cert.Pre_in_range.Facts := ⟨by decide, by decide, by decide, by decide, by decide⟩

/-- The frames, and the equality of the results; the ideal program is the kernel itself read over the extended reals. -/
theorem claim : Cert.Claim := ⟨Cert.Kernel.Gen.facts, Cert.KernelIdeal.Gen.facts, Cert.ReferenceIdeal.Gen.facts, pre_facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  trivial,
  Cert.Values.algebraic (hp := pre_facts)⟩

end Cert.Proof

end
